-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_HiddenKernel (m : (ℓ : Loc Cert.HiddenKernel.nD Cert.HiddenKernel.τ Cert.HiddenKernel.sig) → Buf (Elt Bits) ℓ) : Prop :=
  True

def Pre_HiddenKernelIdeal (m : (ℓ : Loc Cert.HiddenKernelIdeal.nD Cert.HiddenKernelIdeal.τ Cert.HiddenKernelIdeal.sig) → Buf (Elt Ideal) ℓ) : Prop :=
  True

def Pre_HiddenKernelIdeal_finite_hidden [hPre_finite_hidden : Cert.Pre_finite_hidden.Facts] (m : (ℓ : Loc Cert.HiddenKernelIdeal.nD Cert.HiddenKernelIdeal.τ Cert.HiddenKernelIdeal.sig) → Buf (Elt Ideal) ℓ) : Prop :=
  ∀ c : Dev Cert.HiddenKernelIdeal.nD,
    (Cert.Pre_finite_hidden.fn (F := Ideal) (m ((c.tc : Thread Cert.HiddenKernelIdeal.nD Cert.HiddenKernelIdeal.τ).loc Cert.HiddenKernelIdeal.main_arg0)) (m ((c.tc : Thread Cert.HiddenKernelIdeal.nD Cert.HiddenKernelIdeal.τ).loc Cert.HiddenKernelIdeal.main_arg1)) (m ((c.tc : Thread Cert.HiddenKernelIdeal.nD Cert.HiddenKernelIdeal.τ).loc Cert.HiddenKernelIdeal.main_arg2)) (m ((c.tc : Thread Cert.HiddenKernelIdeal.nD Cert.HiddenKernelIdeal.τ).loc Cert.HiddenKernelIdeal.main_arg3)) (m ((c.tc : Thread Cert.HiddenKernelIdeal.nD Cert.HiddenKernelIdeal.τ).loc Cert.HiddenKernelIdeal.main_arg4))) = (fun _ => 1#1)

def Pre_HiddenReferenceIdeal (m : (ℓ : Loc Cert.HiddenReferenceIdeal.nD Cert.HiddenReferenceIdeal.τ Cert.HiddenReferenceIdeal.sig) → Buf (Elt Ideal) ℓ) : Prop :=
  True

def Pre_HiddenReferenceIdeal_finite_hidden [hPre_finite_hidden : Cert.Pre_finite_hidden.Facts] (m : (ℓ : Loc Cert.HiddenReferenceIdeal.nD Cert.HiddenReferenceIdeal.τ Cert.HiddenReferenceIdeal.sig) → Buf (Elt Ideal) ℓ) : Prop :=
  ∀ c : Dev Cert.HiddenReferenceIdeal.nD,
    (Cert.Pre_finite_hidden.fn (F := Ideal) (m ((c.tc : Thread Cert.HiddenReferenceIdeal.nD Cert.HiddenReferenceIdeal.τ).loc Cert.HiddenReferenceIdeal.main_arg0)) (m ((c.tc : Thread Cert.HiddenReferenceIdeal.nD Cert.HiddenReferenceIdeal.τ).loc Cert.HiddenReferenceIdeal.main_arg1)) (m ((c.tc : Thread Cert.HiddenReferenceIdeal.nD Cert.HiddenReferenceIdeal.τ).loc Cert.HiddenReferenceIdeal.main_arg2)) (m ((c.tc : Thread Cert.HiddenReferenceIdeal.nD Cert.HiddenReferenceIdeal.τ).loc Cert.HiddenReferenceIdeal.main_arg3)) (m ((c.tc : Thread Cert.HiddenReferenceIdeal.nD Cert.HiddenReferenceIdeal.τ).loc Cert.HiddenReferenceIdeal.main_arg4))) = (fun _ => 1#1)

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_EnterKernel (m : (ℓ : Loc Cert.EnterKernel.nD Cert.EnterKernel.τ Cert.EnterKernel.sig) → Buf (Elt Bits) ℓ) : Prop :=
  True

def Pre_EnterKernelIdeal (m : (ℓ : Loc Cert.EnterKernelIdeal.nD Cert.EnterKernelIdeal.τ Cert.EnterKernelIdeal.sig) → Buf (Elt Ideal) ℓ) : Prop :=
  True

def Pre_EnterReferenceIdeal (m : (ℓ : Loc Cert.EnterReferenceIdeal.nD Cert.EnterReferenceIdeal.τ Cert.EnterReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_JoinKernel (m : (ℓ : Loc Cert.JoinKernel.nD Cert.JoinKernel.τ Cert.JoinKernel.sig) → Buf (Elt Bits) ℓ) : Prop :=
  True

def Pre_JoinKernelIdeal (m : (ℓ : Loc Cert.JoinKernelIdeal.nD Cert.JoinKernelIdeal.τ Cert.JoinKernelIdeal.sig) → Buf (Elt Ideal) ℓ) : Prop :=
  True

def Pre_JoinReferenceIdeal (m : (ℓ : Loc Cert.JoinReferenceIdeal.nD Cert.JoinReferenceIdeal.τ Cert.JoinReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_finite_mix [hPre_finite_mix : Cert.Pre_finite_mix.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_finite_mix.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8)) (m ((c.tc : Thread Cert.MixKernelIdeal.nD Cert.MixKernelIdeal.τ).loc Cert.MixKernelIdeal.main_arg9)) (m ((c.tc : Thread Cert.MixKernelIdeal.nD Cert.MixKernelIdeal.τ).loc Cert.MixKernelIdeal.main_arg10))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_finite_mix [hPre_finite_mix : Cert.Pre_finite_mix.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_finite_mix.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10))) = (fun _ => 1#1)

def Pre_ProdKernel (m : (ℓ : Loc Cert.ProdKernel.nD Cert.ProdKernel.τ Cert.ProdKernel.sig) → Buf (Elt Bits) ℓ) : Prop :=
  True

def Pre_ProdKernelIdeal (m : (ℓ : Loc Cert.ProdKernelIdeal.nD Cert.ProdKernelIdeal.τ Cert.ProdKernelIdeal.sig) → Buf (Elt Ideal) ℓ) : Prop :=
  True

def Pre_ProdReferenceIdeal (m : (ℓ : Loc Cert.ProdReferenceIdeal.nD Cert.ProdReferenceIdeal.τ Cert.ProdReferenceIdeal.sig) → Buf (Elt Ideal) ℓ) : Prop :=
  True

def Pre_GradKernel (m : (ℓ : Loc Cert.GradKernel.nD Cert.GradKernel.τ Cert.GradKernel.sig) → Buf (Elt Bits) ℓ) : Prop :=
  True

def Pre_GradKernelIdeal (m : (ℓ : Loc Cert.GradKernelIdeal.nD Cert.GradKernelIdeal.τ Cert.GradKernelIdeal.sig) → Buf (Elt Ideal) ℓ) : Prop :=
  True

def Pre_GradReferenceIdeal (m : (ℓ : Loc Cert.GradReferenceIdeal.nD Cert.GradReferenceIdeal.τ Cert.GradReferenceIdeal.sig) → Buf (Elt Ideal) ℓ) : Prop :=
  True

def Pre_StepKernel (m : (ℓ : Loc Cert.StepKernel.nD Cert.StepKernel.τ Cert.StepKernel.sig) → Buf (Elt Bits) ℓ) : Prop :=
  True

def Pre_StepKernelIdeal (m : (ℓ : Loc Cert.StepKernelIdeal.nD Cert.StepKernelIdeal.τ Cert.StepKernelIdeal.sig) → Buf (Elt Ideal) ℓ) : Prop :=
  True

def Pre_StepReferenceIdeal (m : (ℓ : Loc Cert.StepReferenceIdeal.nD Cert.StepReferenceIdeal.τ Cert.StepReferenceIdeal.sig) → Buf (Elt Ideal) ℓ) : Prop :=
  True

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_HiddenKernel [hHiddenKernel : Cert.HiddenKernel.Facts] : Prop :=
  ∀ (m : (ℓ : Loc Cert.HiddenKernel.nD Cert.HiddenKernel.τ Cert.HiddenKernel.sig) → Buf (Elt Bits) ℓ) (g : Dev Cert.HiddenKernel.nD → PrngReg), Pre_HiddenKernel m →
    θ_run (Cert.HiddenKernel.defs (F := Bits)) (onTc (τ := Cert.HiddenKernel.τ) (Cert.HiddenKernel.main (F := Bits))) ⟨m, fun _ => 0, g⟩ (fun r => (∀ c : Dev Cert.HiddenKernel.nD,
      r.2.mem ((c.tc : Thread Cert.HiddenKernel.nD Cert.HiddenKernel.τ).loc Cert.HiddenKernel.main_arg0) = m ((c.tc : Thread Cert.HiddenKernel.nD Cert.HiddenKernel.τ).loc Cert.HiddenKernel.main_arg0)
      ∧ r.2.mem ((c.tc : Thread Cert.HiddenKernel.nD Cert.HiddenKernel.τ).loc Cert.HiddenKernel.main_arg1) = m ((c.tc : Thread Cert.HiddenKernel.nD Cert.HiddenKernel.τ).loc Cert.HiddenKernel.main_arg1)
      ∧ r.2.mem ((c.tc : Thread Cert.HiddenKernel.nD Cert.HiddenKernel.τ).loc Cert.HiddenKernel.main_arg2) = m ((c.tc : Thread Cert.HiddenKernel.nD Cert.HiddenKernel.τ).loc Cert.HiddenKernel.main_arg2)
      ∧ r.2.mem ((c.tc : Thread Cert.HiddenKernel.nD Cert.HiddenKernel.τ).loc Cert.HiddenKernel.main_arg3) = m ((c.tc : Thread Cert.HiddenKernel.nD Cert.HiddenKernel.τ).loc Cert.HiddenKernel.main_arg3)
      ∧ r.2.mem ((c.tc : Thread Cert.HiddenKernel.nD Cert.HiddenKernel.τ).loc Cert.HiddenKernel.main_arg4) = m ((c.tc : Thread Cert.HiddenKernel.nD Cert.HiddenKernel.τ).loc Cert.HiddenKernel.main_arg4))
      ∧ r.2.sem = fun _ => 0)

def quiescent_HiddenKernelIdeal [hHiddenKernelIdeal : Cert.HiddenKernelIdeal.Facts] : Prop :=
  ∀ (m : (ℓ : Loc Cert.HiddenKernelIdeal.nD Cert.HiddenKernelIdeal.τ Cert.HiddenKernelIdeal.sig) → Buf (Elt Ideal) ℓ) (g : Dev Cert.HiddenKernelIdeal.nD → PrngReg), Pre_HiddenKernelIdeal m →
    θ_run (Cert.HiddenKernelIdeal.defs (F := Ideal)) (onTc (τ := Cert.HiddenKernelIdeal.τ) (Cert.HiddenKernelIdeal.main (F := Ideal))) ⟨m, fun _ => 0, g⟩ (fun r => (∀ c : Dev Cert.HiddenKernelIdeal.nD,
      r.2.mem ((c.tc : Thread Cert.HiddenKernelIdeal.nD Cert.HiddenKernelIdeal.τ).loc Cert.HiddenKernelIdeal.main_arg0) = m ((c.tc : Thread Cert.HiddenKernelIdeal.nD Cert.HiddenKernelIdeal.τ).loc Cert.HiddenKernelIdeal.main_arg0)
      ∧ r.2.mem ((c.tc : Thread Cert.HiddenKernelIdeal.nD Cert.HiddenKernelIdeal.τ).loc Cert.HiddenKernelIdeal.main_arg1) = m ((c.tc : Thread Cert.HiddenKernelIdeal.nD Cert.HiddenKernelIdeal.τ).loc Cert.HiddenKernelIdeal.main_arg1)
      ∧ r.2.mem ((c.tc : Thread Cert.HiddenKernelIdeal.nD Cert.HiddenKernelIdeal.τ).loc Cert.HiddenKernelIdeal.main_arg2) = m ((c.tc : Thread Cert.HiddenKernelIdeal.nD Cert.HiddenKernelIdeal.τ).loc Cert.HiddenKernelIdeal.main_arg2)
      ∧ r.2.mem ((c.tc : Thread Cert.HiddenKernelIdeal.nD Cert.HiddenKernelIdeal.τ).loc Cert.HiddenKernelIdeal.main_arg3) = m ((c.tc : Thread Cert.HiddenKernelIdeal.nD Cert.HiddenKernelIdeal.τ).loc Cert.HiddenKernelIdeal.main_arg3)
      ∧ r.2.mem ((c.tc : Thread Cert.HiddenKernelIdeal.nD Cert.HiddenKernelIdeal.τ).loc Cert.HiddenKernelIdeal.main_arg4) = m ((c.tc : Thread Cert.HiddenKernelIdeal.nD Cert.HiddenKernelIdeal.τ).loc Cert.HiddenKernelIdeal.main_arg4))
      ∧ r.2.sem = fun _ => 0)

def quiescent_HiddenKernelIdeal_pre_finite_hidden [hHiddenKernelIdeal : Cert.HiddenKernelIdeal.Facts] [hPre_finite_hidden : Cert.Pre_finite_hidden.Facts] : Prop :=
  ∀ (m : (ℓ : Loc Cert.HiddenKernelIdeal.nD Cert.HiddenKernelIdeal.τ Cert.HiddenKernelIdeal.sig) → Buf (Elt Ideal) ℓ) (g : Dev Cert.HiddenKernelIdeal.nD → PrngReg), Pre_HiddenKernelIdeal_finite_hidden m →
    θ_run (Cert.HiddenKernelIdeal.defs (F := Ideal)) (onTc (τ := Cert.HiddenKernelIdeal.τ) (Cert.HiddenKernelIdeal.main (F := Ideal))) ⟨m, fun _ => 0, g⟩ (fun r => (∀ c : Dev Cert.HiddenKernelIdeal.nD,
      r.2.mem ((c.tc : Thread Cert.HiddenKernelIdeal.nD Cert.HiddenKernelIdeal.τ).loc Cert.HiddenKernelIdeal.main_arg0) = m ((c.tc : Thread Cert.HiddenKernelIdeal.nD Cert.HiddenKernelIdeal.τ).loc Cert.HiddenKernelIdeal.main_arg0)
      ∧ r.2.mem ((c.tc : Thread Cert.HiddenKernelIdeal.nD Cert.HiddenKernelIdeal.τ).loc Cert.HiddenKernelIdeal.main_arg1) = m ((c.tc : Thread Cert.HiddenKernelIdeal.nD Cert.HiddenKernelIdeal.τ).loc Cert.HiddenKernelIdeal.main_arg1)
      ∧ r.2.mem ((c.tc : Thread Cert.HiddenKernelIdeal.nD Cert.HiddenKernelIdeal.τ).loc Cert.HiddenKernelIdeal.main_arg2) = m ((c.tc : Thread Cert.HiddenKernelIdeal.nD Cert.HiddenKernelIdeal.τ).loc Cert.HiddenKernelIdeal.main_arg2)
      ∧ r.2.mem ((c.tc : Thread Cert.HiddenKernelIdeal.nD Cert.HiddenKernelIdeal.τ).loc Cert.HiddenKernelIdeal.main_arg3) = m ((c.tc : Thread Cert.HiddenKernelIdeal.nD Cert.HiddenKernelIdeal.τ).loc Cert.HiddenKernelIdeal.main_arg3)
      ∧ r.2.mem ((c.tc : Thread Cert.HiddenKernelIdeal.nD Cert.HiddenKernelIdeal.τ).loc Cert.HiddenKernelIdeal.main_arg4) = m ((c.tc : Thread Cert.HiddenKernelIdeal.nD Cert.HiddenKernelIdeal.τ).loc Cert.HiddenKernelIdeal.main_arg4))
      ∧ r.2.sem = fun _ => 0)

def quiescent_HiddenReferenceIdeal [hHiddenReferenceIdeal : Cert.HiddenReferenceIdeal.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1)
      ∧ r.2.mem ((c.tc : Thread Cert.HiddenReferenceIdeal.nD Cert.HiddenReferenceIdeal.τ).loc Cert.HiddenReferenceIdeal.main_arg2) = m ((c.tc : Thread Cert.HiddenReferenceIdeal.nD Cert.HiddenReferenceIdeal.τ).loc Cert.HiddenReferenceIdeal.main_arg2)
      ∧ r.2.mem ((c.tc : Thread Cert.HiddenReferenceIdeal.nD Cert.HiddenReferenceIdeal.τ).loc Cert.HiddenReferenceIdeal.main_arg3) = m ((c.tc : Thread Cert.HiddenReferenceIdeal.nD Cert.HiddenReferenceIdeal.τ).loc Cert.HiddenReferenceIdeal.main_arg3)
      ∧ r.2.mem ((c.tc : Thread Cert.HiddenReferenceIdeal.nD Cert.HiddenReferenceIdeal.τ).loc Cert.HiddenReferenceIdeal.main_arg4) = m ((c.tc : Thread Cert.HiddenReferenceIdeal.nD Cert.HiddenReferenceIdeal.τ).loc Cert.HiddenReferenceIdeal.main_arg4))
      ∧ r.2.sem = fun _ => 0)

def quiescent_HiddenReferenceIdeal_pre_finite_hidden [hHiddenReferenceIdeal : Cert.HiddenReferenceIdeal.Facts] [hPre_finite_hidden : Cert.Pre_finite_hidden.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal_finite_hidden m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1)
      ∧ r.2.mem ((c.tc : Thread Cert.HiddenReferenceIdeal.nD Cert.HiddenReferenceIdeal.τ).loc Cert.HiddenReferenceIdeal.main_arg2) = m ((c.tc : Thread Cert.HiddenReferenceIdeal.nD Cert.HiddenReferenceIdeal.τ).loc Cert.HiddenReferenceIdeal.main_arg2)
      ∧ r.2.mem ((c.tc : Thread Cert.HiddenReferenceIdeal.nD Cert.HiddenReferenceIdeal.τ).loc Cert.HiddenReferenceIdeal.main_arg3) = m ((c.tc : Thread Cert.HiddenReferenceIdeal.nD Cert.HiddenReferenceIdeal.τ).loc Cert.HiddenReferenceIdeal.main_arg3)
      ∧ r.2.mem ((c.tc : Thread Cert.HiddenReferenceIdeal.nD Cert.HiddenReferenceIdeal.τ).loc Cert.HiddenReferenceIdeal.main_arg4) = m ((c.tc : Thread Cert.HiddenReferenceIdeal.nD Cert.HiddenReferenceIdeal.τ).loc Cert.HiddenReferenceIdeal.main_arg4))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2)
      ∧ r.2.mem ((c.tc : Thread Cert.UpKernel.nD Cert.UpKernel.τ).loc Cert.UpKernel.main_arg3) = m ((c.tc : Thread Cert.UpKernel.nD Cert.UpKernel.τ).loc Cert.UpKernel.main_arg3)
      ∧ r.2.mem ((c.tc : Thread Cert.UpKernel.nD Cert.UpKernel.τ).loc Cert.UpKernel.main_arg4) = m ((c.tc : Thread Cert.UpKernel.nD Cert.UpKernel.τ).loc Cert.UpKernel.main_arg4))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
      ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_EnterKernel [hEnterKernel : Cert.EnterKernel.Facts] : Prop :=
  ∀ (m : (ℓ : Loc Cert.EnterKernel.nD Cert.EnterKernel.τ Cert.EnterKernel.sig) → Buf (Elt Bits) ℓ) (g : Dev Cert.EnterKernel.nD → PrngReg), Pre_EnterKernel m →
    θ_run (Cert.EnterKernel.defs (F := Bits)) (onTc (τ := Cert.EnterKernel.τ) (Cert.EnterKernel.main (F := Bits))) ⟨m, fun _ => 0, g⟩ (fun r => (∀ c : Dev Cert.EnterKernel.nD,
      r.2.mem ((c.tc : Thread Cert.EnterKernel.nD Cert.EnterKernel.τ).loc Cert.EnterKernel.main_arg0) = m ((c.tc : Thread Cert.EnterKernel.nD Cert.EnterKernel.τ).loc Cert.EnterKernel.main_arg0)
      ∧ r.2.mem ((c.tc : Thread Cert.EnterKernel.nD Cert.EnterKernel.τ).loc Cert.EnterKernel.main_arg1) = m ((c.tc : Thread Cert.EnterKernel.nD Cert.EnterKernel.τ).loc Cert.EnterKernel.main_arg1))
      ∧ r.2.sem = fun _ => 0)

def quiescent_EnterKernelIdeal [hEnterKernelIdeal : Cert.EnterKernelIdeal.Facts] : Prop :=
  ∀ (m : (ℓ : Loc Cert.EnterKernelIdeal.nD Cert.EnterKernelIdeal.τ Cert.EnterKernelIdeal.sig) → Buf (Elt Ideal) ℓ) (g : Dev Cert.EnterKernelIdeal.nD → PrngReg), Pre_EnterKernelIdeal m →
    θ_run (Cert.EnterKernelIdeal.defs (F := Ideal)) (onTc (τ := Cert.EnterKernelIdeal.τ) (Cert.EnterKernelIdeal.main (F := Ideal))) ⟨m, fun _ => 0, g⟩ (fun r => (∀ c : Dev Cert.EnterKernelIdeal.nD,
      r.2.mem ((c.tc : Thread Cert.EnterKernelIdeal.nD Cert.EnterKernelIdeal.τ).loc Cert.EnterKernelIdeal.main_arg0) = m ((c.tc : Thread Cert.EnterKernelIdeal.nD Cert.EnterKernelIdeal.τ).loc Cert.EnterKernelIdeal.main_arg0)
      ∧ r.2.mem ((c.tc : Thread Cert.EnterKernelIdeal.nD Cert.EnterKernelIdeal.τ).loc Cert.EnterKernelIdeal.main_arg1) = m ((c.tc : Thread Cert.EnterKernelIdeal.nD Cert.EnterKernelIdeal.τ).loc Cert.EnterKernelIdeal.main_arg1))
      ∧ r.2.sem = fun _ => 0)

def quiescent_EnterReferenceIdeal [hEnterReferenceIdeal : Cert.EnterReferenceIdeal.Facts] : Prop :=
  ∀ (m : (ℓ : Loc Cert.EnterReferenceIdeal.nD Cert.EnterReferenceIdeal.τ Cert.EnterReferenceIdeal.sig) → Buf (Elt Ideal) ℓ) (g : Dev Cert.EnterReferenceIdeal.nD → PrngReg), Pre_EnterReferenceIdeal m →
    θ_run (Cert.EnterReferenceIdeal.defs (F := Ideal)) (onTc (τ := Cert.EnterReferenceIdeal.τ) (Cert.EnterReferenceIdeal.main (F := Ideal))) ⟨m, fun _ => 0, g⟩ (fun r => (∀ c : Dev Cert.EnterReferenceIdeal.nD,
      r.2.mem ((c.tc : Thread Cert.EnterReferenceIdeal.nD Cert.EnterReferenceIdeal.τ).loc Cert.EnterReferenceIdeal.main_arg0) = m ((c.tc : Thread Cert.EnterReferenceIdeal.nD Cert.EnterReferenceIdeal.τ).loc Cert.EnterReferenceIdeal.main_arg0)
      ∧ r.2.mem ((c.tc : Thread Cert.EnterReferenceIdeal.nD Cert.EnterReferenceIdeal.τ).loc Cert.EnterReferenceIdeal.main_arg1) = m ((c.tc : Thread Cert.EnterReferenceIdeal.nD Cert.EnterReferenceIdeal.τ).loc Cert.EnterReferenceIdeal.main_arg1))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_JoinKernel [hJoinKernel : Cert.JoinKernel.Facts] : Prop :=
  ∀ (m : (ℓ : Loc Cert.JoinKernel.nD Cert.JoinKernel.τ Cert.JoinKernel.sig) → Buf (Elt Bits) ℓ) (g : Dev Cert.JoinKernel.nD → PrngReg), Pre_JoinKernel m →
    θ_run (Cert.JoinKernel.defs (F := Bits)) (onTc (τ := Cert.JoinKernel.τ) (Cert.JoinKernel.main (F := Bits))) ⟨m, fun _ => 0, g⟩ (fun r => (∀ c : Dev Cert.JoinKernel.nD,
      r.2.mem ((c.tc : Thread Cert.JoinKernel.nD Cert.JoinKernel.τ).loc Cert.JoinKernel.main_arg0) = m ((c.tc : Thread Cert.JoinKernel.nD Cert.JoinKernel.τ).loc Cert.JoinKernel.main_arg0)
      ∧ r.2.mem ((c.tc : Thread Cert.JoinKernel.nD Cert.JoinKernel.τ).loc Cert.JoinKernel.main_arg1) = m ((c.tc : Thread Cert.JoinKernel.nD Cert.JoinKernel.τ).loc Cert.JoinKernel.main_arg1)
      ∧ r.2.mem ((c.tc : Thread Cert.JoinKernel.nD Cert.JoinKernel.τ).loc Cert.JoinKernel.main_arg2) = m ((c.tc : Thread Cert.JoinKernel.nD Cert.JoinKernel.τ).loc Cert.JoinKernel.main_arg2)
      ∧ r.2.mem ((c.tc : Thread Cert.JoinKernel.nD Cert.JoinKernel.τ).loc Cert.JoinKernel.main_arg3) = m ((c.tc : Thread Cert.JoinKernel.nD Cert.JoinKernel.τ).loc Cert.JoinKernel.main_arg3)
      ∧ r.2.mem ((c.tc : Thread Cert.JoinKernel.nD Cert.JoinKernel.τ).loc Cert.JoinKernel.main_arg4) = m ((c.tc : Thread Cert.JoinKernel.nD Cert.JoinKernel.τ).loc Cert.JoinKernel.main_arg4)
      ∧ r.2.mem ((c.tc : Thread Cert.JoinKernel.nD Cert.JoinKernel.τ).loc Cert.JoinKernel.main_arg5) = m ((c.tc : Thread Cert.JoinKernel.nD Cert.JoinKernel.τ).loc Cert.JoinKernel.main_arg5))
      ∧ r.2.sem = fun _ => 0)

def quiescent_JoinKernelIdeal [hJoinKernelIdeal : Cert.JoinKernelIdeal.Facts] : Prop :=
  ∀ (m : (ℓ : Loc Cert.JoinKernelIdeal.nD Cert.JoinKernelIdeal.τ Cert.JoinKernelIdeal.sig) → Buf (Elt Ideal) ℓ) (g : Dev Cert.JoinKernelIdeal.nD → PrngReg), Pre_JoinKernelIdeal m →
    θ_run (Cert.JoinKernelIdeal.defs (F := Ideal)) (onTc (τ := Cert.JoinKernelIdeal.τ) (Cert.JoinKernelIdeal.main (F := Ideal))) ⟨m, fun _ => 0, g⟩ (fun r => (∀ c : Dev Cert.JoinKernelIdeal.nD,
      r.2.mem ((c.tc : Thread Cert.JoinKernelIdeal.nD Cert.JoinKernelIdeal.τ).loc Cert.JoinKernelIdeal.main_arg0) = m ((c.tc : Thread Cert.JoinKernelIdeal.nD Cert.JoinKernelIdeal.τ).loc Cert.JoinKernelIdeal.main_arg0)
      ∧ r.2.mem ((c.tc : Thread Cert.JoinKernelIdeal.nD Cert.JoinKernelIdeal.τ).loc Cert.JoinKernelIdeal.main_arg1) = m ((c.tc : Thread Cert.JoinKernelIdeal.nD Cert.JoinKernelIdeal.τ).loc Cert.JoinKernelIdeal.main_arg1)
      ∧ r.2.mem ((c.tc : Thread Cert.JoinKernelIdeal.nD Cert.JoinKernelIdeal.τ).loc Cert.JoinKernelIdeal.main_arg2) = m ((c.tc : Thread Cert.JoinKernelIdeal.nD Cert.JoinKernelIdeal.τ).loc Cert.JoinKernelIdeal.main_arg2)
      ∧ r.2.mem ((c.tc : Thread Cert.JoinKernelIdeal.nD Cert.JoinKernelIdeal.τ).loc Cert.JoinKernelIdeal.main_arg3) = m ((c.tc : Thread Cert.JoinKernelIdeal.nD Cert.JoinKernelIdeal.τ).loc Cert.JoinKernelIdeal.main_arg3)
      ∧ r.2.mem ((c.tc : Thread Cert.JoinKernelIdeal.nD Cert.JoinKernelIdeal.τ).loc Cert.JoinKernelIdeal.main_arg4) = m ((c.tc : Thread Cert.JoinKernelIdeal.nD Cert.JoinKernelIdeal.τ).loc Cert.JoinKernelIdeal.main_arg4)
      ∧ r.2.mem ((c.tc : Thread Cert.JoinKernelIdeal.nD Cert.JoinKernelIdeal.τ).loc Cert.JoinKernelIdeal.main_arg5) = m ((c.tc : Thread Cert.JoinKernelIdeal.nD Cert.JoinKernelIdeal.τ).loc Cert.JoinKernelIdeal.main_arg5))
      ∧ r.2.sem = fun _ => 0)

def quiescent_JoinReferenceIdeal [hJoinReferenceIdeal : Cert.JoinReferenceIdeal.Facts] : Prop :=
  ∀ (m : (ℓ : Loc Cert.JoinReferenceIdeal.nD Cert.JoinReferenceIdeal.τ Cert.JoinReferenceIdeal.sig) → Buf (Elt Ideal) ℓ) (g : Dev Cert.JoinReferenceIdeal.nD → PrngReg), Pre_JoinReferenceIdeal m →
    θ_run (Cert.JoinReferenceIdeal.defs (F := Ideal)) (onTc (τ := Cert.JoinReferenceIdeal.τ) (Cert.JoinReferenceIdeal.main (F := Ideal))) ⟨m, fun _ => 0, g⟩ (fun r => (∀ c : Dev Cert.JoinReferenceIdeal.nD,
      r.2.mem ((c.tc : Thread Cert.JoinReferenceIdeal.nD Cert.JoinReferenceIdeal.τ).loc Cert.JoinReferenceIdeal.main_arg0) = m ((c.tc : Thread Cert.JoinReferenceIdeal.nD Cert.JoinReferenceIdeal.τ).loc Cert.JoinReferenceIdeal.main_arg0)
      ∧ r.2.mem ((c.tc : Thread Cert.JoinReferenceIdeal.nD Cert.JoinReferenceIdeal.τ).loc Cert.JoinReferenceIdeal.main_arg1) = m ((c.tc : Thread Cert.JoinReferenceIdeal.nD Cert.JoinReferenceIdeal.τ).loc Cert.JoinReferenceIdeal.main_arg1)
      ∧ r.2.mem ((c.tc : Thread Cert.JoinReferenceIdeal.nD Cert.JoinReferenceIdeal.τ).loc Cert.JoinReferenceIdeal.main_arg2) = m ((c.tc : Thread Cert.JoinReferenceIdeal.nD Cert.JoinReferenceIdeal.τ).loc Cert.JoinReferenceIdeal.main_arg2)
      ∧ r.2.mem ((c.tc : Thread Cert.JoinReferenceIdeal.nD Cert.JoinReferenceIdeal.τ).loc Cert.JoinReferenceIdeal.main_arg3) = m ((c.tc : Thread Cert.JoinReferenceIdeal.nD Cert.JoinReferenceIdeal.τ).loc Cert.JoinReferenceIdeal.main_arg3)
      ∧ r.2.mem ((c.tc : Thread Cert.JoinReferenceIdeal.nD Cert.JoinReferenceIdeal.τ).loc Cert.JoinReferenceIdeal.main_arg4) = m ((c.tc : Thread Cert.JoinReferenceIdeal.nD Cert.JoinReferenceIdeal.τ).loc Cert.JoinReferenceIdeal.main_arg4)
      ∧ r.2.mem ((c.tc : Thread Cert.JoinReferenceIdeal.nD Cert.JoinReferenceIdeal.τ).loc Cert.JoinReferenceIdeal.main_arg5) = m ((c.tc : Thread Cert.JoinReferenceIdeal.nD Cert.JoinReferenceIdeal.τ).loc Cert.JoinReferenceIdeal.main_arg5))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8)
      ∧ r.2.mem ((c.tc : Thread Cert.MixKernel.nD Cert.MixKernel.τ).loc Cert.MixKernel.main_arg9) = m ((c.tc : Thread Cert.MixKernel.nD Cert.MixKernel.τ).loc Cert.MixKernel.main_arg9)
      ∧ r.2.mem ((c.tc : Thread Cert.MixKernel.nD Cert.MixKernel.τ).loc Cert.MixKernel.main_arg10) = m ((c.tc : Thread Cert.MixKernel.nD Cert.MixKernel.τ).loc Cert.MixKernel.main_arg10))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
      ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
      ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10))
      ∧ r.2.sem = fun _ => 0)

def quiescent_MixKernelIdeal_pre_finite_mix [hMixKernelIdeal : Cert.MixKernelIdeal.Facts] [hPre_finite_mix : Cert.Pre_finite_mix.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_finite_mix m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
      ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
      ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10))
      ∧ r.2.sem = fun _ => 0)

def quiescent_MixReferenceIdeal_pre_finite_mix [hMixReferenceIdeal : Cert.MixReferenceIdeal.Facts] [hPre_finite_mix : Cert.Pre_finite_mix.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_finite_mix m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10))
      ∧ r.2.sem = fun _ => 0)

def quiescent_ProdKernel [hProdKernel : Cert.ProdKernel.Facts] : Prop :=
  ∀ (m : (ℓ : Loc Cert.ProdKernel.nD Cert.ProdKernel.τ Cert.ProdKernel.sig) → Buf (Elt Bits) ℓ) (g : Dev Cert.ProdKernel.nD → PrngReg), Pre_ProdKernel m →
    θ_run (Cert.ProdKernel.defs (F := Bits)) (onTc (τ := Cert.ProdKernel.τ) (Cert.ProdKernel.main (F := Bits))) ⟨m, fun _ => 0, g⟩ (fun r => (∀ c : Dev Cert.ProdKernel.nD,
      r.2.mem ((c.tc : Thread Cert.ProdKernel.nD Cert.ProdKernel.τ).loc Cert.ProdKernel.main_arg0) = m ((c.tc : Thread Cert.ProdKernel.nD Cert.ProdKernel.τ).loc Cert.ProdKernel.main_arg0)
      ∧ r.2.mem ((c.tc : Thread Cert.ProdKernel.nD Cert.ProdKernel.τ).loc Cert.ProdKernel.main_arg1) = m ((c.tc : Thread Cert.ProdKernel.nD Cert.ProdKernel.τ).loc Cert.ProdKernel.main_arg1))
      ∧ r.2.sem = fun _ => 0)

def quiescent_ProdKernelIdeal [hProdKernelIdeal : Cert.ProdKernelIdeal.Facts] : Prop :=
  ∀ (m : (ℓ : Loc Cert.ProdKernelIdeal.nD Cert.ProdKernelIdeal.τ Cert.ProdKernelIdeal.sig) → Buf (Elt Ideal) ℓ) (g : Dev Cert.ProdKernelIdeal.nD → PrngReg), Pre_ProdKernelIdeal m →
    θ_run (Cert.ProdKernelIdeal.defs (F := Ideal)) (onTc (τ := Cert.ProdKernelIdeal.τ) (Cert.ProdKernelIdeal.main (F := Ideal))) ⟨m, fun _ => 0, g⟩ (fun r => (∀ c : Dev Cert.ProdKernelIdeal.nD,
      r.2.mem ((c.tc : Thread Cert.ProdKernelIdeal.nD Cert.ProdKernelIdeal.τ).loc Cert.ProdKernelIdeal.main_arg0) = m ((c.tc : Thread Cert.ProdKernelIdeal.nD Cert.ProdKernelIdeal.τ).loc Cert.ProdKernelIdeal.main_arg0)
      ∧ r.2.mem ((c.tc : Thread Cert.ProdKernelIdeal.nD Cert.ProdKernelIdeal.τ).loc Cert.ProdKernelIdeal.main_arg1) = m ((c.tc : Thread Cert.ProdKernelIdeal.nD Cert.ProdKernelIdeal.τ).loc Cert.ProdKernelIdeal.main_arg1))
      ∧ r.2.sem = fun _ => 0)

def quiescent_ProdReferenceIdeal [hProdReferenceIdeal : Cert.ProdReferenceIdeal.Facts] : Prop :=
  ∀ (m : (ℓ : Loc Cert.ProdReferenceIdeal.nD Cert.ProdReferenceIdeal.τ Cert.ProdReferenceIdeal.sig) → Buf (Elt Ideal) ℓ) (g : Dev Cert.ProdReferenceIdeal.nD → PrngReg), Pre_ProdReferenceIdeal m →
    θ_run (Cert.ProdReferenceIdeal.defs (F := Ideal)) (onTc (τ := Cert.ProdReferenceIdeal.τ) (Cert.ProdReferenceIdeal.main (F := Ideal))) ⟨m, fun _ => 0, g⟩ (fun r => (∀ c : Dev Cert.ProdReferenceIdeal.nD,
      r.2.mem ((c.tc : Thread Cert.ProdReferenceIdeal.nD Cert.ProdReferenceIdeal.τ).loc Cert.ProdReferenceIdeal.main_arg0) = m ((c.tc : Thread Cert.ProdReferenceIdeal.nD Cert.ProdReferenceIdeal.τ).loc Cert.ProdReferenceIdeal.main_arg0)
      ∧ r.2.mem ((c.tc : Thread Cert.ProdReferenceIdeal.nD Cert.ProdReferenceIdeal.τ).loc Cert.ProdReferenceIdeal.main_arg1) = m ((c.tc : Thread Cert.ProdReferenceIdeal.nD Cert.ProdReferenceIdeal.τ).loc Cert.ProdReferenceIdeal.main_arg1))
      ∧ r.2.sem = fun _ => 0)

def quiescent_GradKernel [hGradKernel : Cert.GradKernel.Facts] : Prop :=
  ∀ (m : (ℓ : Loc Cert.GradKernel.nD Cert.GradKernel.τ Cert.GradKernel.sig) → Buf (Elt Bits) ℓ) (g : Dev Cert.GradKernel.nD → PrngReg), Pre_GradKernel m →
    θ_run (Cert.GradKernel.defs (F := Bits)) (onTc (τ := Cert.GradKernel.τ) (Cert.GradKernel.main (F := Bits))) ⟨m, fun _ => 0, g⟩ (fun r => (∀ c : Dev Cert.GradKernel.nD,
      r.2.mem ((c.tc : Thread Cert.GradKernel.nD Cert.GradKernel.τ).loc Cert.GradKernel.main_arg0) = m ((c.tc : Thread Cert.GradKernel.nD Cert.GradKernel.τ).loc Cert.GradKernel.main_arg0)
      ∧ r.2.mem ((c.tc : Thread Cert.GradKernel.nD Cert.GradKernel.τ).loc Cert.GradKernel.main_arg1) = m ((c.tc : Thread Cert.GradKernel.nD Cert.GradKernel.τ).loc Cert.GradKernel.main_arg1))
      ∧ r.2.sem = fun _ => 0)

def quiescent_GradKernelIdeal [hGradKernelIdeal : Cert.GradKernelIdeal.Facts] : Prop :=
  ∀ (m : (ℓ : Loc Cert.GradKernelIdeal.nD Cert.GradKernelIdeal.τ Cert.GradKernelIdeal.sig) → Buf (Elt Ideal) ℓ) (g : Dev Cert.GradKernelIdeal.nD → PrngReg), Pre_GradKernelIdeal m →
    θ_run (Cert.GradKernelIdeal.defs (F := Ideal)) (onTc (τ := Cert.GradKernelIdeal.τ) (Cert.GradKernelIdeal.main (F := Ideal))) ⟨m, fun _ => 0, g⟩ (fun r => (∀ c : Dev Cert.GradKernelIdeal.nD,
      r.2.mem ((c.tc : Thread Cert.GradKernelIdeal.nD Cert.GradKernelIdeal.τ).loc Cert.GradKernelIdeal.main_arg0) = m ((c.tc : Thread Cert.GradKernelIdeal.nD Cert.GradKernelIdeal.τ).loc Cert.GradKernelIdeal.main_arg0)
      ∧ r.2.mem ((c.tc : Thread Cert.GradKernelIdeal.nD Cert.GradKernelIdeal.τ).loc Cert.GradKernelIdeal.main_arg1) = m ((c.tc : Thread Cert.GradKernelIdeal.nD Cert.GradKernelIdeal.τ).loc Cert.GradKernelIdeal.main_arg1))
      ∧ r.2.sem = fun _ => 0)

def quiescent_GradReferenceIdeal [hGradReferenceIdeal : Cert.GradReferenceIdeal.Facts] : Prop :=
  ∀ (m : (ℓ : Loc Cert.GradReferenceIdeal.nD Cert.GradReferenceIdeal.τ Cert.GradReferenceIdeal.sig) → Buf (Elt Ideal) ℓ) (g : Dev Cert.GradReferenceIdeal.nD → PrngReg), Pre_GradReferenceIdeal m →
    θ_run (Cert.GradReferenceIdeal.defs (F := Ideal)) (onTc (τ := Cert.GradReferenceIdeal.τ) (Cert.GradReferenceIdeal.main (F := Ideal))) ⟨m, fun _ => 0, g⟩ (fun r => (∀ c : Dev Cert.GradReferenceIdeal.nD,
      r.2.mem ((c.tc : Thread Cert.GradReferenceIdeal.nD Cert.GradReferenceIdeal.τ).loc Cert.GradReferenceIdeal.main_arg0) = m ((c.tc : Thread Cert.GradReferenceIdeal.nD Cert.GradReferenceIdeal.τ).loc Cert.GradReferenceIdeal.main_arg0)
      ∧ r.2.mem ((c.tc : Thread Cert.GradReferenceIdeal.nD Cert.GradReferenceIdeal.τ).loc Cert.GradReferenceIdeal.main_arg1) = m ((c.tc : Thread Cert.GradReferenceIdeal.nD Cert.GradReferenceIdeal.τ).loc Cert.GradReferenceIdeal.main_arg1))
      ∧ r.2.sem = fun _ => 0)

def quiescent_StepKernel [hStepKernel : Cert.StepKernel.Facts] : Prop :=
  ∀ (m : (ℓ : Loc Cert.StepKernel.nD Cert.StepKernel.τ Cert.StepKernel.sig) → Buf (Elt Bits) ℓ) (g : Dev Cert.StepKernel.nD → PrngReg), Pre_StepKernel m →
    θ_run (Cert.StepKernel.defs (F := Bits)) (onTc (τ := Cert.StepKernel.τ) (Cert.StepKernel.main (F := Bits))) ⟨m, fun _ => 0, g⟩ (fun r => (∀ c : Dev Cert.StepKernel.nD,
      r.2.mem ((c.tc : Thread Cert.StepKernel.nD Cert.StepKernel.τ).loc Cert.StepKernel.main_arg0) = m ((c.tc : Thread Cert.StepKernel.nD Cert.StepKernel.τ).loc Cert.StepKernel.main_arg0)
      ∧ r.2.mem ((c.tc : Thread Cert.StepKernel.nD Cert.StepKernel.τ).loc Cert.StepKernel.main_arg1) = m ((c.tc : Thread Cert.StepKernel.nD Cert.StepKernel.τ).loc Cert.StepKernel.main_arg1)
      ∧ r.2.mem ((c.tc : Thread Cert.StepKernel.nD Cert.StepKernel.τ).loc Cert.StepKernel.main_arg2) = m ((c.tc : Thread Cert.StepKernel.nD Cert.StepKernel.τ).loc Cert.StepKernel.main_arg2)
      ∧ r.2.mem ((c.tc : Thread Cert.StepKernel.nD Cert.StepKernel.τ).loc Cert.StepKernel.main_arg3) = m ((c.tc : Thread Cert.StepKernel.nD Cert.StepKernel.τ).loc Cert.StepKernel.main_arg3)
      ∧ r.2.mem ((c.tc : Thread Cert.StepKernel.nD Cert.StepKernel.τ).loc Cert.StepKernel.main_arg4) = m ((c.tc : Thread Cert.StepKernel.nD Cert.StepKernel.τ).loc Cert.StepKernel.main_arg4))
      ∧ r.2.sem = fun _ => 0)

def quiescent_StepKernelIdeal [hStepKernelIdeal : Cert.StepKernelIdeal.Facts] : Prop :=
  ∀ (m : (ℓ : Loc Cert.StepKernelIdeal.nD Cert.StepKernelIdeal.τ Cert.StepKernelIdeal.sig) → Buf (Elt Ideal) ℓ) (g : Dev Cert.StepKernelIdeal.nD → PrngReg), Pre_StepKernelIdeal m →
    θ_run (Cert.StepKernelIdeal.defs (F := Ideal)) (onTc (τ := Cert.StepKernelIdeal.τ) (Cert.StepKernelIdeal.main (F := Ideal))) ⟨m, fun _ => 0, g⟩ (fun r => (∀ c : Dev Cert.StepKernelIdeal.nD,
      r.2.mem ((c.tc : Thread Cert.StepKernelIdeal.nD Cert.StepKernelIdeal.τ).loc Cert.StepKernelIdeal.main_arg0) = m ((c.tc : Thread Cert.StepKernelIdeal.nD Cert.StepKernelIdeal.τ).loc Cert.StepKernelIdeal.main_arg0)
      ∧ r.2.mem ((c.tc : Thread Cert.StepKernelIdeal.nD Cert.StepKernelIdeal.τ).loc Cert.StepKernelIdeal.main_arg1) = m ((c.tc : Thread Cert.StepKernelIdeal.nD Cert.StepKernelIdeal.τ).loc Cert.StepKernelIdeal.main_arg1)
      ∧ r.2.mem ((c.tc : Thread Cert.StepKernelIdeal.nD Cert.StepKernelIdeal.τ).loc Cert.StepKernelIdeal.main_arg2) = m ((c.tc : Thread Cert.StepKernelIdeal.nD Cert.StepKernelIdeal.τ).loc Cert.StepKernelIdeal.main_arg2)
      ∧ r.2.mem ((c.tc : Thread Cert.StepKernelIdeal.nD Cert.StepKernelIdeal.τ).loc Cert.StepKernelIdeal.main_arg3) = m ((c.tc : Thread Cert.StepKernelIdeal.nD Cert.StepKernelIdeal.τ).loc Cert.StepKernelIdeal.main_arg3)
      ∧ r.2.mem ((c.tc : Thread Cert.StepKernelIdeal.nD Cert.StepKernelIdeal.τ).loc Cert.StepKernelIdeal.main_arg4) = m ((c.tc : Thread Cert.StepKernelIdeal.nD Cert.StepKernelIdeal.τ).loc Cert.StepKernelIdeal.main_arg4))
      ∧ r.2.sem = fun _ => 0)

def quiescent_StepReferenceIdeal [hStepReferenceIdeal : Cert.StepReferenceIdeal.Facts] : Prop :=
  ∀ (m : (ℓ : Loc Cert.StepReferenceIdeal.nD Cert.StepReferenceIdeal.τ Cert.StepReferenceIdeal.sig) → Buf (Elt Ideal) ℓ) (g : Dev Cert.StepReferenceIdeal.nD → PrngReg), Pre_StepReferenceIdeal m →
    θ_run (Cert.StepReferenceIdeal.defs (F := Ideal)) (onTc (τ := Cert.StepReferenceIdeal.τ) (Cert.StepReferenceIdeal.main (F := Ideal))) ⟨m, fun _ => 0, g⟩ (fun r => (∀ c : Dev Cert.StepReferenceIdeal.nD,
      r.2.mem ((c.tc : Thread Cert.StepReferenceIdeal.nD Cert.StepReferenceIdeal.τ).loc Cert.StepReferenceIdeal.main_arg0) = m ((c.tc : Thread Cert.StepReferenceIdeal.nD Cert.StepReferenceIdeal.τ).loc Cert.StepReferenceIdeal.main_arg0)
      ∧ r.2.mem ((c.tc : Thread Cert.StepReferenceIdeal.nD Cert.StepReferenceIdeal.τ).loc Cert.StepReferenceIdeal.main_arg1) = m ((c.tc : Thread Cert.StepReferenceIdeal.nD Cert.StepReferenceIdeal.τ).loc Cert.StepReferenceIdeal.main_arg1)
      ∧ r.2.mem ((c.tc : Thread Cert.StepReferenceIdeal.nD Cert.StepReferenceIdeal.τ).loc Cert.StepReferenceIdeal.main_arg2) = m ((c.tc : Thread Cert.StepReferenceIdeal.nD Cert.StepReferenceIdeal.τ).loc Cert.StepReferenceIdeal.main_arg2)
      ∧ r.2.mem ((c.tc : Thread Cert.StepReferenceIdeal.nD Cert.StepReferenceIdeal.τ).loc Cert.StepReferenceIdeal.main_arg3) = m ((c.tc : Thread Cert.StepReferenceIdeal.nD Cert.StepReferenceIdeal.τ).loc Cert.StepReferenceIdeal.main_arg3)
      ∧ r.2.mem ((c.tc : Thread Cert.StepReferenceIdeal.nD Cert.StepReferenceIdeal.τ).loc Cert.StepReferenceIdeal.main_arg4) = m ((c.tc : Thread Cert.StepReferenceIdeal.nD Cert.StepReferenceIdeal.τ).loc Cert.StepReferenceIdeal.main_arg4))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2)
      ∧ r.2.mem ((c.tc : Thread Cert.ConvKernel.nD Cert.ConvKernel.τ).loc Cert.ConvKernel.main_arg3) = m ((c.tc : Thread Cert.ConvKernel.nD Cert.ConvKernel.τ).loc Cert.ConvKernel.main_arg3)
      ∧ r.2.mem ((c.tc : Thread Cert.ConvKernel.nD Cert.ConvKernel.τ).loc Cert.ConvKernel.main_arg4) = m ((c.tc : Thread Cert.ConvKernel.nD Cert.ConvKernel.τ).loc Cert.ConvKernel.main_arg4)
      ∧ r.2.mem ((c.tc : Thread Cert.ConvKernel.nD Cert.ConvKernel.τ).loc Cert.ConvKernel.main_arg5) = m ((c.tc : Thread Cert.ConvKernel.nD Cert.ConvKernel.τ).loc Cert.ConvKernel.main_arg5)
      ∧ r.2.mem ((c.tc : Thread Cert.ConvKernel.nD Cert.ConvKernel.τ).loc Cert.ConvKernel.main_arg6) = m ((c.tc : Thread Cert.ConvKernel.nD Cert.ConvKernel.τ).loc Cert.ConvKernel.main_arg6))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
      ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4)
      ∧ r.2.mem ((c.tc : Thread Cert.ConvKernelIdeal.nD Cert.ConvKernelIdeal.τ).loc Cert.ConvKernelIdeal.main_arg5) = m ((c.tc : Thread Cert.ConvKernelIdeal.nD Cert.ConvKernelIdeal.τ).loc Cert.ConvKernelIdeal.main_arg5)
      ∧ r.2.mem ((c.tc : Thread Cert.ConvKernelIdeal.nD Cert.ConvKernelIdeal.τ).loc Cert.ConvKernelIdeal.main_arg6) = m ((c.tc : Thread Cert.ConvKernelIdeal.nD Cert.ConvKernelIdeal.τ).loc Cert.ConvKernelIdeal.main_arg6))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5)
      ∧ r.2.mem ((c.tc : Thread Cert.ConvReferenceIdeal.nD Cert.ConvReferenceIdeal.τ).loc Cert.ConvReferenceIdeal.main_arg6) = m ((c.tc : Thread Cert.ConvReferenceIdeal.nD Cert.ConvReferenceIdeal.τ).loc Cert.ConvReferenceIdeal.main_arg6))
      ∧ r.2.sem = fun _ => 0)

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v3_0)) (v1 : (c : Dev Cert.LossKernelIdeal.nD) → Buf (Elt Ideal) ((c.tc : Thread Cert.LossKernelIdeal.nD Cert.LossKernelIdeal.τ).loc Cert.LossKernelIdeal.main_v3_1)) (v2 : (c : Dev Cert.LossKernelIdeal.nD) → Buf (Elt Ideal) ((c.tc : Thread Cert.LossKernelIdeal.nD Cert.LossKernelIdeal.τ).loc Cert.LossKernelIdeal.main_v3_2)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v3_0) = v0 c
          ∧ r.2.mem ((c.tc : Thread Cert.LossKernelIdeal.nD Cert.LossKernelIdeal.τ).loc Cert.LossKernelIdeal.main_v3_1) = v1 c
          ∧ r.2.mem ((c.tc : Thread Cert.LossKernelIdeal.nD Cert.LossKernelIdeal.τ).loc Cert.LossKernelIdeal.main_v3_2) = v2 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v52) = v0 c
          ∧ r.2.mem ((c.tc : Thread Cert.LossReferenceIdeal.nD Cert.LossReferenceIdeal.τ).loc Cert.LossReferenceIdeal.main_v53) = v1 c
          ∧ r.2.mem ((c.tc : Thread Cert.LossReferenceIdeal.nD Cert.LossReferenceIdeal.τ).loc Cert.LossReferenceIdeal.main_v54) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_HiddenKernel_HiddenKernelIdeal : Prop :=
  True

def algebraic_HiddenKernelIdeal_HiddenReferenceIdeal_pre_finite_hidden [hHiddenKernelIdeal : Cert.HiddenKernelIdeal.Facts] [hHiddenReferenceIdeal : Cert.HiddenReferenceIdeal.Facts] [hPre_finite_hidden : Cert.Pre_finite_hidden.Facts] : Prop :=
  ∀ (m : (ℓ : Loc Cert.HiddenKernelIdeal.nD Cert.HiddenKernelIdeal.τ Cert.HiddenKernelIdeal.sig) → Buf (Elt Ideal) ℓ) (g : Dev Cert.HiddenKernelIdeal.nD → PrngReg)
    (m' : (ℓ : Loc Cert.HiddenReferenceIdeal.nD Cert.HiddenReferenceIdeal.τ Cert.HiddenReferenceIdeal.sig) → Buf (Elt Ideal) ℓ) (g' : Dev Cert.HiddenReferenceIdeal.nD → PrngReg), Pre_HiddenKernelIdeal_finite_hidden m →
    (∀ c : Dev Cert.HiddenKernelIdeal.nD,
      m' ((c.tc : Thread Cert.HiddenReferenceIdeal.nD Cert.HiddenReferenceIdeal.τ).loc Cert.HiddenReferenceIdeal.main_arg0) = m ((c.tc : Thread Cert.HiddenKernelIdeal.nD Cert.HiddenKernelIdeal.τ).loc Cert.HiddenKernelIdeal.main_arg0)
      ∧ m' ((c.tc : Thread Cert.HiddenReferenceIdeal.nD Cert.HiddenReferenceIdeal.τ).loc Cert.HiddenReferenceIdeal.main_arg1) = m ((c.tc : Thread Cert.HiddenKernelIdeal.nD Cert.HiddenKernelIdeal.τ).loc Cert.HiddenKernelIdeal.main_arg1)
      ∧ m' ((c.tc : Thread Cert.HiddenReferenceIdeal.nD Cert.HiddenReferenceIdeal.τ).loc Cert.HiddenReferenceIdeal.main_arg2) = m ((c.tc : Thread Cert.HiddenKernelIdeal.nD Cert.HiddenKernelIdeal.τ).loc Cert.HiddenKernelIdeal.main_arg2)
      ∧ m' ((c.tc : Thread Cert.HiddenReferenceIdeal.nD Cert.HiddenReferenceIdeal.τ).loc Cert.HiddenReferenceIdeal.main_arg3) = m ((c.tc : Thread Cert.HiddenKernelIdeal.nD Cert.HiddenKernelIdeal.τ).loc Cert.HiddenKernelIdeal.main_arg3)
      ∧ m' ((c.tc : Thread Cert.HiddenReferenceIdeal.nD Cert.HiddenReferenceIdeal.τ).loc Cert.HiddenReferenceIdeal.main_arg4) = m ((c.tc : Thread Cert.HiddenKernelIdeal.nD Cert.HiddenKernelIdeal.τ).loc Cert.HiddenKernelIdeal.main_arg4)) →
    ∃ (v0 : (c : Dev Cert.HiddenKernelIdeal.nD) → Buf (Elt Ideal) ((c.tc : Thread Cert.HiddenKernelIdeal.nD Cert.HiddenKernelIdeal.τ).loc Cert.HiddenKernelIdeal.main_v21_0)) (v1 : (c : Dev Cert.HiddenKernelIdeal.nD) → Buf (Elt Ideal) ((c.tc : Thread Cert.HiddenKernelIdeal.nD Cert.HiddenKernelIdeal.τ).loc Cert.HiddenKernelIdeal.main_v21_1)),
      θ_run (Cert.HiddenKernelIdeal.defs (F := Ideal)) (onTc (τ := Cert.HiddenKernelIdeal.τ) (Cert.HiddenKernelIdeal.main (F := Ideal))) ⟨m, fun _ => 0, g⟩ (fun r => ∀ c : Dev Cert.HiddenKernelIdeal.nD,
          r.2.mem ((c.tc : Thread Cert.HiddenKernelIdeal.nD Cert.HiddenKernelIdeal.τ).loc Cert.HiddenKernelIdeal.main_v21_0) = v0 c
          ∧ r.2.mem ((c.tc : Thread Cert.HiddenKernelIdeal.nD Cert.HiddenKernelIdeal.τ).loc Cert.HiddenKernelIdeal.main_v21_1) = v1 c
          ∧ r.2.mem ((c.tc : Thread Cert.HiddenKernelIdeal.nD Cert.HiddenKernelIdeal.τ).loc Cert.HiddenKernelIdeal.main_arg0) = m ((c.tc : Thread Cert.HiddenKernelIdeal.nD Cert.HiddenKernelIdeal.τ).loc Cert.HiddenKernelIdeal.main_arg0)
          ∧ r.2.mem ((c.tc : Thread Cert.HiddenKernelIdeal.nD Cert.HiddenKernelIdeal.τ).loc Cert.HiddenKernelIdeal.main_arg1) = m ((c.tc : Thread Cert.HiddenKernelIdeal.nD Cert.HiddenKernelIdeal.τ).loc Cert.HiddenKernelIdeal.main_arg1)
          ∧ r.2.mem ((c.tc : Thread Cert.HiddenKernelIdeal.nD Cert.HiddenKernelIdeal.τ).loc Cert.HiddenKernelIdeal.main_arg2) = m ((c.tc : Thread Cert.HiddenKernelIdeal.nD Cert.HiddenKernelIdeal.τ).loc Cert.HiddenKernelIdeal.main_arg2)
          ∧ r.2.mem ((c.tc : Thread Cert.HiddenKernelIdeal.nD Cert.HiddenKernelIdeal.τ).loc Cert.HiddenKernelIdeal.main_arg3) = m ((c.tc : Thread Cert.HiddenKernelIdeal.nD Cert.HiddenKernelIdeal.τ).loc Cert.HiddenKernelIdeal.main_arg3)
          ∧ r.2.mem ((c.tc : Thread Cert.HiddenKernelIdeal.nD Cert.HiddenKernelIdeal.τ).loc Cert.HiddenKernelIdeal.main_arg4) = m ((c.tc : Thread Cert.HiddenKernelIdeal.nD Cert.HiddenKernelIdeal.τ).loc Cert.HiddenKernelIdeal.main_arg4))
      ∧ θ_run (Cert.HiddenReferenceIdeal.defs (F := Ideal)) (onTc (τ := Cert.HiddenReferenceIdeal.τ) (Cert.HiddenReferenceIdeal.main (F := Ideal))) ⟨m', fun _ => 0, g'⟩ (fun r => ∀ c : Dev Cert.HiddenReferenceIdeal.nD,
          r.2.mem ((c.tc : Thread Cert.HiddenReferenceIdeal.nD Cert.HiddenReferenceIdeal.τ).loc Cert.HiddenReferenceIdeal.main_v33) = v0 c
          ∧ r.2.mem ((c.tc : Thread Cert.HiddenReferenceIdeal.nD Cert.HiddenReferenceIdeal.τ).loc Cert.HiddenReferenceIdeal.main_v35) = v1 c
          ∧ r.2.mem ((c.tc : Thread Cert.HiddenReferenceIdeal.nD Cert.HiddenReferenceIdeal.τ).loc Cert.HiddenReferenceIdeal.main_arg0) = m' ((c.tc : Thread Cert.HiddenReferenceIdeal.nD Cert.HiddenReferenceIdeal.τ).loc Cert.HiddenReferenceIdeal.main_arg0)
          ∧ r.2.mem ((c.tc : Thread Cert.HiddenReferenceIdeal.nD Cert.HiddenReferenceIdeal.τ).loc Cert.HiddenReferenceIdeal.main_arg1) = m' ((c.tc : Thread Cert.HiddenReferenceIdeal.nD Cert.HiddenReferenceIdeal.τ).loc Cert.HiddenReferenceIdeal.main_arg1)
          ∧ r.2.mem ((c.tc : Thread Cert.HiddenReferenceIdeal.nD Cert.HiddenReferenceIdeal.τ).loc Cert.HiddenReferenceIdeal.main_arg2) = m' ((c.tc : Thread Cert.HiddenReferenceIdeal.nD Cert.HiddenReferenceIdeal.τ).loc Cert.HiddenReferenceIdeal.main_arg2)
          ∧ r.2.mem ((c.tc : Thread Cert.HiddenReferenceIdeal.nD Cert.HiddenReferenceIdeal.τ).loc Cert.HiddenReferenceIdeal.main_arg3) = m' ((c.tc : Thread Cert.HiddenReferenceIdeal.nD Cert.HiddenReferenceIdeal.τ).loc Cert.HiddenReferenceIdeal.main_arg3)
          ∧ r.2.mem ((c.tc : Thread Cert.HiddenReferenceIdeal.nD Cert.HiddenReferenceIdeal.τ).loc Cert.HiddenReferenceIdeal.main_arg4) = m' ((c.tc : Thread Cert.HiddenReferenceIdeal.nD Cert.HiddenReferenceIdeal.τ).loc Cert.HiddenReferenceIdeal.main_arg4))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)
      ∧ m' ((c.tc : Thread Cert.UpReferenceIdeal.nD Cert.UpReferenceIdeal.τ).loc Cert.UpReferenceIdeal.main_arg3) = m ((c.tc : Thread Cert.UpKernelIdeal.nD Cert.UpKernelIdeal.τ).loc Cert.UpKernelIdeal.main_arg3)
      ∧ m' ((c.tc : Thread Cert.UpReferenceIdeal.nD Cert.UpReferenceIdeal.τ).loc Cert.UpReferenceIdeal.main_arg4) = m ((c.tc : Thread Cert.UpKernelIdeal.nD Cert.UpKernelIdeal.τ).loc Cert.UpKernelIdeal.main_arg4)) →
    ∃ (v0 : (c : Dev Cert.UpKernelIdeal.nD) → Buf (Elt Ideal) ((c.tc : Thread Cert.UpKernelIdeal.nD Cert.UpKernelIdeal.τ).loc Cert.UpKernelIdeal.main_v10_0)) (v1 : (c : Dev Cert.UpKernelIdeal.nD) → Buf (Elt Ideal) ((c.tc : Thread Cert.UpKernelIdeal.nD Cert.UpKernelIdeal.τ).loc Cert.UpKernelIdeal.main_v10_1)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v10_0) = v0 c
          ∧ r.2.mem ((c.tc : Thread Cert.UpKernelIdeal.nD Cert.UpKernelIdeal.τ).loc Cert.UpKernelIdeal.main_v10_1) = v1 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
          ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
          ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v40) = v0 c
          ∧ r.2.mem ((c.tc : Thread Cert.UpReferenceIdeal.nD Cert.UpReferenceIdeal.τ).loc Cert.UpReferenceIdeal.main_v41) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)) →
    ∃ (v0 : (c : Dev Cert.ProjKernelIdeal.nD) → Buf (Elt Ideal) ((c.tc : Thread Cert.ProjKernelIdeal.nD Cert.ProjKernelIdeal.τ).loc Cert.ProjKernelIdeal.main_v10_0)) (v1 : (c : Dev Cert.ProjKernelIdeal.nD) → Buf (Elt Ideal) ((c.tc : Thread Cert.ProjKernelIdeal.nD Cert.ProjKernelIdeal.τ).loc Cert.ProjKernelIdeal.main_v10_1)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v10_0) = v0 c
          ∧ r.2.mem ((c.tc : Thread Cert.ProjKernelIdeal.nD Cert.ProjKernelIdeal.τ).loc Cert.ProjKernelIdeal.main_v10_1) = v1 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v40) = v0 c
          ∧ r.2.mem ((c.tc : Thread Cert.ProjReferenceIdeal.nD Cert.ProjReferenceIdeal.τ).loc Cert.ProjReferenceIdeal.main_v41) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_MergeKernel_MergeKernelIdeal : Prop :=
  True

def algebraic_MergeKernelIdeal_MergeReferenceIdeal_on_merge_mask [hMergeKernelIdeal : Cert.MergeKernelIdeal.Facts] [hMergeReferenceIdeal : Cert.MergeReferenceIdeal.Facts] [hOn_merge_mask : Cert.On_merge_mask.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)) →
    ∃ (v0 : (c : Dev Cert.MergeKernelIdeal.nD) → Buf (Elt Ideal) ((c.tc : Thread Cert.MergeKernelIdeal.nD Cert.MergeKernelIdeal.τ).loc Cert.MergeKernelIdeal.main_v11_0)) (v1 : (c : Dev Cert.MergeKernelIdeal.nD) → Buf (Elt Ideal) ((c.tc : Thread Cert.MergeKernelIdeal.nD Cert.MergeKernelIdeal.τ).loc Cert.MergeKernelIdeal.main_v11_1)) (v2 : (c : Dev Cert.MergeKernelIdeal.nD) → Buf (Elt Ideal) ((c.tc : Thread Cert.MergeKernelIdeal.nD Cert.MergeKernelIdeal.τ).loc Cert.MergeKernelIdeal.main_v11_2)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          (∀ i : (⟨3, ![4, 4096, 1024]⟩ : Shape).Idx, (Cert.On_merge_mask.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4))).1 i = 1#1 → r.2.mem ((c.tc : Thread Cert.MergeKernelIdeal.nD Cert.MergeKernelIdeal.τ).loc Cert.MergeKernelIdeal.main_v11_0) i = v0 c i)
          ∧ (∀ i : (⟨3, ![8, 4096, 1024]⟩ : Shape).Idx, (Cert.On_merge_mask.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4))).2.1 i = 1#1 → r.2.mem ((c.tc : Thread Cert.MergeKernelIdeal.nD Cert.MergeKernelIdeal.τ).loc Cert.MergeKernelIdeal.main_v11_1) i = v1 c i)
          ∧ (∀ i : (⟨3, ![4, 4096, 512]⟩ : Shape).Idx, (Cert.On_merge_mask.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4))).2.2 i = 1#1 → r.2.mem ((c.tc : Thread Cert.MergeKernelIdeal.nD Cert.MergeKernelIdeal.τ).loc Cert.MergeKernelIdeal.main_v11_2) i = v2 c i)
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          (∀ i : (⟨3, ![4, 4096, 1024]⟩ : Shape).Idx, (Cert.On_merge_mask.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4))).1 i = 1#1 → r.2.mem ((c.tc : Thread Cert.MergeReferenceIdeal.nD Cert.MergeReferenceIdeal.τ).loc Cert.MergeReferenceIdeal.main_v29) i = v0 c i)
          ∧ (∀ i : (⟨3, ![8, 4096, 1024]⟩ : Shape).Idx, (Cert.On_merge_mask.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4))).2.1 i = 1#1 → r.2.mem ((c.tc : Thread Cert.MergeReferenceIdeal.nD Cert.MergeReferenceIdeal.τ).loc Cert.MergeReferenceIdeal.main_v32) i = v1 c i)
          ∧ (∀ i : (⟨3, ![4, 4096, 512]⟩ : Shape).Idx, (Cert.On_merge_mask.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4))).2.2 i = 1#1 → r.2.mem ((c.tc : Thread Cert.MergeReferenceIdeal.nD Cert.MergeReferenceIdeal.τ).loc Cert.MergeReferenceIdeal.main_v34) i = v2 c i)
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_EnterKernel_EnterKernelIdeal : Prop :=
  True

def algebraic_EnterKernelIdeal_EnterReferenceIdeal [hEnterKernelIdeal : Cert.EnterKernelIdeal.Facts] [hEnterReferenceIdeal : Cert.EnterReferenceIdeal.Facts] : Prop :=
  ∀ (m : (ℓ : Loc Cert.EnterKernelIdeal.nD Cert.EnterKernelIdeal.τ Cert.EnterKernelIdeal.sig) → Buf (Elt Ideal) ℓ) (g : Dev Cert.EnterKernelIdeal.nD → PrngReg)
    (m' : (ℓ : Loc Cert.EnterReferenceIdeal.nD Cert.EnterReferenceIdeal.τ Cert.EnterReferenceIdeal.sig) → Buf (Elt Ideal) ℓ) (g' : Dev Cert.EnterReferenceIdeal.nD → PrngReg), Pre_EnterKernelIdeal m →
    (∀ c : Dev Cert.EnterKernelIdeal.nD,
      m' ((c.tc : Thread Cert.EnterReferenceIdeal.nD Cert.EnterReferenceIdeal.τ).loc Cert.EnterReferenceIdeal.main_arg0) = m ((c.tc : Thread Cert.EnterKernelIdeal.nD Cert.EnterKernelIdeal.τ).loc Cert.EnterKernelIdeal.main_arg0)
      ∧ m' ((c.tc : Thread Cert.EnterReferenceIdeal.nD Cert.EnterReferenceIdeal.τ).loc Cert.EnterReferenceIdeal.main_arg1) = m ((c.tc : Thread Cert.EnterKernelIdeal.nD Cert.EnterKernelIdeal.τ).loc Cert.EnterKernelIdeal.main_arg1)) →
    ∃ (v0 : (c : Dev Cert.EnterKernelIdeal.nD) → Buf (Elt Ideal) ((c.tc : Thread Cert.EnterKernelIdeal.nD Cert.EnterKernelIdeal.τ).loc Cert.EnterKernelIdeal.main_v2)),
      θ_run (Cert.EnterKernelIdeal.defs (F := Ideal)) (onTc (τ := Cert.EnterKernelIdeal.τ) (Cert.EnterKernelIdeal.main (F := Ideal))) ⟨m, fun _ => 0, g⟩ (fun r => ∀ c : Dev Cert.EnterKernelIdeal.nD,
          r.2.mem ((c.tc : Thread Cert.EnterKernelIdeal.nD Cert.EnterKernelIdeal.τ).loc Cert.EnterKernelIdeal.main_v2) = v0 c
          ∧ r.2.mem ((c.tc : Thread Cert.EnterKernelIdeal.nD Cert.EnterKernelIdeal.τ).loc Cert.EnterKernelIdeal.main_arg0) = m ((c.tc : Thread Cert.EnterKernelIdeal.nD Cert.EnterKernelIdeal.τ).loc Cert.EnterKernelIdeal.main_arg0)
          ∧ r.2.mem ((c.tc : Thread Cert.EnterKernelIdeal.nD Cert.EnterKernelIdeal.τ).loc Cert.EnterKernelIdeal.main_arg1) = m ((c.tc : Thread Cert.EnterKernelIdeal.nD Cert.EnterKernelIdeal.τ).loc Cert.EnterKernelIdeal.main_arg1))
      ∧ θ_run (Cert.EnterReferenceIdeal.defs (F := Ideal)) (onTc (τ := Cert.EnterReferenceIdeal.τ) (Cert.EnterReferenceIdeal.main (F := Ideal))) ⟨m', fun _ => 0, g'⟩ (fun r => ∀ c : Dev Cert.EnterReferenceIdeal.nD,
          r.2.mem ((c.tc : Thread Cert.EnterReferenceIdeal.nD Cert.EnterReferenceIdeal.τ).loc Cert.EnterReferenceIdeal.main_v14) = v0 c
          ∧ r.2.mem ((c.tc : Thread Cert.EnterReferenceIdeal.nD Cert.EnterReferenceIdeal.τ).loc Cert.EnterReferenceIdeal.main_arg0) = m' ((c.tc : Thread Cert.EnterReferenceIdeal.nD Cert.EnterReferenceIdeal.τ).loc Cert.EnterReferenceIdeal.main_arg0)
          ∧ r.2.mem ((c.tc : Thread Cert.EnterReferenceIdeal.nD Cert.EnterReferenceIdeal.τ).loc Cert.EnterReferenceIdeal.main_arg1) = m' ((c.tc : Thread Cert.EnterReferenceIdeal.nD Cert.EnterReferenceIdeal.τ).loc Cert.EnterReferenceIdeal.main_arg1))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)) →
    ∃ (v0 : (c : Dev Cert.DownKernelIdeal.nD) → Buf (Elt Ideal) ((c.tc : Thread Cert.DownKernelIdeal.nD Cert.DownKernelIdeal.τ).loc Cert.DownKernelIdeal.main_v7_0)) (v1 : (c : Dev Cert.DownKernelIdeal.nD) → Buf (Elt Ideal) ((c.tc : Thread Cert.DownKernelIdeal.nD Cert.DownKernelIdeal.τ).loc Cert.DownKernelIdeal.main_v7_1)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v7_0) = v0 c
          ∧ r.2.mem ((c.tc : Thread Cert.DownKernelIdeal.nD Cert.DownKernelIdeal.τ).loc Cert.DownKernelIdeal.main_v7_1) = v1 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v8) = v0 c
          ∧ r.2.mem ((c.tc : Thread Cert.DownReferenceIdeal.nD Cert.DownReferenceIdeal.τ).loc Cert.DownReferenceIdeal.main_v23) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_JoinKernel_JoinKernelIdeal : Prop :=
  True

def algebraic_JoinKernelIdeal_JoinReferenceIdeal [hJoinKernelIdeal : Cert.JoinKernelIdeal.Facts] [hJoinReferenceIdeal : Cert.JoinReferenceIdeal.Facts] : Prop :=
  ∀ (m : (ℓ : Loc Cert.JoinKernelIdeal.nD Cert.JoinKernelIdeal.τ Cert.JoinKernelIdeal.sig) → Buf (Elt Ideal) ℓ) (g : Dev Cert.JoinKernelIdeal.nD → PrngReg)
    (m' : (ℓ : Loc Cert.JoinReferenceIdeal.nD Cert.JoinReferenceIdeal.τ Cert.JoinReferenceIdeal.sig) → Buf (Elt Ideal) ℓ) (g' : Dev Cert.JoinReferenceIdeal.nD → PrngReg), Pre_JoinKernelIdeal m →
    (∀ c : Dev Cert.JoinKernelIdeal.nD,
      m' ((c.tc : Thread Cert.JoinReferenceIdeal.nD Cert.JoinReferenceIdeal.τ).loc Cert.JoinReferenceIdeal.main_arg0) = m ((c.tc : Thread Cert.JoinKernelIdeal.nD Cert.JoinKernelIdeal.τ).loc Cert.JoinKernelIdeal.main_arg0)
      ∧ m' ((c.tc : Thread Cert.JoinReferenceIdeal.nD Cert.JoinReferenceIdeal.τ).loc Cert.JoinReferenceIdeal.main_arg1) = m ((c.tc : Thread Cert.JoinKernelIdeal.nD Cert.JoinKernelIdeal.τ).loc Cert.JoinKernelIdeal.main_arg1)
      ∧ m' ((c.tc : Thread Cert.JoinReferenceIdeal.nD Cert.JoinReferenceIdeal.τ).loc Cert.JoinReferenceIdeal.main_arg2) = m ((c.tc : Thread Cert.JoinKernelIdeal.nD Cert.JoinKernelIdeal.τ).loc Cert.JoinKernelIdeal.main_arg2)
      ∧ m' ((c.tc : Thread Cert.JoinReferenceIdeal.nD Cert.JoinReferenceIdeal.τ).loc Cert.JoinReferenceIdeal.main_arg3) = m ((c.tc : Thread Cert.JoinKernelIdeal.nD Cert.JoinKernelIdeal.τ).loc Cert.JoinKernelIdeal.main_arg3)
      ∧ m' ((c.tc : Thread Cert.JoinReferenceIdeal.nD Cert.JoinReferenceIdeal.τ).loc Cert.JoinReferenceIdeal.main_arg4) = m ((c.tc : Thread Cert.JoinKernelIdeal.nD Cert.JoinKernelIdeal.τ).loc Cert.JoinKernelIdeal.main_arg4)
      ∧ m' ((c.tc : Thread Cert.JoinReferenceIdeal.nD Cert.JoinReferenceIdeal.τ).loc Cert.JoinReferenceIdeal.main_arg5) = m ((c.tc : Thread Cert.JoinKernelIdeal.nD Cert.JoinKernelIdeal.τ).loc Cert.JoinKernelIdeal.main_arg5)) →
    ∃ (v0 : (c : Dev Cert.JoinKernelIdeal.nD) → Buf (Elt Ideal) ((c.tc : Thread Cert.JoinKernelIdeal.nD Cert.JoinKernelIdeal.τ).loc Cert.JoinKernelIdeal.main_v12_0)) (v1 : (c : Dev Cert.JoinKernelIdeal.nD) → Buf (Elt Ideal) ((c.tc : Thread Cert.JoinKernelIdeal.nD Cert.JoinKernelIdeal.τ).loc Cert.JoinKernelIdeal.main_v12_1)) (v2 : (c : Dev Cert.JoinKernelIdeal.nD) → Buf (Elt Ideal) ((c.tc : Thread Cert.JoinKernelIdeal.nD Cert.JoinKernelIdeal.τ).loc Cert.JoinKernelIdeal.main_v12_2)),
      θ_run (Cert.JoinKernelIdeal.defs (F := Ideal)) (onTc (τ := Cert.JoinKernelIdeal.τ) (Cert.JoinKernelIdeal.main (F := Ideal))) ⟨m, fun _ => 0, g⟩ (fun r => ∀ c : Dev Cert.JoinKernelIdeal.nD,
          r.2.mem ((c.tc : Thread Cert.JoinKernelIdeal.nD Cert.JoinKernelIdeal.τ).loc Cert.JoinKernelIdeal.main_v12_0) = v0 c
          ∧ r.2.mem ((c.tc : Thread Cert.JoinKernelIdeal.nD Cert.JoinKernelIdeal.τ).loc Cert.JoinKernelIdeal.main_v12_1) = v1 c
          ∧ r.2.mem ((c.tc : Thread Cert.JoinKernelIdeal.nD Cert.JoinKernelIdeal.τ).loc Cert.JoinKernelIdeal.main_v12_2) = v2 c
          ∧ r.2.mem ((c.tc : Thread Cert.JoinKernelIdeal.nD Cert.JoinKernelIdeal.τ).loc Cert.JoinKernelIdeal.main_arg0) = m ((c.tc : Thread Cert.JoinKernelIdeal.nD Cert.JoinKernelIdeal.τ).loc Cert.JoinKernelIdeal.main_arg0)
          ∧ r.2.mem ((c.tc : Thread Cert.JoinKernelIdeal.nD Cert.JoinKernelIdeal.τ).loc Cert.JoinKernelIdeal.main_arg1) = m ((c.tc : Thread Cert.JoinKernelIdeal.nD Cert.JoinKernelIdeal.τ).loc Cert.JoinKernelIdeal.main_arg1)
          ∧ r.2.mem ((c.tc : Thread Cert.JoinKernelIdeal.nD Cert.JoinKernelIdeal.τ).loc Cert.JoinKernelIdeal.main_arg2) = m ((c.tc : Thread Cert.JoinKernelIdeal.nD Cert.JoinKernelIdeal.τ).loc Cert.JoinKernelIdeal.main_arg2)
          ∧ r.2.mem ((c.tc : Thread Cert.JoinKernelIdeal.nD Cert.JoinKernelIdeal.τ).loc Cert.JoinKernelIdeal.main_arg3) = m ((c.tc : Thread Cert.JoinKernelIdeal.nD Cert.JoinKernelIdeal.τ).loc Cert.JoinKernelIdeal.main_arg3)
          ∧ r.2.mem ((c.tc : Thread Cert.JoinKernelIdeal.nD Cert.JoinKernelIdeal.τ).loc Cert.JoinKernelIdeal.main_arg4) = m ((c.tc : Thread Cert.JoinKernelIdeal.nD Cert.JoinKernelIdeal.τ).loc Cert.JoinKernelIdeal.main_arg4)
          ∧ r.2.mem ((c.tc : Thread Cert.JoinKernelIdeal.nD Cert.JoinKernelIdeal.τ).loc Cert.JoinKernelIdeal.main_arg5) = m ((c.tc : Thread Cert.JoinKernelIdeal.nD Cert.JoinKernelIdeal.τ).loc Cert.JoinKernelIdeal.main_arg5))
      ∧ θ_run (Cert.JoinReferenceIdeal.defs (F := Ideal)) (onTc (τ := Cert.JoinReferenceIdeal.τ) (Cert.JoinReferenceIdeal.main (F := Ideal))) ⟨m', fun _ => 0, g'⟩ (fun r => ∀ c : Dev Cert.JoinReferenceIdeal.nD,
          r.2.mem ((c.tc : Thread Cert.JoinReferenceIdeal.nD Cert.JoinReferenceIdeal.τ).loc Cert.JoinReferenceIdeal.main_v13) = v0 c
          ∧ r.2.mem ((c.tc : Thread Cert.JoinReferenceIdeal.nD Cert.JoinReferenceIdeal.τ).loc Cert.JoinReferenceIdeal.main_v15) = v1 c
          ∧ r.2.mem ((c.tc : Thread Cert.JoinReferenceIdeal.nD Cert.JoinReferenceIdeal.τ).loc Cert.JoinReferenceIdeal.main_v30) = v2 c
          ∧ r.2.mem ((c.tc : Thread Cert.JoinReferenceIdeal.nD Cert.JoinReferenceIdeal.τ).loc Cert.JoinReferenceIdeal.main_arg0) = m' ((c.tc : Thread Cert.JoinReferenceIdeal.nD Cert.JoinReferenceIdeal.τ).loc Cert.JoinReferenceIdeal.main_arg0)
          ∧ r.2.mem ((c.tc : Thread Cert.JoinReferenceIdeal.nD Cert.JoinReferenceIdeal.τ).loc Cert.JoinReferenceIdeal.main_arg1) = m' ((c.tc : Thread Cert.JoinReferenceIdeal.nD Cert.JoinReferenceIdeal.τ).loc Cert.JoinReferenceIdeal.main_arg1)
          ∧ r.2.mem ((c.tc : Thread Cert.JoinReferenceIdeal.nD Cert.JoinReferenceIdeal.τ).loc Cert.JoinReferenceIdeal.main_arg2) = m' ((c.tc : Thread Cert.JoinReferenceIdeal.nD Cert.JoinReferenceIdeal.τ).loc Cert.JoinReferenceIdeal.main_arg2)
          ∧ r.2.mem ((c.tc : Thread Cert.JoinReferenceIdeal.nD Cert.JoinReferenceIdeal.τ).loc Cert.JoinReferenceIdeal.main_arg3) = m' ((c.tc : Thread Cert.JoinReferenceIdeal.nD Cert.JoinReferenceIdeal.τ).loc Cert.JoinReferenceIdeal.main_arg3)
          ∧ r.2.mem ((c.tc : Thread Cert.JoinReferenceIdeal.nD Cert.JoinReferenceIdeal.τ).loc Cert.JoinReferenceIdeal.main_arg4) = m' ((c.tc : Thread Cert.JoinReferenceIdeal.nD Cert.JoinReferenceIdeal.τ).loc Cert.JoinReferenceIdeal.main_arg4)
          ∧ r.2.mem ((c.tc : Thread Cert.JoinReferenceIdeal.nD Cert.JoinReferenceIdeal.τ).loc Cert.JoinReferenceIdeal.main_arg5) = m' ((c.tc : Thread Cert.JoinReferenceIdeal.nD Cert.JoinReferenceIdeal.τ).loc Cert.JoinReferenceIdeal.main_arg5))

def preserves_MixKernel_MixKernelIdeal : Prop :=
  True

def algebraic_MixKernelIdeal_MixReferenceIdeal_pre_finite_mix [hMixKernelIdeal : Cert.MixKernelIdeal.Facts] [hMixReferenceIdeal : Cert.MixReferenceIdeal.Facts] [hPre_finite_mix : Cert.Pre_finite_mix.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_finite_mix m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)
      ∧ m' ((c.tc : Thread Cert.MixReferenceIdeal.nD Cert.MixReferenceIdeal.τ).loc Cert.MixReferenceIdeal.main_arg8) = m ((c.tc : Thread Cert.MixKernelIdeal.nD Cert.MixKernelIdeal.τ).loc Cert.MixKernelIdeal.main_arg8)
      ∧ m' ((c.tc : Thread Cert.MixReferenceIdeal.nD Cert.MixReferenceIdeal.τ).loc Cert.MixReferenceIdeal.main_arg9) = m ((c.tc : Thread Cert.MixKernelIdeal.nD Cert.MixKernelIdeal.τ).loc Cert.MixKernelIdeal.main_arg9)
      ∧ m' ((c.tc : Thread Cert.MixReferenceIdeal.nD Cert.MixReferenceIdeal.τ).loc Cert.MixReferenceIdeal.main_arg10) = m ((c.tc : Thread Cert.MixKernelIdeal.nD Cert.MixKernelIdeal.τ).loc Cert.MixKernelIdeal.main_arg10)) →
    ∃ (v0 : (c : Dev Cert.MixKernelIdeal.nD) → Buf (Elt Ideal) ((c.tc : Thread Cert.MixKernelIdeal.nD Cert.MixKernelIdeal.τ).loc Cert.MixKernelIdeal.main_v10_0)) (v1 : (c : Dev Cert.MixKernelIdeal.nD) → Buf (Elt Ideal) ((c.tc : Thread Cert.MixKernelIdeal.nD Cert.MixKernelIdeal.τ).loc Cert.MixKernelIdeal.main_v10_1)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v10_0) = v0 c
          ∧ r.2.mem ((c.tc : Thread Cert.MixKernelIdeal.nD Cert.MixKernelIdeal.τ).loc Cert.MixKernelIdeal.main_v10_1) = v1 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
          ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
          ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
          ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v433) = v0 c
          ∧ r.2.mem ((c.tc : Thread Cert.MixReferenceIdeal.nD Cert.MixReferenceIdeal.τ).loc Cert.MixReferenceIdeal.main_v434) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10))

def preserves_ProdKernel_ProdKernelIdeal : Prop :=
  True

def algebraic_ProdKernelIdeal_ProdReferenceIdeal [hProdKernelIdeal : Cert.ProdKernelIdeal.Facts] [hProdReferenceIdeal : Cert.ProdReferenceIdeal.Facts] : Prop :=
  ∀ (m : (ℓ : Loc Cert.ProdKernelIdeal.nD Cert.ProdKernelIdeal.τ Cert.ProdKernelIdeal.sig) → Buf (Elt Ideal) ℓ) (g : Dev Cert.ProdKernelIdeal.nD → PrngReg)
    (m' : (ℓ : Loc Cert.ProdReferenceIdeal.nD Cert.ProdReferenceIdeal.τ Cert.ProdReferenceIdeal.sig) → Buf (Elt Ideal) ℓ) (g' : Dev Cert.ProdReferenceIdeal.nD → PrngReg), Pre_ProdKernelIdeal m →
    (∀ c : Dev Cert.ProdKernelIdeal.nD,
      m' ((c.tc : Thread Cert.ProdReferenceIdeal.nD Cert.ProdReferenceIdeal.τ).loc Cert.ProdReferenceIdeal.main_arg0) = m ((c.tc : Thread Cert.ProdKernelIdeal.nD Cert.ProdKernelIdeal.τ).loc Cert.ProdKernelIdeal.main_arg0)
      ∧ m' ((c.tc : Thread Cert.ProdReferenceIdeal.nD Cert.ProdReferenceIdeal.τ).loc Cert.ProdReferenceIdeal.main_arg1) = m ((c.tc : Thread Cert.ProdKernelIdeal.nD Cert.ProdKernelIdeal.τ).loc Cert.ProdKernelIdeal.main_arg1)) →
    ∃ (v0 : (c : Dev Cert.ProdKernelIdeal.nD) → Buf (Elt Ideal) ((c.tc : Thread Cert.ProdKernelIdeal.nD Cert.ProdKernelIdeal.τ).loc Cert.ProdKernelIdeal.main_v5)),
      θ_run (Cert.ProdKernelIdeal.defs (F := Ideal)) (onTc (τ := Cert.ProdKernelIdeal.τ) (Cert.ProdKernelIdeal.main (F := Ideal))) ⟨m, fun _ => 0, g⟩ (fun r => ∀ c : Dev Cert.ProdKernelIdeal.nD,
          r.2.mem ((c.tc : Thread Cert.ProdKernelIdeal.nD Cert.ProdKernelIdeal.τ).loc Cert.ProdKernelIdeal.main_v5) = v0 c
          ∧ r.2.mem ((c.tc : Thread Cert.ProdKernelIdeal.nD Cert.ProdKernelIdeal.τ).loc Cert.ProdKernelIdeal.main_arg0) = m ((c.tc : Thread Cert.ProdKernelIdeal.nD Cert.ProdKernelIdeal.τ).loc Cert.ProdKernelIdeal.main_arg0)
          ∧ r.2.mem ((c.tc : Thread Cert.ProdKernelIdeal.nD Cert.ProdKernelIdeal.τ).loc Cert.ProdKernelIdeal.main_arg1) = m ((c.tc : Thread Cert.ProdKernelIdeal.nD Cert.ProdKernelIdeal.τ).loc Cert.ProdKernelIdeal.main_arg1))
      ∧ θ_run (Cert.ProdReferenceIdeal.defs (F := Ideal)) (onTc (τ := Cert.ProdReferenceIdeal.τ) (Cert.ProdReferenceIdeal.main (F := Ideal))) ⟨m', fun _ => 0, g'⟩ (fun r => ∀ c : Dev Cert.ProdReferenceIdeal.nD,
          r.2.mem ((c.tc : Thread Cert.ProdReferenceIdeal.nD Cert.ProdReferenceIdeal.τ).loc Cert.ProdReferenceIdeal.main_v3) = v0 c
          ∧ r.2.mem ((c.tc : Thread Cert.ProdReferenceIdeal.nD Cert.ProdReferenceIdeal.τ).loc Cert.ProdReferenceIdeal.main_arg0) = m' ((c.tc : Thread Cert.ProdReferenceIdeal.nD Cert.ProdReferenceIdeal.τ).loc Cert.ProdReferenceIdeal.main_arg0)
          ∧ r.2.mem ((c.tc : Thread Cert.ProdReferenceIdeal.nD Cert.ProdReferenceIdeal.τ).loc Cert.ProdReferenceIdeal.main_arg1) = m' ((c.tc : Thread Cert.ProdReferenceIdeal.nD Cert.ProdReferenceIdeal.τ).loc Cert.ProdReferenceIdeal.main_arg1))

def preserves_GradKernel_GradKernelIdeal : Prop :=
  True

def algebraic_GradKernelIdeal_GradReferenceIdeal [hGradKernelIdeal : Cert.GradKernelIdeal.Facts] [hGradReferenceIdeal : Cert.GradReferenceIdeal.Facts] : Prop :=
  ∀ (m : (ℓ : Loc Cert.GradKernelIdeal.nD Cert.GradKernelIdeal.τ Cert.GradKernelIdeal.sig) → Buf (Elt Ideal) ℓ) (g : Dev Cert.GradKernelIdeal.nD → PrngReg)
    (m' : (ℓ : Loc Cert.GradReferenceIdeal.nD Cert.GradReferenceIdeal.τ Cert.GradReferenceIdeal.sig) → Buf (Elt Ideal) ℓ) (g' : Dev Cert.GradReferenceIdeal.nD → PrngReg), Pre_GradKernelIdeal m →
    (∀ c : Dev Cert.GradKernelIdeal.nD,
      m' ((c.tc : Thread Cert.GradReferenceIdeal.nD Cert.GradReferenceIdeal.τ).loc Cert.GradReferenceIdeal.main_arg0) = m ((c.tc : Thread Cert.GradKernelIdeal.nD Cert.GradKernelIdeal.τ).loc Cert.GradKernelIdeal.main_arg0)
      ∧ m' ((c.tc : Thread Cert.GradReferenceIdeal.nD Cert.GradReferenceIdeal.τ).loc Cert.GradReferenceIdeal.main_arg1) = m ((c.tc : Thread Cert.GradKernelIdeal.nD Cert.GradKernelIdeal.τ).loc Cert.GradKernelIdeal.main_arg1)) →
    ∃ (v0 : (c : Dev Cert.GradKernelIdeal.nD) → Buf (Elt Ideal) ((c.tc : Thread Cert.GradKernelIdeal.nD Cert.GradKernelIdeal.τ).loc Cert.GradKernelIdeal.main_v5)),
      θ_run (Cert.GradKernelIdeal.defs (F := Ideal)) (onTc (τ := Cert.GradKernelIdeal.τ) (Cert.GradKernelIdeal.main (F := Ideal))) ⟨m, fun _ => 0, g⟩ (fun r => ∀ c : Dev Cert.GradKernelIdeal.nD,
          r.2.mem ((c.tc : Thread Cert.GradKernelIdeal.nD Cert.GradKernelIdeal.τ).loc Cert.GradKernelIdeal.main_v5) = v0 c
          ∧ r.2.mem ((c.tc : Thread Cert.GradKernelIdeal.nD Cert.GradKernelIdeal.τ).loc Cert.GradKernelIdeal.main_arg0) = m ((c.tc : Thread Cert.GradKernelIdeal.nD Cert.GradKernelIdeal.τ).loc Cert.GradKernelIdeal.main_arg0)
          ∧ r.2.mem ((c.tc : Thread Cert.GradKernelIdeal.nD Cert.GradKernelIdeal.τ).loc Cert.GradKernelIdeal.main_arg1) = m ((c.tc : Thread Cert.GradKernelIdeal.nD Cert.GradKernelIdeal.τ).loc Cert.GradKernelIdeal.main_arg1))
      ∧ θ_run (Cert.GradReferenceIdeal.defs (F := Ideal)) (onTc (τ := Cert.GradReferenceIdeal.τ) (Cert.GradReferenceIdeal.main (F := Ideal))) ⟨m', fun _ => 0, g'⟩ (fun r => ∀ c : Dev Cert.GradReferenceIdeal.nD,
          r.2.mem ((c.tc : Thread Cert.GradReferenceIdeal.nD Cert.GradReferenceIdeal.τ).loc Cert.GradReferenceIdeal.main_v6) = v0 c
          ∧ r.2.mem ((c.tc : Thread Cert.GradReferenceIdeal.nD Cert.GradReferenceIdeal.τ).loc Cert.GradReferenceIdeal.main_arg0) = m' ((c.tc : Thread Cert.GradReferenceIdeal.nD Cert.GradReferenceIdeal.τ).loc Cert.GradReferenceIdeal.main_arg0)
          ∧ r.2.mem ((c.tc : Thread Cert.GradReferenceIdeal.nD Cert.GradReferenceIdeal.τ).loc Cert.GradReferenceIdeal.main_arg1) = m' ((c.tc : Thread Cert.GradReferenceIdeal.nD Cert.GradReferenceIdeal.τ).loc Cert.GradReferenceIdeal.main_arg1))

def preserves_StepKernel_StepKernelIdeal : Prop :=
  True

def algebraic_StepKernelIdeal_StepReferenceIdeal [hStepKernelIdeal : Cert.StepKernelIdeal.Facts] [hStepReferenceIdeal : Cert.StepReferenceIdeal.Facts] : Prop :=
  ∀ (m : (ℓ : Loc Cert.StepKernelIdeal.nD Cert.StepKernelIdeal.τ Cert.StepKernelIdeal.sig) → Buf (Elt Ideal) ℓ) (g : Dev Cert.StepKernelIdeal.nD → PrngReg)
    (m' : (ℓ : Loc Cert.StepReferenceIdeal.nD Cert.StepReferenceIdeal.τ Cert.StepReferenceIdeal.sig) → Buf (Elt Ideal) ℓ) (g' : Dev Cert.StepReferenceIdeal.nD → PrngReg), Pre_StepKernelIdeal m →
    (∀ c : Dev Cert.StepKernelIdeal.nD,
      m' ((c.tc : Thread Cert.StepReferenceIdeal.nD Cert.StepReferenceIdeal.τ).loc Cert.StepReferenceIdeal.main_arg0) = m ((c.tc : Thread Cert.StepKernelIdeal.nD Cert.StepKernelIdeal.τ).loc Cert.StepKernelIdeal.main_arg0)
      ∧ m' ((c.tc : Thread Cert.StepReferenceIdeal.nD Cert.StepReferenceIdeal.τ).loc Cert.StepReferenceIdeal.main_arg1) = m ((c.tc : Thread Cert.StepKernelIdeal.nD Cert.StepKernelIdeal.τ).loc Cert.StepKernelIdeal.main_arg1)
      ∧ m' ((c.tc : Thread Cert.StepReferenceIdeal.nD Cert.StepReferenceIdeal.τ).loc Cert.StepReferenceIdeal.main_arg2) = m ((c.tc : Thread Cert.StepKernelIdeal.nD Cert.StepKernelIdeal.τ).loc Cert.StepKernelIdeal.main_arg2)
      ∧ m' ((c.tc : Thread Cert.StepReferenceIdeal.nD Cert.StepReferenceIdeal.τ).loc Cert.StepReferenceIdeal.main_arg3) = m ((c.tc : Thread Cert.StepKernelIdeal.nD Cert.StepKernelIdeal.τ).loc Cert.StepKernelIdeal.main_arg3)
      ∧ m' ((c.tc : Thread Cert.StepReferenceIdeal.nD Cert.StepReferenceIdeal.τ).loc Cert.StepReferenceIdeal.main_arg4) = m ((c.tc : Thread Cert.StepKernelIdeal.nD Cert.StepKernelIdeal.τ).loc Cert.StepKernelIdeal.main_arg4)) →
    ∃ (v0 : (c : Dev Cert.StepKernelIdeal.nD) → Buf (Elt Ideal) ((c.tc : Thread Cert.StepKernelIdeal.nD Cert.StepKernelIdeal.τ).loc Cert.StepKernelIdeal.main_v0_0)) (v1 : (c : Dev Cert.StepKernelIdeal.nD) → Buf (Elt Ideal) ((c.tc : Thread Cert.StepKernelIdeal.nD Cert.StepKernelIdeal.τ).loc Cert.StepKernelIdeal.main_v0_1)) (v2 : (c : Dev Cert.StepKernelIdeal.nD) → Buf (Elt Ideal) ((c.tc : Thread Cert.StepKernelIdeal.nD Cert.StepKernelIdeal.τ).loc Cert.StepKernelIdeal.main_v0_2)) (v3 : (c : Dev Cert.StepKernelIdeal.nD) → Buf (Elt Ideal) ((c.tc : Thread Cert.StepKernelIdeal.nD Cert.StepKernelIdeal.τ).loc Cert.StepKernelIdeal.main_v0_3)),
      θ_run (Cert.StepKernelIdeal.defs (F := Ideal)) (onTc (τ := Cert.StepKernelIdeal.τ) (Cert.StepKernelIdeal.main (F := Ideal))) ⟨m, fun _ => 0, g⟩ (fun r => ∀ c : Dev Cert.StepKernelIdeal.nD,
          r.2.mem ((c.tc : Thread Cert.StepKernelIdeal.nD Cert.StepKernelIdeal.τ).loc Cert.StepKernelIdeal.main_v0_0) = v0 c
          ∧ r.2.mem ((c.tc : Thread Cert.StepKernelIdeal.nD Cert.StepKernelIdeal.τ).loc Cert.StepKernelIdeal.main_v0_1) = v1 c
          ∧ r.2.mem ((c.tc : Thread Cert.StepKernelIdeal.nD Cert.StepKernelIdeal.τ).loc Cert.StepKernelIdeal.main_v0_2) = v2 c
          ∧ r.2.mem ((c.tc : Thread Cert.StepKernelIdeal.nD Cert.StepKernelIdeal.τ).loc Cert.StepKernelIdeal.main_v0_3) = v3 c
          ∧ r.2.mem ((c.tc : Thread Cert.StepKernelIdeal.nD Cert.StepKernelIdeal.τ).loc Cert.StepKernelIdeal.main_arg0) = m ((c.tc : Thread Cert.StepKernelIdeal.nD Cert.StepKernelIdeal.τ).loc Cert.StepKernelIdeal.main_arg0)
          ∧ r.2.mem ((c.tc : Thread Cert.StepKernelIdeal.nD Cert.StepKernelIdeal.τ).loc Cert.StepKernelIdeal.main_arg1) = m ((c.tc : Thread Cert.StepKernelIdeal.nD Cert.StepKernelIdeal.τ).loc Cert.StepKernelIdeal.main_arg1)
          ∧ r.2.mem ((c.tc : Thread Cert.StepKernelIdeal.nD Cert.StepKernelIdeal.τ).loc Cert.StepKernelIdeal.main_arg2) = m ((c.tc : Thread Cert.StepKernelIdeal.nD Cert.StepKernelIdeal.τ).loc Cert.StepKernelIdeal.main_arg2)
          ∧ r.2.mem ((c.tc : Thread Cert.StepKernelIdeal.nD Cert.StepKernelIdeal.τ).loc Cert.StepKernelIdeal.main_arg3) = m ((c.tc : Thread Cert.StepKernelIdeal.nD Cert.StepKernelIdeal.τ).loc Cert.StepKernelIdeal.main_arg3)
          ∧ r.2.mem ((c.tc : Thread Cert.StepKernelIdeal.nD Cert.StepKernelIdeal.τ).loc Cert.StepKernelIdeal.main_arg4) = m ((c.tc : Thread Cert.StepKernelIdeal.nD Cert.StepKernelIdeal.τ).loc Cert.StepKernelIdeal.main_arg4))
      ∧ θ_run (Cert.StepReferenceIdeal.defs (F := Ideal)) (onTc (τ := Cert.StepReferenceIdeal.τ) (Cert.StepReferenceIdeal.main (F := Ideal))) ⟨m', fun _ => 0, g'⟩ (fun r => ∀ c : Dev Cert.StepReferenceIdeal.nD,
          r.2.mem ((c.tc : Thread Cert.StepReferenceIdeal.nD Cert.StepReferenceIdeal.τ).loc Cert.StepReferenceIdeal.main_v6) = v0 c
          ∧ r.2.mem ((c.tc : Thread Cert.StepReferenceIdeal.nD Cert.StepReferenceIdeal.τ).loc Cert.StepReferenceIdeal.main_v30) = v1 c
          ∧ r.2.mem ((c.tc : Thread Cert.StepReferenceIdeal.nD Cert.StepReferenceIdeal.τ).loc Cert.StepReferenceIdeal.main_v11) = v2 c
          ∧ r.2.mem ((c.tc : Thread Cert.StepReferenceIdeal.nD Cert.StepReferenceIdeal.τ).loc Cert.StepReferenceIdeal.main_v17) = v3 c
          ∧ r.2.mem ((c.tc : Thread Cert.StepReferenceIdeal.nD Cert.StepReferenceIdeal.τ).loc Cert.StepReferenceIdeal.main_arg0) = m' ((c.tc : Thread Cert.StepReferenceIdeal.nD Cert.StepReferenceIdeal.τ).loc Cert.StepReferenceIdeal.main_arg0)
          ∧ r.2.mem ((c.tc : Thread Cert.StepReferenceIdeal.nD Cert.StepReferenceIdeal.τ).loc Cert.StepReferenceIdeal.main_arg1) = m' ((c.tc : Thread Cert.StepReferenceIdeal.nD Cert.StepReferenceIdeal.τ).loc Cert.StepReferenceIdeal.main_arg1)
          ∧ r.2.mem ((c.tc : Thread Cert.StepReferenceIdeal.nD Cert.StepReferenceIdeal.τ).loc Cert.StepReferenceIdeal.main_arg2) = m' ((c.tc : Thread Cert.StepReferenceIdeal.nD Cert.StepReferenceIdeal.τ).loc Cert.StepReferenceIdeal.main_arg2)
          ∧ r.2.mem ((c.tc : Thread Cert.StepReferenceIdeal.nD Cert.StepReferenceIdeal.τ).loc Cert.StepReferenceIdeal.main_arg3) = m' ((c.tc : Thread Cert.StepReferenceIdeal.nD Cert.StepReferenceIdeal.τ).loc Cert.StepReferenceIdeal.main_arg3)
          ∧ r.2.mem ((c.tc : Thread Cert.StepReferenceIdeal.nD Cert.StepReferenceIdeal.τ).loc Cert.StepReferenceIdeal.main_arg4) = m' ((c.tc : Thread Cert.StepReferenceIdeal.nD Cert.StepReferenceIdeal.τ).loc Cert.StepReferenceIdeal.main_arg4))

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)
      ∧ m' ((c.tc : Thread Cert.ConvReferenceIdeal.nD Cert.ConvReferenceIdeal.τ).loc Cert.ConvReferenceIdeal.main_arg3) = m ((c.tc : Thread Cert.ConvKernelIdeal.nD Cert.ConvKernelIdeal.τ).loc Cert.ConvKernelIdeal.main_arg3)
      ∧ m' ((c.tc : Thread Cert.ConvReferenceIdeal.nD Cert.ConvReferenceIdeal.τ).loc Cert.ConvReferenceIdeal.main_arg4) = m ((c.tc : Thread Cert.ConvKernelIdeal.nD Cert.ConvKernelIdeal.τ).loc Cert.ConvKernelIdeal.main_arg4)
      ∧ m' ((c.tc : Thread Cert.ConvReferenceIdeal.nD Cert.ConvReferenceIdeal.τ).loc Cert.ConvReferenceIdeal.main_arg5) = m ((c.tc : Thread Cert.ConvKernelIdeal.nD Cert.ConvKernelIdeal.τ).loc Cert.ConvKernelIdeal.main_arg5)
      ∧ m' ((c.tc : Thread Cert.ConvReferenceIdeal.nD Cert.ConvReferenceIdeal.τ).loc Cert.ConvReferenceIdeal.main_arg6) = m ((c.tc : Thread Cert.ConvKernelIdeal.nD Cert.ConvKernelIdeal.τ).loc Cert.ConvKernelIdeal.main_arg6)) →
    ∃ (v0 : (c : Dev Cert.ConvKernelIdeal.nD) → Buf (Elt Ideal) ((c.tc : Thread Cert.ConvKernelIdeal.nD Cert.ConvKernelIdeal.τ).loc Cert.ConvKernelIdeal.main_v6_0)) (v1 : (c : Dev Cert.ConvKernelIdeal.nD) → Buf (Elt Ideal) ((c.tc : Thread Cert.ConvKernelIdeal.nD Cert.ConvKernelIdeal.τ).loc Cert.ConvKernelIdeal.main_v6_1)) (v2 : (c : Dev Cert.ConvKernelIdeal.nD) → Buf (Elt Ideal) ((c.tc : Thread Cert.ConvKernelIdeal.nD Cert.ConvKernelIdeal.τ).loc Cert.ConvKernelIdeal.main_v6_2)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v6_0) = v0 c
          ∧ r.2.mem ((c.tc : Thread Cert.ConvKernelIdeal.nD Cert.ConvKernelIdeal.τ).loc Cert.ConvKernelIdeal.main_v6_1) = v1 c
          ∧ r.2.mem ((c.tc : Thread Cert.ConvKernelIdeal.nD Cert.ConvKernelIdeal.τ).loc Cert.ConvKernelIdeal.main_v6_2) = v2 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
          ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
          ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4)
          ∧ r.2.mem ((c.tc : Thread Cert.ConvKernelIdeal.nD Cert.ConvKernelIdeal.τ).loc Cert.ConvKernelIdeal.main_arg5) = m ((c.tc : Thread Cert.ConvKernelIdeal.nD Cert.ConvKernelIdeal.τ).loc Cert.ConvKernelIdeal.main_arg5)
          ∧ r.2.mem ((c.tc : Thread Cert.ConvKernelIdeal.nD Cert.ConvKernelIdeal.τ).loc Cert.ConvKernelIdeal.main_arg6) = m ((c.tc : Thread Cert.ConvKernelIdeal.nD Cert.ConvKernelIdeal.τ).loc Cert.ConvKernelIdeal.main_arg6))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v52) = v0 c
          ∧ r.2.mem ((c.tc : Thread Cert.ConvReferenceIdeal.nD Cert.ConvReferenceIdeal.τ).loc Cert.ConvReferenceIdeal.main_v54) = v1 c
          ∧ r.2.mem ((c.tc : Thread Cert.ConvReferenceIdeal.nD Cert.ConvReferenceIdeal.τ).loc Cert.ConvReferenceIdeal.main_v56) = v2 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4)
          ∧ r.2.mem ((c.tc : Thread Cert.ConvReferenceIdeal.nD Cert.ConvReferenceIdeal.τ).loc Cert.ConvReferenceIdeal.main_arg5) = m' ((c.tc : Thread Cert.ConvReferenceIdeal.nD Cert.ConvReferenceIdeal.τ).loc Cert.ConvReferenceIdeal.main_arg5)
          ∧ r.2.mem ((c.tc : Thread Cert.ConvReferenceIdeal.nD Cert.ConvReferenceIdeal.τ).loc Cert.ConvReferenceIdeal.main_arg6) = m' ((c.tc : Thread Cert.ConvReferenceIdeal.nD Cert.ConvReferenceIdeal.τ).loc Cert.ConvReferenceIdeal.main_arg6))

def Claim : Prop :=
  ∃ (hLossKernel : Cert.LossKernel.Facts) (hLossKernelIdeal : Cert.LossKernelIdeal.Facts) (hLossReferenceIdeal : Cert.LossReferenceIdeal.Facts) (hHiddenKernel : Cert.HiddenKernel.Facts) (hHiddenKernelIdeal : Cert.HiddenKernelIdeal.Facts) (hHiddenReferenceIdeal : Cert.HiddenReferenceIdeal.Facts) (hUpKernel : Cert.UpKernel.Facts) (hUpKernelIdeal : Cert.UpKernelIdeal.Facts) (hUpReferenceIdeal : Cert.UpReferenceIdeal.Facts) (hProjKernel : Cert.ProjKernel.Facts) (hProjKernelIdeal : Cert.ProjKernelIdeal.Facts) (hProjReferenceIdeal : Cert.ProjReferenceIdeal.Facts) (hMergeKernel : Cert.MergeKernel.Facts) (hMergeKernelIdeal : Cert.MergeKernelIdeal.Facts) (hMergeReferenceIdeal : Cert.MergeReferenceIdeal.Facts) (hEnterKernel : Cert.EnterKernel.Facts) (hEnterKernelIdeal : Cert.EnterKernelIdeal.Facts) (hEnterReferenceIdeal : Cert.EnterReferenceIdeal.Facts) (hDownKernel : Cert.DownKernel.Facts) (hDownKernelIdeal : Cert.DownKernelIdeal.Facts) (hDownReferenceIdeal : Cert.DownReferenceIdeal.Facts) (hJoinKernel : Cert.JoinKernel.Facts) (hJoinKernelIdeal : Cert.JoinKernelIdeal.Facts) (hJoinReferenceIdeal : Cert.JoinReferenceIdeal.Facts) (hMixKernel : Cert.MixKernel.Facts) (hMixKernelIdeal : Cert.MixKernelIdeal.Facts) (hMixReferenceIdeal : Cert.MixReferenceIdeal.Facts) (hProdKernel : Cert.ProdKernel.Facts) (hProdKernelIdeal : Cert.ProdKernelIdeal.Facts) (hProdReferenceIdeal : Cert.ProdReferenceIdeal.Facts) (hGradKernel : Cert.GradKernel.Facts) (hGradKernelIdeal : Cert.GradKernelIdeal.Facts) (hGradReferenceIdeal : Cert.GradReferenceIdeal.Facts) (hStepKernel : Cert.StepKernel.Facts) (hStepKernelIdeal : Cert.StepKernelIdeal.Facts) (hStepReferenceIdeal : Cert.StepReferenceIdeal.Facts) (hConvKernel : Cert.ConvKernel.Facts) (hConvKernelIdeal : Cert.ConvKernelIdeal.Facts) (hConvReferenceIdeal : Cert.ConvReferenceIdeal.Facts) (hPre_finite_hidden : Cert.Pre_finite_hidden.Facts) (hPre_finite_mix : Cert.Pre_finite_mix.Facts) (hOn_merge_mask : Cert.On_merge_mask.Facts),
    quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_HiddenKernel (hHiddenKernel := hHiddenKernel)
    ∧ quiescent_HiddenKernelIdeal (hHiddenKernelIdeal := hHiddenKernelIdeal)
    ∧ quiescent_HiddenKernelIdeal_pre_finite_hidden (hHiddenKernelIdeal := hHiddenKernelIdeal) (hPre_finite_hidden := hPre_finite_hidden)
    ∧ quiescent_HiddenReferenceIdeal (hHiddenReferenceIdeal := hHiddenReferenceIdeal)
    ∧ quiescent_HiddenReferenceIdeal_pre_finite_hidden (hHiddenReferenceIdeal := hHiddenReferenceIdeal) (hPre_finite_hidden := hPre_finite_hidden)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_EnterKernel (hEnterKernel := hEnterKernel)
    ∧ quiescent_EnterKernelIdeal (hEnterKernelIdeal := hEnterKernelIdeal)
    ∧ quiescent_EnterReferenceIdeal (hEnterReferenceIdeal := hEnterReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_JoinKernel (hJoinKernel := hJoinKernel)
    ∧ quiescent_JoinKernelIdeal (hJoinKernelIdeal := hJoinKernelIdeal)
    ∧ quiescent_JoinReferenceIdeal (hJoinReferenceIdeal := hJoinReferenceIdeal)
    ∧ quiescent_MixKernel (hMixKernel := hMixKernel)
    ∧ quiescent_MixKernelIdeal (hMixKernelIdeal := hMixKernelIdeal)
    ∧ quiescent_MixKernelIdeal_pre_finite_mix (hMixKernelIdeal := hMixKernelIdeal) (hPre_finite_mix := hPre_finite_mix)
    ∧ quiescent_MixReferenceIdeal (hMixReferenceIdeal := hMixReferenceIdeal)
    ∧ quiescent_MixReferenceIdeal_pre_finite_mix (hMixReferenceIdeal := hMixReferenceIdeal) (hPre_finite_mix := hPre_finite_mix)
    ∧ quiescent_ProdKernel (hProdKernel := hProdKernel)
    ∧ quiescent_ProdKernelIdeal (hProdKernelIdeal := hProdKernelIdeal)
    ∧ quiescent_ProdReferenceIdeal (hProdReferenceIdeal := hProdReferenceIdeal)
    ∧ quiescent_GradKernel (hGradKernel := hGradKernel)
    ∧ quiescent_GradKernelIdeal (hGradKernelIdeal := hGradKernelIdeal)
    ∧ quiescent_GradReferenceIdeal (hGradReferenceIdeal := hGradReferenceIdeal)
    ∧ quiescent_StepKernel (hStepKernel := hStepKernel)
    ∧ quiescent_StepKernelIdeal (hStepKernelIdeal := hStepKernelIdeal)
    ∧ quiescent_StepReferenceIdeal (hStepReferenceIdeal := hStepReferenceIdeal)
    ∧ quiescent_ConvKernel (hConvKernel := hConvKernel)
    ∧ quiescent_ConvKernelIdeal (hConvKernelIdeal := hConvKernelIdeal)
    ∧ quiescent_ConvReferenceIdeal (hConvReferenceIdeal := hConvReferenceIdeal)
    ∧ preserves_LossKernel_LossKernelIdeal
    ∧ algebraic_LossKernelIdeal_LossReferenceIdeal (hLossKernelIdeal := hLossKernelIdeal) (hLossReferenceIdeal := hLossReferenceIdeal)
    ∧ preserves_HiddenKernel_HiddenKernelIdeal
    ∧ algebraic_HiddenKernelIdeal_HiddenReferenceIdeal_pre_finite_hidden (hHiddenKernelIdeal := hHiddenKernelIdeal) (hHiddenReferenceIdeal := hHiddenReferenceIdeal) (hPre_finite_hidden := hPre_finite_hidden)
    ∧ preserves_UpKernel_UpKernelIdeal
    ∧ algebraic_UpKernelIdeal_UpReferenceIdeal (hUpKernelIdeal := hUpKernelIdeal) (hUpReferenceIdeal := hUpReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_MergeKernel_MergeKernelIdeal
    ∧ algebraic_MergeKernelIdeal_MergeReferenceIdeal_on_merge_mask (hMergeKernelIdeal := hMergeKernelIdeal) (hMergeReferenceIdeal := hMergeReferenceIdeal) (hOn_merge_mask := hOn_merge_mask)
    ∧ preserves_EnterKernel_EnterKernelIdeal
    ∧ algebraic_EnterKernelIdeal_EnterReferenceIdeal (hEnterKernelIdeal := hEnterKernelIdeal) (hEnterReferenceIdeal := hEnterReferenceIdeal)
    ∧ preserves_DownKernel_DownKernelIdeal
    ∧ algebraic_DownKernelIdeal_DownReferenceIdeal (hDownKernelIdeal := hDownKernelIdeal) (hDownReferenceIdeal := hDownReferenceIdeal)
    ∧ preserves_JoinKernel_JoinKernelIdeal
    ∧ algebraic_JoinKernelIdeal_JoinReferenceIdeal (hJoinKernelIdeal := hJoinKernelIdeal) (hJoinReferenceIdeal := hJoinReferenceIdeal)
    ∧ preserves_MixKernel_MixKernelIdeal
    ∧ algebraic_MixKernelIdeal_MixReferenceIdeal_pre_finite_mix (hMixKernelIdeal := hMixKernelIdeal) (hMixReferenceIdeal := hMixReferenceIdeal) (hPre_finite_mix := hPre_finite_mix)
    ∧ preserves_ProdKernel_ProdKernelIdeal
    ∧ algebraic_ProdKernelIdeal_ProdReferenceIdeal (hProdKernelIdeal := hProdKernelIdeal) (hProdReferenceIdeal := hProdReferenceIdeal)
    ∧ preserves_GradKernel_GradKernelIdeal
    ∧ algebraic_GradKernelIdeal_GradReferenceIdeal (hGradKernelIdeal := hGradKernelIdeal) (hGradReferenceIdeal := hGradReferenceIdeal)
    ∧ preserves_StepKernel_StepKernelIdeal
    ∧ algebraic_StepKernelIdeal_StepReferenceIdeal (hStepKernelIdeal := hStepKernelIdeal) (hStepReferenceIdeal := hStepReferenceIdeal)
    ∧ preserves_ConvKernel_ConvKernelIdeal
    ∧ algebraic_ConvKernelIdeal_ConvReferenceIdeal (hConvKernelIdeal := hConvKernelIdeal) (hConvReferenceIdeal := hConvReferenceIdeal)
-- ==== On_merge_mask.lean ====
abbrev S1x4096x4x512 : Shape := ⟨4, ![1, 4096, 4, 512]⟩
abbrev S1x4096x4096 : Shape := ⟨3, ![1, 4096, 4096]⟩
abbrev S4x512x1024 : Shape := ⟨3, ![4, 512, 1024]⟩
abbrev S1024x1024 : Shape := ⟨2, ![1024, 1024]⟩
abbrev S1x4096x1024 : Shape := ⟨3, ![1, 4096, 1024]⟩
abbrev S8 : Shape := ⟨1, ![8]⟩
abbrev S8x1x1 : Shape := ⟨3, ![8, 1, 1]⟩
abbrev S_ : Shape := ⟨0, ![]⟩
abbrev S8x4096x1024 : Shape := ⟨3, ![8, 4096, 1024]⟩
abbrev S4x4096x1024 : Shape := ⟨3, ![4, 4096, 1024]⟩
abbrev S4x4096x512 : Shape := ⟨3, ![4, 4096, 512]⟩

class Facts : Prop where
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x4096x1024_0_1_2 : S8x1x1.BroadcastsInDim S8x4096x1024 (![0, 1, 2] : Fin 3 → Fin S8x4096x1024.rank)
  bcast_S_S4x4096x1024 : S_.BroadcastsInDim S4x4096x1024 (![] : Fin 0 → Fin S4x4096x1024.rank)
  bcast_S_S4x4096x512 : S_.BroadcastsInDim S4x4096x512 (![] : Fin 0 → Fin S4x4096x512.rank)

variable [Facts]

def fn {F : FTy → Type} [FloatOps F] (main_arg0 : FVec F S1x4096x4x512 .f32) (main_arg1 : FVec F S1x4096x4096 .f32) (main_arg2 : FVec F S4x512x1024 .f32) (main_arg3 : FVec F S1024x1024 .f32) (main_arg4 : FVec F S1x4096x1024 .f32) : IVec S4x4096x1024 1 × IVec S8x4096x1024 1 × IVec S4x4096x512 1 :=
  let main_v0 : IVec S8 32 := iotaInDim S8 32 0
  let main_v1 : IVec S8x1x1 32 := broadcastInDim S8x1x1 ![0] bcast_S8_S8x1x1_0 main_v0
  let main_c : IVec S_ 32 := constantI S_ 32 4#32
  let main_v2 : IVec S8x1x1 32 := broadcastInDim S8x1x1 ![] bcast_S_S8x1x1 main_c
  let main_v3 : IVec S8x1x1 1 := cmpi .sge main_v1 main_v2
  let main_v4 : IVec S8x4096x1024 1 := broadcastInDim S8x4096x1024 ![0, 1, 2] bcast_S8x1x1_S8x4096x1024_0_1_2 main_v3
  let main_c_0 : IVec S_ 1 := constantI S_ 1 1#1
  let main_v5 : IVec S4x4096x1024 1 := broadcastInDim S4x4096x1024 ![] bcast_S_S4x4096x1024 main_c_0
  let main_c_1 : IVec S_ 1 := constantI S_ 1 1#1
  let main_v6 : IVec S4x4096x512 1 := broadcastInDim S4x4096x512 ![] bcast_S_S4x4096x512 main_c_1
  (main_v5, main_v4, main_v6)
-- ==== Pre_finite_hidden.lean ====
abbrev S1x4096x1024 : Shape := ⟨3, ![1, 4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1x4096x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S1x4096x1024 .f32 := Host.absf main_arg4
  let main_cst_6 : FVec F S_ .f32 := constant S_ .f32 0x7F800000#32
  let main_v20 : FVec F S1x4096x1024 .f32 := broadcastInDim S1x4096x1024 ![] bcast_S_S1x4096x1024 main_cst_6
  let main_v21 : IVec S1x4096x1024 1 := cmpf .olt main_v19 main_v20
  let main_c_7 : IVec S_ 1 := constantI S_ 1 1#1
  let main_v22 : IVec S_ 1 := (fun x v => Host.reduce IntOp.andi x v reducesTo_S1x4096x1024_S_d0_1_2 h_S_) main_v21 main_c_7
  let main_v23 : IVec S_ 1 := andi main_v18 main_v22
  main_v23

def fn {F : FTy → Type} [FloatOps F] (main_arg0 : FVec F S1x4096x1024 .f32) (main_arg1 : FVec F S1024 .f32) (main_arg2 : FVec F S1024x5632 .f32) (main_arg3 : FVec F S2816x1024 .f32) (main_arg4 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_finite_mix.lean ====
abbrev S1x4096x8192 : Shape := ⟨3, ![1, 4096, 8192]⟩
abbrev S4x128x128 : Shape := ⟨3, ![4, 128, 128]⟩
abbrev S512 : Shape := ⟨1, ![512]⟩
abbrev S3x512 : Shape := ⟨2, ![3, 512]⟩
abbrev S31x512 : Shape := ⟨2, ![31, 512]⟩
abbrev S4x128 : Shape := ⟨2, ![4, 128]⟩
abbrev S1x4096x512 : Shape := ⟨3, ![1, 4096, 512]⟩
abbrev S_ : Shape := ⟨0, ![]⟩

class Facts : Prop where
  slices_S1x4096x8192_S1x4096x512_0_0_0 : S1x4096x8192.Slices ![0, 0, 0] S1x4096x512
  bcast_S_S1x4096x512 : S_.BroadcastsInDim S1x4096x512 (![] : Fin 0 → Fin S1x4096x512.rank)
  reducesTo_S1x4096x512_S_d0_1_2 : S1x4096x512.ReducesTo [0, 1, 2] S_
  h_S_ : 0 < S_.numel

variable [Facts]

def fn {F : FTy → Type} [FloatOps F] (main_arg0 : FVec F S1x4096x8192 .f32) (main_arg1 : FVec F S4x128x128 .f32) (main_arg2 : FVec F S512 .f32) (main_arg3 : FVec F S3x512 .f32) (main_arg4 : FVec F S31x512 .f32) (main_arg5 : FVec F S512 .f32) (main_arg6 : FVec F S512 .f32) (main_arg7 : FVec F S512 .f32) (main_arg8 : FVec F S512 .f32) (main_arg9 : FVec F S4x128x128 .f32) (main_arg10 : FVec F S4x128 .f32) : IVec S_ 1 :=
  let main_v0 : FVec F S1x4096x512 .f32 := (extractStridedSlice S1x4096x512 ![0, 0, 0] · slices_S1x4096x8192_S1x4096x512_0_0_0) main_arg0
  let main_v1 : FVec F S1x4096x512 .f32 := Host.absf main_v0
  let main_cst : FVec F S_ .f32 := constant S_ .f32 0x7F800000#32
  let main_v2 : FVec F S1x4096x512 .f32 := broadcastInDim S1x4096x512 ![] bcast_S_S1x4096x512 main_cst
  let main_v3 : IVec S1x4096x512 1 := cmpf .olt main_v1 main_v2
  let main_c : IVec S_ 1 := constantI S_ 1 1#1
  let main_v4 : IVec S_ 1 := (fun x v => Host.reduce IntOp.andi x v reducesTo_S1x4096x512_S_d0_1_2 h_S_) main_v3 main_c
  main_v4
-- ==== LossKernel.lean ====
abbrev S1x4096x1024 : Shape := ⟨3, ![1, 4096, 1024]⟩
abbrev S1024 : Shape := ⟨1, ![1024]⟩
abbrev S4096x1024 : Shape := ⟨2, ![4096, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 9
  | .vmem => 9
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1x4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S8x128, .f32⟩
  | .hbm, ⟨7, _⟩ => ⟨S4096x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v50 : BitVec 1 := Scalar.cmpi .eq arg0 c0_i32
  let v51 : BitVec 32 := Scalar.extui v50
  let c0_i32_19 : BitVec 32 := 0#32
  let v52 : BitVec 1 := Scalar.cmpi .ne v51 c0_i32_19
  v52

def k0_cond2 (i : grid0.Coords) : BitVec 1 :=
  let arg0 : BitVec 32 := BitVec.ofNat 32 (i 0).val
  let c0_i32_20 : BitVec 32 := 0#32
  let v53 : BitVec 1 := Scalar.cmpi .sgt arg0 c0_i32_20
  let v54 : BitVec 32 := Scalar.extui v53
  let c0_i32_21 : BitVec 32 := 0#32
  let v55 : BitVec 1 := Scalar.cmpi .ne v54 c0_i32_21
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S1x4096x1024 : Shape := ⟨3, ![1, 4096, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S8x128 : Shape := ⟨2, ![8, 128]⟩
abbrev S4096x1024 : Shape := ⟨2, ![4096, 1024]⟩

abbrev nBuf : Space → Nat
  | .hbm => 75
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1x4096x1024, .f32⟩
  | .hbm, ⟨3, _⟩ => ⟨S1x4096x1024, .f32⟩
  | .hbm, ⟨4, _⟩ => ⟨S_, .f32⟩
  | .hbm, ⟨5, _⟩ => ⟨S1x4096, .f32⟩
  | .hbm, ⟨6, _⟩ => ⟨S1x4096x1, .f32⟩
  | .hbm, ⟨7, _⟩ => ⟨S_, .f32⟩
  | .hbm, ⟨8, _⟩ => ⟨S1x4096x1, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S1x4096x1, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S1x4096x1024, .f32⟩
  | .hbm, ⟨19, _⟩ => ⟨S1x4096x1024, .f32⟩
  | .hbm, ⟨20, _⟩ => ⟨S1x1x1024, .f32⟩
  | .hbm, ⟨21, _⟩ => ⟨S1x4096x1024, .f32⟩
  | .hbm, ⟨22, _⟩ => ⟨S1x4096x1024, .f32⟩
  | .hbm, ⟨23, _⟩ => ⟨S1x4096x1024, .f32⟩
  | .hbm, ⟨24, _⟩ => ⟨S1x4096x1024, .f32⟩
  | .hbm, ⟨25, _⟩ => ⟨S_, .f32⟩
  | .hbm, ⟨26, _⟩ => ⟨S1x4096x1024, .f32⟩
  | .hbm, ⟨27, _⟩ => ⟨S1x4096x1024, .f32⟩
  | .hbm, ⟨28, _⟩ => ⟨S_, .f32⟩
  | .hbm, ⟨29, _⟩ => ⟨S1x4096, .f32⟩
  | .hbm, ⟨30, _⟩ => ⟨S_, .f32⟩
  | .hbm, ⟨31, _⟩ => ⟨S1x4096, .f32⟩
  | .hbm, ⟨32, _⟩ => ⟨S1x4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1x4096, .f32⟩
  | .hbm, ⟨41, _⟩ => ⟨S_, .f32⟩
  | .hbm, ⟨42, _⟩ => ⟨S1x4096, .f32⟩
  | .hbm, ⟨43, _⟩ => ⟨S1x4096, .f32⟩
  | .hbm, ⟨44, _⟩ => ⟨S1x4096x1024, .f32⟩
  | .hbm, ⟨45, _⟩ => ⟨S1x4096x1024, .f32⟩
  | .hbm, ⟨46, _⟩ => ⟨S1x4096x1024, .f32⟩
  | .hbm, ⟨47, _⟩ => ⟨S_, .f32⟩
  | .hbm, ⟨48, _⟩ => ⟨S1x1024, .f32⟩
  | .hbm, ⟨49, _⟩ => ⟨S1x1x1024, .f32⟩
  | .hbm, ⟨50, _⟩ => ⟨S1x4096x1024, .f32⟩
  | .hbm, ⟨51, _⟩ => ⟨S1x4096x1024, .f32⟩
  | .hbm, ⟨52, _⟩ => ⟨S_, .f32⟩
  | .hbm, ⟨53, _⟩ => ⟨S1024, .f32⟩
  | .hbm, ⟨54, _⟩ => ⟨S1x4096x1024, .f32⟩
  | .hbm, ⟨55, _⟩ => ⟨S_, .f32⟩
  | .hbm, ⟨56, _⟩ => ⟨S1x4096, .f32⟩
  | .hbm, ⟨57, _⟩ => ⟨S1x4096x1, .f32⟩
  | .hbm, ⟨58, _⟩ => ⟨S1x4096x1024, .f32⟩
  | .hbm, ⟨59, _⟩ => ⟨S1x4096x1024, .f32⟩
  | .hbm, ⟨60, _⟩ => ⟨S1x4096x1, .f32⟩
  | .hbm, ⟨61, _⟩ => ⟨S_, .f32⟩
  | .hbm, ⟨62, _⟩ => ⟨S1x4096x1, .f32⟩
  | .hbm, ⟨63, _⟩ => ⟨S1x4096x1, .f32⟩
  | .hbm, ⟨64, _⟩ => ⟨S_, .f32⟩
  | .hbm, ⟨65, _⟩ => ⟨S4096, .f32⟩
  | .hbm, ⟨66, _⟩ => ⟨S1x4096, .f32⟩
  | .hbm, ⟨67, _⟩ => ⟨S1x4096x1024, .f32⟩
  | .hbm, ⟨68, _⟩ => ⟨S1x4096x1024, .f32⟩
  | .hbm, ⟨69, _⟩ => ⟨S1x4096x1024, .f32⟩
  | .hbm, ⟨70, _⟩ => ⟨S1x4096x1024, .f32⟩
  | .hbm, ⟨71, _⟩ => ⟨S1x4096x1024, .f32⟩
  | .hbm, ⟨72, _⟩ => ⟨S8x128, .f32⟩
  | .hbm, ⟨73, _⟩ => ⟨S4096x1024, .f32⟩
  | .hbm, ⟨74, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== HiddenKernel.lean ====
abbrev S1x4096x1024 : Shape := ⟨3, ![1, 4096, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S2x2816x1024 : Shape := ⟨3, ![2, 2816, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S4096x1024 : Shape := ⟨2, ![4096, 1024]⟩
abbrev S2x2816x4096 : Shape := ⟨3, ![2, 2816, 4096]⟩
abbrev S2x4096x2816 : Shape := ⟨3, ![2, 4096, 2816]⟩
abbrev S4096x2816 : Shape := ⟨2, ![4096, 2816]⟩
abbrev S512x1024 : Shape := ⟨2, ![512, 1024]⟩
abbrev S1408x1024 : Shape := ⟨2, ![1408, 1024]⟩
abbrev S2x512x1408 : Shape := ⟨3, ![2, 512, 1408]⟩
abbrev S512x1408 : Shape := ⟨2, ![512, 1408]⟩
abbrev S32x1408 : Shape := ⟨2, ![32, 1408]⟩
abbrev S1x32x1408 : Shape := ⟨3, ![1, 32, 1408]⟩

abbrev nBuf : Space → Nat
  | .hbm => 31
  | .vmem => 11
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x4096x1024, .f32⟩
  | .hbm, ⟨5, _⟩ => ⟨S5632x1024, .f32⟩
  | .hbm, ⟨6, _⟩ => ⟨S2x2816x1024, .f32⟩
  | .hbm, ⟨7, _⟩ => ⟨S1x4096x1024, .f32⟩
  | .hbm, ⟨8, _⟩ => ⟨S_, .f32⟩
  | .hbm, ⟨9, _⟩ => ⟨S1x4096, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S1x4096x1024, .f32⟩
  | .hbm, ⟨19, _⟩ => ⟨S1x4096x1024, .f32⟩
  | .hbm, ⟨20, _⟩ => ⟨S1x1x1024, .f32⟩
  | .hbm, ⟨21, _⟩ => ⟨S1x4096x1024, .f32⟩
  | .hbm, ⟨22, _⟩ => ⟨S1x4096x1024, .f32⟩
  | .hbm, ⟨23, _⟩ => ⟨S4096x1024, .f32⟩
  | .hbm, ⟨24, _⟩ => ⟨S2x2816x4096, .f32⟩
  | .hbm, ⟨25, _⟩ => ⟨S2x4096x2816, .f32⟩
  | .hbm, ⟨26, _⟩ => ⟨S2x4096x2816, .bf16⟩
  | .hbm, ⟨27, _⟩ => ⟨S4096x1024, .f32⟩
  | .hbm, ⟨28, _⟩ => ⟨S2816x1024, .bf16⟩
  | .hbm, ⟨29, _⟩ => ⟨S2x4096x2816, .bf16⟩
  | .hbm, ⟨30, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== HiddenReferenceIdeal.lean ====
abbrev S1x4096x1024 : Shape := ⟨3, ![1, 4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x5632 : Shape := ⟨3, ![1, 4096, 5632]⟩
abbrev S1x4096x2816 : Shape := ⟨3, ![1, 4096, 2816]⟩
abbrev S4096x5632 : Shape := ⟨2, ![4096, 5632]⟩
abbrev S4096x2816 : Shape := ⟨2, ![4096, 2816]⟩
abbrev S2x4096x2816 : Shape := ⟨3, ![2, 4096, 2816]⟩

abbrev nBuf : Space → Nat
  | .hbm => 61
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x4096x1024, .f32⟩
  | .hbm, ⟨5, _⟩ => ⟨S1x4096x1024, .f32⟩
  | .hbm, ⟨6, _⟩ => ⟨S_, .f32⟩
  | .hbm, ⟨7, _⟩ => ⟨S1x4096, .f32⟩
  | .hbm, ⟨8, _⟩ => ⟨S1x4096x1, .f32⟩
  | .hbm, ⟨9, _⟩ => ⟨S_, .f32⟩
  | .hbm, ⟨10, _⟩ => ⟨S1x4096x1, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S1x4096x1024, .f32⟩
  | .hbm, ⟨17, _⟩ => ⟨S1x4096x1024, .f32⟩
  | .hbm, ⟨18, _⟩ => ⟨S1x1x1024, .f32⟩
  | .hbm, ⟨19, _⟩ => ⟨S1x4096x1024, .f32⟩
  | .hbm, ⟨20, _⟩ => ⟨S1x4096x1024, .f32⟩
  | .hbm, ⟨21, _⟩ => ⟨S1x4096x5632, .f32⟩
  | .hbm, ⟨22, _⟩ => ⟨S1x4096x2816, .f32⟩
  | .hbm, ⟨23, _⟩ => ⟨S1x4096x2816, .f32⟩
  | .hbm, ⟨24, _⟩ => ⟨S1x4096x2816, .f32⟩
  | .hbm, ⟨25, _⟩ => ⟨S1x4096x2816, .f32⟩
  | .hbm, ⟨26, _⟩ => ⟨S_, .f32⟩
  | .hbm, ⟨27, _⟩ => ⟨S1x4096x2816, .f32⟩
  | .hbm, ⟨28, _⟩ => ⟨S1x4096x2816, .f32⟩
  | .hbm, ⟨29, _⟩ => ⟨S_, .f32⟩
  | .hbm, ⟨30, _⟩ => ⟨S1x4096x2816, .f32⟩
  | .hbm, ⟨31, _⟩ => ⟨S1x4096x2816, .f32⟩
  | .hbm, ⟨32, _⟩ => ⟨S_, .f32⟩
  | .hbm, ⟨33, _⟩ => ⟨S1x4096x2816, .f32⟩
  | .hbm, ⟨34, _⟩ => ⟨S1x4096x2816, .f32⟩
  | .hbm, ⟨35, _⟩ => ⟨S1x4096x2816, .f32⟩
  | .hbm, ⟨36, _⟩ => ⟨S1x4096x2816, .f32⟩
  | .hbm, ⟨37, _⟩ => ⟨S1x4096x2816, .f32⟩
  | .hbm, ⟨38, _⟩ => ⟨S_, .f32⟩
  | .hbm, ⟨39, _⟩ => ⟨S1x4096x2816, .f32⟩
  | .hbm, ⟨40, _⟩ => ⟨S1x4096x2816, .f32⟩
  | .hbm, ⟨41, _⟩ => ⟨S1x4096x2816, .f32⟩
  | .hbm, ⟨42, _⟩ => ⟨S_, .f32⟩
  | .hbm, ⟨43, _⟩ => ⟨S1x4096x2816, .f32⟩
  | .hbm, ⟨44, _⟩ => ⟨S1x4096x2816, .f32⟩
  | .hbm, ⟨45, _⟩ => ⟨S1x4096x2816, .f32⟩
  | .hbm, ⟨46, _⟩ => ⟨S1x4096x2816, .f32⟩
  | .hbm, ⟨47, _⟩ => ⟨S1x4096x2816, .f32⟩
  | .hbm, ⟨48, _⟩ => ⟨S1x4096x2816, .f32⟩
  | .hbm, ⟨49, _⟩ => ⟨S1x4096x2816, .f32⟩
  | .hbm, ⟨50, _⟩ => ⟨S1x4096x2816, .f32⟩
  | .hbm, ⟨51, _⟩ => ⟨S1x4096x5632, .f32⟩
  | .hbm, ⟨52, _⟩ => ⟨S4096x5632, .f32⟩
  | .hbm, ⟨53, _⟩ => ⟨S4096x2816, .f32⟩
  | .hbm, ⟨54, _⟩ => ⟨S4096x2816, .f32⟩
  | .hbm, ⟨55, _⟩ => ⟨S1x4096x2816, .f32⟩
  | .hbm, ⟨56, _⟩ => ⟨S1x4096x2816, .f32⟩
  | .hbm, ⟨57, _⟩ => ⟨S2x4096x2816, .f32⟩
  | .hbm, ⟨58, _⟩ => ⟨S2x4096x2816, .bf16⟩
  | .hbm, ⟨59, _⟩ => ⟨S4096x2816, .f32⟩
  | .hbm, ⟨60, _⟩ => ⟨S4096x2816, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v16_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v16_1 : Ref sig .tc := ⟨.hbm, 35, rfl⟩
abbrev main_v16_0 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩

abbrev nD : Nat := 1
abbrev τ : Topo := Topo.v7x

variable {F : FTy → Type} [FloatOps F]
-- ==== UpKernel.lean ====
abbrev S1x4096x1024 : Shape := ⟨3, ![1, 4096, 1024]⟩
abbrev S1024 : Shape := ⟨1, ![1024]⟩
abbrev S1024x5632 : Shape := ⟨2, ![1024, 5632]⟩
abbrev S1x4096x5632 : Shape := ⟨3, ![1, 4096, 5632]⟩
abbrev S5632x1024 : Shape := ⟨2, ![5632, 1024]⟩
abbrev S2x2816x1024 : Shape := ⟨3, ![2, 2816, 1024]⟩
abbrev S4096x5632 : Shape := ⟨2, ![4096, 5632]⟩
abbrev S4096x2x2816 : Shape := ⟨3, ![4096, 2, 2816]⟩
abbrev S2x4096x2816 : Shape := ⟨3, ![2, 4096, 2816]⟩
abbrev S4096x1024 : Shape := ⟨2, ![4096, 1024]⟩
abbrev S1x1024 : Shape := ⟨2, ![1, 1024]⟩
abbrev S1x1024x1408 : Shape := ⟨3, ![1, 1024, 1408]⟩
abbrev S1x1408x1024 : Shape := ⟨3, ![1, 1408, 1024]⟩
abbrev S1024x1024 : Shape := ⟨2, ![1024, 1024]⟩
abbrev S1024x1408 : Shape := ⟨2, ![1024, 1408]⟩
abbrev S1408x1024 : Shape := ⟨2, ![1408, 1024]⟩
abbrev S256x1024 : Shape := ⟨2, ![256, 1024]⟩
abbrev S256 : Shape := ⟨1, ![256]⟩
abbrev S256x1 : Shape := ⟨2, ![256, 1]⟩

abbrev nBuf : Space → Nat
  | .hbm => 17
  | .vmem => 12
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x5632, .f32⟩
  | .hbm, ⟨3, _⟩ => ⟨S1x4096x5632, .f32⟩
  | .hbm, ⟨4, _⟩ => ⟨S1x4096x1024, .f32⟩
  | .hbm, ⟨5, _⟩ => ⟨S5632x1024, .f32⟩
  | .hbm, ⟨6, _⟩ => ⟨S2x2816x1024, .f32⟩
  | .hbm, ⟨7, _⟩ => ⟨S2x2816x1024, .bf16⟩
  | .hbm, ⟨8, _⟩ => ⟨S4096x5632, .f32⟩
  | .hbm, ⟨9, _⟩ => ⟨S4096x2x2816, .f32⟩
  | .hbm, ⟨10, _⟩ => ⟨S2x4096x2816, .f32⟩
  | .hbm, ⟨11, _⟩ => ⟨S2x4096x2816, .bf16⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S1x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 2, 2], ![false, false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let arg2 : BitVec 32 := BitVec.ofNat 32 (i 2).val
  let c0_i32_5 : BitVec 32 := 0#32
  let v6 : BitVec 1 := Scalar.cmpi .eq arg2 c0_i32_5
  let v7 : BitVec 1 := Scalar.andi v5 v6
  let v8 : BitVec 32 := Scalar.extui v7
  let c0_i32_6 : BitVec 32 := 0#32
  let v9 : BitVec 1 := Scalar.cmpi .ne v8 c0_i32_6
  v9

def k0_cond2 (i : grid0.Coords) : BitVec 1 :=
  let arg1 : BitVec 32 := BitVec.ofNat 32 (i 1).val
  let c0_i32 : BitVec 32 := 0#32
  let v5 : BitVec 1 := Scalar.cmpi .eq arg1 c0_i32
  let arg2 : BitVec 32 := BitVec.ofNat 32 (i 2).val
  let c0_i32_5 : BitVec 32 := 0#32
  let v6 : BitVec 1 := Scalar.cmpi .eq arg2 c0_i32_5
  let v7 : BitVec 1 := Scalar.andi v5 v6
  let v_true : BitVec 1 := 1#1
  let v10 : BitVec 1 := Scalar.xori v7 v_true
  let v11 : BitVec 32 := Scalar.extui v10
  let c0_i32_7 : BitVec 32 := 0#32
  let v12 : BitVec 1 := Scalar.cmpi .ne v11 c0_i32_7
  v12

def k0_cond3 (i : grid0.Coords) : BitVec 1 :=
  let arg1 : BitVec 32 := BitVec.ofNat 32 (i 1).val
  let c1_i32 : BitVec 32 := 1#32
  let v13 : BitVec 1 := Scalar.cmpi .eq arg1 c1_i32
  let arg2 : BitVec 32 := BitVec.ofNat 32 (i 2).val
  let c1_i32_8 : BitVec 32 := 1#32
  let v14 : BitVec 1 := Scalar.cmpi .eq arg2 c1_i32_8
  let v15 : BitVec 1 := Scalar.andi v13 v14
  let v16 : BitVec 32 := Scalar.extui v15
  let c0_i32_9 : BitVec 32 := 0#32
  let v17 : BitVec 1 := Scalar.cmpi .ne v16 c0_i32_9
  v17

def k0_cond4 (i : grid0.Coords) : BitVec 1 :=
  let arg0 : BitVec 32 := BitVec.ofNat 32 (i 0).val
  let c0_i32_71 : BitVec 32 := 0#32
  let v161 : BitVec 1 := Scalar.cmpi .eq arg0 c0_i32_71
  let v162 : BitVec 32 := Scalar.extui v161
  let c0_i32_72 : BitVec 32 := 0#32
  let v163 : BitVec 1 := Scalar.cmpi .ne v162 c0_i32_72
  v163

def k0_cond5 (i : grid0.Coords) : BitVec 1 :=
  let arg0 : BitVec 32 := BitVec.ofNat 32 (i 0).val
  let c0_i32_73 : BitVec 32 := 0#32
  let v164 : BitVec 1 := Scalar.cmpi .sgt arg0 c0_i32_73
  let v165 : BitVec 32 := Scalar.extui v164
  let c0_i32_74 : BitVec 32 := 0#32
  let v166 : BitVec 1 := Scalar.cmpi .ne v165 c0_i32_74
  v166

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== UpReferenceIdeal.lean ====
abbrev S1x4096x1024 : Shape := ⟨3, ![1, 4096, 1024]⟩
abbrev S1024 : Shape := ⟨1, ![1024]⟩
abbrev S1024x5632 : Shape := ⟨2, ![1024, 5632]⟩
abbrev S1x4096x5632 : Shape := ⟨3, ![1, 4096, 5632]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S4096x1024 : Shape := ⟨2, ![4096, 1024]⟩

abbrev nBuf : Space → Nat
  | .hbm => 56
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x5632, .f32⟩
  | .hbm, ⟨3, _⟩ => ⟨S1x4096x5632, .f32⟩
  | .hbm, ⟨4, _⟩ => ⟨S1x4096x1024, .f32⟩
  | .hbm, ⟨5, _⟩ => ⟨S1x4096x1024, .f32⟩
  | .hbm, ⟨6, _⟩ => ⟨S_, .f32⟩
  | .hbm, ⟨7, _⟩ => ⟨S1x4096, .f32⟩
  | .hbm, ⟨8, _⟩ => ⟨S1x4096x1, .f32⟩
  | .hbm, ⟨9, _⟩ => ⟨S_, .f32⟩
  | .hbm, ⟨10, _⟩ => ⟨S1x4096x1, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S_, .f32⟩
  | .hbm, ⟨18, _⟩ => ⟨S1x4096x1, .f32⟩
  | .hbm, ⟨19, _⟩ => ⟨S1x4096x1, .f32⟩
  | .hbm, ⟨20, _⟩ => ⟨S1x4096x1024, .f32⟩
  | .hbm, ⟨21, _⟩ => ⟨S1x4096x1024, .f32⟩
  | .hbm, ⟨22, _⟩ => ⟨S1x1x1024, .f32⟩
  | .hbm, ⟨23, _⟩ => ⟨S1x4096x1024, .f32⟩
  | .hbm, ⟨24, _⟩ => ⟨S1x4096x1024, .f32⟩
  | .hbm, ⟨25, _⟩ => ⟨S1x4096x5632, .f32⟩
  | .hbm, ⟨26, _⟩ => ⟨S1x4096x1024, .f32⟩
  | .hbm, ⟨27, _⟩ => ⟨S1x4096x1024, .f32⟩
  | .hbm, ⟨28, _⟩ => ⟨S_, .f32⟩
  | .hbm, ⟨29, _⟩ => ⟨S1x1024, .f32⟩
  | .hbm, ⟨30, _⟩ => ⟨S1x1x1024, .f32⟩
  | .hbm, ⟨31, _⟩ => ⟨S1x4096x1024, .f32⟩
  | .hbm, ⟨32, _⟩ => ⟨S1x4096x1024, .f32⟩
  | .hbm, ⟨33, _⟩ => ⟨S_, .f32⟩
  | .hbm, ⟨34, _⟩ => ⟨S1024, .f32⟩
  | .hbm, ⟨35, _⟩ => ⟨S1x4096x1024, .f32⟩
  | .hbm, ⟨36, _⟩ => ⟨S_, .f32⟩
  | .hbm, ⟨37, _⟩ => ⟨S1x4096, .f32⟩
  | .hbm, ⟨38, _⟩ => ⟨S1x4096x1, .f32⟩
  | .hbm, ⟨39, _⟩ => ⟨S1x4096x1024, .f32⟩
  | .hbm, ⟨40, _⟩ => ⟨S1x4096x1024, .f32⟩
  | .hbm, ⟨41, _⟩ => ⟨S1x4096x1024, .f32⟩
  | .hbm, ⟨42, _⟩ => ⟨S1x4096x1, .f32⟩
  | .hbm, ⟨43, _⟩ => ⟨S_, .f32⟩
  | .hbm, ⟨44, _⟩ => ⟨S1x4096x1, .f32⟩
  | .hbm, ⟨45, _⟩ => ⟨S1x4096x1, .f32⟩
  | .hbm, ⟨46, _⟩ => ⟨S_, .f32⟩
  | .hbm, ⟨47, _⟩ => ⟨S4096, .f32⟩
  | .hbm, ⟨48, _⟩ => ⟨S1x4096, .f32⟩
  | .hbm, ⟨49, _⟩ => ⟨S1x4096x1024, .f32⟩
  | .hbm, ⟨50, _⟩ => ⟨S1x4096x1024, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S4096x1024, .f32⟩
  | .hbm, ⟨55, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== ProjKernel.lean ====
abbrev S1x4096x1024 : Shape := ⟨3, ![1, 4096, 1024]⟩
abbrev S1024 : Shape := ⟨1, ![1024]⟩
abbrev S1024x8192 : Shape := ⟨2, ![1024, 8192]⟩
abbrev S1x4096x8192 : Shape := ⟨3, ![1, 4096, 8192]⟩
abbrev S1024x8x1024 : Shape := ⟨3, ![1024, 8, 1024]⟩
abbrev S8x1024x1024 : Shape := ⟨3, ![8, 1024, 1024]⟩
abbrev S4096x8192 : Shape := ⟨2, ![4096, 8192]⟩
abbrev S4096x8x1024 : Shape := ⟨3, ![4096, 8, 1024]⟩
abbrev S8x4096x1024 : Shape := ⟨3, ![8, 4096, 1024]⟩
abbrev S4096x1024 : Shape := ⟨2, ![4096, 1024]⟩
abbrev S1x1024 : Shape := ⟨2, ![1, 1024]⟩
abbrev S1x1024x1024 : Shape := ⟨3, ![1, 1024, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 17
  | .vmem => 12
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x8192, .f32⟩
  | .hbm, ⟨3, _⟩ => ⟨S1x4096x8192, .f32⟩
  | .hbm, ⟨4, _⟩ => ⟨S1x4096x1024, .f32⟩
  | .hbm, ⟨5, _⟩ => ⟨S1024x8x1024, .f32⟩
  | .hbm, ⟨6, _⟩ => ⟨S8x1024x1024, .f32⟩
  | .hbm, ⟨7, _⟩ => ⟨S8x1024x1024, .bf16⟩
  | .hbm, ⟨8, _⟩ => ⟨S4096x8192, .f32⟩
  | .hbm, ⟨9, _⟩ => ⟨S4096x8x1024, .f32⟩
  | .hbm, ⟨10, _⟩ => ⟨S8x4096x1024, .f32⟩
  | .hbm, ⟨11, _⟩ => ⟨S8x4096x1024, .bf16⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S1x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 8, 1], ![false, false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let arg2 : BitVec 32 := BitVec.ofNat 32 (i 2).val
  let c0_i32_5 : BitVec 32 := 0#32
  let v6 : BitVec 1 := Scalar.cmpi .eq arg2 c0_i32_5
  let v7 : BitVec 1 := Scalar.andi v5 v6
  let v8 : BitVec 32 := Scalar.extui v7
  let c0_i32_6 : BitVec 32 := 0#32
  let v9 : BitVec 1 := Scalar.cmpi .ne v8 c0_i32_6
  v9

def k0_cond2 (i : grid0.Coords) : BitVec 1 :=
  let arg1 : BitVec 32 := BitVec.ofNat 32 (i 1).val
  let c0_i32 : BitVec 32 := 0#32
  let v5 : BitVec 1 := Scalar.cmpi .eq arg1 c0_i32
  let arg2 : BitVec 32 := BitVec.ofNat 32 (i 2).val
  let c0_i32_5 : BitVec 32 := 0#32
  let v6 : BitVec 1 := Scalar.cmpi .eq arg2 c0_i32_5
  let v7 : BitVec 1 := Scalar.andi v5 v6
  let v_true : BitVec 1 := 1#1
  let v10 : BitVec 1 := Scalar.xori v7 v_true
  let v11 : BitVec 32 := Scalar.extui v10
  let c0_i32_7 : BitVec 32 := 0#32
  let v12 : BitVec 1 := Scalar.cmpi .ne v11 c0_i32_7
  v12

def k0_cond3 (i : grid0.Coords) : BitVec 1 :=
  let arg1 : BitVec 32 := BitVec.ofNat 32 (i 1).val
  let c7_i32 : BitVec 32 := 7#32
  let v13 : BitVec 1 := Scalar.cmpi .eq arg1 c7_i32
  let arg2 : BitVec 32 := BitVec.ofNat 32 (i 2).val
  let c0_i32_8 : BitVec 32 := 0#32
  let v14 : BitVec 1 := Scalar.cmpi .eq arg2 c0_i32_8
  let v15 : BitVec 1 := Scalar.andi v13 v14
  let v16 : BitVec 32 := Scalar.extui v15
  let c0_i32_9 : BitVec 32 := 0#32
  let v17 : BitVec 1 := Scalar.cmpi .ne v16 c0_i32_9
  v17

def k0_cond4 (i : grid0.Coords) : BitVec 1 :=
  let arg0 : BitVec 32 := BitVec.ofNat 32 (i 0).val
  let c0_i32_71 : BitVec 32 := 0#32
  let v161 : BitVec 1 := Scalar.cmpi .eq arg0 c0_i32_71
  let v162 : BitVec 32 := Scalar.extui v161
  let c0_i32_72 : BitVec 32 := 0#32
  let v163 : BitVec 1 := Scalar.cmpi .ne v162 c0_i32_72
  v163

def k0_cond5 (i : grid0.Coords) : BitVec 1 :=
  let arg0 : BitVec 32 := BitVec.ofNat 32 (i 0).val
  let c0_i32_73 : BitVec 32 := 0#32
  let v164 : BitVec 1 := Scalar.cmpi .sgt arg0 c0_i32_73
  let v165 : BitVec 32 := Scalar.extui v164
  let c0_i32_74 : BitVec 32 := 0#32
  let v166 : BitVec 1 := Scalar.cmpi .ne v165 c0_i32_74
  v166

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== ProjReferenceIdeal.lean ====
abbrev S1x4096x1024 : Shape := ⟨3, ![1, 4096, 1024]⟩
abbrev S1024 : Shape := ⟨1, ![1024]⟩
abbrev S1024x8192 : Shape := ⟨2, ![1024, 8192]⟩
abbrev S1x4096x8192 : Shape := ⟨3, ![1, 4096, 8192]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S4096x1024 : Shape := ⟨2, ![4096, 1024]⟩

abbrev nBuf : Space → Nat
  | .hbm => 56
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x8192, .f32⟩
  | .hbm, ⟨3, _⟩ => ⟨S1x4096x8192, .f32⟩
  | .hbm, ⟨4, _⟩ => ⟨S1x4096x1024, .f32⟩
  | .hbm, ⟨5, _⟩ => ⟨S1x4096x1024, .f32⟩
  | .hbm, ⟨6, _⟩ => ⟨S_, .f32⟩
  | .hbm, ⟨7, _⟩ => ⟨S1x4096, .f32⟩
  | .hbm, ⟨8, _⟩ => ⟨S1x4096x1, .f32⟩
  | .hbm, ⟨9, _⟩ => ⟨S_, .f32⟩
  | .hbm, ⟨10, _⟩ => ⟨S1x4096x1, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S_, .f32⟩
  | .hbm, ⟨18, _⟩ => ⟨S1x4096x1, .f32⟩
  | .hbm, ⟨19, _⟩ => ⟨S1x4096x1, .f32⟩
  | .hbm, ⟨20, _⟩ => ⟨S1x4096x1024, .f32⟩
  | .hbm, ⟨21, _⟩ => ⟨S1x4096x1024, .f32⟩
  | .hbm, ⟨22, _⟩ => ⟨S1x1x1024, .f32⟩
  | .hbm, ⟨23, _⟩ => ⟨S1x4096x1024, .f32⟩
  | .hbm, ⟨24, _⟩ => ⟨S1x4096x1024, .f32⟩
  | .hbm, ⟨25, _⟩ => ⟨S1x4096x8192, .f32⟩
  | .hbm, ⟨26, _⟩ => ⟨S1x4096x1024, .f32⟩
  | .hbm, ⟨27, _⟩ => ⟨S1x4096x1024, .f32⟩
  | .hbm, ⟨28, _⟩ => ⟨S_, .f32⟩
  | .hbm, ⟨29, _⟩ => ⟨S1x1024, .f32⟩
  | .hbm, ⟨30, _⟩ => ⟨S1x1x1024, .f32⟩
  | .hbm, ⟨31, _⟩ => ⟨S1x4096x1024, .f32⟩
  | .hbm, ⟨32, _⟩ => ⟨S1x4096x1024, .f32⟩
  | .hbm, ⟨33, _⟩ => ⟨S_, .f32⟩
  | .hbm, ⟨34, _⟩ => ⟨S1024, .f32⟩
  | .hbm, ⟨35, _⟩ => ⟨S1x4096x1024, .f32⟩
  | .hbm, ⟨36, _⟩ => ⟨S_, .f32⟩
  | .hbm, ⟨37, _⟩ => ⟨S1x4096, .f32⟩
  | .hbm, ⟨38, _⟩ => ⟨S1x4096x1, .f32⟩
  | .hbm, ⟨39, _⟩ => ⟨S1x4096x1024, .f32⟩
  | .hbm, ⟨40, _⟩ => ⟨S1x4096x1024, .f32⟩
  | .hbm, ⟨41, _⟩ => ⟨S1x4096x1024, .f32⟩
  | .hbm, ⟨42, _⟩ => ⟨S1x4096x1, .f32⟩
  | .hbm, ⟨43, _⟩ => ⟨S_, .f32⟩
  | .hbm, ⟨44, _⟩ => ⟨S1x4096x1, .f32⟩
  | .hbm, ⟨45, _⟩ => ⟨S1x4096x1, .f32⟩
  | .hbm, ⟨46, _⟩ => ⟨S_, .f32⟩
  | .hbm, ⟨47, _⟩ => ⟨S4096, .f32⟩
  | .hbm, ⟨48, _⟩ => ⟨S1x4096, .f32⟩
  | .hbm, ⟨49, _⟩ => ⟨S1x4096x1024, .f32⟩
  | .hbm, ⟨50, _⟩ => ⟨S1x4096x1024, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S4096x1024, .f32⟩
  | .hbm, ⟨55, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== MergeKernel.lean ====
abbrev S1x4096x4x512 : Shape := ⟨4, ![1, 4096, 4, 512]⟩
abbrev S1x4096x4096 : Shape := ⟨3, ![1, 4096, 4096]⟩
abbrev S4x512x1024 : Shape := ⟨3, ![4, 512, 1024]⟩
abbrev S1024x1024 : Shape := ⟨2, ![1024, 1024]⟩
abbrev S1x4096x1024 : Shape := ⟨3, ![1, 4096, 1024]⟩
abbrev S4096x4x512 : Shape := ⟨3, ![4096, 4, 512]⟩
abbrev S4x4096x512 : Shape := ⟨3, ![4, 4096, 512]⟩
abbrev S4096x4096 : Shape := ⟨2, ![4096, 4096]⟩
abbrev S4096x4x1024 : Shape := ⟨3, ![4096, 4, 1024]⟩
abbrev S4x4096x1024 : Shape := ⟨3, ![4, 4096, 1024]⟩
abbrev S_ : Shape := ⟨0, ![]⟩
abbrev S8x4096x1024 : Shape := ⟨3, ![8, 4096, 1024]⟩
abbrev S4096x1024 : Shape := ⟨2, ![4096, 1024]⟩
abbrev S256x1024 : Shape := ⟨2, ![256, 1024]⟩
abbrev S4x256x512 : Shape := ⟨3, ![4, 256, 512]⟩
abbrev S4x256x1024 : Shape := ⟨3, ![4, 256, 1024]⟩
abbrev S1x256x1024 : Shape := ⟨3, ![1, 256, 1024]⟩
abbrev S1x256x512 : Shape := ⟨3, ![1, 256, 512]⟩
abbrev S256x512 : Shape := ⟨2, ![256, 512]⟩
abbrev S1x512x1024 : Shape := ⟨3, ![1, 512, 1024]⟩
abbrev S512x1024 : Shape := ⟨2, ![512, 1024]⟩

abbrev nBuf : Space → Nat
  | .hbm => 20
  | .vmem => 14
  | .smem => 0
  | _ => 0

abbrev bufTy : (tb : Table) → Fin (tcTables nBuf tb) → BufTy
  | .hbm, ⟨0, _⟩ => ⟨S1x4096x4x512, .f32⟩
  | .hbm, ⟨1, _⟩ => ⟨S1x4096x4096, .f32⟩
  | .hbm, ⟨2, _⟩ => ⟨S4x512x1024, .f32⟩
  | .hbm, ⟨3, _⟩ => ⟨S1024x1024, .f32⟩
  | .hbm, ⟨4, _⟩ => ⟨S1x4096x1024, .f32⟩
  | .hbm, ⟨5, _⟩ => ⟨S4096x4x512, .f32⟩
  | .hbm, ⟨6, _⟩ => ⟨S4x4096x512, .f32⟩
  | .hbm, ⟨7, _⟩ => ⟨S4x4096x512, .bf16⟩
  | .hbm, ⟨8, _⟩ => ⟨S4096x4096, .f32⟩
  | .hbm, ⟨9, _⟩ => ⟨S4096x4x1024, .f32⟩
  | .hbm, ⟨10, _⟩ => ⟨S4x4096x1024, .f32⟩
  | .hbm, ⟨11, _⟩ => ⟨S_, .f32⟩
  | .hbm, ⟨12, _⟩ => ⟨S4x4096x1024, .f32⟩
  | .hbm, ⟨13, _⟩ => ⟨S8x4096x1024, .f32⟩
  | .hbm, ⟨14, _⟩ => ⟨S4096x1024, .f32⟩
  | .hbm, ⟨15, _⟩ => ⟨S4x512x1024, .bf16⟩
  | .hbm, ⟨16, _⟩ => ⟨S1024x1024, .bf16⟩
  | .hbm, ⟨17, _⟩ => ⟨S4x4096x1024, .bf16⟩
  | .hbm, ⟨18, _⟩ => ⟨S8x4096x1024, .bf16⟩
  | .hbm, ⟨19, _⟩ => ⟨S4x4096x512, .f32⟩
  | .local _ .vmem, ⟨0, _⟩ => ⟨S256x1024, .f32⟩
  | .local _ .vmem, ⟨1, _⟩ => ⟨S256x1024, .f32⟩
  | .local _ .vmem, ⟨2, _⟩ => ⟨S4x256x512, .bf16⟩
  | .local _ .vmem, ⟨3, _⟩ => ⟨S4x256x512, .bf16⟩
  | .local _ .vmem, ⟨4, _⟩ => ⟨S4x256x1024, .f32⟩
  | .local _ .vmem, ⟨5, _⟩ => ⟨S4x256x1024, .f32⟩
  | .local _ .vmem, ⟨6, _⟩ => ⟨S4x512x1024, .bf16⟩
  | .local _ .vmem, ⟨7, _⟩ => ⟨S1024x1024, .bf16⟩
  | .local _ .vmem, ⟨8, _⟩ => ⟨S4x256x1024, .bf16⟩
  | .local _ .vmem, ⟨9, _⟩ => ⟨S4x256x1024, .bf16⟩
  | .local _ .vmem, ⟨10, _⟩ => ⟨S4x256x1024, .bf16⟩
  | .local _ .vmem, ⟨11, _⟩ => ⟨S4x256x1024, .bf16⟩
  | .local _ .vmem, ⟨12, _⟩ => ⟨S4x256x512, .f32⟩
  | .local _ .vmem, ⟨13, _⟩ => ⟨S4x256x512, .f32⟩
  | _, _ => ⟨S1x4096x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeReferenceIdeal.lean ====
abbrev S1x4096x4x512 : Shape := ⟨4, ![1, 4096, 4, 512]⟩
abbrev S1x4096x4096 : Shape := ⟨3, ![1, 4096, 4096]⟩
abbrev S4x512x1024 : Shape := ⟨3, ![4, 512, 1024]⟩
abbrev S1024x1024 : Shape := ⟨2, ![1024, 1024]⟩
abbrev S1x4096x1024 : Shape := ⟨3, ![1, 4096, 1024]⟩
abbrev S4x1024x1x4096 : Shape := ⟨4, ![4, 1024, 1, 4096]⟩
abbrev S1x4096x4x1024 : Shape := ⟨4, ![1, 4096, 4, 1024]⟩
abbrev S_ : Shape := ⟨0, ![]⟩
abbrev S4x1x4096x512 : Shape := ⟨4, ![4, 1, 4096, 512]⟩
abbrev S4096x4x1024 : Shape := ⟨3, ![4096, 4, 1024]⟩
abbrev S4x4096x1024 : Shape := ⟨3, ![4, 4096, 1024]⟩
abbrev S8x4096x1024 : Shape := ⟨3, ![8, 4096, 1024]⟩
abbrev S4096x4x512 : Shape := ⟨3, ![4096, 4, 512]⟩
abbrev S4x4096x512 : Shape := ⟨3, ![4, 4096, 512]⟩

abbrev nBuf : Space → Nat
  | .hbm => 45
  | .vmem => 0
  | .smem => 0
  | _ => 0

abbrev bufTy : (tb : Table) → Fin (tcTables nBuf tb) → BufTy
  | .hbm, ⟨0, _⟩ => ⟨S1x4096x4x512, .f32⟩
  | .hbm, ⟨1, _⟩ => ⟨S1x4096x4096, .f32⟩
  | .hbm, ⟨2, _⟩ => ⟨S4x512x1024, .f32⟩
  | .hbm, ⟨3, _⟩ => ⟨S1024x1024, .f32⟩
  | .hbm, ⟨4, _⟩ => ⟨S1x4096x1024, .f32⟩
  | .hbm, ⟨5, _⟩ => ⟨S4x1024x1x4096, .f32⟩
  | .hbm, ⟨6, _⟩ => ⟨S1x4096x4x1024, .f32⟩
  | .hbm, ⟨7, _⟩ => ⟨S1x4096x4x1024, .f32⟩
  | .hbm, ⟨8, _⟩ => ⟨S1x4096x4x1024, .f32⟩
  | .hbm, ⟨9, _⟩ => ⟨S1x4096x4x1024, .f32⟩
  | .hbm, ⟨10, _⟩ => ⟨S_, .f32⟩
  | .hbm, ⟨11, _⟩ => ⟨S1x4096x4x1024, .f32⟩
  | .hbm, ⟨12, _⟩ => ⟨S1x4096x4x1024, .f32⟩
  | .hbm, ⟨13, _⟩ => ⟨S_, .f32⟩
  | .hbm, ⟨14, _⟩ => ⟨S1x4096x4x1024, .f32⟩
  | .hbm, ⟨15, _⟩ => ⟨S1x4096x4x1024, .f32⟩
  | .hbm, ⟨16, _⟩ => ⟨S_, .f32⟩
  | .hbm, ⟨17, _⟩ => ⟨S1x4096x4x1024, .f32⟩
  | .hbm, ⟨18, _⟩ => ⟨S1x4096x4x1024, .f32⟩
  | .hbm, ⟨19, _⟩ => ⟨S1x4096x4x1024, .f32⟩
  | .hbm, ⟨20, _⟩ => ⟨S1x4096x4x1024, .f32⟩
  | .hbm, ⟨21, _⟩ => ⟨S_, .f32⟩
  | .hbm, ⟨22, _⟩ => ⟨S1x4096x1024, .f32⟩
  | .hbm, ⟨23, _⟩ => ⟨S1x4096x1024, .f32⟩
  | .hbm, ⟨24, _⟩ => ⟨S1x4096x1024, .f32⟩
  | .hbm, ⟨25, _⟩ => ⟨S1x4096x4x1024, .f32⟩
  | .hbm, ⟨26, _⟩ => ⟨S1x4096x4x1024, .f32⟩
  | .hbm, ⟨27, _⟩ => ⟨S1x4096x4x1024, .f32⟩
  | .hbm, ⟨28, _⟩ => ⟨S1x4096x4x1024, .f32⟩
  | .hbm, ⟨29, _⟩ => ⟨S1x4096x4096, .f32⟩
  | .hbm, ⟨30, _⟩ => ⟨S4x1024x1x4096, .f32⟩
  | .hbm, ⟨31, _⟩ => ⟨S4x1x4096x512, .f32⟩
  | .hbm, ⟨32, _⟩ => ⟨S1x4096x4x512, .f32⟩
  | .hbm, ⟨33, _⟩ => ⟨S1x4096x4x1024, .f32⟩
  | .hbm, ⟨34, _⟩ => ⟨S4096x4x1024, .f32⟩
  | .hbm, ⟨35, _⟩ => ⟨S4x4096x1024, .f32⟩
  | .hbm, ⟨36, _⟩ => ⟨S4096x4x1024, .f32⟩
  | .hbm, ⟨37, _⟩ => ⟨S4x4096x1024, .f32⟩
  | .hbm, ⟨38, _⟩ => ⟨S4x4096x1024, .bf16⟩
  | .hbm, ⟨39, _⟩ => ⟨S_, .f32⟩
  | .hbm, ⟨40, _⟩ => ⟨S4x4096x1024, .f32⟩
  | .hbm, ⟨41, _⟩ => ⟨S8x4096x1024, .f32⟩
  | .hbm, ⟨42, _⟩ => ⟨S8x4096x1024, .bf16⟩
  | .hbm, ⟨43, _⟩ => ⟨S4096x4x512, .f32⟩
  | .hbm, ⟨44, _⟩ => ⟨S4x4096x512, .f32⟩
  | _, _ => ⟨S1x4096x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== EnterKernel.lean ====
abbrev S1x4096x1024 : Shape := ⟨3, ![1, 4096, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== EnterReferenceIdeal.lean ====
abbrev S1x4096x1024 : Shape := ⟨3, ![1, 4096, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S4096x1024 : Shape := ⟨2, ![4096, 1024]⟩

abbrev nBuf : Space → Nat
  | .hbm => 20
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1x4096x1024, .f32⟩
  | .hbm, ⟨3, _⟩ => ⟨S_, .f32⟩
  | .hbm, ⟨4, _⟩ => ⟨S1x4096, .f32⟩
  | .hbm, ⟨5, _⟩ => ⟨S1x4096x1, .f32⟩
  | .hbm, ⟨6, _⟩ => ⟨S_, .f32⟩
  | .hbm, ⟨7, _⟩ => ⟨S1x4096x1, .f32⟩
  | .hbm, ⟨8, _⟩ => ⟨S1x4096x1, .f32⟩
  | .hbm, ⟨9, _⟩ => ⟨S_, .f32⟩
  | .hbm, ⟨10, _⟩ => ⟨S1x4096x1, .f32⟩
  | .hbm, ⟨11, _⟩ => ⟨S1x4096x1, .f32⟩
  | .hbm, ⟨12, _⟩ => ⟨S1x4096x1, .f32⟩
  | .hbm, ⟨13, _⟩ => ⟨S1x4096x1024, .f32⟩
  | .hbm, ⟨14, _⟩ => ⟨S1x4096x1024, .f32⟩
  | .hbm, ⟨15, _⟩ => ⟨S1x1x1024, .f32⟩
  | .hbm, ⟨16, _⟩ => ⟨S1x4096x1024, .f32⟩
  | .hbm, ⟨17, _⟩ => ⟨S1x4096x1024, .f32⟩
  | .hbm, ⟨18, _⟩ => ⟨S4096x1024, .f32⟩
  | .hbm, ⟨19, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== DownKernel.lean ====
abbrev S1x4096x5632 : Shape := ⟨3, ![1, 4096, 5632]⟩
abbrev S2816x1024 : Shape := ⟨2, ![2816, 1024]⟩
abbrev S1x4096x1024 : Shape := ⟨3, ![1, 4096, 1024]⟩
abbrev S1024 : Shape := ⟨1, ![1024]⟩
abbrev S4096x5632 : Shape := ⟨2, ![4096, 5632]⟩
abbrev S4096x2x2816 : Shape := ⟨3, ![4096, 2, 2816]⟩
abbrev S2x4096x2816 : Shape := ⟨3, ![2, 4096, 2816]⟩
abbrev S4096x1024 : Shape := ⟨2, ![4096, 1024]⟩
abbrev S1x1024 : Shape := ⟨2, ![1, 1024]⟩
abbrev S2x512x1408 : Shape := ⟨3, ![2, 512, 1408]⟩
abbrev S1408x1024 : Shape := ⟨2, ![1408, 1024]⟩
abbrev S512x1024 : Shape := ⟨2, ![512, 1024]⟩
abbrev S512x1408 : Shape := ⟨2, ![512, 1408]⟩
abbrev S1x32x1408 : Shape := ⟨3, ![1, 32, 1408]⟩
abbrev S32x1408 : Shape := ⟨2, ![32, 1408]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S1x4096x5632, .f32⟩
  | .hbm, ⟨1, _⟩ => ⟨S2816x1024, .f32⟩
  | .hbm, ⟨2, _⟩ => ⟨S1x4096x1024, .f32⟩
  | .hbm, ⟨3, _⟩ => ⟨S1024, .f32⟩
  | .hbm, ⟨4, _⟩ => ⟨S4096x5632, .f32⟩
  | .hbm, ⟨5, _⟩ => ⟨S4096x2x2816, .f32⟩
  | .hbm, ⟨6, _⟩ => ⟨S2x4096x2816, .f32⟩
  | .hbm, ⟨7, _⟩ => ⟨S2x4096x2816, .bf16⟩
  | .hbm, ⟨8, _⟩ => ⟨S2816x1024, .bf16⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S4096x1024, .bf16⟩
  | .local _ .vmem, ⟨0, _⟩ => ⟨S2x512x1408, .bf16⟩
  | .local _ .vmem, ⟨1, _⟩ => ⟨S2x512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1408, .bf16⟩
  | _, _ => ⟨S1x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v310 : BitVec 1 := Scalar.cmpi .eq arg1 c0_i32
  let v311 : BitVec 32 := Scalar.extui v310
  let c0_i32_164 : BitVec 32 := 0#32
  let v312 : BitVec 1 := Scalar.cmpi .ne v311 c0_i32_164
  v312

def k0_cond2 (i : grid0.Coords) : BitVec 1 :=
  let arg1 : BitVec 32 := BitVec.ofNat 32 (i 1).val
  let c0_i32_165 : BitVec 32 := 0#32
  let v313 : BitVec 1 := Scalar.cmpi .sgt arg1 c0_i32_165
  let v314 : BitVec 32 := Scalar.extui v313
  let c0_i32_166 : BitVec 32 := 0#32
  let v315 : BitVec 1 := Scalar.cmpi .ne v314 c0_i32_166
  v315

def k0_cond3 (i : grid0.Coords) : BitVec 1 :=
  let arg1 : BitVec 32 := BitVec.ofNat 32 (i 1).val
  let c1_i32 : BitVec 32 := 1#32
  let v316 : BitVec 1 := Scalar.cmpi .eq arg1 c1_i32
  let v317 : BitVec 32 := Scalar.extui v316
  let c0_i32_167 : BitVec 32 := 0#32
  let v318 : BitVec 1 := Scalar.cmpi .ne v317 c0_i32_167
  v318

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DownReferenceIdeal.lean ====
abbrev S1x4096x5632 : Shape := ⟨3, ![1, 4096, 5632]⟩
abbrev S2816x1024 : Shape := ⟨2, ![2816, 1024]⟩
abbrev S1x4096x1024 : Shape := ⟨3, ![1, 4096, 1024]⟩
abbrev S1024 : Shape := ⟨1, ![1024]⟩
abbrev S1x4096x2816 : Shape := ⟨3, ![1, 4096, 2816]⟩
abbrev S_ : Shape := ⟨0, ![]⟩
abbrev S4096x1024 : Shape := ⟨2, ![4096, 1024]⟩
abbrev S1x4096 : Shape := ⟨2, ![1, 4096]⟩
abbrev S1x4096x1 : Shape := ⟨3, ![1, 4096, 1]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x4096x5632, .f32⟩
  | .hbm, ⟨1, _⟩ => ⟨S2816x1024, .f32⟩
  | .hbm, ⟨2, _⟩ => ⟨S1x4096x1024, .f32⟩
  | .hbm, ⟨3, _⟩ => ⟨S1024, .f32⟩
  | .hbm, ⟨4, _⟩ => ⟨S1x4096x2816, .f32⟩
  | .hbm, ⟨5, _⟩ => ⟨S1x4096x2816, .f32⟩
  | .hbm, ⟨6, _⟩ => ⟨S1x4096x2816, .f32⟩
  | .hbm, ⟨7, _⟩ => ⟨S1x4096x2816, .f32⟩
  | .hbm, ⟨8, _⟩ => ⟨S_, .f32⟩
  | .hbm, ⟨9, _⟩ => ⟨S1x4096x2816, .f32⟩
  | .hbm, ⟨10, _⟩ => ⟨S1x4096x2816, .f32⟩
  | .hbm, ⟨11, _⟩ => ⟨S_, .f32⟩
  | .hbm, ⟨12, _⟩ => ⟨S1x4096x2816, .f32⟩
  | .hbm, ⟨13, _⟩ => ⟨S1x4096x2816, .f32⟩
  | .hbm, ⟨14, _⟩ => ⟨S1x4096x2816, .f32⟩
  | .hbm, ⟨15, _⟩ => ⟨S1x4096x2816, .f32⟩
  | .hbm, ⟨16, _⟩ => ⟨S1x4096x1024, .f32⟩
  | .hbm, ⟨17, _⟩ => ⟨S_, .f32⟩
  | .hbm, ⟨18, _⟩ => ⟨S1x4096x1024, .f32⟩
  | .hbm, ⟨19, _⟩ => ⟨S1x4096x1024, .f32⟩
  | .hbm, ⟨20, _⟩ => ⟨S1x4096x1024, .f32⟩
  | .hbm, ⟨21, _⟩ => ⟨S4096x1024, .f32⟩
  | .hbm, ⟨22, _⟩ => ⟨S1x4096x1024, .f32⟩
  | .hbm, ⟨23, _⟩ => ⟨S_, .f32⟩
  | .hbm, ⟨24, _⟩ => ⟨S1x4096, .f32⟩
  | .hbm, ⟨25, _⟩ => ⟨S1x4096x1, .f32⟩
  | .hbm, ⟨26, _⟩ => ⟨S_, .f32⟩
  | .hbm, ⟨27, _⟩ => ⟨S1x4096x1, .f32⟩
  | .hbm, ⟨28, _⟩ => ⟨S1x4096x1, .f32⟩
  | .hbm, ⟨29, _⟩ => ⟨S_, .f32⟩
  | .hbm, ⟨30, _⟩ => ⟨S1x4096x1, .f32⟩
  | .hbm, ⟨31, _⟩ => ⟨S1x4096x1, .f32⟩
  | .hbm, ⟨32, _⟩ => ⟨S1x4096x1, .f32⟩
  | .hbm, ⟨33, _⟩ => ⟨S1x4096x1024, .f32⟩
  | .hbm, ⟨34, _⟩ => ⟨S1x4096x1024, .f32⟩
  | .hbm, ⟨35, _⟩ => ⟨S1x1x1024, .f32⟩
  | .hbm, ⟨36, _⟩ => ⟨S1x4096x1024, .f32⟩
  | .hbm, ⟨37, _⟩ => ⟨S1x4096x1024, .f32⟩
  | .hbm, ⟨38, _⟩ => ⟨S4096x1024, .f32⟩
  | .hbm, ⟨39, _⟩ => ⟨S4096x1024, .bf16⟩
  | _, _ => ⟨S1x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== JoinKernel.lean ====
abbrev S1x4096x4x512 : Shape := ⟨4, ![1, 4096, 4, 512]⟩
abbrev S1x4096x4096 : Shape := ⟨3, ![1, 4096, 4096]⟩
abbrev S4x512x1024 : Shape := ⟨3, ![4, 512, 1024]⟩
abbrev S1024x1024 : Shape := ⟨2, ![1024, 1024]⟩
abbrev S1x4096x1024 : Shape := ⟨3, ![1, 4096, 1024]⟩
abbrev S1024 : Shape := ⟨1, ![1024]⟩
abbrev S4096x4x512 : Shape := ⟨3, ![4096, 4, 512]⟩
abbrev S4x4096x512 : Shape := ⟨3, ![4, 4096, 512]⟩
abbrev S4096x4096 : Shape := ⟨2, ![4096, 4096]⟩
abbrev S4096x4x1024 : Shape := ⟨3, ![4096, 4, 1024]⟩
abbrev S4x4096x1024 : Shape := ⟨3, ![4, 4096, 1024]⟩
abbrev S_ : Shape := ⟨0, ![]⟩
abbrev S8x4096x1024 : Shape := ⟨3, ![8, 4096, 1024]⟩
abbrev S4096x1024 : Shape := ⟨2, ![4096, 1024]⟩
abbrev S1x1024 : Shape := ⟨2, ![1, 1024]⟩
abbrev S4x512x512 : Shape := ⟨3, ![4, 512, 512]⟩
abbrev S512x1024 : Shape := ⟨2, ![512, 1024]⟩
abbrev S1x512x1024 : Shape := ⟨3, ![1, 512, 1024]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩

abbrev nBuf : Space → Nat
  | .hbm => 22
  | .vmem => 15
  | .smem => 0
  | _ => 0

abbrev bufTy : (tb : Table) → Fin (tcTables nBuf tb) → BufTy
  | .hbm, ⟨0, _⟩ => ⟨S1x4096x4x512, .f32⟩
  | .hbm, ⟨1, _⟩ => ⟨S1x4096x4096, .f32⟩
  | .hbm, ⟨2, _⟩ => ⟨S4x512x1024, .f32⟩
  | .hbm, ⟨3, _⟩ => ⟨S1024x1024, .f32⟩
  | .hbm, ⟨4, _⟩ => ⟨S1x4096x1024, .f32⟩
  | .hbm, ⟨5, _⟩ => ⟨S1024, .f32⟩
  | .hbm, ⟨6, _⟩ => ⟨S4096x4x512, .f32⟩
  | .hbm, ⟨7, _⟩ => ⟨S4x4096x512, .f32⟩
  | .hbm, ⟨8, _⟩ => ⟨S4x4096x512, .bf16⟩
  | .hbm, ⟨9, _⟩ => ⟨S4096x4096, .f32⟩
  | .hbm, ⟨10, _⟩ => ⟨S4096x4x1024, .f32⟩
  | .hbm, ⟨11, _⟩ => ⟨S4x4096x1024, .f32⟩
  | .hbm, ⟨12, _⟩ => ⟨S_, .f32⟩
  | .hbm, ⟨13, _⟩ => ⟨S4x4096x1024, .f32⟩
  | .hbm, ⟨14, _⟩ => ⟨S8x4096x1024, .f32⟩
  | .hbm, ⟨15, _⟩ => ⟨S4x512x1024, .bf16⟩
  | .hbm, ⟨16, _⟩ => ⟨S1024x1024, .bf16⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .bf16⟩
  | .hbm, ⟨21, _⟩ => ⟨S4096x1024, .bf16⟩
  | .local _ .vmem, ⟨0, _⟩ => ⟨S4x512x512, .bf16⟩
  | .local _ .vmem, ⟨1, _⟩ => ⟨S4x512x512, .bf16⟩
  | .local _ .vmem, ⟨2, _⟩ => ⟨S4x512x1024, .f32⟩
  | .local _ .vmem, ⟨3, _⟩ => ⟨S4x512x1024, .f32⟩
  | .local _ .vmem, ⟨4, _⟩ => ⟨S4x512x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S1x4096x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== JoinReferenceIdeal.lean ====
abbrev S1x4096x4x512 : Shape := ⟨4, ![1, 4096, 4, 512]⟩
abbrev S1x4096x4096 : Shape := ⟨3, ![1, 4096, 4096]⟩
abbrev S4x512x1024 : Shape := ⟨3, ![4, 512, 1024]⟩
abbrev S1024x1024 : Shape := ⟨2, ![1024, 1024]⟩
abbrev S1x4096x1024 : Shape := ⟨3, ![1, 4096, 1024]⟩
abbrev S1024 : Shape := ⟨1, ![1024]⟩
abbrev S4x1024x1x4096 : Shape := ⟨4, ![4, 1024, 1, 4096]⟩
abbrev S1x4096x4x1024 : Shape := ⟨4, ![1, 4096, 4, 1024]⟩
abbrev S_ : Shape := ⟨0, ![]⟩
abbrev S4096x1024 : Shape := ⟨2, ![4096, 1024]⟩
abbrev S1x4096 : Shape := ⟨2, ![1, 4096]⟩
abbrev S1x4096x1 : Shape := ⟨3, ![1, 4096, 1]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1x4096x4x512, .f32⟩
  | .hbm, ⟨1, _⟩ => ⟨S1x4096x4096, .f32⟩
  | .hbm, ⟨2, _⟩ => ⟨S4x512x1024, .f32⟩
  | .hbm, ⟨3, _⟩ => ⟨S1024x1024, .f32⟩
  | .hbm, ⟨4, _⟩ => ⟨S1x4096x1024, .f32⟩
  | .hbm, ⟨5, _⟩ => ⟨S1024, .f32⟩
  | .hbm, ⟨6, _⟩ => ⟨S4x1024x1x4096, .f32⟩
  | .hbm, ⟨7, _⟩ => ⟨S1x4096x4x1024, .f32⟩
  | .hbm, ⟨8, _⟩ => ⟨S1x4096x4x1024, .f32⟩
  | .hbm, ⟨9, _⟩ => ⟨S1x4096x4x1024, .f32⟩
  | .hbm, ⟨10, _⟩ => ⟨S1x4096x4x1024, .f32⟩
  | .hbm, ⟨11, _⟩ => ⟨S_, .f32⟩
  | .hbm, ⟨12, _⟩ => ⟨S1x4096x4x1024, .f32⟩
  | .hbm, ⟨13, _⟩ => ⟨S1x4096x4x1024, .f32⟩
  | .hbm, ⟨14, _⟩ => ⟨S_, .f32⟩
  | .hbm, ⟨15, _⟩ => ⟨S1x4096x4x1024, .f32⟩
  | .hbm, ⟨16, _⟩ => ⟨S1x4096x4x1024, .f32⟩
  | .hbm, ⟨17, _⟩ => ⟨S1x4096x4x1024, .f32⟩
  | .hbm, ⟨18, _⟩ => ⟨S_, .f32⟩
  | .hbm, ⟨19, _⟩ => ⟨S1x4096x1024, .f32⟩
  | .hbm, ⟨20, _⟩ => ⟨S1x4096x1024, .f32⟩
  | .hbm, ⟨21, _⟩ => ⟨S1x4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S1x4096x1024, .f32⟩
  | .hbm, ⟨26, _⟩ => ⟨S_, .f32⟩
  | .hbm, ⟨27, _⟩ => ⟨S1x4096, .f32⟩
  | .hbm, ⟨28, _⟩ => ⟨S1x4096x1, .f32⟩
  | .hbm, ⟨29, _⟩ => ⟨S_, .f32⟩
  | .hbm, ⟨30, _⟩ => ⟨S1x4096x1, .f32⟩
  | .hbm, ⟨31, _⟩ => ⟨S1x4096x1, .f32⟩
  | .hbm, ⟨32, _⟩ => ⟨S_, .f32⟩
  | .hbm, ⟨33, _⟩ => ⟨S1x4096x1, .f32⟩
  | .hbm, ⟨34, _⟩ => ⟨S1x4096x1, .f32⟩
  | .hbm, ⟨35, _⟩ => ⟨S1x4096x1, .f32⟩
  | .hbm, ⟨36, _⟩ => ⟨S1x4096x1024, .f32⟩
  | .hbm, ⟨37, _⟩ => ⟨S1x4096x1024, .f32⟩
  | .hbm, ⟨38, _⟩ => ⟨S1x1x1024, .f32⟩
  | .hbm, ⟨39, _⟩ => ⟨S1x4096x1024, .f32⟩
  | .hbm, ⟨40, _⟩ => ⟨S1x4096x1024, .f32⟩
  | .hbm, ⟨41, _⟩ => ⟨S4096x1024, .f32⟩
  | .hbm, ⟨42, _⟩ => ⟨S4096x1024, .bf16⟩
  | _, _ => ⟨S1x4096x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== MixKernel.lean ====
abbrev S1x4096x8192 : Shape := ⟨3, ![1, 4096, 8192]⟩
abbrev S4x128x128 : Shape := ⟨3, ![4, 128, 128]⟩
abbrev S512 : Shape := ⟨1, ![512]⟩
abbrev S3x512 : Shape := ⟨2, ![3, 512]⟩
abbrev S31x512 : Shape := ⟨2, ![31, 512]⟩
abbrev S4x128 : Shape := ⟨2, ![4, 128]⟩
abbrev S4096x8192 : Shape := ⟨2, ![4096, 8192]⟩
abbrev S4096x8x1024 : Shape := ⟨3, ![4096, 8, 1024]⟩
abbrev S8x4096x1024 : Shape := ⟨3, ![8, 4096, 1024]⟩
abbrev S1x512 : Shape := ⟨2, ![1, 512]⟩
abbrev S4x128x1 : Shape := ⟨3, ![4, 128, 1]⟩
abbrev S4x4096x512 : Shape := ⟨3, ![4, 4096, 512]⟩
abbrev S4096x512 : Shape := ⟨2, ![4096, 512]⟩
abbrev S1x256x512 : Shape := ⟨3, ![1, 256, 512]⟩
abbrev S1x32x512 : Shape := ⟨3, ![1, 32, 512]⟩
abbrev S4x256x512 : Shape := ⟨3, ![4, 256, 512]⟩
abbrev S256x512 : Shape := ⟨2, ![256, 512]⟩
abbrev S288x512 : Shape := ⟨2, ![288, 512]⟩
abbrev S8x288x512 : Shape := ⟨3, ![8, 288, 512]⟩
abbrev S256x1 : Shape := ⟨2, ![256, 1]⟩
abbrev S32x512 : Shape := ⟨2, ![32, 512]⟩
abbrev S256x128 : Shape := ⟨2, ![256, 128]⟩
abbrev S1x128x128 : Shape := ⟨3, ![1, 128, 128]⟩
abbrev S128x128 : Shape := ⟨2, ![128, 128]⟩
abbrev S1x128 : Shape := ⟨2, ![1, 128]⟩
abbrev S1x256x128 : Shape := ⟨3, ![1, 256, 128]⟩
abbrev S1x280x512 : Shape := ⟨3, ![1, 280, 512]⟩
abbrev S280x512 : Shape := ⟨2, ![280, 512]⟩
abbrev S256 : Shape := ⟨1, ![256]⟩

abbrev nBuf : Space → Nat
  | .hbm => 23
  | .vmem => 43
  | .smem => 0
  | _ => 0

abbrev bufTy : (tb : Table) → Fin (tcTables nBuf tb) → BufTy
  | .hbm, ⟨0, _⟩ => ⟨S1x4096x8192, .f32⟩
  | .hbm, ⟨1, _⟩ => ⟨S4x128x128, .f32⟩
  | .hbm, ⟨2, _⟩ => ⟨S512, .f32⟩
  | .hbm, ⟨3, _⟩ => ⟨S3x512, .f32⟩
  | .hbm, ⟨4, _⟩ => ⟨S31x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S4x128x128, .f32⟩
  | .hbm, ⟨10, _⟩ => ⟨S4x128, .f32⟩
  | .hbm, ⟨11, _⟩ => ⟨S4096x8192, .f32⟩
  | .hbm, ⟨12, _⟩ => ⟨S4096x8x1024, .f32⟩
  | .hbm, ⟨13, _⟩ => ⟨S8x4096x1024, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S4x128x1, .f32⟩
  | .hbm, ⟨20, _⟩ => ⟨S4x128x128, .f32⟩
  | .hbm, ⟨21, _⟩ => ⟨S4x4096x512, .bf16⟩
  | .hbm, ⟨22, _⟩ => ⟨S4096x512, .f32⟩
  | .local _ .vmem, ⟨0, _⟩ => ⟨S1x256x512, .f32⟩
  | .local _ .vmem, ⟨1, _⟩ => ⟨S1x256x512, .f32⟩
  | .local _ .vmem, ⟨2, _⟩ => ⟨S1x32x512, .f32⟩
  | .local _ .vmem, ⟨3, _⟩ => ⟨S1x32x512, .f32⟩
  | .local _ .vmem, ⟨4, _⟩ => ⟨S1x256x512, .f32⟩
  | .local _ .vmem, ⟨5, _⟩ => ⟨S1x256x512, .f32⟩
  | .local _ .vmem, ⟨6, _⟩ => ⟨S1x32x512, .f32⟩
  | .local _ .vmem, ⟨7, _⟩ => ⟨S1x32x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x32x512, .f32⟩
  | .local _ .vmem, ⟨13, _⟩ => ⟨S1x32x512, .f32⟩
  | .local _ .vmem, ⟨14, _⟩ => ⟨S1x256x512, .f32⟩
  | .local _ .vmem, ⟨15, _⟩ => ⟨S1x256x512, .f32⟩
  | .local _ .vmem, ⟨16, _⟩ => ⟨S1x32x512, .f32⟩
  | .local _ .vmem, ⟨17, _⟩ => ⟨S1x32x512, .f32⟩
  | .local _ .vmem, ⟨18, _⟩ => ⟨S1x256x512, .f32⟩
  | .local _ .vmem, ⟨19, _⟩ => ⟨S1x256x512, .f32⟩
  | .local _ .vmem, ⟨20, _⟩ => ⟨S1x32x512, .f32⟩
  | .local _ .vmem, ⟨21, _⟩ => ⟨S1x32x512, .f32⟩
  | .local _ .vmem, ⟨22, _⟩ => ⟨S1x256x512, .f32⟩
  | .local _ .vmem, ⟨23, _⟩ => ⟨S1x256x512, .f32⟩
  | .local _ .vmem, ⟨24, _⟩ => ⟨S1x256x512, .f32⟩
  | .local _ .vmem, ⟨25, _⟩ => ⟨S1x256x512, .f32⟩
  | .local _ .vmem, ⟨26, _⟩ => ⟨S4x128x128, .f32⟩
  | .local _ .vmem, ⟨27, _⟩ => ⟨S1x512, .f32⟩
  | .local _ .vmem, ⟨28, _⟩ => ⟨S3x512, .f32⟩
  | .local _ .vmem, ⟨29, _⟩ => ⟨S31x512, .f32⟩
  | .local _ .vmem, ⟨30, _⟩ => ⟨S1x512, .f32⟩
  | .local _ .vmem, ⟨31, _⟩ => ⟨S1x512, .f32⟩
  | .local _ .vmem, ⟨32, _⟩ => ⟨S1x512, .f32⟩
  | .local _ .vmem, ⟨33, _⟩ => ⟨S1x512, .f32⟩
  | .local _ .vmem, ⟨34, _⟩ => ⟨S4x128x128, .f32⟩
  | .local _ .vmem, ⟨35, _⟩ => ⟨S4x128x128, .f32⟩
  | .local _ .vmem, ⟨36, _⟩ => ⟨S4x256x512, .bf16⟩
  | .local _ .vmem, ⟨37, _⟩ => ⟨S4x256x512, .bf16⟩
  | .local _ .vmem, ⟨38, _⟩ => ⟨S256x512, .f32⟩
  | .local _ .vmem, ⟨39, _⟩ => ⟨S256x512, .f32⟩
  | .local _ .vmem, ⟨40, _⟩ => ⟨S288x512, .f32⟩
  | .local _ .vmem, ⟨41, _⟩ => ⟨S288x512, .f32⟩
  | .local _ .vmem, ⟨42, _⟩ => ⟨S8x288x512, .f32⟩
  | _, _ => ⟨S1x4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg21_0 : Ref sig .tc := ⟨.vmem, 34, rfl⟩
abbrev cc0_stg22_0 : Ref sig .tc := ⟨.vmem, 35, rfl⟩
abbrev cc0_stg23_0 : Ref sig .tc := ⟨.vmem, 36, rfl⟩
abbrev cc0_stg23_1 : Ref sig .tc := ⟨.vmem, 37, rfl⟩
abbrev cc0_stg24_0 : Ref sig .tc := ⟨.vmem, 38, rfl⟩
abbrev cc0_stg24_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem20_0 : DmaSem sig := 33
abbrev cc0_sem21_0 : DmaSem sig := 34
abbrev cc0_sem22_0 : DmaSem sig := 35
abbrev cc0_sem23_0 : DmaSem sig := 36
abbrev cc0_sem23_1 : DmaSem sig := 37
abbrev cc0_sem24_0 : DmaSem sig := 38
abbrev cc0_sem24_1 : DmaSem sig := 39

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_3 (i : grid0.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c1_i32_1 : BitVec 32 := 1#32
  let c0_i32_2 : BitVec 32 := 0#32
  ![c0_i32_0.toNat, v2.toNat, c1_i32_1.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  ![c1_i32.toNat, arg0.toNat, c1_i32_0.toNat]

def cc0_transform_6 (i : grid0.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c1_i32_1 : BitVec 32 := 1#32
  let c0_i32_2 : BitVec 32 := 0#32
  ![c1_i32_0.toNat, v2.toNat, c1_i32_1.toNat]

def cc0_transform_7 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_8 (i : grid0.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  let c0_i32_1 : BitVec 32 := 0#32
  ![c2_i32.toNat, v2.toNat, c0_i32_0.toNat]

def cc0_transform_9 (i : grid0.Coords) : Fin 3 → Nat :=
  let arg0 : BitVec 32 := BitVec.ofNat 32 (i 0).val
  let c2_i32 : BitVec 32 := 2#32
  let c1_i32 : BitVec 32 := 1#32
  let c0_i32 : BitVec 32 := 0#32
  ![c2_i32.toNat, arg0.toNat, c1_i32.toNat]

def cc0_transform_10 (i : grid0.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c1_i32_0 : BitVec 32 := 1#32
  let c0_i32_1 : BitVec 32 := 0#32
  ![c2_i32.toNat, v2.toNat, c1_i32_0.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_12 (i : grid0.Coords) : Fin 3 → Nat :=
  let arg0 : BitVec 32 := BitVec.ofNat 32 (i 0).val
  let c3_i32 : BitVec 32 := 3#32
  let c1_i32 : BitVec 32 := 1#32
  let c0_i32 : BitVec 32 := 0#32
  ![c3_i32.toNat, arg0.toNat, c1_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S3x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S31x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S4x128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S4x128x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S4x256x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== MixReferenceIdeal.lean ====
abbrev S1x4096x8192 : Shape := ⟨3, ![1, 4096, 8192]⟩
abbrev S4x128x128 : Shape := ⟨3, ![4, 128, 128]⟩
abbrev S512 : Shape := ⟨1, ![512]⟩
abbrev S3x512 : Shape := ⟨2, ![3, 512]⟩
abbrev S31x512 : Shape := ⟨2, ![31, 512]⟩
abbrev S4x128 : Shape := ⟨2, ![4, 128]⟩
abbrev S1x4096x512 : Shape := ⟨3, ![1, 4096, 512]⟩
abbrev S1x4096x1536 : Shape := ⟨3, ![1, 4096, 1536]⟩
abbrev S1x4096x1024 : Shape := ⟨3, ![1, 4096, 1024]⟩
abbrev S1x4096x4096 : Shape := ⟨3, ![1, 4096, 4096]⟩
abbrev S_ : Shape := ⟨0, ![]⟩
abbrev S1x30x512 : Shape := ⟨3, ![1, 30, 512]⟩
abbrev S1x4126x512 : Shape := ⟨3, ![1, 4126, 512]⟩
abbrev S1x512 : Shape := ⟨2, ![1, 512]⟩
abbrev S1x1x512 : Shape := ⟨3, ![1, 1, 512]⟩
abbrev S1x4096x4x128 : Shape := ⟨4, ![1, 4096, 4, 128]⟩
abbrev S4096 : Shape := ⟨1, ![4096]⟩
abbrev S1x4096x1x128 : Shape := ⟨4, ![1, 4096, 1, 128]⟩
abbrev S1x4096x128 : Shape := ⟨3, ![1, 4096, 128]⟩
abbrev S1x2x128 : Shape := ⟨3, ![1, 2, 128]⟩
abbrev S1x4098x128 : Shape := ⟨3, ![1, 4098, 128]⟩
abbrev S1x4096x1 : Shape := ⟨3, ![1, 4096, 1]⟩
abbrev S1x4x128 : Shape := ⟨3, ![1, 4, 128]⟩
abbrev S1x4100x128 : Shape := ⟨3, ![1, 4100, 128]⟩
abbrev S1x8x128 : Shape := ⟨3, ![1, 8, 128]⟩
abbrev S1x4104x128 : Shape := ⟨3, ![1, 4104, 128]⟩
abbrev S1x16x128 : Shape := ⟨3, ![1, 16, 128]⟩
abbrev S1x4112x128 : Shape := ⟨3, ![1, 4112, 128]⟩
abbrev S4x128x1x4096 : Shape := ⟨4, ![4, 128, 1, 4096]⟩
abbrev S1x2x512 : Shape := ⟨3, ![1, 2, 512]⟩
abbrev S1x4098x512 : Shape := ⟨3, ![1, 4098, 512]⟩
abbrev S1x4096 : Shape := ⟨2, ![1, 4096]⟩
abbrev S32x128x4x128 : Shape := ⟨4, ![32, 128, 4, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S4x32x128x128 : Shape := ⟨4, ![4, 32, 128, 128]⟩
abbrev S128x4 : Shape := ⟨2, ![128, 4]⟩
abbrev S1x128x4x1 : Shape := ⟨4, ![1, 128, 4, 1]⟩
abbrev S4096x512 : Shape := ⟨2, ![4096, 512]⟩
abbrev S4x4096x512 : Shape := ⟨3, ![4, 4096, 512]⟩

abbrev nBuf : Space → Nat
  | .hbm => 490
  | .vmem => 0
  | .smem => 0
  | _ => 0

abbrev hbmTy0_0 (i : Nat) : BufTy := match i % 128 with
  | 0 => ⟨S1x4096x8192, .f32⟩
  | 1 => ⟨S4x128x128, .f32⟩
  | 2 => ⟨S512, .f32⟩
  | 3 => ⟨S3x512, .f32⟩
  | 4 => ⟨S31x512, .f32⟩
  | 5 => ⟨S512, .f32⟩
  | 6 => ⟨S512, .f32⟩
  | 7 => ⟨S512, .f32⟩
  | 8 => ⟨S512, .f32⟩
  | 9 => ⟨S4x128x128, .f32⟩
  | 10 => ⟨S4x128, .f32⟩
  | 11 => ⟨S1x4096x512, .f32⟩
  | 12 => ⟨S1x4096x1536, .f32⟩
  | 13 => ⟨S1x4096x1024, .f32⟩
  | 14 => ⟨S1x4096x1024, .f32⟩
  | 15 => ⟨S1x4096x4096, .f32⟩
  | 16 => ⟨S1x4096x512, .f32⟩
  | 17 => ⟨S1x4096x512, .f32⟩
  | 18 => ⟨S1x4096x512, .f32⟩
  | 19 => ⟨S1x4096x512, .f32⟩
  | 20 => ⟨S_, .f32⟩
  | 21 => ⟨S1x4096x512, .f32⟩
  | 22 => ⟨S1x4096x512, .f32⟩
  | 23 => ⟨S_, .f32⟩
  | 24 => ⟨S1x4096x512, .f32⟩
  | 25 => ⟨S1x4096x512, .f32⟩
  | 26 => ⟨S1x4096x512, .f32⟩
  | 27 => ⟨S_, .f32⟩
  | 28 => ⟨S1x30x512, .f32⟩
  | 29 => ⟨S1x4126x512, .f32⟩
  | 30 => ⟨S1x4096x512, .f32⟩
  | 31 => ⟨S1x512, .f32⟩
  | 32 => ⟨S512, .f32⟩
  | 33 => ⟨S1x1x512, .f32⟩
  | 34 => ⟨S1x4096x512, .f32⟩
  | 35 => ⟨S1x4096x512, .f32⟩
  | 36 => ⟨S1x4096x512, .f32⟩
  | 37 => ⟨S1x512, .f32⟩
  | 38 => ⟨S512, .f32⟩
  | 39 => ⟨S1x1x512, .f32⟩
  | 40 => ⟨S1x4096x512, .f32⟩
  | 41 => ⟨S1x4096x512, .f32⟩
  | 42 => ⟨S1x4096x512, .f32⟩
  | 43 => ⟨S1x4096x512, .f32⟩
  | 44 => ⟨S1x512, .f32⟩
  | 45 => ⟨S512, .f32⟩
  | 46 => ⟨S1x1x512, .f32⟩
  | 47 => ⟨S1x4096x512, .f32⟩
  | 48 => ⟨S1x4096x512, .f32⟩
  | 49 => ⟨S1x4096x512, .f32⟩
  | 50 => ⟨S1x4096x512, .f32⟩
  | 51 => ⟨S1x512, .f32⟩
  | 52 => ⟨S512, .f32⟩
  | 53 => ⟨S1x1x512, .f32⟩
  | 54 => ⟨S1x4096x512, .f32⟩
  | 55 => ⟨S1x4096x512, .f32⟩
  | 56 => ⟨S1x4096x512, .f32⟩
  | 57 => ⟨S1x4096x512, .f32⟩
  | 58 => ⟨S1x512, .f32⟩
  | 59 => ⟨S512, .f32⟩
  | 60 => ⟨S1x1x512, .f32⟩
  | 61 => ⟨S1x4096x512, .f32⟩
  | 62 => ⟨S1x4096x512, .f32⟩
  | 63 => ⟨S1x4096x512, .f32⟩
  | 64 => ⟨S1x4096x512, .f32⟩
  | 65 => ⟨S1x512, .f32⟩
  | 66 => ⟨S512, .f32⟩
  | 67 => ⟨S1x1x512, .f32⟩
  | 68 => ⟨S1x4096x512, .f32⟩
  | 69 => ⟨S1x4096x512, .f32⟩
  | 70 => ⟨S1x4096x512, .f32⟩
  | 71 => ⟨S1x4096x512, .f32⟩
  | 72 => ⟨S1x512, .f32⟩
  | 73 => ⟨S512, .f32⟩
  | 74 => ⟨S1x1x512, .f32⟩
  | 75 => ⟨S1x4096x512, .f32⟩
  | 76 => ⟨S1x4096x512, .f32⟩
  | 77 => ⟨S1x4096x512, .f32⟩
  | 78 => ⟨S1x4096x512, .f32⟩
  | 79 => ⟨S1x512, .f32⟩
  | 80 => ⟨S512, .f32⟩
  | 81 => ⟨S1x1x512, .f32⟩
  | 82 => ⟨S1x4096x512, .f32⟩
  | 83 => ⟨S1x4096x512, .f32⟩
  | 84 => ⟨S1x4096x512, .f32⟩
  | 85 => ⟨S1x4096x512, .f32⟩
  | 86 => ⟨S1x512, .f32⟩
  | 87 => ⟨S512, .f32⟩
  | 88 => ⟨S1x1x512, .f32⟩
  | 89 => ⟨S1x4096x512, .f32⟩
  | 90 => ⟨S1x4096x512, .f32⟩
  | 91 => ⟨S1x4096x512, .f32⟩
  | 92 => ⟨S1x4096x512, .f32⟩
  | 93 => ⟨S1x512, .f32⟩
  | 94 => ⟨S512, .f32⟩
  | 95 => ⟨S1x1x512, .f32⟩
  | 96 => ⟨S1x4096x512, .f32⟩
  | 97 => ⟨S1x4096x512, .f32⟩
  | 98 => ⟨S1x4096x512, .f32⟩
  | 99 => ⟨S1x4096x512, .f32⟩
  | 100 => ⟨S1x512, .f32⟩
  | 101 => ⟨S512, .f32⟩
  | 102 => ⟨S1x1x512, .f32⟩
  | 103 => ⟨S1x4096x512, .f32⟩
  | 104 => ⟨S1x4096x512, .f32⟩
  | 105 => ⟨S1x4096x512, .f32⟩
  | 106 => ⟨S1x4096x512, .f32⟩
  | 107 => ⟨S1x512, .f32⟩
  | 108 => ⟨S512, .f32⟩
  | 109 => ⟨S1x1x512, .f32⟩
  | 110 => ⟨S1x4096x512, .f32⟩
  | 111 => ⟨S1x4096x512, .f32⟩
  | 112 => ⟨S1x4096x512, .f32⟩
  | 113 => ⟨S1x4096x512, .f32⟩
  | 114 => ⟨S1x512, .f32⟩
  | 115 => ⟨S512, .f32⟩
  | 116 => ⟨S1x1x512, .f32⟩
  | 117 => ⟨S1x4096x512, .f32⟩
  | 118 => ⟨S1x4096x512, .f32⟩
  | 119 => ⟨S1x4096x512, .f32⟩
  | 120 => ⟨S1x4096x512, .f32⟩
  | 121 => ⟨S1x512, .f32⟩
  | 122 => ⟨S512, .f32⟩
  | 123 => ⟨S1x1x512, .f32⟩
  | 124 => ⟨S1x4096x512, .f32⟩
  | 125 => ⟨S1x4096x512, .f32⟩
  | 126 => ⟨S1x4096x512, .f32⟩
  | 127 => ⟨S1x4096x512, .f32⟩
  | _ => ⟨S1x4096x8192, .f32⟩

abbrev hbmTy0_1 (i : Nat) : BufTy := match i % 128 with
  | 0 => ⟨S1x512, .f32⟩
  | 1 => ⟨S512, .f32⟩
  | 2 => ⟨S1x1x512, .f32⟩
  | 3 => ⟨S1x4096x512, .f32⟩
  | 4 => ⟨S1x4096x512, .f32⟩
  | 5 => ⟨S1x4096x512, .f32⟩
  | 6 => ⟨S1x4096x512, .f32⟩
  | 7 => ⟨S1x512, .f32⟩
  | 8 => ⟨S512, .f32⟩
  | 9 => ⟨S1x1x512, .f32⟩
  | 10 => ⟨S1x4096x512, .f32⟩
  | 11 => ⟨S1x4096x512, .f32⟩
  | 12 => ⟨S1x4096x512, .f32⟩
  | 13 => ⟨S1x4096x512, .f32⟩
  | 14 => ⟨S1x512, .f32⟩
  | 15 => ⟨S512, .f32⟩
  | 16 => ⟨S1x1x512, .f32⟩
  | 17 => ⟨S1x4096x512, .f32⟩
  | 18 => ⟨S1x4096x512, .f32⟩
  | 19 => ⟨S1x4096x512, .f32⟩
  | 20 => ⟨S1x4096x512, .f32⟩
  | 21 => ⟨S1x512, .f32⟩
  | 22 => ⟨S512, .f32⟩
  | 23 => ⟨S1x1x512, .f32⟩
  | 24 => ⟨S1x4096x512, .f32⟩
  | 25 => ⟨S1x4096x512, .f32⟩
  | 26 => ⟨S1x4096x512, .f32⟩
  | 27 => ⟨S1x4096x512, .f32⟩
  | 28 => ⟨S1x512, .f32⟩
  | 29 => ⟨S512, .f32⟩
  | 30 => ⟨S1x1x512, .f32⟩
  | 31 => ⟨S1x4096x512, .f32⟩
  | 32 => ⟨S1x4096x512, .f32⟩
  | 33 => ⟨S1x4096x512, .f32⟩
  | 34 => ⟨S1x4096x512, .f32⟩
  | 35 => ⟨S1x512, .f32⟩
  | 36 => ⟨S512, .f32⟩
  | 37 => ⟨S1x1x512, .f32⟩
  | 38 => ⟨S1x4096x512, .f32⟩
  | 39 => ⟨S1x4096x512, .f32⟩
  | 40 => ⟨S1x4096x512, .f32⟩
  | 41 => ⟨S1x4096x512, .f32⟩
  | 42 => ⟨S1x512, .f32⟩
  | 43 => ⟨S512, .f32⟩
  | 44 => ⟨S1x1x512, .f32⟩
  | 45 => ⟨S1x4096x512, .f32⟩
  | 46 => ⟨S1x4096x512, .f32⟩
  | 47 => ⟨S1x4096x512, .f32⟩
  | 48 => ⟨S1x4096x512, .f32⟩
  | 49 => ⟨S1x512, .f32⟩
  | 50 => ⟨S512, .f32⟩
  | 51 => ⟨S1x1x512, .f32⟩
  | 52 => ⟨S1x4096x512, .f32⟩
  | 53 => ⟨S1x4096x512, .f32⟩
  | 54 => ⟨S1x4096x512, .f32⟩
  | 55 => ⟨S1x4096x512, .f32⟩
  | 56 => ⟨S1x512, .f32⟩
  | 57 => ⟨S512, .f32⟩
  | 58 => ⟨S1x1x512, .f32⟩
  | 59 => ⟨S1x4096x512, .f32⟩
  | 60 => ⟨S1x4096x512, .f32⟩
  | 61 => ⟨S1x4096x512, .f32⟩
  | 62 => ⟨S1x4096x512, .f32⟩
  | 63 => ⟨S1x512, .f32⟩
  | 64 => ⟨S512, .f32⟩
  | 65 => ⟨S1x1x512, .f32⟩
  | 66 => ⟨S1x4096x512, .f32⟩
  | 67 => ⟨S1x4096x512, .f32⟩
  | 68 => ⟨S1x4096x512, .f32⟩
  | 69 => ⟨S1x4096x512, .f32⟩
  | 70 => ⟨S1x512, .f32⟩
  | 71 => ⟨S512, .f32⟩
  | 72 => ⟨S1x1x512, .f32⟩
  | 73 => ⟨S1x4096x512, .f32⟩
  | 74 => ⟨S1x4096x512, .f32⟩
  | 75 => ⟨S1x4096x512, .f32⟩
  | 76 => ⟨S1x4096x512, .f32⟩
  | 77 => ⟨S1x512, .f32⟩
  | 78 => ⟨S512, .f32⟩
  | 79 => ⟨S1x1x512, .f32⟩
  | 80 => ⟨S1x4096x512, .f32⟩
  | 81 => ⟨S1x4096x512, .f32⟩
  | 82 => ⟨S1x4096x512, .f32⟩
  | 83 => ⟨S1x4096x512, .f32⟩
  | 84 => ⟨S1x512, .f32⟩
  | 85 => ⟨S512, .f32⟩
  | 86 => ⟨S1x1x512, .f32⟩
  | 87 => ⟨S1x4096x512, .f32⟩
  | 88 => ⟨S1x4096x512, .f32⟩
  | 89 => ⟨S1x4096x512, .f32⟩
  | 90 => ⟨S1x4096x512, .f32⟩
  | 91 => ⟨S1x512, .f32⟩
  | 92 => ⟨S512, .f32⟩
  | 93 => ⟨S1x1x512, .f32⟩
  | 94 => ⟨S1x4096x512, .f32⟩
  | 95 => ⟨S1x4096x512, .f32⟩
  | 96 => ⟨S1x4096x512, .f32⟩
  | 97 => ⟨S1x4096x512, .f32⟩
  | 98 => ⟨S1x512, .f32⟩
  | 99 => ⟨S512, .f32⟩
  | 100 => ⟨S1x1x512, .f32⟩
  | 101 => ⟨S1x4096x512, .f32⟩
  | 102 => ⟨S1x4096x512, .f32⟩
  | 103 => ⟨S1x4096x512, .f32⟩
  | 104 => ⟨S1x4096x512, .f32⟩
  | 105 => ⟨S1x512, .f32⟩
  | 106 => ⟨S512, .f32⟩
  | 107 => ⟨S1x1x512, .f32⟩
  | 108 => ⟨S1x4096x512, .f32⟩
  | 109 => ⟨S1x4096x512, .f32⟩
  | 110 => ⟨S1x4096x512, .f32⟩
  | 111 => ⟨S1x4096x512, .f32⟩
  | 112 => ⟨S1x512, .f32⟩
  | 113 => ⟨S512, .f32⟩
  | 114 => ⟨S1x1x512, .f32⟩
  | 115 => ⟨S1x4096x512, .f32⟩
  | 116 => ⟨S1x4096x512, .f32⟩
  | 117 => ⟨S1x4096x512, .f32⟩
  | 118 => ⟨S1x4096x4x128, .f32⟩
  | 119 => ⟨S_, .f32⟩
  | 120 => ⟨S_, .f32⟩
  | 121 => ⟨S1x4096x4x128, .f32⟩
  | 122 => ⟨S4096, .i32⟩
  | 123 => ⟨S1x4096x1x128, .f32⟩
  | 124 => ⟨S1x4096x128, .f32⟩
  | 125 => ⟨S_, .f32⟩
  | 126 => ⟨S1x2x128, .f32⟩
  | 127 => ⟨S1x4098x128, .f32⟩
  | _ => ⟨S1x4096x8192, .f32⟩

abbrev hbmTy0_2 (i : Nat) : BufTy := match i % 128 with
  | 0 => ⟨S1x4096x128, .f32⟩
  | 1 => ⟨S_, .i32⟩
  | 2 => ⟨S4096, .i32⟩
  | 3 => ⟨S4096, .i32⟩
  | 4 => ⟨S_, .i32⟩
  | 5 => ⟨S4096, .i32⟩
  | 6 => ⟨S4096, .i32⟩
  | 7 => ⟨S4096, .f32⟩
  | 8 => ⟨S1x4096x1, .f32⟩
  | 9 => ⟨S1x4096x128, .f32⟩
  | 10 => ⟨S1x4096x128, .f32⟩
  | 11 => ⟨S1x4096x128, .f32⟩
  | 12 => ⟨S1x4096x1x128, .f32⟩
  | 13 => ⟨S1x4096x128, .f32⟩
  | 14 => ⟨S1x4096x128, .f32⟩
  | 15 => ⟨S1x4096x1x128, .f32⟩
  | 16 => ⟨S1x4096x128, .f32⟩
  | 17 => ⟨S_, .f32⟩
  | 18 => ⟨S1x4x128, .f32⟩
  | 19 => ⟨S1x4100x128, .f32⟩
  | 20 => ⟨S1x4096x128, .f32⟩
  | 21 => ⟨S_, .i32⟩
  | 22 => ⟨S4096, .i32⟩
  | 23 => ⟨S4096, .i32⟩
  | 24 => ⟨S_, .i32⟩
  | 25 => ⟨S4096, .i32⟩
  | 26 => ⟨S4096, .i32⟩
  | 27 => ⟨S4096, .f32⟩
  | 28 => ⟨S1x4096x1, .f32⟩
  | 29 => ⟨S1x4096x128, .f32⟩
  | 30 => ⟨S1x4096x128, .f32⟩
  | 31 => ⟨S1x4096x128, .f32⟩
  | 32 => ⟨S1x4096x1x128, .f32⟩
  | 33 => ⟨S1x4096x128, .f32⟩
  | 34 => ⟨S1x4096x128, .f32⟩
  | 35 => ⟨S1x4096x1x128, .f32⟩
  | 36 => ⟨S1x4096x128, .f32⟩
  | 37 => ⟨S_, .f32⟩
  | 38 => ⟨S1x8x128, .f32⟩
  | 39 => ⟨S1x4104x128, .f32⟩
  | 40 => ⟨S1x4096x128, .f32⟩
  | 41 => ⟨S_, .i32⟩
  | 42 => ⟨S4096, .i32⟩
  | 43 => ⟨S4096, .i32⟩
  | 44 => ⟨S_, .i32⟩
  | 45 => ⟨S4096, .i32⟩
  | 46 => ⟨S4096, .i32⟩
  | 47 => ⟨S4096, .f32⟩
  | 48 => ⟨S1x4096x1, .f32⟩
  | 49 => ⟨S1x4096x128, .f32⟩
  | 50 => ⟨S1x4096x128, .f32⟩
  | 51 => ⟨S1x4096x128, .f32⟩
  | 52 => ⟨S1x4096x1x128, .f32⟩
  | 53 => ⟨S1x4096x128, .f32⟩
  | 54 => ⟨S1x4096x128, .f32⟩
  | 55 => ⟨S1x4096x1x128, .f32⟩
  | 56 => ⟨S1x4096x128, .f32⟩
  | 57 => ⟨S_, .f32⟩
  | 58 => ⟨S1x16x128, .f32⟩
  | 59 => ⟨S1x4112x128, .f32⟩
  | 60 => ⟨S1x4096x128, .f32⟩
  | 61 => ⟨S_, .i32⟩
  | 62 => ⟨S4096, .i32⟩
  | 63 => ⟨S4096, .i32⟩
  | 64 => ⟨S_, .i32⟩
  | 65 => ⟨S4096, .i32⟩
  | 66 => ⟨S4096, .i32⟩
  | 67 => ⟨S4096, .f32⟩
  | 68 => ⟨S1x4096x1, .f32⟩
  | 69 => ⟨S1x4096x128, .f32⟩
  | 70 => ⟨S1x4096x128, .f32⟩
  | 71 => ⟨S1x4096x128, .f32⟩
  | 72 => ⟨S1x4096x1x128, .f32⟩
  | 73 => ⟨S1x4096x128, .f32⟩
  | 74 => ⟨S1x4096x128, .f32⟩
  | 75 => ⟨S1x4096x1x128, .f32⟩
  | 76 => ⟨S1x4096x1x128, .f32⟩
  | 77 => ⟨S1x4096x1x128, .f32⟩
  | 78 => ⟨S1x4096x1x128, .f32⟩
  | 79 => ⟨S1x4096x4x128, .f32⟩
  | 80 => ⟨S4x128x1x4096, .f32⟩
  | 81 => ⟨S1x4096x4x128, .f32⟩
  | 82 => ⟨S1x4096x512, .f32⟩
  | 83 => ⟨S1x1x512, .f32⟩
  | 84 => ⟨S1x4096x512, .f32⟩
  | 85 => ⟨S1x4096x512, .f32⟩
  | 86 => ⟨S1x4096x512, .f32⟩
  | 87 => ⟨S1x4096x512, .f32⟩
  | 88 => ⟨S1x4096x512, .f32⟩
  | 89 => ⟨S1x4096x512, .f32⟩
  | 90 => ⟨S_, .f32⟩
  | 91 => ⟨S1x2x512, .f32⟩
  | 92 => ⟨S1x4098x512, .f32⟩
  | 93 => ⟨S1x4096x512, .f32⟩
  | 94 => ⟨S1x512, .f32⟩
  | 95 => ⟨S512, .f32⟩
  | 96 => ⟨S1x1x512, .f32⟩
  | 97 => ⟨S1x4096x512, .f32⟩
  | 98 => ⟨S1x4096x512, .f32⟩
  | 99 => ⟨S1x4096x512, .f32⟩
  | 100 => ⟨S1x512, .f32⟩
  | 101 => ⟨S512, .f32⟩
  | 102 => ⟨S1x1x512, .f32⟩
  | 103 => ⟨S1x4096x512, .f32⟩
  | 104 => ⟨S1x4096x512, .f32⟩
  | 105 => ⟨S1x4096x512, .f32⟩
  | 106 => ⟨S1x4096x512, .f32⟩
  | 107 => ⟨S1x512, .f32⟩
  | 108 => ⟨S512, .f32⟩
  | 109 => ⟨S1x1x512, .f32⟩
  | 110 => ⟨S1x4096x512, .f32⟩
  | 111 => ⟨S1x4096x512, .f32⟩
  | 112 => ⟨S1x4096x512, .f32⟩
  | 113 => ⟨S1x4096x512, .f32⟩
  | 114 => ⟨S_, .f32⟩
  | 115 => ⟨S1x4096, .f32⟩
  | 116 => ⟨S1x4096x1, .f32⟩
  | 117 => ⟨S_, .f32⟩
  | 118 => ⟨S1x4096x1, .f32⟩
  | 119 => ⟨S1x4096x1, .f32⟩
  | 120 => ⟨S1x4096x512, .f32⟩
  | 121 => ⟨S1x4096x512, .f32⟩
  | 122 => ⟨S1x4096x512, .f32⟩
  | 123 => ⟨S_, .f32⟩
  | 124 => ⟨S1x4096, .f32⟩
  | 125 => ⟨S1x4096x1, .f32⟩
  | 126 => ⟨S_, .f32⟩
  | 127 => ⟨S1x4096x1, .f32⟩
  | _ => ⟨S1x4096x8192, .f32⟩

abbrev hbmTy0_3 (i : Nat) : BufTy := match i % 128 with
  | 0 => ⟨S1x4096x1, .f32⟩
  | 1 => ⟨S1x4096x512, .f32⟩
  | 2 => ⟨S1x4096x512, .f32⟩
  | 3 => ⟨S_, .f32⟩
  | 4 => ⟨S1x4096x1, .f32⟩
  | 5 => ⟨S1x4096x1, .f32⟩
  | 6 => ⟨S1x4096x1, .f32⟩
  | 7 => ⟨S1x4096x512, .f32⟩
  | 8 => ⟨S1x4096x512, .f32⟩
  | 9 => ⟨S1x1x512, .f32⟩
  | 10 => ⟨S1x4096x512, .f32⟩
  | 11 => ⟨S1x4096x512, .f32⟩
  | 12 => ⟨S1x1x512, .f32⟩
  | 13 => ⟨S1x4096x512, .f32⟩
  | 14 => ⟨S1x4096x512, .f32⟩
  | 15 => ⟨S1x4096x512, .f32⟩
  | 16 => ⟨S1x4096x512, .f32⟩
  | 17 => ⟨S_, .f32⟩
  | 18 => ⟨S1x4096x512, .f32⟩
  | 19 => ⟨S1x4096x512, .f32⟩
  | 20 => ⟨S_, .f32⟩
  | 21 => ⟨S1x4096x512, .f32⟩
  | 22 => ⟨S1x4096x512, .f32⟩
  | 23 => ⟨S1x4096x512, .f32⟩
  | 24 => ⟨S1x4096x1024, .f32⟩
  | 25 => ⟨S1x4096x1024, .f32⟩
  | 26 => ⟨S_, .f32⟩
  | 27 => ⟨S1x4096x1024, .f32⟩
  | 28 => ⟨S1x4096x1024, .f32⟩
  | 29 => ⟨S1x4096x1024, .f32⟩
  | 30 => ⟨S_, .f32⟩
  | 31 => ⟨S1x4096x1024, .f32⟩
  | 32 => ⟨S1x4096x1024, .f32⟩
  | 33 => ⟨S1x4096x1024, .f32⟩
  | 34 => ⟨S_, .f32⟩
  | 35 => ⟨S1x4096x1024, .f32⟩
  | 36 => ⟨S1x4096x1024, .f32⟩
  | 37 => ⟨S_, .f32⟩
  | 38 => ⟨S1x4096x1024, .f32⟩
  | 39 => ⟨S1x4096x1024, .f32⟩
  | 40 => ⟨S1x4096x1024, .f32⟩
  | 41 => ⟨S1x4096x512, .f32⟩
  | 42 => ⟨S1x4096x512, .f32⟩
  | 43 => ⟨S_, .f32⟩
  | 44 => ⟨S1x4096, .f32⟩
  | 45 => ⟨S1x4096x1, .f32⟩
  | 46 => ⟨S_, .f32⟩
  | 47 => ⟨S1x4096x1, .f32⟩
  | 48 => ⟨S1x4096x1, .f32⟩
  | 49 => ⟨S1x4096x512, .f32⟩
  | 50 => ⟨S1x4096x512, .f32⟩
  | 51 => ⟨S1x4096x512, .f32⟩
  | 52 => ⟨S_, .f32⟩
  | 53 => ⟨S1x4096, .f32⟩
  | 54 => ⟨S1x4096x1, .f32⟩
  | 55 => ⟨S_, .f32⟩
  | 56 => ⟨S1x4096x1, .f32⟩
  | 57 => ⟨S1x4096x1, .f32⟩
  | 58 => ⟨S1x4096x512, .f32⟩
  | 59 => ⟨S1x4096x512, .f32⟩
  | 60 => ⟨S_, .f32⟩
  | 61 => ⟨S1x4096x1, .f32⟩
  | 62 => ⟨S1x4096x1, .f32⟩
  | 63 => ⟨S1x4096x1, .f32⟩
  | 64 => ⟨S1x4096x512, .f32⟩
  | 65 => ⟨S1x4096x512, .f32⟩
  | 66 => ⟨S1x1x512, .f32⟩
  | 67 => ⟨S1x4096x512, .f32⟩
  | 68 => ⟨S1x4096x512, .f32⟩
  | 69 => ⟨S1x1x512, .f32⟩
  | 70 => ⟨S1x4096x512, .f32⟩
  | 71 => ⟨S1x4096x512, .f32⟩
  | 72 => ⟨S32x128x4x128, .f32⟩
  | 73 => ⟨S128, .i32⟩
  | 74 => ⟨S_, .i32⟩
  | 75 => ⟨S128, .i32⟩
  | 76 => ⟨S128, .i32⟩
  | 77 => ⟨S1x128, .i32⟩
  | 78 => ⟨S128x1, .i32⟩
  | 79 => ⟨S128x128, .i32⟩
  | 80 => ⟨S128x128, .i32⟩
  | 81 => ⟨S128x128, .i1⟩
  | 82 => ⟨S1x128x128, .i1⟩
  | 83 => ⟨S_, .f32⟩
  | 84 => ⟨S4x128x128, .i1⟩
  | 85 => ⟨S4x128x128, .f32⟩
  | 86 => ⟨S4x128x128, .f32⟩
  | 87 => ⟨S4x32x128x128, .f32⟩
  | 88 => ⟨S32x128x4x128, .f32⟩
  | 89 => ⟨S128x4, .f32⟩
  | 90 => ⟨S1x128x4x1, .f32⟩
  | 91 => ⟨S32x128x4x128, .f32⟩
  | 92 => ⟨S32x128x4x128, .f32⟩
  | 93 => ⟨S1x4096x512, .f32⟩
  | 94 => ⟨S1x4096x512, .f32⟩
  | 95 => ⟨S4096x512, .f32⟩
  | 96 => ⟨S4096x512, .f32⟩
  | 97 => ⟨S4096x512, .f32⟩
  | 98 => ⟨S4096x512, .f32⟩
  | 99 => ⟨S1x4096x512, .f32⟩
  | 100 => ⟨S1x4096x512, .f32⟩
  | 101 => ⟨S1x4096x512, .f32⟩
  | 102 => ⟨S1x4096x512, .f32⟩
  | 103 => ⟨S4x4096x512, .f32⟩
  | 104 => ⟨S4x4096x512, .bf16⟩
  | 105 => ⟨S4096x512, .f32⟩
  | _ => ⟨S1x4096x8192, .f32⟩

abbrev hbmTy (i : Nat) : BufTy := match i / 128 with
  | 0 => hbmTy0_0 i
  | 1 => hbmTy0_1 i
  | 2 => hbmTy0_2 i
  | 3 => hbmTy0_3 i
  | _ => ⟨S1x4096x8192, .f32⟩

abbrev bufTy : (tb : Table) → Fin (tcTables nBuf tb) → BufTy
  | .hbm, ⟨i, _⟩ => hbmTy i
  | _, _ => ⟨S1x4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_v228 : Ref sig .tc := ⟨.hbm, 242, rfl⟩
abbrev main_v229 : Ref sig .tc := ⟨.hbm, 243, rfl⟩
abbrev main_v230 : Ref sig .tc := ⟨.hbm, 244, rfl⟩
abbrev main_v231 : Ref sig .tc := ⟨.hbm, 245, rfl⟩
abbrev main_v232 : Ref sig .tc := ⟨.hbm, 246, rfl⟩
abbrev main_call0_call0_cst : Ref sig .tc := ⟨.hbm, 247, rfl⟩
abbrev main_call0_call0_v0 : Ref sig .tc := ⟨.hbm, 248, rfl⟩
abbrev main_v233 : Ref sig .tc := ⟨.hbm, 249, rfl⟩
abbrev main_v234 : Ref sig .tc := ⟨.hbm, 250, rfl⟩
abbrev main_v235 : Ref sig .tc := ⟨.hbm, 251, rfl⟩
abbrev main_v236 : Ref sig .tc := ⟨.hbm, 252, rfl⟩
abbrev main_cst_2 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_c : Ref sig .tc := ⟨.hbm, 257, rfl⟩
abbrev main_v240 : Ref sig .tc := ⟨.hbm, 258, rfl⟩
abbrev main_v241 : Ref sig .tc := ⟨.hbm, 259, rfl⟩
abbrev main_c_3 : Ref sig .tc := ⟨.hbm, 260, rfl⟩
abbrev main_v242 : Ref sig .tc := ⟨.hbm, 261, rfl⟩
abbrev main_v243 : Ref sig .tc := ⟨.hbm, 262, rfl⟩
abbrev main_v244 : Ref sig .tc := ⟨.hbm, 263, rfl⟩
abbrev main_v245 : Ref sig .tc := ⟨.hbm, 264, rfl⟩
abbrev main_v246 : Ref sig .tc := ⟨.hbm, 265, rfl⟩
abbrev main_v247 : Ref sig .tc := ⟨.hbm, 266, rfl⟩
abbrev main_v248 : Ref sig .tc := ⟨.hbm, 267, rfl⟩
abbrev main_v249 : Ref sig .tc := ⟨.hbm, 268, rfl⟩
abbrev main_v250 : Ref sig .tc := ⟨.hbm, 269, rfl⟩
abbrev main_v251 : Ref sig .tc := ⟨.hbm, 270, rfl⟩
abbrev main_v252 : Ref sig .tc := ⟨.hbm, 271, rfl⟩
abbrev main_v253 : Ref sig .tc := ⟨.hbm, 272, rfl⟩
abbrev main_cst_4 : Ref sig .tc := ⟨.hbm, 273, rfl⟩
abbrev main_v254 : Ref sig .tc := ⟨.hbm, 274, rfl⟩
abbrev main_v255 : Ref sig .tc := ⟨.hbm, 275, rfl⟩
abbrev main_v256 : Ref sig .tc := ⟨.hbm, 276, rfl⟩
abbrev main_c_5 : Ref sig .tc := ⟨.hbm, 277, rfl⟩
abbrev main_v257 : Ref sig .tc := ⟨.hbm, 278, rfl⟩
abbrev main_v258 : Ref sig .tc := ⟨.hbm, 279, rfl⟩
abbrev main_c_6 : Ref sig .tc := ⟨.hbm, 280, rfl⟩
abbrev main_v259 : Ref sig .tc := ⟨.hbm, 281, rfl⟩
abbrev main_v260 : Ref sig .tc := ⟨.hbm, 282, rfl⟩
abbrev main_v261 : Ref sig .tc := ⟨.hbm, 283, rfl⟩
abbrev main_v262 : Ref sig .tc := ⟨.hbm, 284, rfl⟩
abbrev main_v263 : Ref sig .tc := ⟨.hbm, 285, rfl⟩
abbrev main_v264 : Ref sig .tc := ⟨.hbm, 286, rfl⟩
abbrev main_v265 : Ref sig .tc := ⟨.hbm, 287, rfl⟩
abbrev main_v266 : Ref sig .tc := ⟨.hbm, 288, rfl⟩
abbrev main_v267 : Ref sig .tc := ⟨.hbm, 289, rfl⟩
abbrev main_v268 : Ref sig .tc := ⟨.hbm, 290, rfl⟩
abbrev main_v269 : Ref sig .tc := ⟨.hbm, 291, rfl⟩
abbrev main_v270 : Ref sig .tc := ⟨.hbm, 292, rfl⟩
abbrev main_cst_7 : Ref sig .tc := ⟨.hbm, 293, rfl⟩
abbrev main_v271 : Ref sig .tc := ⟨.hbm, 294, rfl⟩
abbrev main_v272 : Ref sig .tc := ⟨.hbm, 295, rfl⟩
abbrev main_v273 : Ref sig .tc := ⟨.hbm, 296, rfl⟩
abbrev main_c_8 : Ref sig .tc := ⟨.hbm, 297, rfl⟩
abbrev main_v274 : Ref sig .tc := ⟨.hbm, 298, rfl⟩
abbrev main_v275 : Ref sig .tc := ⟨.hbm, 299, rfl⟩
abbrev main_c_9 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_v279 : Ref sig .tc := ⟨.hbm, 304, rfl⟩
abbrev main_v280 : Ref sig .tc := ⟨.hbm, 305, rfl⟩
abbrev main_v281 : Ref sig .tc := ⟨.hbm, 306, rfl⟩
abbrev main_v282 : Ref sig .tc := ⟨.hbm, 307, rfl⟩
abbrev main_v283 : Ref sig .tc := ⟨.hbm, 308, rfl⟩
abbrev main_v284 : Ref sig .tc := ⟨.hbm, 309, rfl⟩
abbrev main_v285 : Ref sig .tc := ⟨.hbm, 310, rfl⟩
abbrev main_v286 : Ref sig .tc := ⟨.hbm, 311, rfl⟩
abbrev main_v287 : Ref sig .tc := ⟨.hbm, 312, rfl⟩
abbrev main_cst_10 : Ref sig .tc := ⟨.hbm, 313, rfl⟩
abbrev main_v288 : Ref sig .tc := ⟨.hbm, 314, rfl⟩
abbrev main_v289 : Ref sig .tc := ⟨.hbm, 315, rfl⟩
abbrev main_v290 : Ref sig .tc := ⟨.hbm, 316, rfl⟩
abbrev main_c_11 : Ref sig .tc := ⟨.hbm, 317, rfl⟩
abbrev main_v291 : Ref sig .tc := ⟨.hbm, 318, rfl⟩
abbrev main_v292 : Ref sig .tc := ⟨.hbm, 319, rfl⟩
abbrev main_c_12 : Ref sig .tc := ⟨.hbm, 320, rfl⟩
abbrev main_v293 : Ref sig .tc := ⟨.hbm, 321, rfl⟩
abbrev main_v294 : Ref sig .tc := ⟨.hbm, 322, rfl⟩
abbrev main_v295 : Ref sig .tc := ⟨.hbm, 323, rfl⟩
abbrev main_v296 : Ref sig .tc := ⟨.hbm, 324, rfl⟩
abbrev main_v297 : Ref sig .tc := ⟨.hbm, 325, rfl⟩
abbrev main_v298 : Ref sig .tc := ⟨.hbm, 326, rfl⟩
abbrev main_v299 : Ref sig .tc := ⟨.hbm, 327, rfl⟩
abbrev main_v300 : Ref sig .tc := ⟨.hbm, 328, rfl⟩
abbrev main_v301 : Ref sig .tc := ⟨.hbm, 329, rfl⟩
abbrev main_v302 : Ref sig .tc := ⟨.hbm, 330, rfl⟩
abbrev main_v303 : Ref sig .tc := ⟨.hbm, 331, rfl⟩
abbrev main_v304 : Ref sig .tc := ⟨.hbm, 332, rfl⟩
abbrev main_v305 : Ref sig .tc := ⟨.hbm, 333, rfl⟩
abbrev main_v306 : Ref sig .tc := ⟨.hbm, 334, rfl⟩
abbrev main_v307 : Ref sig .tc := ⟨.hbm, 335, rfl⟩
abbrev main_v308 : Ref sig .tc := ⟨.hbm, 336, rfl⟩
abbrev main_v309 : Ref sig .tc := ⟨.hbm, 337, rfl⟩
abbrev main_v310 : Ref sig .tc := ⟨.hbm, 338, rfl⟩
abbrev main_v311 : Ref sig .tc := ⟨.hbm, 339, rfl⟩
abbrev main_v312 : Ref sig .tc := ⟨.hbm, 340, rfl⟩
abbrev main_v313 : Ref sig .tc := ⟨.hbm, 341, rfl⟩
abbrev main_v314 : Ref sig .tc := ⟨.hbm, 342, rfl⟩
abbrev main_v315 : Ref sig .tc := ⟨.hbm, 343, rfl⟩
abbrev main_v316 : Ref sig .tc := ⟨.hbm, 344, rfl⟩
abbrev main_v317 : Ref sig .tc := ⟨.hbm, 345, rfl⟩
abbrev main_cst_13 : Ref sig .tc := ⟨.hbm, 346, rfl⟩
abbrev main_v318 : Ref sig .tc := ⟨.hbm, 347, rfl⟩
abbrev main_v319 : Ref sig .tc := ⟨.hbm, 348, rfl⟩
abbrev main_v320 : Ref sig .tc := ⟨.hbm, 349, rfl⟩
abbrev main_v321 : Ref sig .tc := ⟨.hbm, 350, rfl⟩
abbrev main_v322 : Ref sig .tc := ⟨.hbm, 351, rfl⟩
abbrev main_v323 : Ref sig .tc := ⟨.hbm, 352, rfl⟩
abbrev main_v324 : Ref sig .tc := ⟨.hbm, 353, rfl⟩
abbrev main_v325 : Ref sig .tc := ⟨.hbm, 354, rfl⟩
abbrev main_v326 : Ref sig .tc := ⟨.hbm, 355, rfl⟩
abbrev main_v327 : Ref sig .tc := ⟨.hbm, 356, rfl⟩
abbrev main_v328 : Ref sig .tc := ⟨.hbm, 357, rfl⟩
abbrev main_v329 : Ref sig .tc := ⟨.hbm, 358, rfl⟩
abbrev main_v330 : Ref sig .tc := ⟨.hbm, 359, rfl⟩
abbrev main_v331 : Ref sig .tc := ⟨.hbm, 360, rfl⟩
abbrev main_v332 : Ref sig .tc := ⟨.hbm, 361, rfl⟩
abbrev main_v333 : Ref sig .tc := ⟨.hbm, 362, rfl⟩
abbrev main_v334 : Ref sig .tc := ⟨.hbm, 363, rfl⟩
abbrev main_v335 : Ref sig .tc := ⟨.hbm, 364, rfl⟩
abbrev main_v336 : Ref sig .tc := ⟨.hbm, 365, rfl⟩
abbrev main_v337 : Ref sig .tc := ⟨.hbm, 366, rfl⟩
abbrev main_v338 : Ref sig .tc := ⟨.hbm, 367, rfl⟩
abbrev main_v339 : Ref sig .tc := ⟨.hbm, 368, rfl⟩
abbrev main_v340 : Ref sig .tc := ⟨.hbm, 369, rfl⟩
abbrev main_cst_14 : Ref sig .tc := ⟨.hbm, 370, rfl⟩
abbrev main_v341 : Ref sig .tc := ⟨.hbm, 371, rfl⟩
abbrev main_v342 : Ref sig .tc := ⟨.hbm, 372, rfl⟩
abbrev main_cst_15 : Ref sig .tc := ⟨.hbm, 373, rfl⟩
abbrev main_v343 : Ref sig .tc := ⟨.hbm, 374, rfl⟩
abbrev main_v344 : Ref sig .tc := ⟨.hbm, 375, rfl⟩
abbrev main_v345 : Ref sig .tc := ⟨.hbm, 376, rfl⟩
abbrev main_v346 : Ref sig .tc := ⟨.hbm, 377, rfl⟩
abbrev main_v347 : Ref sig .tc := ⟨.hbm, 378, rfl⟩
abbrev main_cst_16 : Ref sig .tc := ⟨.hbm, 379, rfl⟩
abbrev main_v348 : Ref sig .tc := ⟨.hbm, 380, rfl⟩
abbrev main_v349 : Ref sig .tc := ⟨.hbm, 381, rfl⟩
abbrev main_cst_17 : Ref sig .tc := ⟨.hbm, 382, rfl⟩
abbrev main_v350 : Ref sig .tc := ⟨.hbm, 383, rfl⟩
abbrev main_v351 : Ref sig .tc := ⟨.hbm, 384, rfl⟩
abbrev main_v352 : Ref sig .tc := ⟨.hbm, 385, rfl⟩
abbrev main_v353 : Ref sig .tc := ⟨.hbm, 386, rfl⟩
abbrev main_cst_18 : Ref sig .tc := ⟨.hbm, 387, rfl⟩
abbrev main_v354 : Ref sig .tc := ⟨.hbm, 388, rfl⟩
abbrev main_v355 : Ref sig .tc := ⟨.hbm, 389, rfl⟩
abbrev main_v356 : Ref sig .tc := ⟨.hbm, 390, rfl⟩
abbrev main_v357 : Ref sig .tc := ⟨.hbm, 391, rfl⟩
abbrev main_v358 : Ref sig .tc := ⟨.hbm, 392, rfl⟩
abbrev main_v359 : Ref sig .tc := ⟨.hbm, 393, rfl⟩
abbrev main_v360 : Ref sig .tc := ⟨.hbm, 394, rfl⟩
abbrev main_v361 : Ref sig .tc := ⟨.hbm, 395, rfl⟩
abbrev main_v362 : Ref sig .tc := ⟨.hbm, 396, rfl⟩
abbrev main_v363 : Ref sig .tc := ⟨.hbm, 397, rfl⟩
abbrev main_v364 : Ref sig .tc := ⟨.hbm, 398, rfl⟩
abbrev main_call1_v0 : Ref sig .tc := ⟨.hbm, 399, rfl⟩
abbrev main_call1_v1 : Ref sig .tc := ⟨.hbm, 400, rfl⟩
abbrev main_call1_cst : Ref sig .tc := ⟨.hbm, 401, rfl⟩
abbrev main_call1_v2 : Ref sig .tc := ⟨.hbm, 402, rfl⟩
abbrev main_call1_v3 : Ref sig .tc := ⟨.hbm, 403, rfl⟩
abbrev main_call1_cst_0 : Ref sig .tc := ⟨.hbm, 404, rfl⟩
abbrev main_call1_v4 : Ref sig .tc := ⟨.hbm, 405, rfl⟩
abbrev main_call1_v5 : Ref sig .tc := ⟨.hbm, 406, rfl⟩
abbrev main_v365 : Ref sig .tc := ⟨.hbm, 407, rfl⟩
abbrev main_v366 : Ref sig .tc := ⟨.hbm, 408, rfl⟩
abbrev main_v367 : Ref sig .tc := ⟨.hbm, 409, rfl⟩
abbrev main_cst_19 : Ref sig .tc := ⟨.hbm, 410, rfl⟩
abbrev main_v368 : Ref sig .tc := ⟨.hbm, 411, rfl⟩
abbrev main_v369 : Ref sig .tc := ⟨.hbm, 412, rfl⟩
abbrev main_v370 : Ref sig .tc := ⟨.hbm, 413, rfl⟩
abbrev main_cst_20 : Ref sig .tc := ⟨.hbm, 414, rfl⟩
abbrev main_v371 : Ref sig .tc := ⟨.hbm, 415, rfl⟩
abbrev main_v372 : Ref sig .tc := ⟨.hbm, 416, rfl⟩
abbrev main_v373 : Ref sig .tc := ⟨.hbm, 417, rfl⟩
abbrev main_cst_21 : Ref sig .tc := ⟨.hbm, 418, rfl⟩
abbrev main_v374 : Ref sig .tc := ⟨.hbm, 419, rfl⟩
abbrev main_v375 : Ref sig .tc := ⟨.hbm, 420, rfl⟩
abbrev main_cst_22 : Ref sig .tc := ⟨.hbm, 421, rfl⟩
abbrev main_v376 : Ref sig .tc := ⟨.hbm, 422, rfl⟩
abbrev main_v377 : Ref sig .tc := ⟨.hbm, 423, rfl⟩
abbrev main_v378 : Ref sig .tc := ⟨.hbm, 424, rfl⟩
abbrev main_v379 : Ref sig .tc := ⟨.hbm, 425, rfl⟩
abbrev main_v380 : Ref sig .tc := ⟨.hbm, 426, rfl⟩
abbrev main_cst_23 : Ref sig .tc := ⟨.hbm, 427, rfl⟩
abbrev main_v381 : Ref sig .tc := ⟨.hbm, 428, rfl⟩
abbrev main_v382 : Ref sig .tc := ⟨.hbm, 429, rfl⟩
abbrev main_cst_24 : Ref sig .tc := ⟨.hbm, 430, rfl⟩
abbrev main_v383 : Ref sig .tc := ⟨.hbm, 431, rfl⟩
abbrev main_v384 : Ref sig .tc := ⟨.hbm, 432, rfl⟩
abbrev main_v385 : Ref sig .tc := ⟨.hbm, 433, rfl⟩
abbrev main_v386 : Ref sig .tc := ⟨.hbm, 434, rfl⟩
abbrev main_v387 : Ref sig .tc := ⟨.hbm, 435, rfl⟩
abbrev main_cst_25 : Ref sig .tc := ⟨.hbm, 436, rfl⟩
abbrev main_v388 : Ref sig .tc := ⟨.hbm, 437, rfl⟩
abbrev main_v389 : Ref sig .tc := ⟨.hbm, 438, rfl⟩
abbrev main_cst_26 : Ref sig .tc := ⟨.hbm, 439, rfl⟩
abbrev main_v390 : Ref sig .tc := ⟨.hbm, 440, rfl⟩
abbrev main_v391 : Ref sig .tc := ⟨.hbm, 441, rfl⟩
abbrev main_v392 : Ref sig .tc := ⟨.hbm, 442, rfl⟩
abbrev main_v393 : Ref sig .tc := ⟨.hbm, 443, rfl⟩
abbrev main_cst_27 : Ref sig .tc := ⟨.hbm, 444, rfl⟩
abbrev main_v394 : Ref sig .tc := ⟨.hbm, 445, rfl⟩
abbrev main_v395 : Ref sig .tc := ⟨.hbm, 446, rfl⟩
abbrev main_v396 : Ref sig .tc := ⟨.hbm, 447, rfl⟩
abbrev main_v397 : Ref sig .tc := ⟨.hbm, 448, rfl⟩
abbrev main_v398 : Ref sig .tc := ⟨.hbm, 449, rfl⟩
abbrev main_v399 : Ref sig .tc := ⟨.hbm, 450, rfl⟩
abbrev main_v400 : Ref sig .tc := ⟨.hbm, 451, rfl⟩
abbrev main_v401 : Ref sig .tc := ⟨.hbm, 452, rfl⟩
abbrev main_v402 : Ref sig .tc := ⟨.hbm, 453, rfl⟩
abbrev main_v403 : Ref sig .tc := ⟨.hbm, 454, rfl⟩
abbrev main_v404 : Ref sig .tc := ⟨.hbm, 455, rfl⟩
abbrev main_v405 : Ref sig .tc := ⟨.hbm, 456, rfl⟩
abbrev main_v406 : Ref sig .tc := ⟨.hbm, 457, rfl⟩
abbrev main_c_28 : Ref sig .tc := ⟨.hbm, 458, rfl⟩
abbrev main_v407 : Ref sig .tc := ⟨.hbm, 459, rfl⟩
abbrev main_v408 : Ref sig .tc := ⟨.hbm, 460, rfl⟩
abbrev main_v409 : Ref sig .tc := ⟨.hbm, 461, rfl⟩
abbrev main_v410 : Ref sig .tc := ⟨.hbm, 462, rfl⟩
abbrev main_v411 : Ref sig .tc := ⟨.hbm, 463, rfl⟩
abbrev main_v412 : Ref sig .tc := ⟨.hbm, 464, rfl⟩
abbrev main_v413 : Ref sig .tc := ⟨.hbm, 465, rfl⟩
abbrev main_v414 : Ref sig .tc := ⟨.hbm, 466, rfl⟩
abbrev main_cst_29 : Ref sig .tc := ⟨.hbm, 467, rfl⟩
abbrev main_call2_v0 : Ref sig .tc := ⟨.hbm, 468, rfl⟩
abbrev main_call2_v1 : Ref sig .tc := ⟨.hbm, 469, rfl⟩
abbrev main_v415 : Ref sig .tc := ⟨.hbm, 470, rfl⟩
abbrev main_v416 : Ref sig .tc := ⟨.hbm, 471, rfl⟩
abbrev main_v417 : Ref sig .tc := ⟨.hbm, 472, rfl⟩
abbrev main_v418 : Ref sig .tc := ⟨.hbm, 473, rfl⟩
abbrev main_v419 : Ref sig .tc := ⟨.hbm, 474, rfl⟩
abbrev main_v420 : Ref sig .tc := ⟨.hbm, 475, rfl⟩
abbrev main_v421 : Ref sig .tc := ⟨.hbm, 476, rfl⟩
abbrev main_v422 : Ref sig .tc := ⟨.hbm, 477, rfl⟩
abbrev main_v423 : Ref sig .tc := ⟨.hbm, 478, rfl⟩
abbrev main_v424 : Ref sig .tc := ⟨.hbm, 479, rfl⟩
abbrev main_v425 : Ref sig .tc := ⟨.hbm, 480, rfl⟩
abbrev main_v426 : Ref sig .tc := ⟨.hbm, 481, rfl⟩
abbrev main_v427 : Ref sig .tc := ⟨.hbm, 482, rfl⟩
abbrev main_v428 : Ref sig .tc := ⟨.hbm, 483, rfl⟩
abbrev main_v429 : Ref sig .tc := ⟨.hbm, 484, rfl⟩
abbrev main_v430 : Ref sig .tc := ⟨.hbm, 485, rfl⟩
abbrev main_v431 : Ref sig .tc := ⟨.hbm, 486, rfl⟩
abbrev main_v432 : Ref sig .tc := ⟨.hbm, 487, rfl⟩
abbrev main_v433 : Ref sig .tc := ⟨.hbm, 488, rfl⟩
abbrev main_v434 : Ref sig .tc := ⟨.hbm, 489, rfl⟩

abbrev nD : Nat := 1
abbrev τ : Topo := Topo.v7x

variable {F : FTy → Type} [FloatOps F]
-- ==== ProdKernel.lean ====
abbrev S1x4096x1024 : Shape := ⟨3, ![1, 4096, 1024]⟩
abbrev S1024x8192 : Shape := ⟨2, ![1024, 8192]⟩
abbrev S1024x8x1024 : Shape := ⟨3, ![1024, 8, 1024]⟩
abbrev S8x1024x1024 : Shape := ⟨3, ![8, 1024, 1024]⟩
abbrev S4096x1024 : Shape := ⟨2, ![4096, 1024]⟩
abbrev S8x4096x1024 : Shape := ⟨3, ![8, 4096, 1024]⟩
abbrev S2048x1024 : Shape := ⟨2, ![2048, 1024]⟩
abbrev S1x1024x1024 : Shape := ⟨3, ![1, 1024, 1024]⟩
abbrev S1x2048x1024 : Shape := ⟨3, ![1, 2048, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S1x4096x1024, .f32⟩
  | .hbm, ⟨1, _⟩ => ⟨S1024x8192, .f32⟩
  | .hbm, ⟨2, _⟩ => ⟨S1024x8x1024, .f32⟩
  | .hbm, ⟨3, _⟩ => ⟨S8x1024x1024, .f32⟩
  | .hbm, ⟨4, _⟩ => ⟨S8x1024x1024, .bf16⟩
  | .hbm, ⟨5, _⟩ => ⟨S4096x1024, .f32⟩
  | .hbm, ⟨6, _⟩ => ⟨S4096x1024, .bf16⟩
  | .hbm, ⟨7, _⟩ => ⟨S8x4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x2048x1024, .f32⟩
  | .local _ .vmem, ⟨5, _⟩ => ⟨S1x2048x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== ProdReferenceIdeal.lean ====
abbrev S1x4096x1024 : Shape := ⟨3, ![1, 4096, 1024]⟩
abbrev S1024x8192 : Shape := ⟨2, ![1024, 8192]⟩
abbrev S1x4096x8192 : Shape := ⟨3, ![1, 4096, 8192]⟩
abbrev S4096x8192 : Shape := ⟨2, ![4096, 8192]⟩
abbrev S4096x8x1024 : Shape := ⟨3, ![4096, 8, 1024]⟩
abbrev S8x4096x1024 : Shape := ⟨3, ![8, 4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024x8192, .f32⟩
  | .hbm, ⟨2, _⟩ => ⟨S1x4096x8192, .f32⟩
  | .hbm, ⟨3, _⟩ => ⟨S4096x8192, .f32⟩
  | .hbm, ⟨4, _⟩ => ⟨S4096x8x1024, .f32⟩
  | .hbm, ⟨5, _⟩ => ⟨S8x4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradKernel.lean ====
abbrev S1x4096x1024 : Shape := ⟨3, ![1, 4096, 1024]⟩
abbrev S1x4096x8192 : Shape := ⟨3, ![1, 4096, 8192]⟩
abbrev S4096x8192 : Shape := ⟨2, ![4096, 8192]⟩
abbrev S4096x8x1024 : Shape := ⟨3, ![4096, 8, 1024]⟩
abbrev S8x4096x1024 : Shape := ⟨3, ![8, 4096, 1024]⟩
abbrev S8x1024x1024 : Shape := ⟨3, ![8, 1024, 1024]⟩
abbrev S1x2048x1024 : Shape := ⟨3, ![1, 2048, 1024]⟩
abbrev S1x1024x1024 : Shape := ⟨3, ![1, 1024, 1024]⟩
abbrev S1024x1024 : Shape := ⟨2, ![1024, 1024]⟩
abbrev S2048x1024 : Shape := ⟨2, ![2048, 1024]⟩

abbrev nBuf : Space → Nat
  | .hbm => 8
  | .vmem => 7
  | .smem => 0
  | _ => 0

abbrev bufTy : (tb : Table) → Fin (tcTables nBuf tb) → BufTy
  | .hbm, ⟨0, _⟩ => ⟨S1x4096x1024, .f32⟩
  | .hbm, ⟨1, _⟩ => ⟨S1x4096x8192, .f32⟩
  | .hbm, ⟨2, _⟩ => ⟨S4096x8192, .f32⟩
  | .hbm, ⟨3, _⟩ => ⟨S4096x8x1024, .f32⟩
  | .hbm, ⟨4, _⟩ => ⟨S8x4096x1024, .f32⟩
  | .hbm, ⟨5, _⟩ => ⟨S8x4096x1024, .bf16⟩
  | .hbm, ⟨6, _⟩ => ⟨S1x4096x1024, .bf16⟩
  | .hbm, ⟨7, _⟩ => ⟨S8x1024x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 1, 8, 1, 2], ![false, false, false, false, false]⟩

def k0_cond3 (i : grid0.Coords) : BitVec 1 :=
  let arg4 : BitVec 32 := BitVec.ofNat 32 (i 4).val
  let c1_i32 : BitVec 32 := 1#32
  let v11 : BitVec 1 := Scalar.cmpi .eq arg4 c1_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg4.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c8_i32 : BitVec 32 := 8#32
  let v0 : BitVec 32 := Scalar.muli arg0 c8_i32
  let v1 : BitVec 32 := Scalar.addi v0 arg2
  let c0_i32 : BitVec 32 := 0#32
  ![v1.toNat, arg4.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c8_i32 : BitVec 32 := 8#32
  let v0 : BitVec 32 := Scalar.muli arg0 c8_i32
  let v1 : BitVec 32 := Scalar.addi v0 arg2
  let c0_i32 : BitVec 32 := 0#32
  ![v1.toNat, arg1.toNat, arg3.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true, false]
-- ==== GradReferenceIdeal.lean ====
abbrev S1x4096x1024 : Shape := ⟨3, ![1, 4096, 1024]⟩
abbrev S1x4096x8192 : Shape := ⟨3, ![1, 4096, 8192]⟩
abbrev S_ : Shape := ⟨0, ![]⟩
abbrev S1024x8192 : Shape := ⟨2, ![1024, 8192]⟩
abbrev S8192x1024 : Shape := ⟨2, ![8192, 1024]⟩
abbrev S1024x8x1024 : Shape := ⟨3, ![1024, 8, 1024]⟩
abbrev S8x1024x1024 : Shape := ⟨3, ![8, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x8192, .f32⟩
  | .hbm, ⟨2, _⟩ => ⟨S_, .f32⟩
  | .hbm, ⟨3, _⟩ => ⟨S1024x8192, .f32⟩
  | .hbm, ⟨4, _⟩ => ⟨S1x4096x8192, .f32⟩
  | .hbm, ⟨5, _⟩ => ⟨S8192x1024, .f32⟩
  | .hbm, ⟨6, _⟩ => ⟨S1024x8192, .f32⟩
  | .hbm, ⟨7, _⟩ => ⟨S1024x8x1024, .f32⟩
  | .hbm, ⟨8, _⟩ => ⟨S8x1024x1024, .f32⟩
  | .hbm, ⟨9, _⟩ => ⟨S8x1024x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== StepKernel.lean ====
abbrev S8x1024x1024 : Shape := ⟨3, ![8, 1024, 1024]⟩
abbrev S2x1024x1024 : Shape := ⟨3, ![2, 1024, 1024]⟩
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x1024, .bf16⟩
  | .hbm, ⟨1, _⟩ => ⟨S8x1024x1024, .bf16⟩
  | .hbm, ⟨2, _⟩ => ⟨S2x1024x1024, .f32⟩
  | .hbm, ⟨3, _⟩ => ⟨S2x1024x1024, .f32⟩
  | .hbm, ⟨4, _⟩ => ⟨S2x1024x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .hbm, ⟨8, _⟩ => ⟨S2x1024x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S8x256x1024, .bf16⟩
  | .local _ .vmem, ⟨3, _⟩ => ⟨S8x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S8x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepReferenceIdeal.lean ====
abbrev S8x1024x1024 : Shape := ⟨3, ![8, 1024, 1024]⟩
abbrev S2x1024x1024 : Shape := ⟨3, ![2, 1024, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x1024, .bf16⟩
  | .hbm, ⟨1, _⟩ => ⟨S8x1024x1024, .bf16⟩
  | .hbm, ⟨2, _⟩ => ⟨S2x1024x1024, .f32⟩
  | .hbm, ⟨3, _⟩ => ⟨S2x1024x1024, .f32⟩
  | .hbm, ⟨4, _⟩ => ⟨S2x1024x1024, .f32⟩
  | .hbm, ⟨5, _⟩ => ⟨S8x1024x1024, .f32⟩
  | .hbm, ⟨6, _⟩ => ⟨S_, .f32⟩
  | .hbm, ⟨7, _⟩ => ⟨S1024x1024, .f32⟩
  | .hbm, ⟨8, _⟩ => ⟨S8x1024x1024, .f32⟩
  | .hbm, ⟨9, _⟩ => ⟨S_, .f32⟩
  | .hbm, ⟨10, _⟩ => ⟨S1024x1024, .f32⟩
  | .hbm, ⟨11, _⟩ => ⟨S1x1024x1024, .f32⟩
  | .hbm, ⟨12, _⟩ => ⟨S1x1024x1024, .f32⟩
  | .hbm, ⟨13, _⟩ => ⟨S2x1024x1024, .f32⟩
  | .hbm, ⟨14, _⟩ => ⟨S_, .f32⟩
  | .hbm, ⟨15, _⟩ => ⟨S2x1024x1024, .f32⟩
  | .hbm, ⟨16, _⟩ => ⟨S2x1024x1024, .f32⟩
  | .hbm, ⟨17, _⟩ => ⟨S_, .f32⟩
  | .hbm, ⟨18, _⟩ => ⟨S2x1024x1024, .f32⟩
  | .hbm, ⟨19, _⟩ => ⟨S2x1024x1024, .f32⟩
  | .hbm, ⟨20, _⟩ => ⟨S2x1024x1024, .f32⟩
  | .hbm, ⟨21, _⟩ => ⟨S_, .f32⟩
  | .hbm, ⟨22, _⟩ => ⟨S2x1024x1024, .f32⟩
  | .hbm, ⟨23, _⟩ => ⟨S2x1024x1024, .f32⟩
  | .hbm, ⟨24, _⟩ => ⟨S2x1024x1024, .f32⟩
  | .hbm, ⟨25, _⟩ => ⟨S_, .f32⟩
  | .hbm, ⟨26, _⟩ => ⟨S2x1024x1024, .f32⟩
  | .hbm, ⟨27, _⟩ => ⟨S2x1024x1024, .f32⟩
  | .hbm, ⟨28, _⟩ => ⟨S2x1024x1024, .f32⟩
  | .hbm, ⟨29, _⟩ => ⟨S_, .f32⟩
  | .hbm, ⟨30, _⟩ => ⟨S2x1024x1024, .f32⟩
  | .hbm, ⟨31, _⟩ => ⟨S2x1024x1024, .f32⟩
  | .hbm, ⟨32, _⟩ => ⟨S_, .f32⟩
  | .hbm, ⟨33, _⟩ => ⟨S2x1024x1024, .f32⟩
  | .hbm, ⟨34, _⟩ => ⟨S2x1024x1024, .f32⟩
  | .hbm, ⟨35, _⟩ => ⟨S2x1024x1024, .f32⟩
  | .hbm, ⟨36, _⟩ => ⟨S_, .f32⟩
  | .hbm, ⟨37, _⟩ => ⟨S2x1024x1024, .f32⟩
  | .hbm, ⟨38, _⟩ => ⟨S2x1024x1024, .f32⟩
  | .hbm, ⟨39, _⟩ => ⟨S2x1024x1024, .f32⟩
  | .hbm, ⟨40, _⟩ => ⟨S_, .f32⟩
  | .hbm, ⟨41, _⟩ => ⟨S2x1024x1024, .f32⟩
  | .hbm, ⟨42, _⟩ => ⟨S2x1024x1024, .f32⟩
  | .hbm, ⟨43, _⟩ => ⟨S2x1024x1024, .f32⟩
  | .hbm, ⟨44, _⟩ => ⟨S_, .f32⟩
  | .hbm, ⟨45, _⟩ => ⟨S2x1024x1024, .f32⟩
  | .hbm, ⟨46, _⟩ => ⟨S2x1024x1024, .f32⟩
  | _, _ => ⟨S8x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== ConvKernel.lean ====
abbrev S68x64 : Shape := ⟨2, ![68, 64]⟩
abbrev S2x3x64 : Shape := ⟨3, ![2, 3, 64]⟩
abbrev S2x31x64 : Shape := ⟨3, ![2, 31, 64]⟩
abbrev S2x34x64 : Shape := ⟨3, ![2, 34, 64]⟩

abbrev nBuf : Space → Nat
  | .hbm => 16
  | .vmem => 7
  | .smem => 0
  | _ => 0

abbrev bufTy : (tb : Table) → Fin (tcTables nBuf tb) → BufTy
  | .hbm, ⟨0, _⟩ => ⟨S68x64, .f32⟩
  | .hbm, ⟨1, _⟩ => ⟨S2x3x64, .f32⟩
  | .hbm, ⟨2, _⟩ => ⟨S2x31x64, .f32⟩
  | .hbm, ⟨3, _⟩ => ⟨S2x3x64, .f32⟩
  | .hbm, ⟨4, _⟩ => ⟨S2x31x64, .f32⟩
  | .hbm, ⟨5, _⟩ => ⟨S2x3x64, .f32⟩
  | .hbm, ⟨6, _⟩ => ⟨S2x31x64, .f32⟩
  | .hbm, ⟨7, _⟩ => ⟨S2x34x64, .f32⟩
  | .hbm, ⟨8, _⟩ => ⟨S68x64, .f32⟩
  | .hbm, ⟨9, _⟩ => ⟨S2x34x64, .f32⟩
  | .hbm, ⟨10, _⟩ => ⟨S68x64, .f32⟩
  | .hbm, ⟨11, _⟩ => ⟨S2x34x64, .f32⟩
  | .hbm, ⟨12, _⟩ => ⟨S68x64, .f32⟩
  | .hbm, ⟨13, _⟩ => ⟨S68x64, .f32⟩
  | .hbm, ⟨14, _⟩ => ⟨S68x64, .f32⟩
  | .hbm, ⟨15, _⟩ => ⟨S68x64, .f32⟩
  | .local _ .vmem, ⟨0, _⟩ => ⟨S68x64, .f32⟩
  | .local _ .vmem, ⟨1, _⟩ => ⟨S68x64, .f32⟩
  | .local _ .vmem, ⟨2, _⟩ => ⟨S68x64, .f32⟩
  | .local _ .vmem, ⟨3, _⟩ => ⟨S68x64, .f32⟩
  | .local _ .vmem, ⟨4, _⟩ => ⟨S68x64, .f32⟩
  | .local _ .vmem, ⟨5, _⟩ => ⟨S68x64, .f32⟩
  | .local _ .vmem, ⟨6, _⟩ => ⟨S68x64, .f32⟩
  | _, _ => ⟨S68x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S68x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S68x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S68x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S68x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S68x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S68x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S68x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ConvReferenceIdeal.lean ====
abbrev S68x64 : Shape := ⟨2, ![68, 64]⟩
abbrev S2x3x64 : Shape := ⟨3, ![2, 3, 64]⟩
abbrev S2x31x64 : Shape := ⟨3, ![2, 31, 64]⟩
abbrev S2x34x64 : Shape := ⟨3, ![2, 34, 64]⟩
abbrev S_ : Shape := ⟨0, ![]⟩

abbrev nBuf : Space → Nat
  | .hbm => 82
  | .vmem => 0
  | .smem => 0
  | _ => 0

abbrev bufTy : (tb : Table) → Fin (tcTables nBuf tb) → BufTy
  | .hbm, ⟨0, _⟩ => ⟨S68x64, .f32⟩
  | .hbm, ⟨1, _⟩ => ⟨S2x3x64, .f32⟩
  | .hbm, ⟨2, _⟩ => ⟨S2x31x64, .f32⟩
  | .hbm, ⟨3, _⟩ => ⟨S2x3x64, .f32⟩
  | .hbm, ⟨4, _⟩ => ⟨S2x31x64, .f32⟩
  | .hbm, ⟨5, _⟩ => ⟨S2x3x64, .f32⟩
  | .hbm, ⟨6, _⟩ => ⟨S2x31x64, .f32⟩
  | .hbm, ⟨7, _⟩ => ⟨S2x34x64, .f32⟩
  | .hbm, ⟨8, _⟩ => ⟨S2x3x64, .f32⟩
  | .hbm, ⟨9, _⟩ => ⟨S_, .f32⟩
  | .hbm, ⟨10, _⟩ => ⟨S2x3x64, .f32⟩
  | .hbm, ⟨11, _⟩ => ⟨S2x3x64, .f32⟩
  | .hbm, ⟨12, _⟩ => ⟨S_, .f32⟩
  | .hbm, ⟨13, _⟩ => ⟨S2x3x64, .f32⟩
  | .hbm, ⟨14, _⟩ => ⟨S2x3x64, .f32⟩
  | .hbm, ⟨15, _⟩ => ⟨S2x3x64, .f32⟩
  | .hbm, ⟨16, _⟩ => ⟨S_, .f32⟩
  | .hbm, ⟨17, _⟩ => ⟨S2x3x64, .f32⟩
  | .hbm, ⟨18, _⟩ => ⟨S2x3x64, .f32⟩
  | .hbm, ⟨19, _⟩ => ⟨S2x3x64, .f32⟩
  | .hbm, ⟨20, _⟩ => ⟨S_, .f32⟩
  | .hbm, ⟨21, _⟩ => ⟨S2x3x64, .f32⟩
  | .hbm, ⟨22, _⟩ => ⟨S2x3x64, .f32⟩
  | .hbm, ⟨23, _⟩ => ⟨S2x3x64, .f32⟩
  | .hbm, ⟨24, _⟩ => ⟨S_, .f32⟩
  | .hbm, ⟨25, _⟩ => ⟨S2x3x64, .f32⟩
  | .hbm, ⟨26, _⟩ => ⟨S2x3x64, .f32⟩
  | .hbm, ⟨27, _⟩ => ⟨S_, .f32⟩
  | .hbm, ⟨28, _⟩ => ⟨S2x3x64, .f32⟩
  | .hbm, ⟨29, _⟩ => ⟨S2x3x64, .f32⟩
  | .hbm, ⟨30, _⟩ => ⟨S2x3x64, .f32⟩
  | .hbm, ⟨31, _⟩ => ⟨S_, .f32⟩
  | .hbm, ⟨32, _⟩ => ⟨S2x3x64, .f32⟩
  | .hbm, ⟨33, _⟩ => ⟨S2x3x64, .f32⟩
  | .hbm, ⟨34, _⟩ => ⟨S2x3x64, .f32⟩
  | .hbm, ⟨35, _⟩ => ⟨S_, .f32⟩
  | .hbm, ⟨36, _⟩ => ⟨S2x3x64, .f32⟩
  | .hbm, ⟨37, _⟩ => ⟨S2x3x64, .f32⟩
  | .hbm, ⟨38, _⟩ => ⟨S2x3x64, .f32⟩
  | .hbm, ⟨39, _⟩ => ⟨S_, .f32⟩
  | .hbm, ⟨40, _⟩ => ⟨S2x3x64, .f32⟩
  | .hbm, ⟨41, _⟩ => ⟨S2x3x64, .f32⟩
  | .hbm, ⟨42, _⟩ => ⟨S2x31x64, .f32⟩
  | .hbm, ⟨43, _⟩ => ⟨S_, .f32⟩
  | .hbm, ⟨44, _⟩ => ⟨S2x31x64, .f32⟩
  | .hbm, ⟨45, _⟩ => ⟨S2x31x64, .f32⟩
  | .hbm, ⟨46, _⟩ => ⟨S_, .f32⟩
  | .hbm, ⟨47, _⟩ => ⟨S2x31x64, .f32⟩
  | .hbm, ⟨48, _⟩ => ⟨S2x31x64, .f32⟩
  | .hbm, ⟨49, _⟩ => ⟨S2x31x64, .f32⟩
  | .hbm, ⟨50, _⟩ => ⟨S_, .f32⟩
  | .hbm, ⟨51, _⟩ => ⟨S2x31x64, .f32⟩
  | .hbm, ⟨52, _⟩ => ⟨S2x31x64, .f32⟩
  | .hbm, ⟨53, _⟩ => ⟨S2x31x64, .f32⟩
  | .hbm, ⟨54, _⟩ => ⟨S_, .f32⟩
  | .hbm, ⟨55, _⟩ => ⟨S2x31x64, .f32⟩
  | .hbm, ⟨56, _⟩ => ⟨S2x31x64, .f32⟩
  | .hbm, ⟨57, _⟩ => ⟨S2x31x64, .f32⟩
  | .hbm, ⟨58, _⟩ => ⟨S_, .f32⟩
  | .hbm, ⟨59, _⟩ => ⟨S2x31x64, .f32⟩
  | .hbm, ⟨60, _⟩ => ⟨S2x31x64, .f32⟩
  | .hbm, ⟨61, _⟩ => ⟨S_, .f32⟩
  | .hbm, ⟨62, _⟩ => ⟨S2x31x64, .f32⟩
  | .hbm, ⟨63, _⟩ => ⟨S2x31x64, .f32⟩
  | .hbm, ⟨64, _⟩ => ⟨S2x31x64, .f32⟩
  | .hbm, ⟨65, _⟩ => ⟨S_, .f32⟩
  | .hbm, ⟨66, _⟩ => ⟨S2x31x64, .f32⟩
  | .hbm, ⟨67, _⟩ => ⟨S2x31x64, .f32⟩
  | .hbm, ⟨68, _⟩ => ⟨S2x31x64, .f32⟩
  | .hbm, ⟨69, _⟩ => ⟨S_, .f32⟩
  | .hbm, ⟨70, _⟩ => ⟨S2x31x64, .f32⟩
  | .hbm, ⟨71, _⟩ => ⟨S2x31x64, .f32⟩
  | .hbm, ⟨72, _⟩ => ⟨S2x31x64, .f32⟩
  | .hbm, ⟨73, _⟩ => ⟨S_, .f32⟩
  | .hbm, ⟨74, _⟩ => ⟨S2x31x64, .f32⟩
  | .hbm, ⟨75, _⟩ => ⟨S2x31x64, .f32⟩
  | .hbm, ⟨76, _⟩ => ⟨S2x34x64, .f32⟩
  | .hbm, ⟨77, _⟩ => ⟨S68x64, .f32⟩
  | .hbm, ⟨78, _⟩ => ⟨S2x34x64, .f32⟩
  | .hbm, ⟨79, _⟩ => ⟨S68x64, .f32⟩
  | .hbm, ⟨80, _⟩ => ⟨S2x34x64, .f32⟩
  | .hbm, ⟨81, _⟩ => ⟨S68x64, .f32⟩
  | _, _ => ⟨S68x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_12 : Ref sig .tc := ⟨.hbm, 58, rfl⟩
abbrev main_v38 : Ref sig .tc := ⟨.hbm, 59, rfl⟩
abbrev main_v39 : Ref sig .tc := ⟨.hbm, 60, rfl⟩
abbrev main_cst_13 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_14 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_15 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_16 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]
-- ==== Proof.Norm.lean ====
module

public import Idealize.ShloMosaic.Lib.Pipeline.ValueKit
public import Idealize.ShloMosaic.PureOps.Ideal.Laws

@[expose] public section

set_option maxRecDepth 16384

noncomputable section

open Idealize.ShloMosaic

/-! The mathematics of a root-mean-square norm's gradient over the extended reals. No entry needs to be
    finite: a row whose mean square is `⊤` has the scale `0` on both sides. -/

namespace Cert.Norm

/-! ## Constants -/

/-- The word of `1024`. -/
theorem word_1024 : Ideal.ofBits .f32 0x44800000#32 = ((1024 : ℝ) : EReal) := by
  simp [Ideal.ofBits, Ideal.ieee]; rw [← EReal.coe_mul]; norm_num

/-- The word of the norm's `1e-6`, a positive dyadic. -/
theorem word_eps : ∃ e : ℝ, 0 < e ∧ Ideal.ofBits .f32 0x358637BD#32 = (e : EReal) := by
  refine ⟨8796093 / 2 ^ 43, by positivity, ?_⟩
  simp [Ideal.ofBits, Ideal.ieee]; rw [← EReal.coe_mul]; norm_num

/-- The word of `-1/2`. -/
theorem word_neg_half : Ideal.ofBits .f32 0xBF000000#32 = ((-(1 / 2) : ℝ) : EReal) := by
  simp [Ideal.ofBits, Ideal.ieee]; rw [← EReal.coe_mul]; norm_num

/-! ## Real factors -/

/-- A nonnegative real factor on the right leaves a sum of extended reals. -/
theorem sum_mul_coe {ι : Type*} (s : Finset ι) (f : ι → EReal) {r : ℝ} (hr : 0 ≤ r) :
    ∑ k ∈ s, f k * (r : EReal) = (∑ k ∈ s, f k) * (r : EReal) := by
  classical
  induction s using Finset.induction_on with
  | empty => simp
  | insert a s ha ih =>
    rw [Finset.sum_insert ha, Finset.sum_insert ha, ih,
      EReal.right_distrib_of_nonneg_of_ne_top (EReal.coe_nonneg.mpr hr) (EReal.coe_ne_top r)]

/-- … and on the left. -/
theorem sum_coe_mul {ι : Type*} (s : Finset ι) (f : ι → EReal) {r : ℝ} (hr : 0 ≤ r) :
    ∑ k ∈ s, (r : EReal) * f k = (r : EReal) * ∑ k ∈ s, f k := by
  simp only [mul_comm (r : EReal)]
  exact sum_mul_coe s f hr

/-- A number added to itself is twice the number. -/
theorem add_self_eq (y : EReal) : y + y = ((2 : ℝ) : EReal) * y := by
  have h : ((2 : ℝ) : EReal) = 1 + 1 := by norm_cast
  rw [h, EReal.right_distrib_of_nonneg zero_le_one zero_le_one, one_mul]

/-! ## The scale of a row -/

/-- The mean square of a row of `1024`, plus the norm's constant. -/
def ms (x : Fin 1024 → EReal) : EReal :=
  Ideal.div (∑ k, x k * x k) (Ideal.ofBits .f32 0x44800000#32) + Ideal.ofBits .f32 0x358637BD#32

/-- The scale of a row: one over the root of `ms`. -/
def rinv (x : Fin 1024 → EReal) : EReal := Ideal.rsqrt (ms x)

theorem div_1024 (y : EReal) : Ideal.div y (Ideal.ofBits .f32 0x44800000#32) = y * ((1 / 1024 : ℝ) : EReal) := by
  rw [word_1024, Ideal.div_coe (by norm_num)]

theorem mul_self_nonneg' (y : EReal) : 0 ≤ y * y := by
  rcases le_total 0 y with h | h
  · exact mul_nonneg h h
  · rw [← neg_mul_neg]; exact mul_nonneg (EReal.neg_nonneg.mpr h) (EReal.neg_nonneg.mpr h)

/-- `ms` is `⊤` or a positive real. -/
theorem ms_cases (x : Fin 1024 → EReal) : ms x = ⊤ ∨ ∃ v : ℝ, 0 < v ∧ ms x = (v : EReal) := by
  obtain ⟨e, he, hw⟩ := word_eps
  have h0 : 0 ≤ (∑ k, x k * x k) * ((1 / 1024 : ℝ) : EReal) :=
    mul_nonneg (Finset.sum_nonneg fun k _ => mul_self_nonneg' _) (EReal.coe_nonneg.mpr (by norm_num))
  unfold ms
  rw [div_1024, hw]
  generalize (∑ k, x k * x k) * ((1 / 1024 : ℝ) : EReal) = y at h0 ⊢
  induction y with
  | bot => simp at h0
  | top => left; exact EReal.top_add_coe e
  | coe a =>
    right
    have : 0 ≤ a := by exact_mod_cast h0
    exact ⟨a + e, by linarith, by norm_cast⟩

/-- The reciprocal root is a real number, whatever the row. -/
theorem rinv_real (x : Fin 1024 → EReal) : ∃ r : ℝ, rinv x = (r : EReal) := by
  rcases ms_cases x with h | ⟨v, hv, h⟩
  · exact ⟨0, by rw [rinv, h]; rfl⟩
  · exact ⟨(Real.sqrt v)⁻¹, by rw [rinv, h, Ideal.rsqrt_coe, if_neg hv.le.not_gt, if_neg hv.ne']⟩

/-- GRADIENT: what a kernel computes from the normalised row, `r (d − x r · mean (d · x r))`, is the three-term
    derivative of `x ↦ x · rsqrt (mean x² + ε)` against `d`. -/
theorem grad (x d : Fin 1024 → EReal) (q : Fin 1024) :
    rinv x * (d q - x q * rinv x * Ideal.div (∑ k, d k * (x k * rinv x)) (Ideal.ofBits .f32 0x44800000#32))
      = d q * rinv x
        + x q * Ideal.div ((∑ k, x k * d k) * (Ideal.ofBits .f32 0xBF000000#32 * Ideal.div (rinv x) (ms x))) (Ideal.ofBits .f32 0x44800000#32)
        + Ideal.div ((∑ k, x k * d k) * (Ideal.ofBits .f32 0xBF000000#32 * Ideal.div (rinv x) (ms x))) (Ideal.ofBits .f32 0x44800000#32) * x q := by
  rcases ms_cases x with h | ⟨v, hv, h⟩
  · have hi : rinv x = 0 := by unfold rinv; rw [h]; rfl
    have hd : Ideal.div 0 ⊤ = 0 := by simp [Ideal.div]
    rw [hi, h, hd]
    simp [div_1024]
  · set r : ℝ := (Real.sqrt v)⁻¹ with hr
    have hr0 : 0 < r := by positivity
    have hrr : r / v = r * r * r := by
      have : r * r = v⁻¹ := by rw [hr, ← mul_inv, Real.mul_self_sqrt hv.le]
      rw [mul_assoc, mul_comm, this]; field_simp
    have hi : rinv x = (r : EReal) := by
      unfold rinv; rw [h, Ideal.rsqrt_coe, if_neg hv.le.not_gt, if_neg hv.ne']
    have hs : ∑ k, d k * (x k * (r : EReal)) = (∑ k, x k * d k) * (r : EReal) := by
      rw [← sum_mul_coe _ _ hr0.le]
      exact Finset.sum_congr rfl fun k _ => by ac_rfl
    have hd : Ideal.div (r : EReal) (v : EReal) = ((r * r * r : ℝ) : EReal) := by
      rw [Ideal.div_coe hv.ne', ← hrr, ← EReal.coe_mul, div_eq_mul_inv, one_mul, div_eq_mul_inv]
    rw [hi, h, hs, hd, div_1024, div_1024, word_neg_half]
    generalize ∑ k, x k * d k = S
    generalize x q = X
    generalize d q = D
    rw [mul_comm _ X, add_assoc, add_self_eq, sub_eq_add_neg,
      EReal.left_distrib_of_nonneg_of_ne_top (EReal.coe_nonneg.mpr hr0.le) (EReal.coe_ne_top r), mul_comm (r : EReal) D]
    congr 1
    have e1 : X * (r : EReal) * (S * (r : EReal) * ((1 / 1024 : ℝ) : EReal))
        = ((r * r * (1 / 1024) : ℝ) : EReal) * (X * S) := by
      push_cast; ac_rfl
    have e2 : ((2 : ℝ) : EReal) * (X * (S * (((-(1 / 2) : ℝ) : EReal) * ((r * r * r : ℝ) : EReal)) * ((1 / 1024 : ℝ) : EReal)))
        = ((2 * (-(1 / 2)) * (r * r * r) * (1 / 1024) : ℝ) : EReal) * (X * S) := by
      rw [EReal.coe_mul (2 * (-(1 / 2)) * (r * r * r)), EReal.coe_mul (2 * (-(1 / 2))), EReal.coe_mul 2]; ac_rfl
    rw [e1, e2, ← neg_mul, ← mul_assoc, ← EReal.coe_neg, ← EReal.coe_mul]
    congr 2; ring

/-! ## Host sums along axes of size one -/

theorem hostReduceAdd_r3_a02 {n : ℕ} (h : (⟨3, ![1, n, 1]⟩ : Shape).ReducesTo [0, 2] ⟨1, ![n]⟩)
    (v : (⟨3, ![1, n, 1]⟩ : Shape).Idx → EReal) (init : EReal) (j : Fin n) :
    Ideal.hostReduceAdd h v init (ix1 j) = init + v (ix3 0 j 0) := by
  unfold Ideal.hostReduceAdd
  congr 1
  refine (Finset.sum_eq_single (ix3 0 j 0) (fun i hi hne => absurd ?_ hne) fun hn => absurd ?_ hn).trans rfl
  · have e := (Finset.mem_filter.mp hi).2
    funext a; apply Fin.ext
    match a with
    | ⟨0, _⟩ => exact Nat.lt_one_iff.mp (i 0).isLt
    | ⟨1, _⟩ => exact congrArg Fin.val (congrFun e 0)
    | ⟨2, _⟩ => exact Nat.lt_one_iff.mp (i 2).isLt
  · refine Finset.mem_filter.mpr ⟨Finset.mem_univ _, ?_⟩
    funext b; apply Fin.ext
    match b with
    | ⟨0, _⟩ => rfl

theorem hostReduceAdd_r3_a01 {n : ℕ} (h : (⟨3, ![1, 1, n]⟩ : Shape).ReducesTo [0, 1] ⟨1, ![n]⟩)
    (v : (⟨3, ![1, 1, n]⟩ : Shape).Idx → EReal) (init : EReal) (j : Fin n) :
    Ideal.hostReduceAdd h v init (ix1 j) = init + v (ix3 0 0 j) := by
  unfold Ideal.hostReduceAdd
  congr 1
  refine (Finset.sum_eq_single (ix3 0 0 j) (fun i hi hne => absurd ?_ hne) fun hn => absurd ?_ hn).trans rfl
  · have e := (Finset.mem_filter.mp hi).2
    funext a; apply Fin.ext
    match a with
    | ⟨0, _⟩ => exact Nat.lt_one_iff.mp (i 0).isLt
    | ⟨1, _⟩ => exact Nat.lt_one_iff.mp (i 1).isLt
    | ⟨2, _⟩ => exact congrArg Fin.val (congrFun e 0)
  · refine Finset.mem_filter.mpr ⟨Finset.mem_univ _, ?_⟩
    funext b; apply Fin.ext
    match b with
    | ⟨0, _⟩ => rfl

end Cert.Norm

end
-- ==== Proof.Loss.lean ====
module

public import proofs.«01_k».proof.Proof.Gen.LossKernelIdeal.Value
public import proofs.«01_k».proof.Proof.Gen.LossReferenceIdeal.Read
public import proofs.«01_k».proof.Defs
public import proofs.«01_k».proof.Proof.Norm
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Norm (ms rinv)

/-! ## The loss head, row by row -/

namespace Cert.Loss

/-- The error of a row: the normalised row under the gain, minus the target. -/
def err (x g t : Fin 1024 → EReal) (k : Fin 1024) : EReal := x k * rinv x * g k - t k

/-- The gradient of the half mean squared error with respect to the normalised row's output. -/
def dy (x g t : Fin 1024 → EReal) (k : Fin 1024) : EReal := err x g t k * Ideal.ofBits .f32 0x3A800000#32

/-- The loss of a row before the factor one half. -/
def row (x g t : Fin 1024 → EReal) : EReal :=
  Ideal.div (∑ k, err x g t k * err x g t k) (Ideal.ofBits .f32 0x44800000#32)

/-- The gradient of the loss with respect to the row. -/
def dx (x g t : Fin 1024 → EReal) (q : Fin 1024) : EReal :=
  rinv x * (dy x g t q * g q - x q * rinv x * Ideal.div (∑ k, dy x g t k * g k * (x k * rinv x)) (Ideal.ofBits .f32 0x44800000#32))

theorem word_half : Ideal.ofBits .f32 0x3F000000#32 = ((1 / 2 : ℝ) : EReal) := by
  simp [Ideal.ofBits, Ideal.ieee]; rw [← EReal.coe_mul]; norm_num

theorem word_two : Ideal.ofBits .f32 0x40000000#32 = ((2 : ℝ) : EReal) := by
  simp [Ideal.ofBits, Ideal.ieee]; rw [← EReal.coe_mul]; norm_num

theorem word_inv_1024 : Ideal.ofBits .f32 0x3A800000#32 = ((1 / 1024 : ℝ) : EReal) := by
  simp [Ideal.ofBits, Ideal.ieee]; rw [← EReal.coe_mul]; norm_num

/-- The derivative's factors, a half over the row's length and two, are the one factor of `dy`. -/
theorem dy_eq (e : EReal) :
    Ideal.div (Ideal.ofBits .f32 0x3F000000#32) (Ideal.ofBits .f32 0x44800000#32) * (Ideal.ofBits .f32 0x40000000#32 * e)
      = e * Ideal.ofBits .f32 0x3A800000#32 := by
  rw [Cert.Norm.div_1024, word_half, word_two, word_inv_1024, ← mul_assoc, ← EReal.coe_mul, ← EReal.coe_mul, mul_comm]
  norm_num

end Cert.Loss

/-! ## The reference's results -/

namespace Cert.LossReferenceIdeal.Out

open Cert.LossReferenceIdeal Cert.LossReferenceIdeal.Gen Cert.LossReferenceIdeal.Read

variable (x0 : (⟨S1x4096x1024, .f32⟩ : BufTy).Contents (Elt Ideal)) (x1 : (⟨S1024, .f32⟩ : BufTy).Contents (Elt Ideal))
  (x2 : (⟨S1x4096x1024, .f32⟩ : BufTy).Contents (Elt Ideal))

theorem v6 (s) : val_main_v6 x0 (ix3 0 s 0) = ms (fun k => x0 (ix3 0 s k)) := by
  pointwise [val_main_v6, val_main_v5, val_main_v4, val_main_v3, val_main_v2, val_main_v1, val_main_v0, val_main_cst,
    val_main_cst_0, val_main_cst_1, ms]

theorem v7 (s) : val_main_v7 x0 (ix3 0 s 0) = rinv (fun k => x0 (ix3 0 s k)) := by
  pointwise [val_main_v7, v6, rinv]

theorem v16 (s : Fin 4096) (q : Fin 1024) : val_main_v16 x0 x1 x2 (ix3 0 s q)
    = Loss.err (fun k => x0 (ix3 0 s k)) (fun k => x1 (ix1 k)) (fun k => x2 (ix3 0 s k)) q := by
  pointwise [val_main_v16, val_main_v15, val_main_v14, val_main_v13, val_main_v12, val_main_v11, v7, Loss.err]

theorem v30 (s : Fin 4096) (q : Fin 1024) : val_main_v30 x0 x1 x2 (ix3 0 s q)
    = Loss.dy (fun k => x0 (ix3 0 s k)) (fun k => x1 (ix1 k)) (fun k => x2 (ix3 0 s k)) q := by
  pointwise [val_main_v30, val_main_v29, val_main_v28, val_main_v19, val_main_v18, v16, val_main_v26, val_main_v25,
    val_main_cst_8, val_main_cst_9, val_main_cst_10, val_main_v27, val_main_cst_3]
  exact Loss.dy_eq _

theorem v35 (s : Fin 4096) (q : Fin 1024) : val_main_v35 x0 x1 x2 (ix3 0 s q)
    = Loss.dy (fun k => x0 (ix3 0 s k)) (fun k => x1 (ix1 k)) (fun k => x2 (ix3 0 s k)) q * x1 (ix1 q) := by
  pointwise [val_main_v35, val_main_v34, v30, val_main_v13]

theorem loss (a : Fin 8) (b : Fin 128) : val_main_v52 x0 x1 x2 (ix2 a b) = Ideal.ofBits .f32 0x3F000000#32
    * ∑ s, Loss.row (fun k => x0 (ix3 0 s k)) (fun k => x1 (ix1 k)) (fun k => x2 (ix3 0 s k)) := by
  pointwise [val_main_v52, val_main_v24, val_main_v23, val_main_v22, val_main_v21, val_main_v20, val_main_v17, v16,
    val_main_cst_7, val_main_cst_6, val_main_cst_5, val_main_cst_4, Loss.row]
  simp

theorem dx (s : Fin 4096) (q : Fin 1024) : val_main_v53 x0 x1 x2 (ix2 s q)
    = Loss.dx (fun k => x0 (ix3 0 s k)) (fun k => x1 (ix1 k)) (fun k => x2 (ix3 0 s k)) q := by
  pointwise [val_main_v53, val_main_v51, val_main_v50, val_main_v49, val_main_v48, val_main_v47, val_main_v46, val_main_v45,
    val_main_v44, val_main_v41, val_main_v40, v7, val_main_v42, val_main_v10, val_main_v9, val_main_v8, v6, val_main_v43,
    val_main_cst_14, val_main_cst_15, val_main_v39, val_main_v38, val_main_v37, v35, Cert.Norm.hostReduceAdd_r3_a02,
    val_main_cst_13, val_main_cst_2]
  exact (Cert.Norm.grad _ (fun k => Loss.dy _ _ _ k * x1 (ix1 k)) q).symm

theorem dg (q : Fin 1024) : val_main_v54 x0 x1 x2 (ix2 0 q) = ∑ s : Fin 4096,
    Loss.dy (fun k => x0 (ix3 0 s k)) (fun k => x1 (ix1 k)) (fun k => x2 (ix3 0 s k)) q
      * (x0 (ix3 0 s q) * rinv (fun k => x0 (ix3 0 s k))) := by
  pointwise [val_main_v54, val_main_v36, val_main_v33, val_main_v32, val_main_v31, v30, val_main_v12, val_main_v11, v7,
    Cert.Norm.hostReduceAdd_r3_a01, val_main_cst_12, val_main_cst_11]
  exact Finset.sum_congr rfl fun s _ => mul_comm _ _

end Cert.LossReferenceIdeal.Out

/-! ## The kernel's results -/

namespace Cert.LossKernelIdeal.Out

open Cert.LossKernelIdeal Cert.LossKernelIdeal.Gen

section Body

variable (v0 : Vec Ideal S512x1024 .f32) (v12 : Vec Ideal S1x1024 .f32) (v16 : Vec Ideal S512x1024 .f32)

theorem pay_dx (p : Fin 512) (q : Fin 1024) :
    k0_pay1 (k0_pay7 v0) (k0_pay12 v0 v12 v16 v12) (k0_pay13 v0 v12 v16 v12) (ix2 p q)
      = Loss.dx (fun k => v0 (ix2 p k)) (fun k => v12 (ix2 0 k)) (fun k => v16 (ix2 p k)) q := by
  pointwise [k0_pay1, k0_pay7, k0_pay12, k0_pay13, k0_pay6, k0_pay11, k0_pay9, k0_pay8, Loss.dx, Loss.dy, Loss.err, rinv, ms]

theorem pay_dg (q : Fin 1024) : k0_pay2 (k0_pay8 v0) (k0_pay11 v0 v12 v16) (ix2 0 q)
    = ∑ p : Fin 512, Loss.dy (fun k => v0 (ix2 p k)) (fun k => v12 (ix2 0 k)) (fun k => v16 (ix2 p k)) q
        * (v0 (ix2 p q) * rinv (fun k => v0 (ix2 p k))) := by
  pointwise [k0_pay2, k0_pay8, k0_pay11, k0_pay6, k0_pay9, k0_pay7, Loss.dy, Loss.err, rinv, ms]

theorem pay_loss (a : Fin 8) (b : Fin 128) : k0_pay3 (k0_pay10 v0 v12 v16) (ix2 a b)
    = Ideal.ofBits .f32 0x3F000000#32
      * ∑ p : Fin 512, Loss.row (fun k => v0 (ix2 p k)) (fun k => v12 (ix2 0 k)) (fun k => v16 (ix2 p k)) := by
  pointwise [k0_pay3, k0_pay10, k0_pay9, k0_pay6, k0_pay8, k0_pay7, Loss.row, Loss.err, rinv, ms]

end Body

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

/-- The arguments by coordinates. -/
abbrev X (c : Dev nD) (s : Fin 4096) (k : Fin 1024) : EReal := m ((c : Thread nD τ).loc main_arg0) (ix3 0 s k)
abbrev G (c : Dev nD) (k : Fin 1024) : EReal := m ((c : Thread nD τ).loc main_arg1) (ix1 k)
abbrev T (c : Dev nD) (s : Fin 4096) (k : Fin 1024) : EReal := m ((c : Thread nD τ).loc main_arg2) (ix3 0 s k)

/-- The row of the array that row `p` of point `t`'s block is. -/
abbrev at_ (t : Fin cfg0.N) (p : Fin 512) : Fin 4096 :=
  ⟨t.val * 512 + p.val, by have := lt_of_lt_of_eq t.isLt N_0; have := p.isLt; omega⟩

theorem blk_x (c : Dev nD) (t : Fin cfg0.N) (p : Fin 512) :
    (fun k : Fin 1024 => (iblk m c 0 t : Vec Ideal S512x1024 .f32) (ix2 p k)) = X m c (at_ t p) := by
  funext k
  blk_point [iblk, V, idx t]

theorem blk_g (c : Dev nD) (t : Fin cfg0.N) :
    (fun k : Fin 1024 => (iblk m c 1 t : Vec Ideal S1x1024 .f32) (ix2 0 k)) = G m c := by
  funext k
  blk_point [iblk, V, idx t]

theorem blk_t (c : Dev nD) (t : Fin cfg0.N) (p : Fin 512) :
    (fun k : Fin 1024 => (iblk m c 2 t : Vec Ideal S512x1024 .f32) (ix2 p k)) = T m c (at_ t p) := by
  funext k
  blk_point [iblk, V, idx t]

/-- The row-wise gradient a point stores, over the arguments. -/
theorem point_dx (c : Dev nD) (t : Fin cfg0.N) (y : S512x1024.Idx) :
    k0_pay1 (k0_pay7 (iblk m c 0 t)) (k0_pay12 (iblk m c 0 t) (iblk m c 1 t) (iblk m c 2 t) (iblk m c 1 t))
      (k0_pay13 (iblk m c 0 t) (iblk m c 1 t) (iblk m c 2 t) (iblk m c 1 t)) y
      = (fun i : S4096x1024.Idx => Loss.dx (X m c (i 0)) (G m c) (T m c (i 0)) (i 1)) (((cfg0.win 4).blk t).view.emb y) := by
  obtain ⟨p, q, rfl⟩ : ∃ p q, y = ix2 p q := ⟨y 0, y 1, by blk_ext⟩
  refine (pay_dx _ _ _ p q).trans ?_
  rw [blk_x, blk_g, blk_t]
  rw [show ((cfg0.win 4).blk t).view.emb (ix2 p q) = (ix2 (at_ t p) q : S4096x1024.Idx) from by blk_ext [idx t]]
  rfl

/-- What a point adds to the gain's gradient. -/
theorem point_dg (c : Dev nD) (t : Fin cfg0.N) (j : S1x1024.Idx) :
    k0_pay2 (k0_pay8 (iblk m c 0 t)) (k0_pay11 (iblk m c 0 t) (iblk m c 1 t) (iblk m c 2 t)) j
      = ∑ p : Fin 512, Loss.dy (X m c (at_ t p)) (G m c) (T m c (at_ t p)) (j 1)
          * (X m c (at_ t p) (j 1) * rinv (X m c (at_ t p))) := by
  obtain ⟨p, q, rfl⟩ : ∃ p q, j = ix2 p q := ⟨j 0, j 1, by blk_ext⟩
  obtain rfl : p = 0 := Subsingleton.elim _ _
  refine (pay_dg _ _ _ q).trans (Finset.sum_congr rfl fun p _ => ?_)
  rw [blk_x, blk_g, blk_t]
  exact congrArg (fun f : Fin 1024 → EReal => _ * (f q * _)) (blk_x m c t p)

/-- What a point adds to the loss. -/
theorem point_loss (c : Dev nD) (t : Fin cfg0.N) (j : S8x128.Idx) :
    k0_pay3 (k0_pay10 (iblk m c 0 t) (iblk m c 1 t) (iblk m c 2 t)) j
      = Ideal.ofBits .f32 0x3F000000#32 * ∑ p : Fin 512, Loss.row (X m c (at_ t p)) (G m c) (T m c (at_ t p)) := by
  obtain ⟨p, q, rfl⟩ : ∃ p q, j = ix2 p q := ⟨j 0, j 1, by blk_ext⟩
  refine (pay_loss _ _ _ p q).trans (congrArg _ (Finset.sum_congr rfl fun p _ => ?_))
  rw [blk_x, blk_g, blk_t]

theorem final_dx (c : Dev nD) : (dats m 0 c).arrAt 4 (cfgs 0).N
    = fun i : S4096x1024.Idx => Loss.dx (X m c (i 0)) (G m c) (T m c (i 0)) (i 1) := by
  refine (dats m 0 c).arrAt_eq_of_covers 4 _ (by decide +kernel) fun t hf y => ?_
  blk_simp
  rw [after0_4]
  by_cases h : t.val % 8 = 0
  · rw [outsAt0_A m c t h (by have := lt_of_lt_of_eq t.isLt N_0; omega)]
    frame_out
    exact point_dx m c t y
  · rw [outsAt0_B m c t h (by omega)]
    frame_out
    exact point_dx m c t y

/-- The rows of the points of the one run, in order, are the rows of the array. -/
theorem at_run (t : Fin cfg0.N) (s : Fin 8) (k : Fin 512) (hl : s.val * 512 + k.val < 4096) {h : 8 * (t.val / 8) + s.val < cfg0.N} :
    at_ ⟨8 * (t.val / 8) + s.val, h⟩ k = ⟨s.val * 512 + k.val, hl⟩ :=
  Fin.ext (by have := lt_of_lt_of_eq t.isLt N_0; show (8 * (t.val / 8) + s.val) * 512 + k.val = s.val * 512 + k.val; omega)

theorem final_dg (c : Dev nD) : (dats m 0 c).arrAt 5 (cfgs 0).N
    = fun i : S1x1024.Idx => ∑ s, Loss.dy (X m c s) (G m c) (T m c s) (i 1) * (X m c s (i 1) * rinv (X m c s)) := by
  refine (dats m 0 c).arrAt_eq_of_covers 5 _ (by decide +kernel) fun t hf y => ?_
  blk_simp
  rw [after0_5, Pipeline.eq_sum_fin_of_reset_step_apply_of_flush (fun n h => (outsAt0 m c n h).2.2) 8 (fun _ => 0)
    (fun t j => ∑ p : Fin 512, Loss.dy (X m c (at_ t p)) (G m c) (T m c (at_ t p)) (j 1)
          * (X m c (at_ t p) (j 1) * rinv (X m c (at_ t p))))
    (fun t h j => by
      rw [outsAt0_A m c t h (by have := lt_of_lt_of_eq t.isLt N_0; omega)]; frame_out
      rw [point_dg, zero_add])
    (fun t h j => by
      rw [outsAt0_B m c t h (by omega)]; frame_out
      rw [← point_dg]; pointwise [k0_pay4])
    t ((flush0_5 t).mp hf) _, zero_add]
  have e : (((cfg0.win 5).blk t).view.emb y 1 : Fin 1024) = y 1 := Fin.ext (by blk_simp [idx t])
  refine Fin.sum_mul_add_congr fun s k hl => ?_
  rw [e, at_run t s k hl]

theorem final_loss (c : Dev nD) : (dats m 0 c).arrAt 3 (cfgs 0).N
    = fun i : S8x128.Idx => Ideal.ofBits .f32 0x3F000000#32 * ∑ s, Loss.row (X m c s) (G m c) (T m c s) := by
  refine (dats m 0 c).arrAt_eq_of_covers 3 _ (by decide +kernel) fun t hf y => ?_
  blk_simp
  rw [after0_3, Pipeline.eq_sum_fin_of_reset_step_apply_of_flush (fun n h => (outsAt0 m c n h).1) 8 (fun _ => 0)
    (fun t j => Ideal.ofBits .f32 0x3F000000#32 * ∑ p : Fin 512, Loss.row (X m c (at_ t p)) (G m c) (T m c (at_ t p)))
    (fun t h j => by
      rw [outsAt0_A m c t h (by have := lt_of_lt_of_eq t.isLt N_0; omega)]; frame_out
      rw [point_loss, zero_add])
    (fun t h j => by
      rw [outsAt0_B m c t h (by omega)]; frame_out
      rw [← point_loss _ _ _ j]; pointwise [k0_pay5])
    t ((flush0_3 t).mp hf) _, zero_add, Loss.word_half, Cert.Norm.sum_coe_mul _ _ (by norm_num)]
  refine congrArg _ (Fin.sum_mul_add_congr fun s k hl => ?_)
  rw [at_run t s k hl]

end Cert.LossKernelIdeal.Out

/-! ## The pair -/

namespace Cert.Loss

/-- The reference's run, read at its arguments; it has no semaphore. -/
theorem frame_reference : Cert.quiescent_LossReferenceIdeal (hLossReferenceIdeal := Cert.LossReferenceIdeal.Gen.facts) :=
  fun m g _ => (θ_run Cert.LossReferenceIdeal.defs _ _).mono
    (fun r h => ⟨fun c => (h c).2.2.2, sem_eq_zero_of_no_sems (by decide) r.2⟩) (Cert.LossReferenceIdeal.Value.run m g)

theorem algebraic : Cert.algebraic_LossKernelIdeal_LossReferenceIdeal
    (hLossKernelIdeal := Cert.LossKernelIdeal.Gen.facts) (hLossReferenceIdeal := Cert.LossReferenceIdeal.Gen.facts) := by
  pair_intro
  · run_from Cert.LossKernelIdeal.Gen.run_main m g
  · run_from Cert.LossReferenceIdeal.Value.run m' g'
    · rw [LossKernelIdeal.Out.final_loss]
      funext i
      rw [eq_ix2 i]
      exact LossReferenceIdeal.Out.loss _ _ _ _ _
    · obtain ⟨h0, h1, h2⟩ := hagree c
      rw [LossKernelIdeal.Out.final_dx, LossReferenceIdeal.Read.val_main_v53_eq, h0, h1, h2]
      funext i
      rw [eq_ix2 i]
      exact LossReferenceIdeal.Out.dx _ _ _ _ _
    · rw [LossKernelIdeal.Out.final_dg]
      funext i
      rw [eq_ix2 i, show i 0 = (0 : Fin 1) from Subsingleton.elim (α := Fin 1) _ _]
      exact LossReferenceIdeal.Out.dg _ _ _ _

end Cert.Loss

end
-- ==== Proof.Finite.lean ====
module

public import Idealize.ShloMosaic.Lib.Pipeline.ValueKit
public import Idealize.ShloMosaic.Lib.Claim

@[expose] public section

noncomputable section

open Idealize.ShloMosaic Idealize.ShloMosaic.TcCoe

/-! ## Finite entries

The preconditions of this certificate say of whole arrays that every entry's absolute value is below the infinity. These lemmas
read that of one entry. -/

namespace Cert.Finite

theorem and_left {a b : BitVec 1} (h : IntOp.andi a b = 1#1) : a = 1#1 := by revert a b; decide
theorem and_right {a b : BitVec 1} (h : IntOp.andi a b = 1#1) : b = 1#1 := by revert a b; decide

/-- A conjunction folded over a list is set only if it started set and every member is. -/
theorem fold_and {α : Type} (x : α → BitVec 1) (l : List α) : ∀ v : BitVec 1,
    l.foldl (fun r n => IntOp.andi r (x n)) v = 1#1 → v = 1#1 ∧ ∀ n ∈ l, x n = 1#1 := by
  induction l with
  | nil => exact fun v h => ⟨h, fun n hn => absurd hn (List.not_mem_nil)⟩
  | cons a l ih =>
    intro v h
    obtain ⟨h1, h2⟩ := ih _ h
    refine ⟨and_left h1, fun n hn => ?_⟩
    rcases List.mem_cons.mp hn with rfl | hn
    · exact and_right h1
    · exact h2 n hn

/-- A conjunction over a whole array is set only if every entry is. -/
theorem all_of_reduce {s : Shape} {axes : List (Fin s.rank)} {t u : Shape} (x : s.Idx → BitVec 1) (v : u.Idx → BitVec 1)
    (h : s.ReducesTo axes t) (hu : 0 < u.numel) (j : t.Idx) (hj : ∀ j' : t.Idx, j' = j)
    (e : Host.reduce IntOp.andi x v h hu j = 1#1) (i : s.Idx) : x i = 1#1 := by
  have := (fold_and (fun n => x (s.rowMajor.symm n)) _ _ e).2 (s.rowMajor i)
    (List.mem_filter.mpr ⟨List.mem_finRange _, by simpa using hj _⟩)
  simpa using this

theorem word_half : Ideal.ofBits .f32 0x3F000000#32 = ((1 / 2 : ℝ) : EReal) := by
  simp [Ideal.ofBits, Ideal.ieee]; rw [← EReal.coe_mul]; norm_num

theorem word_inf : Ideal.ofBits .f32 0x7F800000#32 = ⊤ := by
  simp [Ideal.ofBits, Ideal.ieee]

/-- A number whose absolute value is below the infinity is real. -/
theorem coe_of_lt (y : EReal) (h : max y (-y) < ⊤) : ∃ r : ℝ, y = (r : EReal) := by
  induction y with
  | coe r => exact ⟨r, rfl⟩
  | bot => simp at h
  | top => simp at h

/-- An array all of whose absolute values are below the infinity holds real numbers. -/
theorem coe_of_all {s : Shape} {axes : List (Fin s.rank)} {t u : Shape} (x c : FVec Ideal s .f32) (v : IVec u 1)
    (h : s.ReducesTo axes t) (hu : 0 < u.numel) (j : t.Idx) (hj : ∀ j' : t.Idx, j' = j)
    (e : Host.reduce IntOp.andi (cmpf .olt (Host.absf x) c) v h hu j = 1#1)
    (hc : ∀ i, c i = Ideal.ofBits .f32 0x7F800000#32) (i : s.Idx) : ∃ r : ℝ, (x i : EReal) = (r : EReal) := by
  have h1 : Ideal.cmp .olt (max (x i : EReal) (-(x i))) (c i) = 1#1 := all_of_reduce _ v h hu j hj e i
  rw [hc i, word_inf] at h1
  refine coe_of_lt (x i) ?_
  by_contra hn
  exact absurd h1 (by simp only [Ideal.cmp]; simp [hn])

/-- The extended real is a real number. -/
def Real (x : EReal) : Prop := ∃ r : ℝ, x = (r : EReal)

theorem Real.coe (r : ℝ) : Real (r : EReal) := ⟨r, rfl⟩

theorem Real.add {x y : EReal} : Real x → Real y → Real (x + y)
  | ⟨a, ha⟩, ⟨b, hb⟩ => ⟨a + b, by rw [ha, hb, EReal.coe_add]⟩

theorem Real.sub {x y : EReal} : Real x → Real y → Real (x - y)
  | ⟨a, ha⟩, ⟨b, hb⟩ => ⟨a - b, by rw [ha, hb, EReal.coe_sub]⟩

theorem Real.mul {x y : EReal} : Real x → Real y → Real (x * y)
  | ⟨a, ha⟩, ⟨b, hb⟩ => ⟨a * b, by rw [ha, hb, EReal.coe_mul]⟩

theorem Real.sum {ι : Type} (f : ι → EReal) (s : Finset ι) (h : ∀ k ∈ s, Real (f k)) : Real (∑ k ∈ s, f k) :=
  Finset.sum_induction f Real (fun _ _ => Real.add) ⟨0, rfl⟩ h

theorem div_coe (a : ℝ) {b : ℝ} (hb : b ≠ 0) : Ideal.div (a : EReal) (b : EReal) = ((a / b : ℝ) : EReal) := by
  rw [Ideal.div, if_neg (by exact_mod_cast hb), ← EReal.coe_inv, ← EReal.coe_mul, div_eq_mul_inv]

theorem one_sub_one : (1 : EReal) - 1 = 0 := by
  rw [← EReal.coe_one, ← EReal.coe_sub, sub_self, EReal.coe_zero]

end Cert.Finite

end
-- ==== Proof.Hidden.lean ====
module

public import proofs.«01_k».proof.Proof.Gen.HiddenKernelIdeal.Value
public import proofs.«01_k».proof.Proof.Gen.HiddenReferenceIdeal.Read
public import proofs.«01_k».proof.Defs
public import proofs.«01_k».proof.Proof.Norm
public import proofs.«01_k».proof.Proof.Finite
public import proofs.«01_k».proof.Proof.Gen.Pre_finite_hidden
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Norm (ms rinv)

/-! ## The hidden layer of a feed-forward half-step, entry by entry

A hidden entry has a gate `a` and a value `b`; with `ds` the gradient of the entry's product `silu a * b`, the gate's gradient is
`ds * b` times the slope of `silu` at `a`, and the value's is `ds * silu a`. -/

namespace Cert.Hidden

/-- A column of the normalised row's product with the up-projection. -/
def pre (x g w : Fin 1024 → EReal) : EReal := ∑ k, x k * rinv x * g k * w k

/-- The gradient of the entry's product. -/
def ds (d w : Fin 1024 → EReal) : EReal := Ideal.ofBits .f32 0x3F000000#32 * ∑ k, d k * w k

/-- The logistic function. -/
def sg (a : EReal) : EReal := Ideal.div (Ideal.ofBits .f32 0x3F800000#32) (Ideal.ofBits .f32 0x3F800000#32 + Ideal.exp (-a))

/-- The gate's gradient, as one factor times the slope. -/
def da (t a : EReal) : EReal :=
  t * (sg a * (Ideal.ofBits .f32 0x3F800000#32 + a * (Ideal.ofBits .f32 0x3F800000#32 - sg a)))

/-- The gate's gradient, as the sum of the product's two halves. -/
def da' (t a : EReal) : EReal :=
  t * sg a + a * t * (sg a * (Ideal.ofBits .f32 0x3F800000#32 - sg a))

theorem word_one : Ideal.ofBits .f32 0x3F800000#32 = ((1 : ℝ) : EReal) := by
  simp [Ideal.ofBits, Ideal.ieee]; rw [← EReal.coe_mul]; norm_num

theorem sg_real (r : ℝ) : Finite.Real (sg (r : EReal)) := by
  refine ⟨1 / (1 + _root_.Real.exp (-r)), ?_⟩
  have hp : (1 + _root_.Real.exp (-r) : ℝ) ≠ 0 := (add_pos one_pos (_root_.Real.exp_pos _)).ne'
  rw [sg, word_one, ← EReal.coe_neg, ← Finite.div_coe 1 hp, EReal.coe_add]
  rfl

theorem sg_top : sg ⊤ = 1 := by
  rw [sg, word_one, EReal.neg_top, show Ideal.exp ⊥ = 0 from rfl]
  simp [Ideal.div]

theorem sg_bot : sg ⊥ = 0 := by
  rw [sg, word_one, EReal.neg_bot, show Ideal.exp ⊤ = ⊤ from rfl, EReal.coe_add_top]
  simp [Ideal.div]

/-- The two agree where the factor is a real number. -/
theorem da_eq {t : EReal} (ht : Finite.Real t) (a : EReal) : da t a = da' t a := by
  obtain ⟨t, rfl⟩ := ht
  induction a with
  | bot => simp [da, da', sg_bot]
  | top => simp [da, da', sg_top, word_one, Finite.one_sub_one]
  | coe r =>
    obtain ⟨v, hv⟩ := sg_real r
    rw [da, da', hv, word_one]
    norm_cast
    ring

/-- The gate's column and the value's column of hidden entry `q`. -/
def lo (q : Fin 2816) : Fin 5632 := ⟨q.val, by omega⟩
def hi (q : Fin 2816) : Fin 5632 := ⟨2816 + q.val, by omega⟩

end Cert.Hidden

/-! ## The reference's results -/

namespace Cert.HiddenReferenceIdeal.Out

open Cert.HiddenReferenceIdeal Cert.HiddenReferenceIdeal.Gen Cert.HiddenReferenceIdeal.Read
open Cert.Hidden (lo hi)

variable (x0 : (⟨S1x4096x1024, .f32⟩ : BufTy).Contents (Elt Ideal)) (x1 : (⟨S1024, .f32⟩ : BufTy).Contents (Elt Ideal))
  (x2 : (⟨S1024x5632, .f32⟩ : BufTy).Contents (Elt Ideal)) (x3 : (⟨S2816x1024, .f32⟩ : BufTy).Contents (Elt Ideal))
  (x4 : (⟨S1x4096x1024, .f32⟩ : BufTy).Contents (Elt Ideal))

theorem v7 (s) : val_main_v7 x0 (ix3 0 s 0) = rinv (fun k => x0 (ix3 0 s k)) := by
  pointwise [val_main_v7, val_main_v6, val_main_v5, val_main_v4, val_main_v3, val_main_v2, val_main_v1, val_main_v0, val_main_cst,
    val_main_cst_0, val_main_cst_1, Cert.Norm.hostReduceAdd_r3_a02, ms, rinv]

theorem v13 (s) (j : Fin 5632) : val_main_v13 x0 x1 x2 (ix3 0 s j)
    = Hidden.pre (fun k => x0 (ix3 0 s k)) (fun k => x1 (ix1 k)) (fun k => x2 (ix2 k j)) := by
  pointwise [val_main_v13, val_main_v12, val_main_v11, val_main_v10, val_main_v9, val_main_v8, v7, Hidden.pre]

theorem v14 (s) (q : Fin 2816) : val_main_v14 x0 x1 x2 (ix3 0 s q)
    = Hidden.pre (fun k => x0 (ix3 0 s k)) (fun k => x1 (ix1 k)) (fun k => x2 (ix2 k (lo q))) := by
  pointwise [val_main_v14, v13, lo]

theorem v15 (s) (q : Fin 2816) : val_main_v15 x0 x1 x2 (ix3 0 s q)
    = Hidden.pre (fun k => x0 (ix3 0 s k)) (fun k => x1 (ix1 k)) (fun k => x2 (ix2 k (hi q))) := by
  pointwise [val_main_v15, v13, hi]

theorem v16_2 (s) (q : Fin 2816) : val_main_v16_2 x0 x1 x2 (ix3 0 s q)
    = Hidden.sg (Hidden.pre (fun k => x0 (ix3 0 s k)) (fun k => x1 (ix1 k)) (fun k => x2 (ix2 k (lo q)))) := by
  pointwise [val_main_v16_2, val_main_call0_v4, val_main_call0_v3, val_main_call0_v2, val_main_call0_v1, val_main_call0_v0,
    val_main_call0_cst, val_main_call0_cst_0, v14, Hidden.sg]

theorem v22 (s) (q : Fin 2816) : val_main_v22 x3 x4 (ix3 0 s q)
    = Hidden.ds (fun k => x4 (ix3 0 s k)) (fun k => x3 (ix2 q k)) := by
  pointwise [val_main_v22, val_main_v21, val_main_v20, val_main_cst_3, Hidden.ds]

/-- The gate's gradient. -/
theorem v25 (s) (q : Fin 2816) : val_main_v25 x0 x1 x2 x3 x4 (ix3 0 s q)
    = Hidden.da' (Hidden.ds (fun k => x4 (ix3 0 s k)) (fun k => x3 (ix2 q k))
          * Hidden.pre (fun k => x0 (ix3 0 s k)) (fun k => x1 (ix1 k)) (fun k => x2 (ix2 k (hi q))))
        (Hidden.pre (fun k => x0 (ix3 0 s k)) (fun k => x1 (ix1 k)) (fun k => x2 (ix2 k (lo q)))) := by
  pointwise [val_main_v25, val_main_call1_v1, val_main_call1_v2, val_main_call1_v0, val_main_v24, v22, v15, v14, val_main_v16_1, val_main_call0_v7,
    val_main_call0_v6, val_main_call0_cst_1, v16_2, Hidden.da']

theorem v23 (s) (q : Fin 2816) : val_main_v23 x0 x1 x2 x3 x4 (ix3 0 s q)
    = Hidden.ds (fun k => x4 (ix3 0 s k)) (fun k => x3 (ix2 q k))
        * (Hidden.pre (fun k => x0 (ix3 0 s k)) (fun k => x1 (ix1 k)) (fun k => x2 (ix2 k (lo q)))
          * Hidden.sg (Hidden.pre (fun k => x0 (ix3 0 s k)) (fun k => x1 (ix1 k)) (fun k => x2 (ix2 k (lo q))))) := by
  refine Eq.trans ?_ (mul_comm _ _)
  pointwise [val_main_v23, val_main_v16_0, v22, v14, v16_2]

theorem dgate (s) (q : Fin 2816) : val_main_v33 x0 x1 x2 x3 x4 (ix3 (0 : Fin 2) s q) = val_main_v25 x0 x1 x2 x3 x4 (ix3 0 s q) := by
  pointwise [val_main_v33, val_main_v32, val_main_v30, val_main_v28, val_main_v27, val_main_v26]

theorem dvalue (s) (q : Fin 2816) : val_main_v33 x0 x1 x2 x3 x4 (ix3 (1 : Fin 2) s q) = val_main_v23 x0 x1 x2 x3 x4 (ix3 0 s q) := by
  pointwise [val_main_v33, val_main_v32, val_main_v31, val_main_v29, val_main_v27, val_main_v26]

theorem hid (s) (q : Fin 2816) : val_main_v35 x0 x1 x2 (ix2 s q)
    = Ideal.ofBits .f32 0x3F000000#32 * (Hidden.pre (fun k => x0 (ix3 0 s k)) (fun k => x1 (ix1 k)) (fun k => x2 (ix2 k (lo q)))
          * Hidden.sg (Hidden.pre (fun k => x0 (ix3 0 s k)) (fun k => x1 (ix1 k)) (fun k => x2 (ix2 k (lo q))))
        * Hidden.pre (fun k => x0 (ix3 0 s k)) (fun k => x1 (ix1 k)) (fun k => x2 (ix2 k (hi q)))) := by
  pointwise [val_main_v35, val_main_v34, val_main_v19, val_main_v18, val_main_cst_2, val_main_v17, val_main_v16_0, v14, v15, v16_2]

end Cert.HiddenReferenceIdeal.Out

/-! ## The kernel's results -/

namespace Cert.HiddenKernelIdeal.Out

open Cert.HiddenKernelIdeal Cert.HiddenKernelIdeal.Gen
open Cert.Hidden (lo hi)

variable (m : (ℓ : Loc nD τ sig) → Buf (Elt Ideal) ℓ)

theorem tprod (x0 : Vec Ideal S512x1024 .f32) (x1 : Vec Ideal S1408x1024 .bf16) (p : Fin 512) (q : Fin 1408) :
    k0_pay2 x0 x1 (ix2 p q) = Hidden.ds (fun k => x0 (ix2 p k)) (fun k => x1 (ix2 q k)) := by
  pointwise [k0_pay2, Hidden.ds]

/-- The hidden rows of a block. -/
def rowS (x2 : Vec Ideal S2x512x1408 .bf16) : Vec Ideal S512x1408 .bf16 := fun y =>
  (Ideal.ofBits .f32 0x3F000000#32 * ((x2 (ix3 (0 : Fin 2) (y 0) (y 1)) : EReal) * Hidden.sg (x2 (ix3 (0 : Fin 2) (y 0) (y 1)))
    * (x2 (ix3 (1 : Fin 2) (y 0) (y 1)))) : EReal)

theorem out_s (c : Dev nD) (t : Fin cfg0.N) (y : S512x1408.Idx) : (outsAt0 m c t).2 y = rowS (iblk m c 2 t) y := by
  dsimp only [outsAt0]
  frame_out
  generalize (iblk m c 2 t : Vec Ideal S2x512x1408 .bf16) = B
  canon_tiles y h
  all_goals
    open_payloads
    pointwise [rowS, Hidden.sg, zero_sub]
    blk_point []

/-- The gradients of a block: the gates' in the first half, the values' in the second; `T` holds the products' gradients. -/
def rowD (T : Vec Ideal S512x1408 .f32) (x2 : Vec Ideal S2x512x1408 .bf16) : Vec Ideal S2x512x1408 .bf16 := fun y =>
  ((if (y 0).val = 0 then Hidden.da ((T (ix2 (y 1) (y 2)) : EReal) * x2 (ix3 (1 : Fin 2) (y 1) (y 2))) (x2 (ix3 (0 : Fin 2) (y 1) (y 2)))
    else (T (ix2 (y 1) (y 2)) : EReal) * ((x2 (ix3 (0 : Fin 2) (y 1) (y 2)) : EReal) * Hidden.sg (x2 (ix3 (0 : Fin 2) (y 1) (y 2))))) : EReal)

theorem out_d (c : Dev nD) (t : Fin cfg0.N) (y : S2x512x1408.Idx) :
    (outsAt0 m c t).1 y = rowD (k0_pay2 (iblk m c 0 t) (iblk m c 1 t)) (iblk m c 2 t) y := by
  dsimp only [outsAt0]
  frame_out
  generalize k0_pay2 (F := Ideal) (iblk m c 0 t) (iblk m c 1 t) = A
  generalize (iblk m c 2 t : Vec Ideal S2x512x1408 .bf16) = B
  simp (decide := true) only [↓View.readCov_skip, ↓View.readCov_fill]
  canon_tiles y h
  all_goals
    open_payloads
    unfold rowD
    dsimp only
    split_ifs with hz
    all_goals first
      | (exfalso; omega)
      | (pointwise [Hidden.da, Hidden.sg, zero_sub]; blk_point [])

/-! ### The blocks a point reads -/

theorem idx : ∀ t : Fin cfg0.N, win0_0.index t = ![t.val % 8, 0] ∧ win0_1.index t = ![t.val / 8, 0]
    ∧ win0_2.index t = ![0, t.val % 8, t.val / 8] ∧ win0_3.index t = ![0, t.val % 8, t.val / 8]
    ∧ win0_4.index t = ![t.val % 8, t.val / 8] := (by decide +kernel : ∀ t : Fin grid0.N, _)

/-- The position that row `p` of point `t`'s blocks holds. -/
def at_ (t : Fin cfg0.N) (p : Fin 512) : Fin 4096 := ⟨t.val % 8 * 512 + p.val, by omega⟩

/-- The hidden entry that column `q` of point `t`'s blocks holds. -/
def col (t : Fin cfg0.N) (q : Fin 1408) : Fin 2816 := ⟨t.val / 8 * 1408 + q.val, by have := lt_of_lt_of_eq t.isLt N_0; omega⟩

abbrev X (c : Dev nD) (s : Fin 4096) (k : Fin 1024) : EReal := m ((c : Thread nD τ).loc main_arg0) (ix3 0 s k)
abbrev G (c : Dev nD) (k : Fin 1024) : EReal := m ((c : Thread nD τ).loc main_arg1) (ix1 k)
abbrev W (c : Dev nD) (j : Fin 5632) (k : Fin 1024) : EReal := m ((c : Thread nD τ).loc main_arg2) (ix2 k j)
abbrev W2 (c : Dev nD) (q : Fin 2816) (k : Fin 1024) : EReal := m ((c : Thread nD τ).loc main_arg3) (ix2 q k)
abbrev DY (c : Dev nD) (s : Fin 4096) (k : Fin 1024) : EReal := m ((c : Thread nD τ).loc main_arg4) (ix3 0 s k)

theorem blk_dy (c : Dev nD) (t : Fin cfg0.N) (p : Fin 512) :
    (fun k : Fin 1024 => (iblk m c 0 t : Vec Ideal S512x1024 .f32) (ix2 p k)) = DY m c (at_ t p) := by
  funext k
  blk_point [iblk, V, idx t, at_]

theorem blk_w2 (c : Dev nD) (t : Fin cfg0.N) (q : Fin 1408) :
    (fun k : Fin 1024 => (iblk m c 1 t : Vec Ideal S1408x1024 .bf16) (ix2 q k)) = W2 m c (col t q) := by
  funext k
  blk_point [iblk, V, idx t, col]

/-- The saved products, which the host computes before the call. -/
theorem saved (c : Dev nD) (z : Fin 2) (s : Fin 4096) (q : Fin 2816) :
    V m c main_v18 (ix3 z s q : S2x4096x2816.Idx)
      = Hidden.pre (X m c s) (G m c) (W m c ⟨z.val * 2816 + q.val, by omega⟩) := by
  entry_read
  pointwise [Cert.Norm.hostReduceAdd_r3_a02, ms, rinv, Hidden.pre]
  exact Finset.sum_congr (M := EReal) rfl fun x _ => EReal.mul_comm _ _

theorem blk_a (c : Dev nD) (t : Fin cfg0.N) (p : Fin 512) (q : Fin 1408) :
    ((iblk m c 2 t : Vec Ideal S2x512x1408 .bf16) (ix3 (0 : Fin 2) p q) : EReal) = Hidden.pre (X m c (at_ t p)) (G m c) (W m c (lo (col t q))) := by
  show V m c main_v18 (((cfg0.win 2).blk t).view.emb (ix3 (0 : Fin 2) p q)) = _
  rw [show ((cfg0.win 2).blk t).view.emb (ix3 (0 : Fin 2) p q) = (ix3 (0 : Fin 2) (at_ t p) (col t q) : S2x4096x2816.Idx) from by blk_ext [idx t, at_, col]]
  refine (saved m c 0 _ _).trans (congrArg (fun j => Hidden.pre (X m c (at_ t p)) (G m c) (W m c j)) (Fin.ext ?_))
  simp [lo]

theorem blk_b (c : Dev nD) (t : Fin cfg0.N) (p : Fin 512) (q : Fin 1408) :
    ((iblk m c 2 t : Vec Ideal S2x512x1408 .bf16) (ix3 (1 : Fin 2) p q) : EReal) = Hidden.pre (X m c (at_ t p)) (G m c) (W m c (hi (col t q))) := by
  show V m c main_v18 (((cfg0.win 2).blk t).view.emb (ix3 (1 : Fin 2) p q)) = _
  rw [show ((cfg0.win 2).blk t).view.emb (ix3 (1 : Fin 2) p q) = (ix3 (1 : Fin 2) (at_ t p) (col t q) : S2x4096x2816.Idx) from by blk_ext [idx t, at_, col]]
  refine (saved m c 1 _ _).trans (congrArg (fun j => Hidden.pre (X m c (at_ t p)) (G m c) (W m c j)) (Fin.ext ?_))
  simp [hi]

theorem blk_t (c : Dev nD) (t : Fin cfg0.N) (p : Fin 512) (q : Fin 1408) :
    (k0_pay2 (iblk m c 0 t) (iblk m c 1 t) (ix2 p q) : EReal) = Hidden.ds (DY m c (at_ t p)) (W2 m c (col t q)) :=
  (tprod _ _ p q).trans (congr (congrArg Hidden.ds (blk_dy m c t p)) (blk_w2 m c t q))

/-! ### The arrays after the call -/

/-- The gate's and the value's product of position `s` at hidden entry `q`. -/
abbrev A (c : Dev nD) (s : Fin 4096) (q : Fin 2816) : EReal := Hidden.pre (X m c s) (G m c) (W m c (lo q))
abbrev B (c : Dev nD) (s : Fin 4096) (q : Fin 2816) : EReal := Hidden.pre (X m c s) (G m c) (W m c (hi q))
abbrev T (c : Dev nD) (s : Fin 4096) (q : Fin 2816) : EReal := Hidden.ds (DY m c s) (W2 m c q)

theorem final_s (c : Dev nD) : (dats m 0 c).arrAt 4 (cfgs 0).N = fun i : S4096x2816.Idx =>
    Ideal.ofBits .f32 0x3F000000#32 * (A m c (i 0) (i 1) * Hidden.sg (A m c (i 0) (i 1)) * B m c (i 0) (i 1)) := by
  refine (dats m 0 c).arrAt_eq_of_covers 4 _ (by decide +kernel) fun t hf y => ?_
  blk_simp
  rw [after0_4]
  obtain ⟨p, q, hy⟩ : ∃ p q, y = (ix2 p q : S512x1408.Idx) := ⟨y 0, y 1, by blk_ext⟩
  rw [hy]
  refine (out_s m c t _).trans ?_
  rw [show (win0_4.blk t).view.emb (ix2 p q) = (ix2 (at_ t p) (col t q) : S4096x2816.Idx) from by blk_ext [idx t, at_, col]]
  exact congr (congrArg (fun a b => Ideal.ofBits .f32 0x3F000000#32 * (a * Hidden.sg a * b)) (blk_a m c t p q)) (blk_b m c t p q)

/-- The gradients: the gates', then the values'. -/
def grads (c : Dev nD) : S2x4096x2816.Idx → EReal := fun i =>
  if (i 0).val = 0 then Hidden.da (T m c (i 1) (i 2) * B m c (i 1) (i 2)) (A m c (i 1) (i 2))
    else T m c (i 1) (i 2) * (A m c (i 1) (i 2) * Hidden.sg (A m c (i 1) (i 2)))

theorem final_d (c : Dev nD) : (dats m 0 c).arrAt 3 (cfgs 0).N = grads m c := by
  refine (dats m 0 c).arrAt_eq_of_covers 3 _ (by decide +kernel) fun t hf y => ?_
  blk_simp
  rw [after0_3]
  obtain ⟨z, p, q, hy⟩ : ∃ z p q, y = (ix3 z p q : S2x512x1408.Idx) := ⟨y 0, y 1, y 2, by blk_ext⟩
  rw [hy]
  refine (out_d m c t _).trans ?_
  rw [show (win0_3.blk t).view.emb (ix3 z p q) = (ix3 z (at_ t p) (col t q) : S2x4096x2816.Idx) from by blk_ext [idx t, at_, col]]
  exact congr (congr (congrArg (fun u a b => if z.val = 0 then Hidden.da (u * b) a else u * (a * Hidden.sg a)) (blk_t m c t p q))
    (blk_a m c t p q)) (blk_b m c t p q)

end Cert.HiddenKernelIdeal.Out

/-! ## The pair -/

namespace Cert.Hidden

open Cert.Finite

/-- A normalised row's product with a column is a real number where their entries are: the reciprocal root is real always. -/
theorem pre_real {x g w : Fin 1024 → EReal} (hx : ∀ k, Finite.Real (x k)) (hg : ∀ k, Finite.Real (g k)) (hw : ∀ k, Finite.Real (w k)) :
    Finite.Real (pre x g w) :=
  Real.sum _ _ fun k _ => (((hx k).mul (Cert.Norm.rinv_real x)).mul (hg k)).mul (hw k)

theorem ds_real {d w : Fin 1024 → EReal} (hd : ∀ k, Finite.Real (d k)) (hw : ∀ k, Finite.Real (w k)) : Finite.Real (ds d w) :=
  Real.mul ⟨1 / 2, Cert.Finite.word_half⟩ (Real.sum _ _ fun k _ => (hd k).mul (hw k))

/-- The precondition says of every argument that its entries are real numbers. -/
theorem finite_args {a0 a1 a2 a3 a4} (h : Cert.Pre_finite_hidden.fn (F := Ideal) a0 a1 a2 a3 a4 = fun _ => 1#1) :
    (∀ i, Finite.Real (a0 i)) ∧ (∀ i, Finite.Real (a1 i)) ∧ (∀ i, Finite.Real (a2 i)) ∧ (∀ i, Finite.Real (a3 i)) ∧ (∀ i, Finite.Real (a4 i)) := by
  have e := congrFun h (fun a => a.elim0)
  simp only [Cert.Pre_finite_hidden.fn, Cert.Pre_finite_hidden.fn_part1] at e
  have e4 := and_right e
  have e := and_left e
  have e3 := and_right e
  have e := and_left e
  have e2 := and_right e
  have e := and_left e
  have e1 := and_right e
  have e0 := and_left e
  have hj : ∀ j' : (⟨0, ![]⟩ : Shape).Idx, j' = fun a => a.elim0 := fun j' => funext fun a => a.elim0
  exact ⟨coe_of_all _ _ _ _ _ _ hj e0 fun _ => rfl, coe_of_all _ _ _ _ _ _ hj e1 fun _ => rfl, coe_of_all _ _ _ _ _ _ hj e2 fun _ => rfl,
    coe_of_all _ _ _ _ _ _ hj e3 fun _ => rfl, coe_of_all _ _ _ _ _ _ hj e4 fun _ => rfl⟩

/-- The reference's run, read at its arguments; it has no semaphore. -/
theorem frame_reference : Cert.quiescent_HiddenReferenceIdeal (hHiddenReferenceIdeal := Cert.HiddenReferenceIdeal.Gen.facts) :=
  fun m g _ => (θ_run Cert.HiddenReferenceIdeal.defs _ _).mono
    (fun r h => ⟨fun c => (h c).2.2, sem_eq_zero_of_no_sems (by decide) r.2⟩) (Cert.HiddenReferenceIdeal.Value.run m g)

theorem algebraic : Cert.algebraic_HiddenKernelIdeal_HiddenReferenceIdeal_pre_finite_hidden
    (hHiddenKernelIdeal := Cert.HiddenKernelIdeal.Gen.facts) (hHiddenReferenceIdeal := Cert.HiddenReferenceIdeal.Gen.facts)
    (hPre_finite_hidden := Cert.Pre_finite_hidden.Gen.facts) := by
  pair_intro
  · run_from Cert.HiddenKernelIdeal.Gen.run_main m g
  · run_from Cert.HiddenReferenceIdeal.Value.run m' g'
    · obtain ⟨h0, h1, h2, h3, h4⟩ := hagree c
      rw [HiddenKernelIdeal.Out.final_d, HiddenReferenceIdeal.Read.val_main_v33_eq, h0, h1, h2, h3, h4]
      obtain ⟨r0, r1, r2, r3, r4⟩ := finite_args (hpre c)
      funext i
      rw [eq_ix3 i]
      generalize i 0 = z
      generalize i 1 = s
      generalize i 2 = q
      rcases Fin.exists_fin_two.mp ⟨z, rfl⟩ with rfl | rfl
      · refine (HiddenReferenceIdeal.Out.dgate _ _ _ _ _ _ _).trans ((HiddenReferenceIdeal.Out.v25 _ _ _ _ _ _ _).trans (da_eq ?_ _).symm)
        exact (ds_real (fun k => r4 _) fun k => r3 _).mul (pre_real (fun k => r0 _) (fun k => r1 _) fun k => r2 _)
      · exact (HiddenReferenceIdeal.Out.dvalue _ _ _ _ _ _ _).trans (HiddenReferenceIdeal.Out.v23 _ _ _ _ _ _ _)
    · rw [HiddenKernelIdeal.Out.final_s]
      funext i
      rw [eq_ix2 i]
      exact HiddenReferenceIdeal.Out.hid _ _ _ _ _

end Cert.Hidden

end
-- ==== Proof.NormBack.lean ====
module

public import proofs.«01_k».proof.Proof.Norm
public import Idealize.ShloMosaic.Lib.Pipeline.ValueKit

@[expose] public section

noncomputable section

open Idealize.ShloMosaic
open Cert.Norm (rinv ms)

/-! The gradient of a gain-scaled root-mean-square norm that a product feeds, row by row: the two calls that
    finish a product with the norm's gradient share these. -/

namespace Cert.NormBack

/-- The gradient of a row `x` under the gain `g`, the incoming gradient `d`, added to the residual's gradient `r`. -/
def dx (x g d r : Fin 1024 → EReal) (q : Fin 1024) : EReal :=
  r q + rinv x * (d q * g q - x q * rinv x * Ideal.div (∑ k, d k * g k * (x k * rinv x)) (Ideal.ofBits .f32 0x44800000#32))

/-- What a row adds to the gain's gradient. -/
def dg (x d : Fin 1024 → EReal) (q : Fin 1024) : EReal := d q * (x q * rinv x)

/-- Four blocks of `256` rows are the block's `1024`. -/
theorem four (f : Fin 1024 → EReal) : ∑ p, f p = (∑ p : Fin 256, f ⟨p.val, by omega⟩) + (∑ p : Fin 256, f ⟨256 + p.val, by omega⟩)
    + (∑ p : Fin 256, f ⟨512 + p.val, by omega⟩) + ∑ p : Fin 256, f ⟨768 + p.val, by omega⟩ := by
  rw [← Fin.sum_mul_add_fin 4 256 f, Fin.sum_univ_four]
  rfl

/-- `J` grid points per block of rows: the rows of the blocks' last points, in order, are the rows of the array. -/
theorem runs {N : ℕ} (J : ℕ) (hN : N = 4 * J) (hJ : 0 < J) (F : Fin 4096 → EReal)
    (H : ∀ s : Fin N, ∀ p : Fin 1024, s.val / J * 1024 + p.val < 4096) :
    ∑ s : Fin N, (if s.val % J = J - 1 then ∑ p : Fin 1024, F ⟨s.val / J * 1024 + p.val, H s p⟩ else 0) = ∑ s, F s := by
  rw [← Fin.sum_mul_add_fin 4 J (fun s : Fin N => if s.val % J = J - 1 then ∑ p : Fin 1024, F ⟨s.val / J * 1024 + p.val, H s p⟩ else 0) hN,
    ← Fin.sum_mul_add_fin 4 1024 F]
  refine Finset.sum_congr rfl fun i _ => ?_
  have hd : ∀ k < J, (i.val * J + k) / J = i.val := fun k hk => by
    rw [Nat.add_comm, Nat.add_mul_div_right _ _ hJ, Nat.div_eq_of_lt hk, Nat.zero_add]
  have hm : ∀ k < J, (i.val * J + k) % J = k := fun k hk => by
    rw [Nat.add_comm, Nat.add_mul_mod_self_right, Nat.mod_eq_of_lt hk]
  rw [Finset.sum_eq_single (⟨J - 1, by omega⟩ : Fin J) (fun k _ hk => if_neg ?_) (fun h => absurd (Finset.mem_univ _) h), if_pos (hm _ (by omega))]
  · refine Finset.sum_congr rfl fun p _ => congrArg F (Fin.ext ?_)
    show (i.val * J + (J - 1)) / J * 1024 + p.val = i.val * 1024 + p.val
    rw [hd _ (by omega)]
  · intro e
    exact hk (Fin.ext ((hm _ k.isLt).symm.trans e))

end Cert.NormBack

end
-- ==== Proof.Up.lean ====
module

public import proofs.«01_k».proof.Proof.Gen.UpKernelIdeal.Value
public import proofs.«01_k».proof.Proof.Gen.UpReferenceIdeal.Read
public import proofs.«01_k».proof.Defs
public import proofs.«01_k».proof.Proof.NormBack
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Norm (ms rinv)

/-! ## The reference's results -/

namespace Cert.UpReferenceIdeal.Out

open Cert.UpReferenceIdeal Cert.UpReferenceIdeal.Gen Cert.UpReferenceIdeal.Read

variable (x0 : (⟨S1x4096x1024, .f32⟩ : BufTy).Contents (Elt Ideal)) (x1 : (⟨S1024, .f32⟩ : BufTy).Contents (Elt Ideal))
  (x2 : (⟨S1024x5632, .f32⟩ : BufTy).Contents (Elt Ideal)) (x3 : (⟨S1x4096x5632, .f32⟩ : BufTy).Contents (Elt Ideal))
  (x4 : (⟨S1x4096x1024, .f32⟩ : BufTy).Contents (Elt Ideal))

/-- The incoming gradient of the normalised row. -/
def D (s : Fin 4096) (q : Fin 1024) : EReal := ∑ l : Fin 5632, x3 (ix3 0 s l) * x2 (ix2 q l)

theorem v6 (s) : val_main_v6 x0 (ix3 0 s 0) = ms (fun k => x0 (ix3 0 s k)) := by
  pointwise [val_main_v6, val_main_v5, val_main_v4, val_main_v3, val_main_v2, val_main_v1, val_main_v0, val_main_cst,
    val_main_cst_0, val_main_cst_1, ms]

theorem v7 (s) : val_main_v7 x0 (ix3 0 s 0) = rinv (fun k => x0 (ix3 0 s k)) := by
  pointwise [val_main_v7, v6, rinv]

theorem v17 (s : Fin 4096) (q : Fin 1024) : val_main_v17 x2 x3 (ix3 0 s q) = D x2 x3 s q := by
  pointwise [val_main_v17, D]

theorem v22 (s : Fin 4096) (q : Fin 1024) : val_main_v22 x1 x2 x3 (ix3 0 s q) = D x2 x3 s q * x1 (ix1 q) := by
  pointwise [val_main_v22, v17, val_main_v21, val_main_v13]

theorem dx (s : Fin 4096) (q : Fin 1024) : val_main_v40 x0 x1 x2 x3 x4 (ix2 s q)
    = NormBack.dx (fun k => x0 (ix3 0 s k)) (fun k => x1 (ix1 k)) (D x2 x3 s) (fun k => x4 (ix3 0 s k)) q := by
  pointwise [val_main_v40, val_main_v39, val_main_v38, val_main_v37, val_main_v36, val_main_v35, val_main_v34, val_main_v33,
    val_main_v32, val_main_v31, val_main_v30, val_main_v29, val_main_v28, val_main_v27, v7, val_main_v10, val_main_v9, val_main_v8,
    v6, val_main_v26, val_main_v25, val_main_v24, v22, Cert.Norm.hostReduceAdd_r3_a02, val_main_cst_2, val_main_cst_5,
    val_main_cst_6, val_main_cst_7]
  rw [add_assoc, add_assoc]
  refine congrArg _ ((add_assoc _ _ _).symm.trans ?_)
  exact (Cert.Norm.grad _ (fun k => D x2 x3 s k * x1 (ix1 k)) q).symm

theorem dg (q : Fin 1024) : val_main_v41 x0 x2 x3 (ix2 0 q) = ∑ s : Fin 4096, NormBack.dg (fun k => x0 (ix3 0 s k)) (D x2 x3 s) q := by
  pointwise [val_main_v41, val_main_v23, val_main_v20, val_main_v19, val_main_v18, v17, val_main_v12, val_main_v11, v7,
    Cert.Norm.hostReduceAdd_r3_a01, val_main_cst_3, val_main_cst_4]
  exact Finset.sum_congr rfl fun s _ => mul_comm _ _

end Cert.UpReferenceIdeal.Out

/-! ## The kernel's results -/

namespace Cert.UpKernelIdeal.Out

open Cert.UpKernelIdeal Cert.UpKernelIdeal.Gen

section Body

variable (X A : Vec Ideal S1024x1024 .f32) (G : Vec Ideal S1x1024 .f32) (R : Vec Ideal S1024x1024 .f32)
  (a : Vec Ideal S1x1024x1408 .bf16) (w : Vec Ideal S1x1408x1024 .bf16)

/-- The finished rows of a block. -/
def rows : Vec Ideal S1024x1024 .f32 := fun y => NormBack.dx (fun k => X (ix2 (y 0) k)) (fun k => G (ix2 0 k))
  (fun k => A (ix2 (y 0) k)) (fun k => R (ix2 (y 0) k)) (y 1)

theorem rect_emb (o : ℕ) (p : Fin 256) (q : Fin 1024) (ho : o + 256 ≤ 1024) {h} : (Rect.unit (s := S1024x1024) ![o, 0] ![256, 1024] h).emb (ix2 p q)
    = ix2 ⟨o + p.val, by omega⟩ q := by
  blk_ext

theorem pay_prod (p q : Fin 1024) : k0_pay1 a w (ix2 p q) = ∑ j : Fin 1408, a (ix3 0 p j) * w (ix3 0 j q) := by
  pointwise [k0_pay1]

theorem pay_acc (p q : Fin 1024) : k0_pay2 a w A (ix2 p q) = A (ix2 p q) + ∑ j : Fin 1408, a (ix3 0 p j) * w (ix3 0 j q) := by
  pointwise [k0_pay2, pay_prod]

end Body

variable (m : (ℓ : Loc nD τ sig) → Buf (Elt Ideal) ℓ)

theorem idx : ∀ t : Fin cfg0.N, win0_0.index t = ![t.val / 2 % 2, t.val / 4, t.val % 2] ∧ win0_1.index t = ![t.val / 2 % 2, t.val % 2, 0]
    ∧ win0_2.index t = ![t.val / 4, 0] ∧ win0_3.index t = ![0, 0] ∧ win0_4.index t = ![t.val / 4, 0] ∧ win0_5.index t = ![t.val / 4, 0]
    ∧ win0_6.index t = ![0, 0] :=
  (by decide +kernel : ∀ t : Fin grid0.N, _)

/-- The arguments by coordinates. -/
abbrev X (c : Dev nD) (s : Fin 4096) (k : Fin 1024) : EReal := m ((c : Thread nD τ).loc main_arg0) (ix3 0 s k)
abbrev G (c : Dev nD) (k : Fin 1024) : EReal := m ((c : Thread nD τ).loc main_arg1) (ix1 k)
abbrev R (c : Dev nD) (s : Fin 4096) (k : Fin 1024) : EReal := m ((c : Thread nD τ).loc main_arg4) (ix3 0 s k)
abbrev dab (c : Dev nD) (s : Fin 4096) (l : Fin 5632) : EReal := m ((c : Thread nD τ).loc main_arg3) (ix3 0 s l)
abbrev w13 (c : Dev nD) (q : Fin 1024) (l : Fin 5632) : EReal := m ((c : Thread nD τ).loc main_arg2) (ix2 q l)
def D (c : Dev nD) (s : Fin 4096) (q : Fin 1024) : EReal := ∑ l : Fin 5632, dab m c s l * w13 m c q l

/-- The row of the array that row `p` of point `t`'s block is. -/
abbrev at_ (t : Fin cfg0.N) (p : Fin 1024) : Fin 4096 :=
  ⟨t.val / 4 * 1024 + p.val, by have := lt_of_lt_of_eq t.isLt N_0; have := p.isLt; omega⟩

/-- The hidden column that column `j` of point `t`'s block is. -/
abbrev col (t : Fin cfg0.N) (j : Fin 1408) : Fin 5632 := ⟨t.val % 4 * 1408 + j.val, by have := j.isLt; omega⟩

theorem blk_x (c : Dev nD) (t : Fin cfg0.N) (p : Fin 1024) :
    (fun k : Fin 1024 => (iblk m c 2 t : Vec Ideal S1024x1024 .f32) (ix2 p k)) = X m c (at_ t p) := by
  funext k
  blk_point [iblk, V, idx t, at_]

theorem blk_g (c : Dev nD) (t : Fin cfg0.N) :
    (fun k : Fin 1024 => (iblk m c 3 t : Vec Ideal S1x1024 .f32) (ix2 0 k)) = G m c := by
  funext k
  blk_point [iblk, V, idx t]

theorem blk_r (c : Dev nD) (t : Fin cfg0.N) (p : Fin 1024) :
    (fun k : Fin 1024 => (iblk m c 4 t : Vec Ideal S1024x1024 .f32) (ix2 p k)) = R m c (at_ t p) := by
  funext k
  blk_point [iblk, V, idx t, at_]

theorem blk_dab (c : Dev nD) (t : Fin cfg0.N) (p : Fin 1024) (j : Fin 1408) :
    (iblk m c 0 t : Vec Ideal S1x1024x1408 .bf16) (ix3 0 p j) = dab m c (at_ t p) (col t j) := by
  blk_point [iblk, V, idx t, at_, col]

theorem blk_w (c : Dev nD) (t : Fin cfg0.N) (j : Fin 1408) (q : Fin 1024) :
    (iblk m c 1 t : Vec Ideal S1x1408x1024 .bf16) (ix3 0 j q) = w13 m c q (col t j) := by
  blk_point [iblk, V, idx t, col]

/-- A last point's rows: the accumulated product finished with the norm's gradient. -/
theorem last_dx (c : Dev nD) (t : Fin cfg0.N) (h2 : t.val % 4 = 3) (y : S1024x1024.Idx) :
    (outsAt0 m c t.val t.isLt).1 y = rows (iblk m c 2 t) (k0_pay2 (iblk m c 0 t) (iblk m c 1 t)
      (outsAt0 m c (t.val - 1) (Nat.lt_of_le_of_lt (Nat.sub_le _ _) t.isLt)).1) (iblk m c 3 t) (iblk m c 4 t) y := by
  by_cases h3 : t.val < 4
  · rw [outsAt0_C m c t (by omega) (by omega) h2 h3 (by omega)]
    frame_out
    generalize k0_pay2 (F := Ideal) (iblk m c 0 t) (iblk m c 1 t) (outsAt0 m c (t.val - 1) (Nat.lt_of_le_of_lt (Nat.sub_le _ _) t.isLt)).1 = A
    simp (decide := true) only [↓View.readCov_skip, ↓View.readCov_fill]
    refine View.canon_append_of_piecesOf (rows (iblk m c 2 t) A (iblk m c 3 t) (iblk m c 4 t)) [_] [_, _, _, _]
      ⟨fun (x : S256x1024.Idx) => ?_, fun (x : S256x1024.Idx) => ?_, fun (x : S256x1024.Idx) => ?_, fun (x : S256x1024.Idx) => ?_, trivial⟩
      y (View.cover_of_tiledL _ ![256, 1024] (by sl_kernel_rfl) y)
    all_goals
      obtain ⟨p, q, rfl⟩ : ∃ p q, x = ix2 p q := ⟨x 0, x 1, by blk_ext⟩
      dsimp only
      rw [rect_emb _ p q (by omega)]
      open_payloads
      pointwise [rows, NormBack.dx, rinv, ms]
  · rw [outsAt0_D m c t (by omega) (by omega) h2 h3 (by omega)]
    frame_out
    generalize k0_pay2 (F := Ideal) (iblk m c 0 t) (iblk m c 1 t) (outsAt0 m c (t.val - 1) (Nat.lt_of_le_of_lt (Nat.sub_le _ _) t.isLt)).1 = A
    simp (decide := true) only [↓View.readCov_skip, ↓View.readCov_fill]
    refine View.canon_append_of_piecesOf (rows (iblk m c 2 t) A (iblk m c 3 t) (iblk m c 4 t)) [_] [_, _, _, _]
      ⟨fun (x : S256x1024.Idx) => ?_, fun (x : S256x1024.Idx) => ?_, fun (x : S256x1024.Idx) => ?_, fun (x : S256x1024.Idx) => ?_, trivial⟩
      y (View.cover_of_tiledL _ ![256, 1024] (by sl_kernel_rfl) y)
    all_goals
      obtain ⟨p, q, rfl⟩ : ∃ p q, x = ix2 p q := ⟨x 0, x 1, by blk_ext⟩
      dsimp only
      rw [rect_emb _ p q (by omega)]
      open_payloads
      pointwise [rows, NormBack.dx, rinv, ms]

/-- What a last point adds to the gain's gradient. -/
def part (c : Dev nD) (t : Fin cfg0.N) : S1x1024.Idx → EReal := fun j => ∑ p : Fin 1024,
  NormBack.dg (fun k => (iblk m c 2 t : Vec Ideal S1024x1024 .f32) (ix2 p k))
    (fun k => k0_pay2 (iblk m c 0 t) (iblk m c 1 t) (outsAt0 m c (t.val - 1) (Nat.lt_of_le_of_lt (Nat.sub_le _ _) t.isLt)).1 (ix2 p k)) (j 1)

theorem last_dg_first (c : Dev nD) (t : Fin cfg0.N) (h2 : t.val = 3) (j : S1x1024.Idx) : (outsAt0 m c t.val t.isLt).2 j = part m c t j := by
  rw [outsAt0_C m c t (by omega) (by omega) (by omega) (by omega) (by omega)]
  frame_out
  unfold part
  generalize k0_pay2 (F := Ideal) (iblk m c 0 t) (iblk m c 1 t) (outsAt0 m c (t.val - 1) (Nat.lt_of_le_of_lt (Nat.sub_le _ _) t.isLt)).1 = A
  simp (decide := true) only [↓View.readCov_skip, ↓View.readCov_fill]
  obtain ⟨p, q, rfl⟩ : ∃ p q, j = ix2 p q := ⟨j 0, j 1, by blk_ext⟩
  obtain rfl : p = 0 := Subsingleton.elim _ _
  rw [NormBack.four]
  open_payloads
  pointwise [NormBack.dg, rinv, ms]

theorem last_dg_next (c : Dev nD) (t : Fin cfg0.N) (h2 : t.val % 4 = 3) (h3 : ¬t.val < 4) (j : S1x1024.Idx) : (outsAt0 m c t.val t.isLt).2 j
    = (outsAt0 m c (t.val - 1) (Nat.lt_of_le_of_lt (Nat.sub_le _ _) t.isLt)).2 j + part m c t j := by
  rw [outsAt0_D m c t (by omega) (by omega) (by omega) (by omega) (by omega)]
  frame_out
  unfold part
  generalize k0_pay2 (F := Ideal) (iblk m c 0 t) (iblk m c 1 t) (outsAt0 m c (t.val - 1) (Nat.lt_of_le_of_lt (Nat.sub_le _ _) t.isLt)).1 = A
  simp (decide := true) only [↓View.readCov_skip, ↓View.readCov_fill]
  obtain ⟨p, q, rfl⟩ : ∃ p q, j = ix2 p q := ⟨j 0, j 1, by blk_ext⟩
  obtain rfl : p = 0 := Subsingleton.elim _ _
  rw [NormBack.four]
  open_payloads
  pointwise [NormBack.dg, rinv, ms]

/-- A point that is not the last of its rows leaves the gain's gradient. -/
theorem keep_dg (c : Dev nD) (t : Fin cfg0.N) (h2 : ¬t.val % 4 = 3) :
    (outsAt0 m c t.val t.isLt).2 = (outsAt0 m c (t.val - 1) (Nat.lt_of_le_of_lt (Nat.sub_le _ _) t.isLt)).2 := by
  by_cases h0 : t.val % 4 = 0
  · rw [outsAt0_A m c t h0 (by omega) h2]
    rfl
  · rw [outsAt0_B m c t h0 (by omega) h2]
    rfl

/-- What a point adds to the product. -/
def term (c : Dev nD) (t : Fin cfg0.N) : S1024x1024.Idx → EReal :=
  fun j => ∑ l : Fin 1408, dab m c (at_ t (j 0)) (col t l) * w13 m c (j 1) (col t l)

theorem term_eq (c : Dev nD) (t : Fin cfg0.N) (j : S1024x1024.Idx) : k0_pay1 (iblk m c 0 t) (iblk m c 1 t) j = term m c t j := by
  obtain ⟨p, q, rfl⟩ : ∃ p q, j = ix2 p q := ⟨j 0, j 1, by blk_ext⟩
  refine (pay_prod _ _ p q).trans (Finset.sum_congr rfl fun l _ => ?_)
  rw [blk_dab, blk_w]
  rfl

theorem term_add (c : Dev nD) (t : Fin cfg0.N) (A : Vec Ideal S1024x1024 .f32) (j : S1024x1024.Idx) :
    k0_pay2 (iblk m c 0 t) (iblk m c 1 t) A j = (show EReal from A j) + term m c t j := by
  rw [← term_eq]
  pointwise [k0_pay2]

/-- The points of a run before its last hold the product so far; the last one's own is over the whole hidden axis. -/
theorem product (c : Dev nD) (t : Fin cfg0.N) (h2 : t.val % 4 = 3) (j : S1024x1024.Idx) :
    k0_pay2 (iblk m c 0 t) (iblk m c 1 t) (outsAt0 m c (t.val - 1) (Nat.lt_of_le_of_lt (Nat.sub_le _ _) t.isLt)).1 j
      = D m c (at_ t (j 0)) (j 1) := by
  have key := Pipeline.eq_sum_fin_of_reset_step_apply_of_flush
    (fun n h (j : S1024x1024.Idx) => if n % 4 = 3 then (k0_pay2 (iblk m c 0 ⟨n, h⟩) (iblk m c 1 ⟨n, h⟩)
      (outsAt0 m c (n - 1) (Nat.lt_of_le_of_lt (Nat.sub_le _ _) h)).1 j : EReal) else (outsAt0 m c n h).1 j) 4 (fun _ => 0) (term m c)
    (fun t h j => by
      rw [if_neg (by omega), outsAt0_A m c t h (by omega) (by omega)]
      frame_out
      rw [zero_add]
      exact term_eq m c t j)
    (fun t h j => by
      rw [if_neg (show ¬(t.val - 1) % 4 = 3 by omega)]
      by_cases h2 : t.val % 4 = 3
      · rw [if_pos h2]
        exact term_add m c t _ j
      · rw [if_neg h2, outsAt0_B m c t h (by omega) h2]
        frame_out
        exact term_add m c t _ j)
    t h2 j
  rw [if_pos h2] at key
  refine key.trans ((zero_add _).trans ?_)
  unfold D
  refine Fin.sum_mul_add_congr fun s k hl => ?_
  have e : 4 * (t.val / 4) + s.val < cfg0.N := by have := t.isLt; omega
  have ea : at_ (⟨4 * (t.val / 4) + s.val, e⟩ : Fin cfg0.N) (j 0) = at_ t (j 0) := Fin.ext (by
    show (4 * (t.val / 4) + s.val) / 4 * 1024 + _ = t.val / 4 * 1024 + _
    omega)
  have ec : col (⟨4 * (t.val / 4) + s.val, e⟩ : Fin cfg0.N) k = ⟨s.val * 1408 + k.val, hl⟩ := Fin.ext (by
    show (4 * (t.val / 4) + s.val) % 4 * 1408 + k.val = s.val * 1408 + k.val
    omega)
  rw [ea, ec]

/-- The rows a last point stores, over the arguments. -/
theorem point_dx (c : Dev nD) (t : Fin cfg0.N) (h2 : t.val % 4 = 3) (y : S1024x1024.Idx) : (outsAt0 m c t.val t.isLt).1 y
    = (fun i : S4096x1024.Idx => NormBack.dx (X m c (i 0)) (G m c) (D m c (i 0)) (R m c (i 0)) (i 1)) (((cfg0.win 5).blk t).view.emb y) := by
  rw [last_dx m c t h2 y]
  obtain ⟨p, q, rfl⟩ : ∃ p q, y = ix2 p q := ⟨y 0, y 1, by blk_ext⟩
  rw [show ((cfg0.win 5).blk t).view.emb (ix2 p q) = (ix2 (at_ t p) q : S4096x1024.Idx) from by blk_ext [idx t, at_]]
  have hD : (fun k => k0_pay2 (iblk m c 0 t) (iblk m c 1 t) (outsAt0 m c (t.val - 1) (Nat.lt_of_le_of_lt (Nat.sub_le _ _) t.isLt)).1 (ix2 p k))
      = D m c (at_ t p) := funext fun k => product m c t h2 (ix2 p k)
  show NormBack.dx (fun k => (iblk m c 2 t : Vec Ideal S1024x1024 .f32) (ix2 p k)) (fun k => (iblk m c 3 t : Vec Ideal S1x1024 .f32) (ix2 0 k))
    (fun k => k0_pay2 (iblk m c 0 t) (iblk m c 1 t) (outsAt0 m c (t.val - 1) (Nat.lt_of_le_of_lt (Nat.sub_le _ _) t.isLt)).1 (ix2 p k))
    (fun k => (iblk m c 4 t : Vec Ideal S1024x1024 .f32) (ix2 p k)) q = _
  rw [hD, blk_x, blk_g, blk_r]
  rfl

theorem final_dx (c : Dev nD) : (dats m 0 c).arrAt 5 (cfgs 0).N
    = fun i : S4096x1024.Idx => NormBack.dx (X m c (i 0)) (G m c) (D m c (i 0)) (R m c (i 0)) (i 1) := by
  refine (dats m 0 c).arrAt_eq_of_covers 5 _ (by decide +kernel) fun t hf y => ?_
  blk_simp
  rw [after0_5]
  exact point_dx m c t ((flush0_5 t).mp hf) y

/-- What a last point adds to the gain's gradient, over the arguments. -/
theorem part_eq (c : Dev nD) (t : Fin cfg0.N) (h2 : t.val % 4 = 3) (j : S1x1024.Idx) :
    part m c t j = ∑ p : Fin 1024, NormBack.dg (X m c (at_ t p)) (D m c (at_ t p)) (j 1) := by
  unfold part
  refine Finset.sum_congr rfl fun p _ => ?_
  have hD : (fun k => k0_pay2 (iblk m c 0 t) (iblk m c 1 t) (outsAt0 m c (t.val - 1) (Nat.lt_of_le_of_lt (Nat.sub_le _ _) t.isLt)).1 (ix2 p k))
      = D m c (at_ t p) := funext fun k => product m c t h2 (ix2 p k)
  rw [hD, blk_x]

theorem final_dg (c : Dev nD) : (dats m 0 c).arrAt 6 (cfgs 0).N
    = fun i : S1x1024.Idx => ∑ s, NormBack.dg (X m c s) (D m c s) (i 1) := by
  refine (dats m 0 c).arrAt_eq_of_covers 6 _ (by decide +kernel) fun t hf y => ?_
  blk_simp
  rw [after0_6]
  have h15 := (flush0_6 t).mp hf
  have hN := lt_of_lt_of_eq t.isLt N_0
  have key := Pipeline.eq_sum_fin_of_reset_step_apply_of_flush
    (fun n h (j : S1x1024.Idx) => if n < 3 then (0 : EReal) else (outsAt0 m c n h).2 j) 16 (fun _ => 0)
    (fun t j => if t.val % 4 = 3 then ∑ p : Fin 1024, NormBack.dg (X m c (at_ t p)) (D m c (at_ t p)) (j 1) else 0)
    (fun t h j => by
      have := lt_of_lt_of_eq t.isLt N_0
      rw [if_pos (by omega), if_neg (by omega), add_zero])
    (fun t h j => by
      by_cases h2 : t.val % 4 = 3
      · rw [if_neg (show ¬t.val < 3 by omega), if_pos h2, ← part_eq m c t h2]
        by_cases h3 : t.val < 4
        · rw [if_pos (by omega), zero_add]
          exact last_dg_first m c t (by omega) j
        · rw [if_neg (by omega)]
          exact last_dg_next m c t h2 h3 j
      · rw [if_neg h2, add_zero, keep_dg m c t h2]
        by_cases h3 : t.val < 3
        · rw [if_pos h3, if_pos (by omega)]
        · rw [if_neg h3, if_neg (by omega)])
    t h15 y
  rw [if_neg (by omega), zero_add] at key
  refine key.trans ?_
  have e : (((cfg0.win 6).blk t).view.emb y 1 : Fin 1024) = y 1 := Fin.ext (by blk_simp [idx t])
  rw [← NormBack.runs 4 rfl (by decide) (fun s => NormBack.dg (X m c s) (D m c s) (((cfg0.win 6).blk t).view.emb y 1)) (fun s p => by omega), e]
  refine Finset.sum_congr rfl fun s _ => ?_
  have es : 16 * (t.val / 16) + s.val = s.val := by omega
  simp only [es]

end Cert.UpKernelIdeal.Out

/-! ## The pair -/

namespace Cert.Up

/-- The reference's run, read at its arguments; it has no semaphore. -/
theorem frame_reference : Cert.quiescent_UpReferenceIdeal (hUpReferenceIdeal := Cert.UpReferenceIdeal.Gen.facts) :=
  fun m g _ => (θ_run Cert.UpReferenceIdeal.defs _ _).mono
    (fun r h => ⟨fun c => (h c).2.2, sem_eq_zero_of_no_sems (by decide) r.2⟩) (Cert.UpReferenceIdeal.Value.run m g)

theorem algebraic : Cert.algebraic_UpKernelIdeal_UpReferenceIdeal
    (hUpKernelIdeal := Cert.UpKernelIdeal.Gen.facts) (hUpReferenceIdeal := Cert.UpReferenceIdeal.Gen.facts) := by
  pair_intro
  · run_from Cert.UpKernelIdeal.Gen.run_main m g
  · run_from Cert.UpReferenceIdeal.Value.run m' g'
    · obtain ⟨h0, h1, h2, h3, h4⟩ := hagree c
      rw [UpKernelIdeal.Out.final_dx, UpReferenceIdeal.Read.val_main_v40_eq, h0, h1, h2, h3, h4]
      funext i
      rw [eq_ix2 i]
      exact UpReferenceIdeal.Out.dx _ _ _ _ _ _ _
    · rw [UpKernelIdeal.Out.final_dg]
      funext i
      rw [eq_ix2 i, show i 0 = (0 : Fin 1) from Subsingleton.elim (α := Fin 1) _ _]
      exact UpReferenceIdeal.Out.dg _ _ _ _

end Cert.Up

end
-- ==== Proof.Proj.lean ====
module

public import proofs.«01_k».proof.Proof.Gen.ProjKernelIdeal.Value
public import proofs.«01_k».proof.Proof.Gen.ProjReferenceIdeal.Read
public import proofs.«01_k».proof.Defs
public import proofs.«01_k».proof.Proof.NormBack
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Norm (ms rinv)

/-! ## The reference's results -/

namespace Cert.ProjReferenceIdeal.Out

open Cert.ProjReferenceIdeal Cert.ProjReferenceIdeal.Gen Cert.ProjReferenceIdeal.Read

variable (x0 : (⟨S1x4096x1024, .f32⟩ : BufTy).Contents (Elt Ideal)) (x1 : (⟨S1024, .f32⟩ : BufTy).Contents (Elt Ideal))
  (x2 : (⟨S1024x8192, .f32⟩ : BufTy).Contents (Elt Ideal)) (x3 : (⟨S1x4096x8192, .f32⟩ : BufTy).Contents (Elt Ideal))
  (x4 : (⟨S1x4096x1024, .f32⟩ : BufTy).Contents (Elt Ideal))

/-- The incoming gradient of the normalised row. -/
def D (s : Fin 4096) (q : Fin 1024) : EReal := ∑ l : Fin 8192, x3 (ix3 0 s l) * x2 (ix2 q l)

theorem v6 (s) : val_main_v6 x0 (ix3 0 s 0) = ms (fun k => x0 (ix3 0 s k)) := by
  pointwise [val_main_v6, val_main_v5, val_main_v4, val_main_v3, val_main_v2, val_main_v1, val_main_v0, val_main_cst,
    val_main_cst_0, val_main_cst_1, ms]

theorem v7 (s) : val_main_v7 x0 (ix3 0 s 0) = rinv (fun k => x0 (ix3 0 s k)) := by
  pointwise [val_main_v7, v6, rinv]

theorem v17 (s : Fin 4096) (q : Fin 1024) : val_main_v17 x2 x3 (ix3 0 s q) = D x2 x3 s q := by
  pointwise [val_main_v17, D]

theorem v22 (s : Fin 4096) (q : Fin 1024) : val_main_v22 x1 x2 x3 (ix3 0 s q) = D x2 x3 s q * x1 (ix1 q) := by
  pointwise [val_main_v22, v17, val_main_v21, val_main_v13]

theorem dx (s : Fin 4096) (q : Fin 1024) : val_main_v40 x0 x1 x2 x3 x4 (ix2 s q)
    = NormBack.dx (fun k => x0 (ix3 0 s k)) (fun k => x1 (ix1 k)) (D x2 x3 s) (fun k => x4 (ix3 0 s k)) q := by
  pointwise [val_main_v40, val_main_v39, val_main_v38, val_main_v37, val_main_v36, val_main_v35, val_main_v34, val_main_v33,
    val_main_v32, val_main_v31, val_main_v30, val_main_v29, val_main_v28, val_main_v27, v7, val_main_v10, val_main_v9, val_main_v8,
    v6, val_main_v26, val_main_v25, val_main_v24, v22, Cert.Norm.hostReduceAdd_r3_a02, val_main_cst_2, val_main_cst_5,
    val_main_cst_6, val_main_cst_7]
  rw [add_assoc, add_assoc]
  refine congrArg _ ((add_assoc _ _ _).symm.trans ?_)
  exact (Cert.Norm.grad _ (fun k => D x2 x3 s k * x1 (ix1 k)) q).symm

theorem dg (q : Fin 1024) : val_main_v41 x0 x2 x3 (ix2 0 q) = ∑ s : Fin 4096, NormBack.dg (fun k => x0 (ix3 0 s k)) (D x2 x3 s) q := by
  pointwise [val_main_v41, val_main_v23, val_main_v20, val_main_v19, val_main_v18, v17, val_main_v12, val_main_v11, v7,
    Cert.Norm.hostReduceAdd_r3_a01, val_main_cst_3, val_main_cst_4]
  exact Finset.sum_congr rfl fun s _ => mul_comm _ _

end Cert.ProjReferenceIdeal.Out

/-! ## The kernel's results -/

namespace Cert.ProjKernelIdeal.Out

open Cert.ProjKernelIdeal Cert.ProjKernelIdeal.Gen

section Body

variable (X A : Vec Ideal S1024x1024 .f32) (G : Vec Ideal S1x1024 .f32) (R : Vec Ideal S1024x1024 .f32)
  (a : Vec Ideal S1x1024x1024 .bf16) (w : Vec Ideal S1x1024x1024 .bf16)

/-- The finished rows of a block. -/
def rows : Vec Ideal S1024x1024 .f32 := fun y => NormBack.dx (fun k => X (ix2 (y 0) k)) (fun k => G (ix2 0 k))
  (fun k => A (ix2 (y 0) k)) (fun k => R (ix2 (y 0) k)) (y 1)

theorem rect_emb (o : ℕ) (p : Fin 256) (q : Fin 1024) (ho : o + 256 ≤ 1024) {h} : (Rect.unit (s := S1024x1024) ![o, 0] ![256, 1024] h).emb (ix2 p q)
    = ix2 ⟨o + p.val, by omega⟩ q := by
  blk_ext

theorem pay_prod (p q : Fin 1024) : k0_pay1 a w (ix2 p q) = ∑ j : Fin 1024, a (ix3 0 p j) * w (ix3 0 q j) := by
  pointwise [k0_pay1]

theorem pay_acc (p q : Fin 1024) : k0_pay2 a w A (ix2 p q) = A (ix2 p q) + ∑ j : Fin 1024, a (ix3 0 p j) * w (ix3 0 q j) := by
  pointwise [k0_pay2, pay_prod]

end Body

variable (m : (ℓ : Loc nD τ sig) → Buf (Elt Ideal) ℓ)

theorem idx : ∀ t : Fin cfg0.N, win0_0.index t = ![t.val % 8, t.val / 8, 0] ∧ win0_1.index t = ![t.val % 8, 0, 0]
    ∧ win0_2.index t = ![t.val / 8, 0] ∧ win0_3.index t = ![0, 0] ∧ win0_4.index t = ![t.val / 8, 0] ∧ win0_5.index t = ![t.val / 8, 0]
    ∧ win0_6.index t = ![0, 0] :=
  (by decide +kernel : ∀ t : Fin grid0.N, _)

/-- The arguments by coordinates. -/
abbrev X (c : Dev nD) (s : Fin 4096) (k : Fin 1024) : EReal := m ((c : Thread nD τ).loc main_arg0) (ix3 0 s k)
abbrev G (c : Dev nD) (k : Fin 1024) : EReal := m ((c : Thread nD τ).loc main_arg1) (ix1 k)
abbrev R (c : Dev nD) (s : Fin 4096) (k : Fin 1024) : EReal := m ((c : Thread nD τ).loc main_arg4) (ix3 0 s k)
abbrev dproj (c : Dev nD) (s : Fin 4096) (l : Fin 8192) : EReal := m ((c : Thread nD τ).loc main_arg3) (ix3 0 s l)
abbrev wIn (c : Dev nD) (q : Fin 1024) (l : Fin 8192) : EReal := m ((c : Thread nD τ).loc main_arg2) (ix2 q l)
def D (c : Dev nD) (s : Fin 4096) (q : Fin 1024) : EReal := ∑ l : Fin 8192, dproj m c s l * wIn m c q l

/-- The row of the array that row `p` of point `t`'s block is. -/
abbrev at_ (t : Fin cfg0.N) (p : Fin 1024) : Fin 4096 :=
  ⟨t.val / 8 * 1024 + p.val, by have := lt_of_lt_of_eq t.isLt N_0; have := p.isLt; omega⟩

/-- The projected column that column `j` of point `t`'s block is. -/
abbrev col (t : Fin cfg0.N) (j : Fin 1024) : Fin 8192 := ⟨t.val % 8 * 1024 + j.val, by have := j.isLt; omega⟩

theorem blk_x (c : Dev nD) (t : Fin cfg0.N) (p : Fin 1024) :
    (fun k : Fin 1024 => (iblk m c 2 t : Vec Ideal S1024x1024 .f32) (ix2 p k)) = X m c (at_ t p) := by
  funext k
  blk_point [iblk, V, idx t, at_]

theorem blk_g (c : Dev nD) (t : Fin cfg0.N) :
    (fun k : Fin 1024 => (iblk m c 3 t : Vec Ideal S1x1024 .f32) (ix2 0 k)) = G m c := by
  funext k
  blk_point [iblk, V, idx t]

theorem blk_r (c : Dev nD) (t : Fin cfg0.N) (p : Fin 1024) :
    (fun k : Fin 1024 => (iblk m c 4 t : Vec Ideal S1024x1024 .f32) (ix2 p k)) = R m c (at_ t p) := by
  funext k
  blk_point [iblk, V, idx t, at_]

theorem blk_dproj (c : Dev nD) (t : Fin cfg0.N) (p : Fin 1024) (j : Fin 1024) :
    (iblk m c 0 t : Vec Ideal S1x1024x1024 .bf16) (ix3 0 p j) = dproj m c (at_ t p) (col t j) := by
  blk_point [iblk, V, idx t, at_, col]

theorem blk_w (c : Dev nD) (t : Fin cfg0.N) (j : Fin 1024) (q : Fin 1024) :
    (iblk m c 1 t : Vec Ideal S1x1024x1024 .bf16) (ix3 0 q j) = wIn m c q (col t j) := by
  blk_point [iblk, V, idx t, col]

/-- A last point's rows: the accumulated product finished with the norm's gradient. -/
theorem last_dx (c : Dev nD) (t : Fin cfg0.N) (h2 : t.val % 8 = 7) (y : S1024x1024.Idx) :
    (outsAt0 m c t.val t.isLt).1 y = rows (iblk m c 2 t) (k0_pay2 (iblk m c 0 t) (iblk m c 1 t)
      (outsAt0 m c (t.val - 1) (Nat.lt_of_le_of_lt (Nat.sub_le _ _) t.isLt)).1) (iblk m c 3 t) (iblk m c 4 t) y := by
  by_cases h3 : t.val < 8
  · rw [outsAt0_C m c t (by omega) (by omega) h2 h3 (by omega)]
    frame_out
    generalize k0_pay2 (F := Ideal) (iblk m c 0 t) (iblk m c 1 t) (outsAt0 m c (t.val - 1) (Nat.lt_of_le_of_lt (Nat.sub_le _ _) t.isLt)).1 = A
    simp (decide := true) only [↓View.readCov_skip, ↓View.readCov_fill]
    refine View.canon_append_of_piecesOf (rows (iblk m c 2 t) A (iblk m c 3 t) (iblk m c 4 t)) [_] [_, _, _, _]
      ⟨fun (x : S256x1024.Idx) => ?_, fun (x : S256x1024.Idx) => ?_, fun (x : S256x1024.Idx) => ?_, fun (x : S256x1024.Idx) => ?_, trivial⟩
      y (View.cover_of_tiledL _ ![256, 1024] (by sl_kernel_rfl) y)
    all_goals
      obtain ⟨p, q, rfl⟩ : ∃ p q, x = ix2 p q := ⟨x 0, x 1, by blk_ext⟩
      dsimp only
      rw [rect_emb _ p q (by omega)]
      open_payloads
      pointwise [rows, NormBack.dx, rinv, ms]
  · rw [outsAt0_D m c t (by omega) (by omega) h2 h3 (by omega)]
    frame_out
    generalize k0_pay2 (F := Ideal) (iblk m c 0 t) (iblk m c 1 t) (outsAt0 m c (t.val - 1) (Nat.lt_of_le_of_lt (Nat.sub_le _ _) t.isLt)).1 = A
    simp (decide := true) only [↓View.readCov_skip, ↓View.readCov_fill]
    refine View.canon_append_of_piecesOf (rows (iblk m c 2 t) A (iblk m c 3 t) (iblk m c 4 t)) [_] [_, _, _, _]
      ⟨fun (x : S256x1024.Idx) => ?_, fun (x : S256x1024.Idx) => ?_, fun (x : S256x1024.Idx) => ?_, fun (x : S256x1024.Idx) => ?_, trivial⟩
      y (View.cover_of_tiledL _ ![256, 1024] (by sl_kernel_rfl) y)
    all_goals
      obtain ⟨p, q, rfl⟩ : ∃ p q, x = ix2 p q := ⟨x 0, x 1, by blk_ext⟩
      dsimp only
      rw [rect_emb _ p q (by omega)]
      open_payloads
      pointwise [rows, NormBack.dx, rinv, ms]

/-- What a last point adds to the gain's gradient. -/
def part (c : Dev nD) (t : Fin cfg0.N) : S1x1024.Idx → EReal := fun j => ∑ p : Fin 1024,
  NormBack.dg (fun k => (iblk m c 2 t : Vec Ideal S1024x1024 .f32) (ix2 p k))
    (fun k => k0_pay2 (iblk m c 0 t) (iblk m c 1 t) (outsAt0 m c (t.val - 1) (Nat.lt_of_le_of_lt (Nat.sub_le _ _) t.isLt)).1 (ix2 p k)) (j 1)

theorem last_dg_first (c : Dev nD) (t : Fin cfg0.N) (h2 : t.val = 7) (j : S1x1024.Idx) : (outsAt0 m c t.val t.isLt).2 j = part m c t j := by
  rw [outsAt0_C m c t (by omega) (by omega) (by omega) (by omega) (by omega)]
  frame_out
  unfold part
  generalize k0_pay2 (F := Ideal) (iblk m c 0 t) (iblk m c 1 t) (outsAt0 m c (t.val - 1) (Nat.lt_of_le_of_lt (Nat.sub_le _ _) t.isLt)).1 = A
  simp (decide := true) only [↓View.readCov_skip, ↓View.readCov_fill]
  obtain ⟨p, q, rfl⟩ : ∃ p q, j = ix2 p q := ⟨j 0, j 1, by blk_ext⟩
  obtain rfl : p = 0 := Subsingleton.elim _ _
  rw [NormBack.four]
  open_payloads
  pointwise [NormBack.dg, rinv, ms]

theorem last_dg_next (c : Dev nD) (t : Fin cfg0.N) (h2 : t.val % 8 = 7) (h3 : ¬t.val < 8) (j : S1x1024.Idx) : (outsAt0 m c t.val t.isLt).2 j
    = (outsAt0 m c (t.val - 1) (Nat.lt_of_le_of_lt (Nat.sub_le _ _) t.isLt)).2 j + part m c t j := by
  rw [outsAt0_D m c t (by omega) (by omega) (by omega) (by omega) (by omega)]
  frame_out
  unfold part
  generalize k0_pay2 (F := Ideal) (iblk m c 0 t) (iblk m c 1 t) (outsAt0 m c (t.val - 1) (Nat.lt_of_le_of_lt (Nat.sub_le _ _) t.isLt)).1 = A
  simp (decide := true) only [↓View.readCov_skip, ↓View.readCov_fill]
  obtain ⟨p, q, rfl⟩ : ∃ p q, j = ix2 p q := ⟨j 0, j 1, by blk_ext⟩
  obtain rfl : p = 0 := Subsingleton.elim _ _
  rw [NormBack.four]
  open_payloads
  pointwise [NormBack.dg, rinv, ms]

/-- A point that is not the last of its rows leaves the gain's gradient. -/
theorem keep_dg (c : Dev nD) (t : Fin cfg0.N) (h2 : ¬t.val % 8 = 7) :
    (outsAt0 m c t.val t.isLt).2 = (outsAt0 m c (t.val - 1) (Nat.lt_of_le_of_lt (Nat.sub_le _ _) t.isLt)).2 := by
  by_cases h0 : t.val % 8 = 0
  · rw [outsAt0_A m c t h0 (by omega) h2]
    rfl
  · rw [outsAt0_B m c t h0 (by omega) h2]
    rfl

/-- What a point adds to the product. -/
def term (c : Dev nD) (t : Fin cfg0.N) : S1024x1024.Idx → EReal :=
  fun j => ∑ l : Fin 1024, dproj m c (at_ t (j 0)) (col t l) * wIn m c (j 1) (col t l)

theorem term_eq (c : Dev nD) (t : Fin cfg0.N) (j : S1024x1024.Idx) : k0_pay1 (iblk m c 0 t) (iblk m c 1 t) j = term m c t j := by
  obtain ⟨p, q, rfl⟩ : ∃ p q, j = ix2 p q := ⟨j 0, j 1, by blk_ext⟩
  refine (pay_prod _ _ p q).trans (Finset.sum_congr rfl fun l _ => ?_)
  rw [blk_dproj, blk_w]
  rfl

theorem term_add (c : Dev nD) (t : Fin cfg0.N) (A : Vec Ideal S1024x1024 .f32) (j : S1024x1024.Idx) :
    k0_pay2 (iblk m c 0 t) (iblk m c 1 t) A j = (show EReal from A j) + term m c t j := by
  rw [← term_eq]
  pointwise [k0_pay2]

/-- The points of a run before its last hold the product so far; the last one's own is over the whole projected axis. -/
theorem product (c : Dev nD) (t : Fin cfg0.N) (h2 : t.val % 8 = 7) (j : S1024x1024.Idx) :
    k0_pay2 (iblk m c 0 t) (iblk m c 1 t) (outsAt0 m c (t.val - 1) (Nat.lt_of_le_of_lt (Nat.sub_le _ _) t.isLt)).1 j
      = D m c (at_ t (j 0)) (j 1) := by
  have key := Pipeline.eq_sum_fin_of_reset_step_apply_of_flush
    (fun n h (j : S1024x1024.Idx) => if n % 8 = 7 then (k0_pay2 (iblk m c 0 ⟨n, h⟩) (iblk m c 1 ⟨n, h⟩)
      (outsAt0 m c (n - 1) (Nat.lt_of_le_of_lt (Nat.sub_le _ _) h)).1 j : EReal) else (outsAt0 m c n h).1 j) 8 (fun _ => 0) (term m c)
    (fun t h j => by
      rw [if_neg (by omega), outsAt0_A m c t h (by omega) (by omega)]
      frame_out
      rw [zero_add]
      exact term_eq m c t j)
    (fun t h j => by
      rw [if_neg (show ¬(t.val - 1) % 8 = 7 by omega)]
      by_cases h2 : t.val % 8 = 7
      · rw [if_pos h2]
        exact term_add m c t _ j
      · rw [if_neg h2, outsAt0_B m c t h (by omega) h2]
        frame_out
        exact term_add m c t _ j)
    t h2 j
  rw [if_pos h2] at key
  refine key.trans ((zero_add _).trans ?_)
  unfold D
  refine Fin.sum_mul_add_congr fun s k hl => ?_
  have e : 8 * (t.val / 8) + s.val < cfg0.N := by have := t.isLt; omega
  have ea : at_ (⟨8 * (t.val / 8) + s.val, e⟩ : Fin cfg0.N) (j 0) = at_ t (j 0) := Fin.ext (by
    show (8 * (t.val / 8) + s.val) / 8 * 1024 + _ = t.val / 8 * 1024 + _
    omega)
  have ec : col (⟨8 * (t.val / 8) + s.val, e⟩ : Fin cfg0.N) k = ⟨s.val * 1024 + k.val, hl⟩ := Fin.ext (by
    show (8 * (t.val / 8) + s.val) % 8 * 1024 + k.val = s.val * 1024 + k.val
    omega)
  rw [ea, ec]

/-- The rows a last point stores, over the arguments. -/
theorem point_dx (c : Dev nD) (t : Fin cfg0.N) (h2 : t.val % 8 = 7) (y : S1024x1024.Idx) : (outsAt0 m c t.val t.isLt).1 y
    = (fun i : S4096x1024.Idx => NormBack.dx (X m c (i 0)) (G m c) (D m c (i 0)) (R m c (i 0)) (i 1)) (((cfg0.win 5).blk t).view.emb y) := by
  rw [last_dx m c t h2 y]
  obtain ⟨p, q, rfl⟩ : ∃ p q, y = ix2 p q := ⟨y 0, y 1, by blk_ext⟩
  rw [show ((cfg0.win 5).blk t).view.emb (ix2 p q) = (ix2 (at_ t p) q : S4096x1024.Idx) from by blk_ext [idx t, at_]]
  have hD : (fun k => k0_pay2 (iblk m c 0 t) (iblk m c 1 t) (outsAt0 m c (t.val - 1) (Nat.lt_of_le_of_lt (Nat.sub_le _ _) t.isLt)).1 (ix2 p k))
      = D m c (at_ t p) := funext fun k => product m c t h2 (ix2 p k)
  show NormBack.dx (fun k => (iblk m c 2 t : Vec Ideal S1024x1024 .f32) (ix2 p k)) (fun k => (iblk m c 3 t : Vec Ideal S1x1024 .f32) (ix2 0 k))
    (fun k => k0_pay2 (iblk m c 0 t) (iblk m c 1 t) (outsAt0 m c (t.val - 1) (Nat.lt_of_le_of_lt (Nat.sub_le _ _) t.isLt)).1 (ix2 p k))
    (fun k => (iblk m c 4 t : Vec Ideal S1024x1024 .f32) (ix2 p k)) q = _
  rw [hD, blk_x, blk_g, blk_r]
  rfl

theorem final_dx (c : Dev nD) : (dats m 0 c).arrAt 5 (cfgs 0).N
    = fun i : S4096x1024.Idx => NormBack.dx (X m c (i 0)) (G m c) (D m c (i 0)) (R m c (i 0)) (i 1) := by
  refine (dats m 0 c).arrAt_eq_of_covers 5 _ (by decide +kernel) fun t hf y => ?_
  blk_simp
  rw [after0_5]
  exact point_dx m c t ((flush0_5 t).mp hf) y

/-- What a last point adds to the gain's gradient, over the arguments. -/
theorem part_eq (c : Dev nD) (t : Fin cfg0.N) (h2 : t.val % 8 = 7) (j : S1x1024.Idx) :
    part m c t j = ∑ p : Fin 1024, NormBack.dg (X m c (at_ t p)) (D m c (at_ t p)) (j 1) := by
  unfold part
  refine Finset.sum_congr rfl fun p _ => ?_
  have hD : (fun k => k0_pay2 (iblk m c 0 t) (iblk m c 1 t) (outsAt0 m c (t.val - 1) (Nat.lt_of_le_of_lt (Nat.sub_le _ _) t.isLt)).1 (ix2 p k))
      = D m c (at_ t p) := funext fun k => product m c t h2 (ix2 p k)
  rw [hD, blk_x]

theorem final_dg (c : Dev nD) : (dats m 0 c).arrAt 6 (cfgs 0).N
    = fun i : S1x1024.Idx => ∑ s, NormBack.dg (X m c s) (D m c s) (i 1) := by
  refine (dats m 0 c).arrAt_eq_of_covers 6 _ (by decide +kernel) fun t hf y => ?_
  blk_simp
  rw [after0_6]
  have h31 := (flush0_6 t).mp hf
  have hN := lt_of_lt_of_eq t.isLt N_0
  have key := Pipeline.eq_sum_fin_of_reset_step_apply_of_flush
    (fun n h (j : S1x1024.Idx) => if n < 7 then (0 : EReal) else (outsAt0 m c n h).2 j) 32 (fun _ => 0)
    (fun t j => if t.val % 8 = 7 then ∑ p : Fin 1024, NormBack.dg (X m c (at_ t p)) (D m c (at_ t p)) (j 1) else 0)
    (fun t h j => by
      have := lt_of_lt_of_eq t.isLt N_0
      rw [if_pos (by omega), if_neg (by omega), add_zero])
    (fun t h j => by
      by_cases h2 : t.val % 8 = 7
      · rw [if_neg (show ¬t.val < 7 by omega), if_pos h2, ← part_eq m c t h2]
        by_cases h3 : t.val < 8
        · rw [if_pos (by omega), zero_add]
          exact last_dg_first m c t (by omega) j
        · rw [if_neg (by omega)]
          exact last_dg_next m c t h2 h3 j
      · rw [if_neg h2, add_zero, keep_dg m c t h2]
        by_cases h3 : t.val < 7
        · rw [if_pos h3, if_pos (by omega)]
        · rw [if_neg h3, if_neg (by omega)])
    t h31 y
  rw [if_neg (by omega), zero_add] at key
  refine key.trans ?_
  have e : (((cfg0.win 6).blk t).view.emb y 1 : Fin 1024) = y 1 := Fin.ext (by blk_simp [idx t])
  rw [← NormBack.runs 8 rfl (by decide) (fun s => NormBack.dg (X m c s) (D m c s) (((cfg0.win 6).blk t).view.emb y 1)) (fun s p => by omega), e]
  refine Finset.sum_congr rfl fun s _ => ?_
  have es : 32 * (t.val / 32) + s.val = s.val := by omega
  simp only [es]

end Cert.ProjKernelIdeal.Out

/-! ## The pair -/

namespace Cert.Proj

/-- The reference's run, read at its arguments; it has no semaphore. -/
theorem frame_reference : Cert.quiescent_ProjReferenceIdeal (hProjReferenceIdeal := Cert.ProjReferenceIdeal.Gen.facts) :=
  fun m g _ => (θ_run Cert.ProjReferenceIdeal.defs _ _).mono
    (fun r h => ⟨fun c => (h c).2.2, sem_eq_zero_of_no_sems (by decide) r.2⟩) (Cert.ProjReferenceIdeal.Value.run m g)

theorem algebraic : Cert.algebraic_ProjKernelIdeal_ProjReferenceIdeal
    (hProjKernelIdeal := Cert.ProjKernelIdeal.Gen.facts) (hProjReferenceIdeal := Cert.ProjReferenceIdeal.Gen.facts) := by
  pair_intro
  · run_from Cert.ProjKernelIdeal.Gen.run_main m g
  · run_from Cert.ProjReferenceIdeal.Value.run m' g'
    · obtain ⟨h0, h1, h2, h3, h4⟩ := hagree c
      rw [ProjKernelIdeal.Out.final_dx, ProjReferenceIdeal.Read.val_main_v40_eq, h0, h1, h2, h3, h4]
      funext i
      rw [eq_ix2 i]
      exact ProjReferenceIdeal.Out.dx _ _ _ _ _ _ _
    · rw [ProjKernelIdeal.Out.final_dg]
      funext i
      rw [eq_ix2 i, show i 0 = (0 : Fin 1) from Subsingleton.elim (α := Fin 1) _ _]
      exact ProjReferenceIdeal.Out.dg _ _ _ _

end Cert.Proj

end
-- ==== Proof.Merge.lean ====
module

public import proofs.«01_k».proof.Proof.Gen.MergeKernelIdeal.Value
public import proofs.«01_k».proof.Proof.Gen.MergeReferenceIdeal.Read
public import proofs.«01_k».proof.Proof.Gen.On_merge_mask
public import proofs.«01_k».proof.Defs
public import proofs.«01_k».proof.Proof.Norm
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## The gated merge's gradient, at one position and branch -/

namespace Cert.Merge

/-- The logistic gate. -/
def sg (z : EReal) : EReal :=
  Ideal.div (Ideal.ofBits .f32 0x3F800000#32) (Ideal.ofBits .f32 0x3F800000#32 + Ideal.exp (-z))

/-- The gradient of the merged row: the incoming row against the rows of the output weight. -/
def dm (d : Fin 1024 → EReal) (w : Fin 1024 → Fin 1024 → EReal) (q : Fin 1024) : EReal := ∑ k, d k * w q k

/-- One branch's row, widened. -/
def up (y : Fin 512 → EReal) (w : Fin 512 → Fin 1024 → EReal) (q : Fin 1024) : EReal := ∑ k, y k * w k q

/-- The gradient of the widened row. -/
def dup (d : Fin 1024 → EReal) (wo : Fin 1024 → Fin 1024 → EReal) (z : Fin 1024 → EReal) (q : Fin 1024) : EReal :=
  dm d wo q * sg (z q)

/-- The gradient of the gate's argument. -/
def dz (d : Fin 1024 → EReal) (wo : Fin 1024 → Fin 1024 → EReal) (z : Fin 1024 → EReal) (y : Fin 512 → EReal)
    (wu : Fin 512 → Fin 1024 → EReal) (q : Fin 1024) : EReal :=
  dm d wo q * up y wu q * (sg (z q) * (Ideal.ofBits .f32 0x3F800000#32 - sg (z q)))

/-- The gradient of the branch's row. -/
def dy (d : Fin 1024 → EReal) (wo : Fin 1024 → Fin 1024 → EReal) (z : Fin 1024 → EReal) (wu : Fin 512 → Fin 1024 → EReal)
    (c : Fin 512) : EReal := ∑ q, dup d wo z q * wu c q

/-- Branch `g`'s gate at column `q`, among the `4096` gate columns. -/
def col (g : Fin 4) (q : Fin 1024) : Fin 4096 := ⟨g.val * 1024 + q.val, by omega⟩

end Cert.Merge

/-! ## The reference's results -/

namespace Cert.MergeReferenceIdeal.Out

open Cert.MergeReferenceIdeal Cert.MergeReferenceIdeal.Gen Cert.MergeReferenceIdeal.Read
open Cert.Merge (col)

variable (x0 : (⟨S1x4096x4x512, .f32⟩ : BufTy).Contents (Elt Ideal)) (x1 : (⟨S1x4096x4096, .f32⟩ : BufTy).Contents (Elt Ideal))
  (x2 : (⟨S4x512x1024, .f32⟩ : BufTy).Contents (Elt Ideal)) (x3 : (⟨S1024x1024, .f32⟩ : BufTy).Contents (Elt Ideal))
  (x4 : (⟨S1x4096x1024, .f32⟩ : BufTy).Contents (Elt Ideal))

theorem v2 (s : Fin 4096) (g : Fin 4) (q : Fin 1024) : val_main_v2 x1 (ix4 0 s g q) = x1 (ix3 0 s (col g q)) := by
  rw [val_main_v2_apply]
  refine congrArg x1 ?_
  blk_ext [col]

theorem v8 (s : Fin 4096) (g : Fin 4) (q : Fin 1024) : val_main_v8 x1 (ix4 0 s g q) = Merge.sg (x1 (ix3 0 s (col g q))) := by
  pointwise [val_main_v8, val_main_v7, val_main_v6, val_main_v5, val_main_v4, val_main_v3, val_main_cst, val_main_cst_0, v2, Merge.sg]

theorem v1 (s : Fin 4096) (g : Fin 4) (q : Fin 1024) : val_main_v1 x0 x2 (ix4 0 s g q)
    = Merge.up (fun k => x0 (ix4 0 s g k)) (fun k q => x2 (ix3 g k q)) q := by
  pointwise [val_main_v1, val_main_v0, Merge.up]
  exact Finset.sum_congr rfl fun k _ => mul_comm _ _

theorem v16 (s : Fin 4096) (g : Fin 4) (q : Fin 1024) : val_main_v16 x3 x4 (ix4 0 s g q)
    = Merge.dm (fun k => x4 (ix3 0 s k)) (fun q k => x3 (ix2 q k)) q := by
  pointwise [val_main_v16, val_main_v15, Merge.dm]

theorem v17 (s : Fin 4096) (g : Fin 4) (q : Fin 1024) : val_main_v17 x1 x3 x4 (ix4 0 s g q)
    = Merge.dup (fun k => x4 (ix3 0 s k)) (fun q k => x3 (ix2 q k)) (fun q => x1 (ix3 0 s (col g q))) q := by
  pointwise [val_main_v17, v8, v16, Merge.dup]
  exact mul_comm _ _

theorem v19 (s : Fin 4096) (g : Fin 4) (q : Fin 1024) : val_main_v19 x0 x1 x2 x3 x4 (ix4 0 s g q)
    = Merge.dz (fun k => x4 (ix3 0 s k)) (fun q k => x3 (ix2 q k)) (fun q => x1 (ix3 0 s (col g q)))
        (fun k => x0 (ix4 0 s g k)) (fun k q => x2 (ix3 g k q)) q := by
  pointwise [val_main_v19, val_main_v18, val_main_v11, val_main_v10, val_main_v9, val_main_cst_1, v8, v16, v1, Merge.dz]

/-- The widened rows' gradient. -/
theorem dup (g : Fin 4) (s : Fin 4096) (q : Fin 1024) : val_main_v29 x1 x3 x4 (ix3 g s q)
    = Merge.dup (fun k => x4 (ix3 0 s k)) (fun q k => x3 (ix2 q k)) (fun q => x1 (ix3 0 s (col g q))) q := by
  pointwise [val_main_v29, val_main_v28, val_main_v27, v17]

/-- The gates' gradient. -/
theorem v26 (g : Fin 4) (s : Fin 4096) (q : Fin 1024) : val_main_v26 x0 x1 x2 x3 x4 (ix3 g s q)
    = Merge.dz (fun k => x4 (ix3 0 s k)) (fun q k => x3 (ix2 q k)) (fun q => x1 (ix3 0 s (col g q)))
        (fun k => x0 (ix4 0 s g k)) (fun k q => x2 (ix3 g k q)) q := by
  pointwise [val_main_v26, val_main_v25, val_main_v24, val_main_v20, v19]

/-- The upper half of the projection's gradient is the gates'. -/
theorem dz (g : Fin 4) (s : Fin 4096) (q : Fin 1024) : val_main_v32 x0 x1 x2 x3 x4 (ix3 (⟨4 + g.val, by omega⟩ : Fin 8) s q)
    = Merge.dz (fun k => x4 (ix3 0 s k)) (fun q k => x3 (ix2 q k)) (fun q => x1 (ix3 0 s (col g q)))
        (fun k => x0 (ix4 0 s g k)) (fun k q => x2 (ix3 g k q)) q := by
  pointwise [val_main_v32, val_main_v31, v26]

/-- The branches' gradient. -/
theorem dy (g : Fin 4) (s : Fin 4096) (c : Fin 512) : val_main_v34 x1 x2 x3 x4 (ix3 g s c)
    = Merge.dy (fun k => x4 (ix3 0 s k)) (fun q k => x3 (ix2 q k)) (fun q => x1 (ix3 0 s (col g q))) (fun k q => x2 (ix3 g k q)) c := by
  pointwise [val_main_v34, val_main_v33, val_main_v23, val_main_v22, val_main_v21, v17, Merge.dy]

/-- The reference's run: its results are the values read above. -/
theorem run_reference (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v29) = Read.val_main_v29 (m ((c.tc : Thread nD τ).loc main_arg1))
        (m ((c.tc : Thread nD τ).loc main_arg3)) (m ((c.tc : Thread nD τ).loc main_arg4))
      ∧ r.2.mem ((c.tc : Thread nD τ).loc main_v32) = Read.val_main_v32 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v34) = Read.val_main_v34 (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (Read.val_main_v29_eq _ _ _), (h c).2.1.trans (Read.val_main_v32_eq _ _ _ _ _),
    (h c).2.2.1.trans (Read.val_main_v34_eq _ _ _ _), (h c).2.2.2⟩) (Value.run m g)

end Cert.MergeReferenceIdeal.Out

/-! ## The kernel's results -/

namespace Cert.MergeKernelIdeal.Out

open Cert.MergeKernelIdeal Cert.MergeKernelIdeal.Gen
open Cert.Merge (col)

variable (x0 : Vec Ideal S256x1024 .f32) (x1 : Vec Ideal S4x256x512 .bf16) (x2 : Vec Ideal S4x256x1024 .f32)
  (x3 : Vec Ideal S4x512x1024 .bf16) (x4 : Vec Ideal S1024x1024 .bf16)

theorem out_dup (y : S4x256x1024.Idx) : out0_5 x0 x1 x2 x3 x4 y
    = Merge.dup (fun k => x0 (ix2 (y 1) k)) (fun q k => x4 (ix2 q k)) (fun q => x2 (ix3 (y 0) (y 1) q)) (y 2) := by
  unfold_out out0_5
  canon_tiles y h
  all_goals
    open_payloads
    pointwise [Merge.dup, Merge.dm, Merge.sg, zero_sub]
    blk_point []

theorem out_dz (y : S4x256x1024.Idx) : out0_6 x0 x1 x2 x3 x4 y
    = Merge.dz (fun k => x0 (ix2 (y 1) k)) (fun q k => x4 (ix2 q k)) (fun q => x2 (ix3 (y 0) (y 1) q))
        (fun k => x1 (ix3 (y 0) (y 1) k)) (fun k q => x3 (ix3 (y 0) k q)) (y 2) := by
  unfold_out out0_6
  canon_tiles y h
  all_goals
    open_payloads
    pointwise [Merge.dz, Merge.up, Merge.dm, Merge.sg, zero_sub]
    blk_point []

theorem out_dy (y : S4x256x512.Idx) : out0_7 x0 x1 x2 x3 x4 y
    = Merge.dy (fun k => x0 (ix2 (y 1) k)) (fun q k => x4 (ix2 q k)) (fun q => x2 (ix3 (y 0) (y 1) q))
        (fun k q => x3 (ix3 (y 0) k q)) (y 2) := by
  unfold_out out0_7
  canon_tiles y h
  all_goals
    open_payloads
    pointwise [Merge.dy, Merge.dup, Merge.dm, Merge.sg, zero_sub]
    blk_point []

/-! ### The blocks a point reads -/

theorem idx : ∀ t : Fin cfg0.N, win0_0.index t = ![t.val, 0] ∧ win0_1.index t = ![0, t.val, 0] ∧ win0_2.index t = ![1, t.val, 0]
    ∧ win0_3.index t = ![0, 0, 0] ∧ win0_4.index t = ![0, 0] ∧ win0_5.index t = ![0, t.val, 0] ∧ win0_6.index t = ![1, t.val, 0]
    ∧ win0_7.index t = ![0, t.val, 0] := (by decide +kernel : ∀ t : Fin grid0.N, _)

/-- The position that row `p` of point `t`'s block holds. -/
def at_ (t : Fin cfg0.N) (p : Fin 256) : Fin 4096 := ⟨t.val * 256 + p.val, by have := lt_of_lt_of_eq t.isLt N_0; omega⟩

variable (m : (ℓ : Loc nD τ sig) → Buf (Elt Ideal) ℓ)

abbrev Y (c : Dev nD) (s : Fin 4096) (g : Fin 4) (k : Fin 512) : EReal := m ((c : Thread nD τ).loc main_arg0) (ix4 0 s g k)
abbrev Z (c : Dev nD) (s : Fin 4096) (g : Fin 4) (q : Fin 1024) : EReal := m ((c : Thread nD τ).loc main_arg1) (ix3 0 s (col g q))
abbrev Wu (c : Dev nD) (g : Fin 4) (k : Fin 512) (q : Fin 1024) : EReal := m ((c : Thread nD τ).loc main_arg2) (ix3 g k q)
abbrev Wo (c : Dev nD) (q : Fin 1024) (k : Fin 1024) : EReal := m ((c : Thread nD τ).loc main_arg3) (ix2 q k)
abbrev DX (c : Dev nD) (s : Fin 4096) (k : Fin 1024) : EReal := m ((c : Thread nD τ).loc main_arg4) (ix3 0 s k)

theorem blk_d (c : Dev nD) (t : Fin cfg0.N) (p : Fin 256) :
    (fun k : Fin 1024 => (iblk m c 0 t : Vec Ideal S256x1024 .f32) (ix2 p k)) = DX m c (at_ t p) := by
  funext k
  blk_point [iblk, V, idx t, at_]

theorem blk_y (c : Dev nD) (t : Fin cfg0.N) (g : Fin 4) (p : Fin 256) :
    (fun k : Fin 512 => (iblk m c 1 t : Vec Ideal S4x256x512 .bf16) (ix3 g p k)) = Y m c (at_ t p) g := by
  funext k
  blk_point [iblk, V, idx t, at_]

theorem blk_z (c : Dev nD) (t : Fin cfg0.N) (g : Fin 4) (p : Fin 256) :
    (fun q : Fin 1024 => (iblk m c 2 t : Vec Ideal S4x256x1024 .f32) (ix3 g p q)) = Z m c (at_ t p) g := by
  funext q
  show V m c main_v7 (((cfg0.win 2).blk t).view.emb (ix3 g p q)) = _
  rw [show ((cfg0.win 2).blk t).view.emb (ix3 g p q) = (ix3 (⟨4 + g.val, by omega⟩ : Fin 8) (at_ t p) q : S8x4096x1024.Idx) from by blk_ext [idx t, at_]]
  entry_read
  pointwise []
  rfl

theorem blk_wu (c : Dev nD) (t : Fin cfg0.N) (g : Fin 4) :
    (fun (k : Fin 512) (q : Fin 1024) => (iblk m c 3 t : Vec Ideal S4x512x1024 .bf16) (ix3 g k q)) = Wu m c g := by
  funext k q
  blk_point [iblk, V, idx t, at_]

theorem blk_wo (c : Dev nD) (t : Fin cfg0.N) :
    (fun (q : Fin 1024) (k : Fin 1024) => (iblk m c 4 t : Vec Ideal S1024x1024 .bf16) (ix2 q k)) = Wo m c := by
  funext q k
  blk_point [iblk, V, idx t, at_]

theorem point_dup (c : Dev nD) (t : Fin cfg0.N) (y : S4x256x1024.Idx) :
    out0_5 (iblk m c 0 t) (iblk m c 1 t) (iblk m c 2 t) (iblk m c 3 t) (iblk m c 4 t) y
      = (fun i : S4x4096x1024.Idx => Merge.dup (DX m c (i 1)) (Wo m c) (Z m c (i 1) (i 0)) (i 2)) (((cfg0.win 5).blk t).view.emb y) := by
  obtain ⟨g, p, q, rfl⟩ : ∃ g p q, y = ix3 g p q := ⟨y 0, y 1, y 2, by blk_ext⟩
  refine (out_dup _ _ _ _ _ _).trans ?_
  rw [show ((cfg0.win 5).blk t).view.emb (ix3 g p q) = (ix3 g (at_ t p) q : S4x4096x1024.Idx) from by blk_ext [idx t, at_]]
  exact congr (congr (congr (congrArg Merge.dup (blk_d m c t p)) (blk_wo m c t)) (blk_z m c t g p)) rfl

theorem point_dz (c : Dev nD) (t : Fin cfg0.N) (g : Fin 4) (p : Fin 256) (q : Fin 1024) :
    out0_6 (iblk m c 0 t) (iblk m c 1 t) (iblk m c 2 t) (iblk m c 3 t) (iblk m c 4 t) (ix3 g p q)
      = Merge.dz (DX m c (at_ t p)) (Wo m c) (Z m c (at_ t p) g) (Y m c (at_ t p) g) (Wu m c g) q :=
  (out_dz _ _ _ _ _ _).trans (congr (congr (congr (congr (congr (congrArg Merge.dz (blk_d m c t p)) (blk_wo m c t)) (blk_z m c t g p))
    (blk_y m c t g p)) (blk_wu m c t g)) rfl)

theorem point_dy (c : Dev nD) (t : Fin cfg0.N) (y : S4x256x512.Idx) :
    out0_7 (iblk m c 0 t) (iblk m c 1 t) (iblk m c 2 t) (iblk m c 3 t) (iblk m c 4 t) y
      = (fun i : S4x4096x512.Idx => Merge.dy (DX m c (i 1)) (Wo m c) (Z m c (i 1) (i 0)) (Wu m c (i 0)) (i 2)) (((cfg0.win 7).blk t).view.emb y) := by
  obtain ⟨g, p, q, rfl⟩ : ∃ g p q, y = ix3 g p q := ⟨y 0, y 1, y 2, by blk_ext⟩
  refine (out_dy _ _ _ _ _ _).trans ?_
  rw [show ((cfg0.win 7).blk t).view.emb (ix3 g p q) = (ix3 g (at_ t p) q : S4x4096x512.Idx) from by blk_ext [idx t, at_]]
  exact congr (congr (congr (congr (congrArg Merge.dy (blk_d m c t p)) (blk_wo m c t)) (blk_z m c t g p)) (blk_wu m c t g)) rfl

theorem final_dup (c : Dev nD) : (dats m 0 c).arrAt 5 (cfgs 0).N
    = fun i : S4x4096x1024.Idx => Merge.dup (DX m c (i 1)) (Wo m c) (Z m c (i 1) (i 0)) (i 2) := by
  refine (dats m 0 c).arrAt_eq_of_covers 5 _ (by decide +kernel) fun t hf y => ?_
  blk_simp
  rw [after0_5]
  exact point_dup m c t y

theorem final_dy (c : Dev nD) : (dats m 0 c).arrAt 7 (cfgs 0).N
    = fun i : S4x4096x512.Idx => Merge.dy (DX m c (i 1)) (Wo m c) (Z m c (i 1) (i 0)) (Wu m c (i 0)) (i 2) := by
  refine (dats m 0 c).arrAt_eq_of_covers 7 _ (by decide +kernel) fun t hf y => ?_
  blk_simp
  rw [after0_7]
  exact point_dy m c t y

/-- The branch whose gate's gradient block `b` of the projection's gradient holds, `4 ≤ b`. -/
def br (b : Fin 8) : Fin 4 := ⟨b.val - 4, by omega⟩

theorem br_add (g : Fin 4) {h : 4 + g.val < 8} : br ⟨4 + g.val, h⟩ = g := Fin.ext (by simp [br])

/-- The projection's gradient: the gates' in the upper half; the lower half keeps what the array held. -/
theorem final_dz (c : Dev nD) : (dats m 0 c).arrAt 6 (cfgs 0).N
    = fun i : S8x4096x1024.Idx => if 4 ≤ (i 0).val then Merge.dz (DX m c (i 1)) (Wo m c) (Z m c (i 1) (br (i 0))) (Y m c (i 1) (br (i 0)))
        (Wu m c (br (i 0))) (i 2) else (dats m 0 c).A 6 i := by
  refine (dats m 0 c).arrAt_eq_of_coversWhere 6 _ (fun β => 1 ≤ β 0) (by decide +kernel) (fun t hf y => ?_)
    (fun j => by blk_simp [Pipeline.Window.cell_apply]; omega)
  blk_simp
  rw [after0_6]
  obtain ⟨g, p, q, hy⟩ : ∃ g p q, y = (ix3 g p q : S4x256x1024.Idx) := ⟨y 0, y 1, y 2, by blk_ext⟩
  rw [hy]
  refine (point_dz m c t g p q).trans ?_
  rw [show (win0_6.blk t).view.emb (ix3 g p q) = (ix3 (⟨4 + g.val, by omega⟩ : Fin 8) (at_ t p) q : S8x4096x1024.Idx) from by blk_ext [idx t, at_]]
  show _ = Merge.dz (DX m c (at_ t p)) (Wo m c) (Z m c (at_ t p) (br ⟨4 + g.val, _⟩)) (Y m c (at_ t p) (br ⟨4 + g.val, _⟩)) (Wu m c (br ⟨4 + g.val, _⟩)) q
  rw [br_add]

theorem final_dz_at (c : Dev nD) (g : Fin 4) (s : Fin 4096) (q : Fin 1024) :
    (dats m 0 c).arrAt 6 (cfgs 0).N (ix3 (⟨4 + g.val, by omega⟩ : Fin 8) s q : S8x4096x1024.Idx)
      = Merge.dz (DX m c s) (Wo m c) (Z m c s g) (Y m c s g) (Wu m c g) q := by
  rw [final_dz]
  refine (if_pos (Nat.le_add_right 4 g.val)).trans ?_
  show Merge.dz (DX m c s) (Wo m c) (Z m c s (br ⟨4 + g.val, _⟩)) (Y m c s (br ⟨4 + g.val, _⟩)) (Wu m c (br ⟨4 + g.val, _⟩)) q = _
  rw [br_add]

end Cert.MergeKernelIdeal.Out

/-! ## The pair -/

namespace Cert.Merge

open Cert.MergeKernelIdeal Cert.MergeKernelIdeal.Out

/-- The written half of the projection's gradient. -/
theorem mask (a0 a1 a2 a3 a4) (b : Fin 8) (s : Fin 4096) (q : Fin 1024)
    (h : (Cert.On_merge_mask.fn (F := Ideal) a0 a1 a2 a3 a4).2.1 (ix3 b s q) = 1#1) : 4 ≤ b.val := by
  by_contra hn
  revert h
  pointwise [Cert.On_merge_mask.fn]
  revert b
  decide

/-- The reference's run, read at its arguments; it has no semaphore. -/
theorem frame_reference : Cert.quiescent_MergeReferenceIdeal (hMergeReferenceIdeal := Cert.MergeReferenceIdeal.Gen.facts) :=
  fun m g _ => (θ_run Cert.MergeReferenceIdeal.defs _ _).mono
    (fun r h => ⟨fun c => (h c).2.2.2, sem_eq_zero_of_no_sems (by decide) r.2⟩) (Cert.MergeReferenceIdeal.Value.run m g)

set_option maxHeartbeats 800000 in
theorem algebraic : Cert.algebraic_MergeKernelIdeal_MergeReferenceIdeal_on_merge_mask
    (hMergeKernelIdeal := Cert.MergeKernelIdeal.Gen.facts) (hMergeReferenceIdeal := Cert.MergeReferenceIdeal.Gen.facts)
    (hOn_merge_mask := Cert.On_merge_mask.Gen.facts) := by
  intro m g m' g' _ hagree
  refine ⟨fun c (i : S4x4096x1024.Idx) => Merge.dup (DX m c (i 1)) (Wo m c) (Z m c (i 1) (i 0)) (i 2),
    fun c => Cert.MergeReferenceIdeal.Read.val_main_v32 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)),
    fun c (i : S4x4096x512.Idx) => Merge.dy (DX m c (i 1)) (Wo m c) (Z m c (i 1) (i 0)) (Wu m c (i 0)) (i 2), ?_, ?_⟩
  · run_from Cert.MergeKernelIdeal.Gen.run_main m g
    all_goals intro i hi
    · rw [final_dup]
    · rw [eq_ix3 i] at hi ⊢
      have hb := mask _ _ _ _ _ _ _ _ hi
      obtain ⟨g, hg⟩ : ∃ g : Fin 4, i 0 = (⟨4 + g.val, by omega⟩ : Fin 8) :=
        ⟨br (i 0), Fin.ext (by show (i 0).val = 4 + ((i 0).val - 4); omega)⟩
      rw [hg]
      exact (final_dz_at m c g _ _).trans (Cert.MergeReferenceIdeal.Out.dz _ _ _ _ _ _ _ _).symm
    · rw [final_dy]
  · refine (θ_run Cert.MergeReferenceIdeal.defs _ _).mono (fun r h c => ?_) (Cert.MergeReferenceIdeal.Out.run_reference m' g')
    obtain ⟨h0, h1, h2, h3, h4⟩ := hagree c
    obtain ⟨r0, r1, r2, rest⟩ := h c
    refine ⟨fun i _ => ?_, fun i _ => ?_, fun i _ => ?_, rest⟩
    · rw [r0, h1, h3, h4, eq_ix3 i]
      exact Cert.MergeReferenceIdeal.Out.dup _ _ _ _ _ _
    · rw [r1, h0, h1, h2, h3, h4]
    · rw [r2, h1, h2, h3, h4, eq_ix3 i]
      exact Cert.MergeReferenceIdeal.Out.dy _ _ _ _ _ _ _

end Cert.Merge

end
-- ==== Proof.Enter.lean ====
module

public import proofs.«01_k».proof.Proof.Gen.EnterKernelIdeal.Value
public import proofs.«01_k».proof.Proof.Gen.EnterReferenceIdeal.Read
public import proofs.«01_k».proof.Defs
public import proofs.«01_k».proof.Proof.Norm
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Norm (ms rinv)

/-! The first norm: a row over its root mean square, times the gain. -/

/-! ## The reference's result -/

namespace Cert.EnterReferenceIdeal.Out

open Cert.EnterReferenceIdeal Cert.EnterReferenceIdeal.Gen Cert.EnterReferenceIdeal.Read

variable (x0 : (⟨S1x4096x1024, .f32⟩ : BufTy).Contents (Elt Ideal)) (x1 : (⟨S1024, .f32⟩ : BufTy).Contents (Elt Ideal))

theorem v7 (s) : val_main_v7 x0 (ix3 0 s 0) = rinv (fun k => x0 (ix3 0 s k)) := by
  pointwise [val_main_v7, val_main_v6, val_main_v5, val_main_v4, val_main_v3, val_main_v2, val_main_v1, val_main_v0, val_main_cst,
    val_main_cst_0, val_main_cst_1, ms, rinv]

theorem h (s : Fin 4096) (q : Fin 1024) : val_main_v14 x0 x1 (ix2 s q)
    = x0 (ix3 0 s q) * rinv (fun k => x0 (ix3 0 s k)) * x1 (ix1 q) := by
  pointwise [val_main_v14, val_main_v13, val_main_v12, val_main_v11, val_main_v10, val_main_v9, val_main_v8, v7]

end Cert.EnterReferenceIdeal.Out

/-! ## The kernel's result -/

namespace Cert.EnterKernelIdeal.Out

open Cert.EnterKernelIdeal Cert.EnterKernelIdeal.Gen

theorem pay (x : Vec Ideal S512x1024 .f32) (g : Vec Ideal S1x1024 .f32) (p : Fin 512) (q : Fin 1024) :
    k0_pay1 x g (ix2 p q) = x (ix2 p q) * rinv (fun k => x (ix2 p k)) * g (ix2 0 q) := by
  pointwise [k0_pay1, rinv, ms]

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The arguments by coordinates. -/
abbrev X (c : Dev nD) (s : Fin 4096) (k : Fin 1024) : EReal := m ((c : Thread nD τ).loc main_arg0) (ix3 0 s k)
abbrev G (c : Dev nD) (k : Fin 1024) : EReal := m ((c : Thread nD τ).loc main_arg1) (ix1 k)

/-- The row of the array that row `p` of point `t`'s block is. -/
abbrev at_ (t : Fin cfg0.N) (p : Fin 512) : Fin 4096 :=
  ⟨t.val * 512 + p.val, by have := lt_of_lt_of_eq t.isLt N_0; have := p.isLt; omega⟩

theorem blk_x (c : Dev nD) (t : Fin cfg0.N) (p : Fin 512) (k : Fin 1024) :
    (iblk m c 0 t : Vec Ideal S512x1024 .f32) (ix2 p k) = X m c (at_ t p) k := by
  blk_point [iblk, V, idx t]

theorem blk_g (c : Dev nD) (t : Fin cfg0.N) (k : Fin 1024) :
    (iblk m c 1 t : Vec Ideal S1x1024 .f32) (ix2 0 k) = G m c k := by
  blk_point [iblk, V, idx t]

theorem final (c : Dev nD) : (dats m 0 c).arrAt 2 (cfgs 0).N
    = fun i : S4096x1024.Idx => X m c (i 0) (i 1) * rinv (X m c (i 0)) * G m c (i 1) := by
  refine (dats m 0 c).arrAt_eq_of_covers 2 _ (by decide +kernel) fun t hf y => ?_
  blk_simp
  rw [after0_2]
  frame_out
  obtain ⟨p, q, rfl⟩ : ∃ p q, y = (ix2 p q : S512x1024.Idx) := ⟨y 0, y 1, by blk_ext⟩
  refine (pay _ _ p q).trans ?_
  simp only [blk_x, blk_g]
  rw [show ((cfg0.win 2).blk t).view.emb (ix2 p q) = (ix2 (at_ t p) q : S4096x1024.Idx) from by blk_ext [idx t]]
  rfl

end Cert.EnterKernelIdeal.Out

/-! ## The claims -/

namespace Cert.Enter

theorem frame_reference : Cert.quiescent_EnterReferenceIdeal (hEnterReferenceIdeal := Cert.EnterReferenceIdeal.Gen.facts) :=
  fun m g _ => (θ_run Cert.EnterReferenceIdeal.defs _ _).mono
    (fun r h => ⟨fun c => (h c).2, sem_eq_zero_of_no_sems (by decide) r.2⟩) (Cert.EnterReferenceIdeal.Value.run m g)

theorem algebraic : Cert.algebraic_EnterKernelIdeal_EnterReferenceIdeal
    (hEnterKernelIdeal := Cert.EnterKernelIdeal.Gen.facts) (hEnterReferenceIdeal := Cert.EnterReferenceIdeal.Gen.facts) := by
  pair_intro
  · run_from Cert.EnterKernelIdeal.Gen.run_main m g
  · run_from Cert.EnterReferenceIdeal.Value.run m' g'
    rw [EnterKernelIdeal.Out.final, EnterReferenceIdeal.Read.val_main_v14_eq]
    funext i
    rw [eq_ix2 i]
    exact EnterReferenceIdeal.Out.h _ _ _ _

end Cert.Enter

end
-- ==== Proof.Down.lean ====
module

public import proofs.«01_k».proof.Proof.Gen.DownKernelIdeal.Value
public import proofs.«01_k».proof.Proof.Gen.DownReferenceIdeal.Read
public import proofs.«01_k».proof.Defs
public import proofs.«01_k».proof.Proof.Norm
public import proofs.«01_k».proof.Proof.Finite
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Norm (ms rinv)

/-! ## The down product of a feed-forward half-step, and the norm behind it -/

namespace Cert.Down

/-- A hidden entry: the gate through `silu`, times the value. -/
def hid (a b : EReal) : EReal :=
  a * Ideal.div (Ideal.ofBits .f32 0x3F800000#32) (Ideal.ofBits .f32 0x3F800000#32 + Ideal.exp (-a)) * b

/-- An entry of the residual stream after the half-step: `a`, `b` the row's gates and values, `w` a column of the weight. -/
def out (a b w : Fin 2816 → EReal) (x : EReal) : EReal :=
  x + Ideal.ofBits .f32 0x3F000000#32 * ∑ k, hid (a k) (b k) * w k

/-- Half a sum, added run by run. -/
theorem halves (F : Fin 2816 → EReal) (x : EReal) :
    x + Ideal.ofBits .f32 0x3F000000#32 * ∑ k : Fin 1408, F ⟨k.val, by omega⟩
        + Ideal.ofBits .f32 0x3F000000#32 * ∑ k : Fin 1408, F ⟨1408 + k.val, by omega⟩
      = x + Ideal.ofBits .f32 0x3F000000#32 * ∑ k, F k := by
  rw [show (∑ k, F k) = _ from Fin.sum_univ_add (a := 1408) (b := 1408) F, Finite.word_half,
    EReal.left_distrib_of_nonneg_of_ne_top (by exact_mod_cast (by norm_num : (0 : ℝ) ≤ 1 / 2)) (EReal.coe_ne_top _), add_assoc]
  rfl

end Cert.Down

/-! ## The reference's results -/

namespace Cert.DownReferenceIdeal.Out

open Cert.DownReferenceIdeal Cert.DownReferenceIdeal.Gen Cert.DownReferenceIdeal.Read

variable (x0 : (⟨S1x4096x5632, .f32⟩ : BufTy).Contents (Elt Ideal)) (x1 : (⟨S2816x1024, .f32⟩ : BufTy).Contents (Elt Ideal))
  (x2 : (⟨S1x4096x1024, .f32⟩ : BufTy).Contents (Elt Ideal)) (x3 : (⟨S1024, .f32⟩ : BufTy).Contents (Elt Ideal))

/-- The new residual stream. -/
def O (s : Fin 4096) (q : Fin 1024) : EReal := Down.out (fun k => x0 (ix3 0 s ⟨k.val, by omega⟩))
  (fun k => x0 (ix3 0 s ⟨2816 + k.val, by omega⟩)) (fun k => x1 (ix2 k q)) (x2 (ix3 0 s q))

theorem v7 (s : Fin 4096) (q : Fin 1024) : val_main_v7 x0 x1 x2 (ix3 0 s q) = O x0 x1 x2 s q := by
  pointwise [val_main_v7, val_main_v6, val_main_v5, val_main_v4, val_main_v3, val_main_v2, val_main_v1, val_main_v0, val_main_cst,
    val_main_call0_v0, val_main_call0_v1, val_main_call0_v2, val_main_call0_v3, val_main_call0_v4, val_main_call0_v5,
    val_main_call0_cst, val_main_call0_cst_0, O, Down.out, Down.hid]

theorem o (s : Fin 4096) (q : Fin 1024) : val_main_v8 x0 x1 x2 (ix2 s q) = O x0 x1 x2 s q := by
  pointwise [val_main_v8, v7]

theorem v16 (s : Fin 4096) : val_main_v16 x0 x1 x2 (ix3 0 s 0) = rinv (O x0 x1 x2 s) := by
  pointwise [val_main_v16, val_main_v15, val_main_v14, val_main_v13, val_main_v12, val_main_v11, val_main_v10, val_main_v9, v7,
    val_main_cst_0, val_main_cst_1, val_main_cst_2, ms, rinv]

theorem h (s : Fin 4096) (q : Fin 1024) : val_main_v23 x0 x1 x2 x3 (ix2 s q) = O x0 x1 x2 s q * rinv (O x0 x1 x2 s) * x3 (ix1 q) := by
  pointwise [val_main_v23, val_main_v22, val_main_v21, val_main_v20, val_main_v19, val_main_v18, val_main_v17, v16, v7]

end Cert.DownReferenceIdeal.Out

/-! ## The kernel's results -/

namespace Cert.DownKernelIdeal.Out

open Cert.DownKernelIdeal Cert.DownKernelIdeal.Gen

section Body

variable (d : Vec Ideal S2x512x1408 .bf16) (w : Vec Ideal S1408x1024 .bf16) (A : Vec Ideal S512x1024 .f32) (g : Vec Ideal S1x1024 .f32)

/-- A block of hidden entries. -/
def hidden : Vec Ideal S512x1408 .bf16 := fun y => Down.hid (d (ix3 0 (y 0) (y 1))) (d (ix3 1 (y 0) (y 1)))

/-- What a point adds to the residual stream. -/
def part (p : Fin 512) (q : Fin 1024) : EReal :=
  Ideal.ofBits .f32 0x3F000000#32 * ∑ j : Fin 1408, Down.hid (d (ix3 0 p j)) (d (ix3 1 p j)) * w (ix2 j q)

theorem pay_add (p : Fin 512) (q : Fin 1024) : k0_pay3 (hidden d) w A (ix2 p q) = A (ix2 p q) + part d w p q := by
  pointwise [k0_pay3, k0_pay2, part, hidden]

theorem pay_add' (p : Fin 512) (q : Fin 1024) : k0_pay4 (hidden d) w A (ix2 p q) = A (ix2 p q) + part d w p q := by
  pointwise [k0_pay4, k0_pay2, part, hidden]

theorem pay_norm (p : Fin 512) (q : Fin 1024) : k0_pay5 A g (ix2 p q) = A (ix2 p q) * rinv (fun k => A (ix2 p k)) * g (ix2 0 q) := by
  pointwise [k0_pay5, rinv, ms]

end Body

variable (m : (ℓ : Loc nD τ sig) → Buf (Elt Ideal) ℓ)

theorem idx : ∀ t : Fin cfg0.N, win0_0.index t = ![0, t.val / 2, t.val % 2] ∧ win0_1.index t = ![t.val % 2, 0]
    ∧ win0_2.index t = ![t.val / 2, 0] ∧ win0_3.index t = ![0, 0] ∧ win0_4.index t = ![t.val / 2, 0] ∧ win0_5.index t = ![t.val / 2, 0] :=
  (by decide +kernel : ∀ t : Fin grid0.N, _)

theorem first (c : Dev nD) (t : Fin cfg0.N) (h0 : t.val % 2 = 0) :
    (outsAt0 m c t.val t.isLt).1 = k0_pay3 (hidden (iblk m c 0 t)) (iblk m c 1 t) (iblk m c 2 t) := by
  rw [outsAt0_A m c t h0 (by omega) (by omega)]
  frame_out
  refine congrArg (fun s => k0_pay3 s _ _) ?_
  rw [View.readCov_eq_canon']
  funext y
  refine (congrArg (View.canon _) (show (Rect.unit (s := S512x1408) ![0, 0] ![512, 1408] inb_S512x1408_S512x1408_0_0).emb y = y by
    blk_ext)).trans ?_
  canon_tiles y h
  all_goals (open_payloads; pointwise [hidden, Down.hid, zero_sub]; blk_point [])

theorem next (c : Dev nD) (t : Fin cfg0.N) (h0 : t.val % 2 = 1) : (outsAt0 m c t.val t.isLt).1
    = k0_pay4 (hidden (iblk m c 0 t)) (iblk m c 1 t) (outsAt0 m c (t.val - 1) (lt_of_le_of_lt (Nat.sub_le _ _) t.isLt)).1 := by
  rw [outsAt0_B m c t (by omega) (by omega) (by omega)]
  frame_out
  refine congrArg (fun s => k0_pay4 s _ _) ?_
  rw [View.readCov_eq_canon']
  funext y
  refine (congrArg (View.canon _) (show (Rect.unit (s := S512x1408) ![0, 0] ![512, 1408] inb_S512x1408_S512x1408_0_0).emb y = y by
    blk_ext)).trans ?_
  canon_tiles y h
  all_goals (open_payloads; pointwise [hidden, Down.hid, zero_sub]; blk_point [])

theorem second (c : Dev nD) (t : Fin cfg0.N) (h0 : t.val % 2 = 1) :
    (outsAt0 m c t.val t.isLt).2 = k0_pay5 (outsAt0 m c t.val t.isLt).1 (iblk m c 3 t) := by
  rw [outsAt0_B m c t (by omega) (by omega) (by omega)]
  frame_out

/-- The arguments by coordinates. -/
abbrev AB (c : Dev nD) (s : Fin 4096) (k : Fin 5632) : EReal := m ((c : Thread nD τ).loc main_arg0) (ix3 0 s k)
abbrev W (c : Dev nD) (k : Fin 2816) (q : Fin 1024) : EReal := m ((c : Thread nD τ).loc main_arg1) (ix2 k q)
abbrev X (c : Dev nD) (s : Fin 4096) (k : Fin 1024) : EReal := m ((c : Thread nD τ).loc main_arg2) (ix3 0 s k)
abbrev G (c : Dev nD) (k : Fin 1024) : EReal := m ((c : Thread nD τ).loc main_arg3) (ix1 k)

/-- The row of the array that row `p` of point `t`'s block is, and the column of the hidden array. -/
abbrev at_ (t : Fin cfg0.N) (p : Fin 512) : Fin 4096 :=
  ⟨t.val / 2 * 512 + p.val, by have := lt_of_lt_of_eq t.isLt N_0; have := p.isLt; omega⟩
abbrev col (t : Fin cfg0.N) (z : Fin 2) (k : Fin 1408) : Fin 5632 :=
  ⟨z.val * 2816 + (t.val % 2 * 1408 + k.val), by have := z.isLt; have := k.isLt; omega⟩

theorem halved (c : Dev nD) (z : Fin 2) (s : Fin 4096) (k : Fin 2816) :
    V m c main_v3 (ix3 z s k) = AB m c s ⟨z.val * 2816 + k.val, by omega⟩ := by
  entry_read
  pointwise []

theorem blk_d (c : Dev nD) (t : Fin cfg0.N) (z : Fin 2) (p : Fin 512) (k : Fin 1408) :
    (iblk m c 0 t : Vec Ideal S2x512x1408 .bf16) (ix3 z p k) = AB m c (at_ t p) (col t z k) := by
  show V m c main_v3 (((cfg0.win 0).blk t).view.emb (ix3 z p k)) = _
  rw [show ((cfg0.win 0).blk t).view.emb (ix3 z p k) = (ix3 z (at_ t p) ⟨t.val % 2 * 1408 + k.val, by omega⟩ : S2x4096x2816.Idx) from by
    blk_ext [idx t]]
  exact halved m c z _ _

theorem blk_w (c : Dev nD) (t : Fin cfg0.N) (k : Fin 1408) (q : Fin 1024) :
    (iblk m c 1 t : Vec Ideal S1408x1024 .bf16) (ix2 k q) = W m c ⟨t.val % 2 * 1408 + k.val, by omega⟩ q := by
  blk_point [iblk, V, idx t]

theorem blk_x (c : Dev nD) (t : Fin cfg0.N) (p : Fin 512) (k : Fin 1024) :
    (iblk m c 2 t : Vec Ideal S512x1024 .f32) (ix2 p k) = X m c (at_ t p) k := by
  blk_point [iblk, V, idx t]

theorem blk_g (c : Dev nD) (t : Fin cfg0.N) (k : Fin 1024) :
    (iblk m c 3 t : Vec Ideal S1x1024 .f32) (ix2 0 k) = G m c k := by
  blk_point [iblk, V, idx t]

/-- The new residual stream. -/
def O (c : Dev nD) (s : Fin 4096) (q : Fin 1024) : EReal := Down.out (fun k => AB m c s ⟨k.val, by omega⟩)
  (fun k => AB m c s ⟨2816 + k.val, by omega⟩) (fun k => W m c k q) (X m c s q)

theorem sum (c : Dev nD) (t : Fin cfg0.N) (h0 : t.val % 2 = 1) (p : Fin 512) (q : Fin 1024) :
    ((outsAt0 m c t.val t.isLt).1 : Vec Ideal S512x1024 .f32) (ix2 p q) = O m c (at_ t p) q := by
  have hl : t.val - 1 < cfg0.N := lt_of_le_of_lt (Nat.sub_le _ _) t.isLt
  rw [next m c t h0, first m c ⟨t.val - 1, hl⟩ (show (t.val - 1) % 2 = 0 by omega), pay_add', pay_add]
  have ha : at_ ⟨t.val - 1, hl⟩ p = at_ t p := Fin.ext (show (t.val - 1) / 2 * 512 + p.val = t.val / 2 * 512 + p.val by omega)
  have e (k : Fin 1408) : col ⟨t.val - 1, hl⟩ 0 k = ⟨k.val, by omega⟩ ∧ col ⟨t.val - 1, hl⟩ 1 k = ⟨2816 + k.val, by omega⟩
      ∧ col t 0 k = ⟨1408 + k.val, by omega⟩ ∧ col t 1 k = ⟨2816 + (1408 + k.val), by omega⟩ :=
    ⟨Fin.ext (show 0 * 2816 + ((t.val - 1) % 2 * 1408 + k.val) = k.val by omega),
      Fin.ext (show 1 * 2816 + ((t.val - 1) % 2 * 1408 + k.val) = 2816 + k.val by omega),
      Fin.ext (show 0 * 2816 + (t.val % 2 * 1408 + k.val) = 1408 + k.val by omega),
      Fin.ext (show 1 * 2816 + (t.val % 2 * 1408 + k.val) = 2816 + (1408 + k.val) by omega)⟩
  simp only [part, blk_d, blk_w, blk_x, ha, e, h0, show (t.val - 1) % 2 = 0 by omega]
  refine Eq.trans ?_ (Down.halves (fun k => Down.hid (AB m c (at_ t p) ⟨k.val, by omega⟩) (AB m c (at_ t p) ⟨2816 + k.val, by omega⟩)
    * W m c k q) (X m c (at_ t p) q))
  blk_point []

theorem final_o (c : Dev nD) : (dats m 0 c).arrAt 4 (cfgs 0).N = fun i : S4096x1024.Idx => O m c (i 0) (i 1) := by
  refine (dats m 0 c).arrAt_eq_of_covers 4 _ (by decide +kernel) fun t hf y => ?_
  have h0 : t.val % 2 = 1 := (by decide +kernel : ∀ t : Fin cfg0.N, (cfg0.win 4).flush t = true → t.val % 2 = 1) t hf
  blk_simp
  rw [after0_4]
  obtain ⟨p, q, rfl⟩ : ∃ p q, y = (ix2 p q : S512x1024.Idx) := ⟨y 0, y 1, by blk_ext⟩
  refine (sum m c t h0 p q).trans ?_
  rw [show ((cfg0.win 4).blk t).view.emb (ix2 p q) = (ix2 (at_ t p) q : S4096x1024.Idx) from by blk_ext [idx t]]
  rfl

theorem final_h (c : Dev nD) : (dats m 0 c).arrAt 5 (cfgs 0).N
    = fun i : S4096x1024.Idx => O m c (i 0) (i 1) * rinv (O m c (i 0)) * G m c (i 1) := by
  refine (dats m 0 c).arrAt_eq_of_covers 5 _ (by decide +kernel) fun t hf y => ?_
  have h0 : t.val % 2 = 1 := (by decide +kernel : ∀ t : Fin cfg0.N, (cfg0.win 5).flush t = true → t.val % 2 = 1) t hf
  blk_simp
  rw [after0_5, second m c t h0]
  obtain ⟨p, q, rfl⟩ : ∃ p q, y = (ix2 p q : S512x1024.Idx) := ⟨y 0, y 1, by blk_ext⟩
  refine (pay_norm _ _ p q).trans ?_
  simp only [sum m c t h0, blk_g]
  rw [show ((cfg0.win 5).blk t).view.emb (ix2 p q) = (ix2 (at_ t p) q : S4096x1024.Idx) from by blk_ext [idx t]]
  rfl

end Cert.DownKernelIdeal.Out

/-! ## The claims -/

namespace Cert.Down

theorem frame_reference : Cert.quiescent_DownReferenceIdeal (hDownReferenceIdeal := Cert.DownReferenceIdeal.Gen.facts) :=
  fun m g _ => (θ_run Cert.DownReferenceIdeal.defs _ _).mono
    (fun r h => ⟨fun c => (h c).2.2, sem_eq_zero_of_no_sems (by decide) r.2⟩) (Cert.DownReferenceIdeal.Value.run m g)

theorem algebraic : Cert.algebraic_DownKernelIdeal_DownReferenceIdeal
    (hDownKernelIdeal := Cert.DownKernelIdeal.Gen.facts) (hDownReferenceIdeal := Cert.DownReferenceIdeal.Gen.facts) := by
  pair_intro
  · run_from Cert.DownKernelIdeal.Gen.run_main m g
  · run_from Cert.DownReferenceIdeal.Value.run m' g'
    · rw [DownKernelIdeal.Out.final_o, DownReferenceIdeal.Read.val_main_v8_eq]
      funext i
      rw [eq_ix2 i]
      exact DownReferenceIdeal.Out.o _ _ _ _ _
    · rw [DownKernelIdeal.Out.final_h, DownReferenceIdeal.Read.val_main_v23_eq]
      funext i
      rw [eq_ix2 i]
      exact DownReferenceIdeal.Out.h _ _ _ _ _ _

end Cert.Down

end
-- ==== Proof.Join.lean ====
module

public import proofs.«01_k».proof.Proof.Gen.JoinKernelIdeal.Value
public import proofs.«01_k».proof.Proof.Gen.JoinReferenceIdeal.Read
public import proofs.«01_k».proof.Defs
public import proofs.«01_k».proof.Proof.Norm
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Norm (ms rinv)

/-! ## The gated merge of the four branches, forward, and the norm behind it -/

namespace Cert.Join

/-- The logistic gate. -/
def sg (z : EReal) : EReal :=
  Ideal.div (Ideal.ofBits .f32 0x3F800000#32) (Ideal.ofBits .f32 0x3F800000#32 + Ideal.exp (-z))

/-- The merged row: `z` the gates' arguments, `y` the branches' rows, `wu` their weights. -/
def mg (z : Fin 4 → Fin 1024 → EReal) (y : Fin 4 → Fin 512 → EReal) (wu : Fin 4 → Fin 512 → Fin 1024 → EReal) (q : Fin 1024) : EReal :=
  ∑ g, sg (z g q) * ∑ k, y g k * wu g k q

/-- The new residual row. -/
def xn (z : Fin 4 → Fin 1024 → EReal) (y : Fin 4 → Fin 512 → EReal) (wu : Fin 4 → Fin 512 → Fin 1024 → EReal)
    (wo : Fin 1024 → Fin 1024 → EReal) (x : Fin 1024 → EReal) (q : Fin 1024) : EReal :=
  x q + ∑ k, mg z y wu k * wo k q

/-- Branch `g`'s gate at column `q`, among the `4096` gate columns. -/
abbrev col (g : Fin 4) (q : Fin 1024) : Fin 4096 := ⟨g.val * 1024 + q.val, by omega⟩

end Cert.Join

/-! ## The reference's results -/

namespace Cert.JoinReferenceIdeal.Out

open Cert.JoinReferenceIdeal Cert.JoinReferenceIdeal.Gen Cert.JoinReferenceIdeal.Read
open Cert.Join (col)

variable (x0 : (⟨S1x4096x4x512, .f32⟩ : BufTy).Contents (Elt Ideal)) (x1 : (⟨S1x4096x4096, .f32⟩ : BufTy).Contents (Elt Ideal))
  (x2 : (⟨S4x512x1024, .f32⟩ : BufTy).Contents (Elt Ideal)) (x3 : (⟨S1024x1024, .f32⟩ : BufTy).Contents (Elt Ideal))
  (x4 : (⟨S1x4096x1024, .f32⟩ : BufTy).Contents (Elt Ideal)) (x5 : (⟨S1024, .f32⟩ : BufTy).Contents (Elt Ideal))

/-- The merged row and the new residual row, of the arguments. -/
def M (s : Fin 4096) : Fin 1024 → EReal := Join.mg (fun g q => x1 (ix3 0 s (col g q))) (fun g k => x0 (ix4 0 s g k)) (fun g k q => x2 (ix3 g k q))
def O (s : Fin 4096) : Fin 1024 → EReal := Join.xn (fun g q => x1 (ix3 0 s (col g q))) (fun g k => x0 (ix4 0 s g k)) (fun g k q => x2 (ix3 g k q))
  (fun k q => x3 (ix2 k q)) (fun q => x4 (ix3 0 s q))

theorem v2 (s : Fin 4096) (g : Fin 4) (q : Fin 1024) : val_main_v2 x1 (ix4 0 s g q) = x1 (ix3 0 s (col g q)) := by
  rw [val_main_v2_apply]
  refine congrArg x1 ?_
  blk_ext

theorem v8 (s : Fin 4096) (g : Fin 4) (q : Fin 1024) : val_main_v8 x1 (ix4 0 s g q) = Join.sg (x1 (ix3 0 s (col g q))) := by
  pointwise [val_main_v8, val_main_v7, val_main_v6, val_main_v5, val_main_v4, val_main_v3, val_main_cst, val_main_cst_0, v2, Join.sg]

theorem v1 (s : Fin 4096) (g : Fin 4) (q : Fin 1024) : val_main_v1 x0 x2 (ix4 0 s g q) = ∑ k, x0 (ix4 0 s g k) * x2 (ix3 g k q) := by
  pointwise [val_main_v1, val_main_v0]
  exact Finset.sum_congr rfl fun k _ => mul_comm _ _

theorem v10 (s : Fin 4096) (q : Fin 1024) : val_main_v10 x0 x1 x2 (ix3 0 s q) = M x0 x1 x2 s q := by
  pointwise [val_main_v10, val_main_v9, val_main_cst_1, v8, v1, M, Join.mg]

theorem v12 (s : Fin 4096) (q : Fin 1024) : val_main_v12 x0 x1 x2 x3 x4 (ix3 0 s q) = O x0 x1 x2 x3 x4 s q := by
  pointwise [val_main_v12, val_main_v11, v10, O, Join.xn, M]

theorem v21 (s : Fin 4096) : val_main_v23 x0 x1 x2 x3 x4 (ix3 0 s 0) = rinv (O x0 x1 x2 x3 x4 s) := by
  pointwise [val_main_v23, val_main_v22, val_main_v21, val_main_v20, val_main_v19, val_main_v18, val_main_v17, val_main_v16, v12,
    val_main_cst_2, val_main_cst_3, val_main_cst_4, ms, rinv]

theorem o (s : Fin 4096) (q : Fin 1024) : val_main_v13 x0 x1 x2 x3 x4 (ix2 s q) = O x0 x1 x2 x3 x4 s q := by
  pointwise [val_main_v13, v12]

theorem mg (s : Fin 4096) (q : Fin 1024) : val_main_v15 x0 x1 x2 (ix2 s q) = M x0 x1 x2 s q := by
  pointwise [val_main_v15, val_main_v14, v10]

theorem h (s : Fin 4096) (q : Fin 1024) : val_main_v30 x0 x1 x2 x3 x4 x5 (ix2 s q)
    = O x0 x1 x2 x3 x4 s q * rinv (O x0 x1 x2 x3 x4 s) * x5 (ix1 q) := by
  pointwise [val_main_v30, val_main_v29, val_main_v28, val_main_v27, val_main_v26, val_main_v25, val_main_v24, v21, v12]

end Cert.JoinReferenceIdeal.Out

/-! ## The kernel's results -/

namespace Cert.JoinKernelIdeal.Out

open Cert.JoinKernelIdeal Cert.JoinKernelIdeal.Gen
open Cert.Join (col)

section Body

variable (x0 : Vec Ideal S4x512x512 .bf16) (x1 : Vec Ideal S4x512x1024 .f32) (x2 : Vec Ideal S4x512x1024 .bf16)
  (x3 : Vec Ideal S1024x1024 .bf16) (x4 : Vec Ideal S512x1024 .f32) (x5 : Vec Ideal S1x1024 .f32)

/-- The merged row and the new residual row, of the blocks. -/
def bM (p : Fin 512) : Fin 1024 → EReal := Join.mg (fun g q => x1 (ix3 g p q)) (fun g k => x0 (ix3 g p k)) (fun g k q => x2 (ix3 g k q))
def bO (p : Fin 512) : Fin 1024 → EReal := Join.xn (fun g q => x1 (ix3 g p q)) (fun g k => x0 (ix3 g p k)) (fun g k q => x2 (ix3 g k q))
  (fun k q => x3 (ix2 k q)) (fun q => x4 (ix2 p q))

theorem pay_m (p : Fin 512) (q : Fin 1024) : k0_pay5 x0 x1 x2 x3 x4 x5 (ix2 p q) = bM x0 x1 x2 p q := by
  unfold k0_pay5
  open_payloads
  pointwise [bM, Join.mg, Join.sg, Fin.sum_univ_four, zero_sub]

theorem pay_o (M : FVec Ideal S512x1024 .bf16) (p : Fin 512) (q : Fin 1024) :
    k0_pay1 M x4 x3 (ix2 p q) = x4 (ix2 p q) + ∑ k, M (ix2 p k) * x3 (ix2 k q) := by
  pointwise [k0_pay1]

theorem pay_h (M : FVec Ideal S512x1024 .bf16) (p : Fin 512) (q : Fin 1024) : k0_pay2 M x4 x3 x5 (ix2 p q)
    = k0_pay1 M x4 x3 (ix2 p q) * rinv (fun k => k0_pay1 M x4 x3 (ix2 p k)) * x5 (ix2 0 q) := by
  pointwise [k0_pay2, rinv, ms]

theorem out_o (p : Fin 512) (q : Fin 1024) : k0_pay1 (k0_pay5 x0 x1 x2 x3 x4 x5) x4 x3 (ix2 p q) = bO x0 x1 x2 x3 x4 p q := by
  rw [pay_o]
  simp only [pay_m, bO, Join.xn, bM]

end Body

variable (m : (ℓ : Loc nD τ sig) → Buf (Elt Ideal) ℓ)

theorem idx : ∀ t : Fin cfg0.N, win0_0.index t = ![0, t.val, 0] ∧ win0_1.index t = ![1, t.val, 0]
    ∧ win0_2.index t = ![0, 0, 0] ∧ win0_3.index t = ![0, 0] ∧ win0_4.index t = ![t.val, 0] ∧ win0_5.index t = ![0, 0]
    ∧ win0_6.index t = ![t.val, 0] ∧ win0_7.index t = ![t.val, 0] ∧ win0_8.index t = ![t.val, 0] :=
  (by decide +kernel : ∀ t : Fin grid0.N, _)

/-- The row of the array that row `p` of point `t`'s block is. -/
abbrev at_ (t : Fin cfg0.N) (p : Fin 512) : Fin 4096 :=
  ⟨t.val * 512 + p.val, by have := lt_of_lt_of_eq t.isLt N_0; have := p.isLt; omega⟩

abbrev Y (c : Dev nD) (s : Fin 4096) (g : Fin 4) (k : Fin 512) : EReal := m ((c : Thread nD τ).loc main_arg0) (ix4 0 s g k)
abbrev Z (c : Dev nD) (s : Fin 4096) (g : Fin 4) (q : Fin 1024) : EReal := m ((c : Thread nD τ).loc main_arg1) (ix3 0 s (col g q))
abbrev Wu (c : Dev nD) (g : Fin 4) (k : Fin 512) (q : Fin 1024) : EReal := m ((c : Thread nD τ).loc main_arg2) (ix3 g k q)
abbrev Wo (c : Dev nD) (q : Fin 1024) (k : Fin 1024) : EReal := m ((c : Thread nD τ).loc main_arg3) (ix2 q k)
abbrev X (c : Dev nD) (s : Fin 4096) (k : Fin 1024) : EReal := m ((c : Thread nD τ).loc main_arg4) (ix3 0 s k)
abbrev G (c : Dev nD) (k : Fin 1024) : EReal := m ((c : Thread nD τ).loc main_arg5) (ix1 k)

theorem blk_y (c : Dev nD) (t : Fin cfg0.N) (g : Fin 4) (p : Fin 512) (k : Fin 512) :
    (iblk m c 0 t : Vec Ideal S4x512x512 .bf16) (ix3 g p k) = Y m c (at_ t p) g k := by
  blk_point [iblk, V, idx t]

theorem blk_z (c : Dev nD) (t : Fin cfg0.N) (g : Fin 4) (p : Fin 512) (q : Fin 1024) :
    (iblk m c 1 t : Vec Ideal S4x512x1024 .f32) (ix3 g p q) = Z m c (at_ t p) g q := by
  show V m c main_v7 (((cfg0.win 1).blk t).view.emb (ix3 g p q)) = _
  rw [show ((cfg0.win 1).blk t).view.emb (ix3 g p q) = (ix3 (⟨4 + g.val, by omega⟩ : Fin 8) (at_ t p) q : S8x4096x1024.Idx) from by blk_ext [idx t]]
  entry_read
  pointwise []

theorem blk_wu (c : Dev nD) (t : Fin cfg0.N) (g : Fin 4) (k : Fin 512) (q : Fin 1024) :
    (iblk m c 2 t : Vec Ideal S4x512x1024 .bf16) (ix3 g k q) = Wu m c g k q := by
  blk_point [iblk, V, idx t]

theorem blk_wo (c : Dev nD) (t : Fin cfg0.N) (q k : Fin 1024) :
    (iblk m c 3 t : Vec Ideal S1024x1024 .bf16) (ix2 q k) = Wo m c q k := by
  blk_point [iblk, V, idx t]

theorem blk_x (c : Dev nD) (t : Fin cfg0.N) (p : Fin 512) (k : Fin 1024) :
    (iblk m c 4 t : Vec Ideal S512x1024 .f32) (ix2 p k) = X m c (at_ t p) k := by
  blk_point [iblk, V, idx t]

theorem blk_g (c : Dev nD) (t : Fin cfg0.N) (k : Fin 1024) :
    (iblk m c 5 t : Vec Ideal S1x1024 .f32) (ix2 0 k) = G m c k := by
  blk_point [iblk, V, idx t]

/-- The merged row and the new residual row. -/
def M (c : Dev nD) (s : Fin 4096) : Fin 1024 → EReal := Join.mg (Z m c s) (Y m c s) (Wu m c)
def O (c : Dev nD) (s : Fin 4096) : Fin 1024 → EReal := Join.xn (Z m c s) (Y m c s) (Wu m c) (Wo m c) (X m c s)

theorem row_m (c : Dev nD) (t : Fin cfg0.N) (p : Fin 512) : bM (iblk m c 0 t) (iblk m c 1 t) (iblk m c 2 t) p = M m c (at_ t p) := by
  simp only [bM, M, blk_y, blk_z, blk_wu]

theorem row_o (c : Dev nD) (t : Fin cfg0.N) (p : Fin 512) :
    bO (iblk m c 0 t) (iblk m c 1 t) (iblk m c 2 t) (iblk m c 3 t) (iblk m c 4 t) p = O m c (at_ t p) := by
  simp only [bO, O, blk_y, blk_z, blk_wu, blk_wo, blk_x]

theorem final_o (c : Dev nD) : (dats m 0 c).arrAt 6 (cfgs 0).N = fun i : S4096x1024.Idx => O m c (i 0) (i 1) := by
  refine (dats m 0 c).arrAt_eq_of_covers 6 _ (by decide +kernel) fun t hf y => ?_
  blk_simp
  rw [after0_6]
  frame_out
  obtain ⟨p, q, rfl⟩ : ∃ p q, y = (ix2 p q : S512x1024.Idx) := ⟨y 0, y 1, by blk_ext⟩
  refine (out_o _ _ _ _ _ _ p q).trans ?_
  rw [row_o, show ((cfg0.win 6).blk t).view.emb (ix2 p q) = (ix2 (at_ t p) q : S4096x1024.Idx) from by blk_ext [idx t]]
  rfl

theorem final_m (c : Dev nD) : (dats m 0 c).arrAt 7 (cfgs 0).N = fun i : S4096x1024.Idx => M m c (i 0) (i 1) := by
  refine (dats m 0 c).arrAt_eq_of_covers 7 _ (by decide +kernel) fun t hf y => ?_
  blk_simp
  rw [after0_7]
  frame_out
  obtain ⟨p, q, rfl⟩ : ∃ p q, y = (ix2 p q : S512x1024.Idx) := ⟨y 0, y 1, by blk_ext⟩
  refine (pay_m _ _ _ _ _ _ p q).trans ?_
  rw [row_m, show ((cfg0.win 7).blk t).view.emb (ix2 p q) = (ix2 (at_ t p) q : S4096x1024.Idx) from by blk_ext [idx t]]
  rfl

theorem final_h (c : Dev nD) : (dats m 0 c).arrAt 8 (cfgs 0).N
    = fun i : S4096x1024.Idx => O m c (i 0) (i 1) * rinv (O m c (i 0)) * G m c (i 1) := by
  refine (dats m 0 c).arrAt_eq_of_covers 8 _ (by decide +kernel) fun t hf y => ?_
  blk_simp
  rw [after0_8]
  frame_out
  obtain ⟨p, q, rfl⟩ : ∃ p q, y = (ix2 p q : S512x1024.Idx) := ⟨y 0, y 1, by blk_ext⟩
  refine (pay_h _ _ _ _ p q).trans ?_
  simp only [out_o, row_o, blk_g]
  rw [show ((cfg0.win 8).blk t).view.emb (ix2 p q) = (ix2 (at_ t p) q : S4096x1024.Idx) from by blk_ext [idx t]]
  rfl

end Cert.JoinKernelIdeal.Out

/-! ## The claims -/

namespace Cert.Join

theorem frame_reference : Cert.quiescent_JoinReferenceIdeal (hJoinReferenceIdeal := Cert.JoinReferenceIdeal.Gen.facts) :=
  fun m g _ => (θ_run Cert.JoinReferenceIdeal.defs _ _).mono
    (fun r h => ⟨fun c => (h c).2.2.2, sem_eq_zero_of_no_sems (by decide) r.2⟩) (Cert.JoinReferenceIdeal.Value.run m g)

theorem algebraic : Cert.algebraic_JoinKernelIdeal_JoinReferenceIdeal
    (hJoinKernelIdeal := Cert.JoinKernelIdeal.Gen.facts) (hJoinReferenceIdeal := Cert.JoinReferenceIdeal.Gen.facts) := by
  pair_intro
  · run_from Cert.JoinKernelIdeal.Gen.run_main m g
  · run_from Cert.JoinReferenceIdeal.Value.run m' g'
    · rw [JoinKernelIdeal.Out.final_o, JoinReferenceIdeal.Read.val_main_v13_eq]
      funext i
      rw [eq_ix2 i]
      exact JoinReferenceIdeal.Out.o _ _ _ _ _ _ _
    · rw [JoinKernelIdeal.Out.final_m, JoinReferenceIdeal.Read.val_main_v15_eq]
      funext i
      rw [eq_ix2 i]
      exact JoinReferenceIdeal.Out.mg _ _ _ _ _
    · rw [JoinKernelIdeal.Out.final_h, JoinReferenceIdeal.Read.val_main_v30_eq]
      funext i
      rw [eq_ix2 i]
      exact JoinReferenceIdeal.Out.h _ _ _ _ _ _ _ _

end Cert.Join

end
-- ==== Proof.MixSpec.lean ====
module

public import proofs.«01_k».proof.Proof.Norm
public import proofs.«01_k».proof.Proof.Finite
public import Idealize.ShloMosaic.Lib.Pipeline.ValueKit
public import Idealize.ShloMosaic.Lib.Claim

@[expose] public section

noncomputable section

open Idealize.ShloMosaic Idealize.ShloMosaic.TcCoe

/-! ## The four mixers, as formulas

A row `s` of the sequence is position `i` of block `n` of `128` rows; a column of a branch is channel `c` of head or group `h`. -/

namespace Cert.Mix

/-- The approximate `gelu`. -/
def gelu (p : EReal) : EReal := p * (Ideal.ofBits .f32 0x3F000000#32 * (Ideal.ofBits .f32 0x3F800000#32
  + Ideal.tanh (Ideal.ofBits .f32 0x3F4C422A#32 * (p + Ideal.ofBits .f32 0x3D372713#32 * (p * p * p)))))

/-- The logistic function. -/
def sg (z : EReal) : EReal :=
  Ideal.div (Ideal.ofBits .f32 0x3F800000#32) (Ideal.ofBits .f32 0x3F800000#32 + Ideal.exp (-z))

def silu (z : EReal) : EReal := z * sg z

/-- A row of `512` less its mean. -/
def dev (v : Fin 512 → EReal) (q : Fin 512) : EReal := v q - Ideal.div (∑ k, v k) (Ideal.ofBits .f32 0x44000000#32)

/-- One over the row's deviation. -/
def rstd (v : Fin 512 → EReal) : EReal :=
  Ideal.rsqrt (Ideal.div (∑ k, dev v k * dev v k) (Ideal.ofBits .f32 0x44000000#32) + Ideal.ofBits .f32 0x358637BD#32)

/-- A row, normalised, with gain `g` and offset `b`. -/
def ln (g b : Fin 512 → EReal) (v : Fin 512 → EReal) (q : Fin 512) : EReal := dev v q * rstd v * g q + b q

/-- The row and the column of a position. -/
abbrev row (n : Fin 32) (i : Fin 128) : Fin 4096 := ⟨n.val * 128 + i.val, by omega⟩
abbrev chan (h : Fin 4) (c : Fin 128) : Fin 512 := ⟨h.val * 128 + c.val, by omega⟩

/-- Position `j` is in the chunk of position `i`, or before it. -/
abbrev sees (i j : Fin 128) : Prop := j.val / 64 ≤ i.val / 64

/-- A column of the sequence with `32` zeros before it. -/
def pd (x : Fin 4096 → EReal) (n : ℕ) : EReal := if h : 32 ≤ n ∧ n - 32 < 4096 then x ⟨n - 32, h.2⟩ else 0

/-- The causal convolution with `K` taps, `w k` the weight of the row `K - 1 - k` back. -/
def conv (K : ℕ) (w : ℕ → EReal) (x : Fin 4096 → EReal) (s : Fin 4096) : EReal :=
  ∑ k ∈ Finset.range K, w k * pd x (s.val + (33 - K + k))

/-! The branches' columns, of the projected rows `x`: the pooling branch's, the short convolution's gated input, the Conformer branch's
gated half, the spatial gate and the branch it gates. -/

def colA (x : Fin 4096 → Fin 8192 → EReal) (q : Fin 512) (s : Fin 4096) : EReal := x s ⟨q.val, by omega⟩
def colE (x : Fin 4096 → Fin 8192 → EReal) (q : Fin 512) (s : Fin 4096) : EReal :=
  x s ⟨512 + (1024 + q.val), by omega⟩ * x s ⟨512 + q.val, by omega⟩
def colC (x : Fin 4096 → Fin 8192 → EReal) (q : Fin 512) (s : Fin 4096) : EReal :=
  x s ⟨2048 + q.val, by omega⟩ * sg (x s ⟨2048 + (512 + q.val), by omega⟩)
def rowU (x : Fin 4096 → Fin 8192 → EReal) (s : Fin 4096) (q : Fin 512) : EReal := gelu (x s ⟨3072 + q.val, by omega⟩)
def rowB (x : Fin 4096 → Fin 8192 → EReal) (s : Fin 4096) (q : Fin 512) : EReal := gelu (x s ⟨3072 + (512 + q.val), by omega⟩)

/-- The weight of tap `k`. -/
def tap {K : ℕ} (w : Fin K → EReal) (k : ℕ) : EReal := if h : k < K then w ⟨k, h⟩ else 0

/-- The sum of a row and the `K - 1` rows before it. -/
def window (K : ℕ) (x : Fin 4096 → EReal) (s : Fin 4096) : EReal := ∑ k ∈ Finset.range K, pd x (s.val + (32 - k))

/-- How many rows the window of width `K` holds at row `s`. -/
def count (K : BitVec 32) (s : Fin 4096) : EReal :=
  (((IntOp.minsi (BitVec.ofNat 32 s.val + 1#32) K).toInt : ℝ) : EReal)

/-- A row's mean over its window, less the row. -/
def pooled (K : ℕ) (x : Fin 4096 → EReal) (s : Fin 4096) : EReal :=
  Ideal.div (window K x s) (count (BitVec.ofNat 32 K) s) - x s

/-- The width of group `g`'s window. -/
abbrev width (g : Fin 4) : ℕ := 2 ^ (g.val + 1)

/-- The pooling branch at column `c` of group `g`: `x` its columns, `w` the group's matrix, `ps` the scale. -/
def poolOut (x : Fin 512 → Fin 4096 → EReal) (w : Fin 4 → Fin 128 → Fin 128 → EReal) (ps : Fin 512 → EReal) (s : Fin 4096) (g : Fin 4)
    (c : Fin 128) : EReal := (∑ k, pooled (width g) (x (chan g k)) s * w g k c) * ps (chan g c)

/-- The spatial gating branch at position `i` of block `n`, channel `c` of head `h`: `u` the gate, `vn` the normalised branch. -/
def gateOut (u vn : Fin 4096 → Fin 512 → EReal) (w : Fin 4 → Fin 128 → Fin 128 → EReal) (b : Fin 4 → Fin 128 → EReal) (n : Fin 32)
    (i : Fin 128) (h : Fin 4) (c : Fin 128) : EReal :=
  u (row n i) (chan h c) * ((∑ j, (if sees i j then w h i j else 0) * vn (row n j) (chan h c)) + b h i)

theorem pd_row (x : Fin 4096 → EReal) (r : Fin 4096) : pd x (32 + r.val) = x r := by
  have := r.isLt
  rw [pd, dif_pos ⟨by omega, by omega⟩]
  exact congrArg x (Fin.ext (by show 32 + r.val - 32 = r.val; omega))

/-- A column with `32 - d` zeros, then `d` zeros more. -/
theorem after_zeros (x : Fin 4096 → EReal) (d : ℕ) (hd : d ≤ 32) (n : ℕ) (hn : n < d + 4096) :
    (if h : n < d then (0 : EReal) else x ⟨n - d, by omega⟩) = pd x (n + (32 - d)) := by
  split_ifs with h
  · rw [pd, dif_neg (by omega)]
  · rw [pd, dif_pos ⟨by omega, by omega⟩]
    exact congrArg x (Fin.ext (by show n - d = n + (32 - d) - 32; omega))

theorem tap_comm {a c : EReal} (x : Fin 4096 → EReal) (n n' : ℕ) (hc : c = a) (h : n = n') : pd x n * a = c * pd x n' := by
  rw [hc, h, mul_comm]

theorem pd_low (x : Fin 4096 → EReal) {n : ℕ} (h : n < 32) : pd x n = 0 := dif_neg (by omega)

/-- Summed prefixes: the rows up to and including `s`. -/
def prefix_ (x : Fin 4096 → EReal) (n : ℕ) : EReal := ∑ k ∈ Finset.range n, pd x k

theorem prefix_low (x : Fin 4096 → EReal) {n : ℕ} (h : n ≤ 32) : prefix_ x n = 0 :=
  Finset.sum_eq_zero fun k hk => pd_low x (by have := Finset.mem_range.mp hk; omega)

theorem real_pd (x : Fin 4096 → EReal) (h : ∀ r, Finite.Real (x r)) (n : ℕ) : Finite.Real (pd x n) := by
  unfold pd
  split_ifs
  · exact h _
  · exact ⟨0, rfl⟩

/-- The difference of two prefixes, `K` apart, is the window's sum, over real rows. -/
theorem window_eq (x : Fin 4096 → EReal) (h : ∀ r, Finite.Real (x r)) (K : ℕ) (hK : K ≤ 32) (s : Fin 4096) :
    prefix_ x (s.val + 33) - prefix_ x (s.val + 33 - K) = window K x s := by
  obtain ⟨a, ha⟩ : Finite.Real (prefix_ x (s.val + 33 - K)) := Finite.Real.sum _ _ fun k _ => real_pd x h k
  have e : prefix_ x (s.val + 33) = prefix_ x (s.val + 33 - K) + window K x s := by
    unfold prefix_ window
    rw [show s.val + 33 = (s.val + 33 - K) + K from by omega, Finset.sum_range_add,
      ← Finset.sum_range_reflect (fun k => pd x (s.val + 33 - K + k)), show s.val + 33 - K + K - K = s.val + 33 - K from by omega]
    refine congrArg _ (Finset.sum_congr rfl fun k hk => congrArg _ ?_)
    have := Finset.mem_range.mp hk
    omega
  obtain ⟨b, hb⟩ : Finite.Real (window K x s) := Finite.Real.sum _ _ fun k _ => real_pd x h _
  rw [e, ha, hb, ← EReal.coe_add, ← EReal.coe_sub, add_sub_cancel_left]

theorem foldl_add {α : Type} (f : α → EReal) (l : List α) : ∀ v : EReal, l.foldl (fun r n => r + f n) v = v + (l.map f).sum := by
  induction l with
  | nil => exact fun v => (add_zero v).symm
  | cons a l ih => exact fun v => (ih _).trans (by rw [List.map_cons, List.sum_cons, add_assoc])

/-- The running sum along the second of four axes. -/
theorem running (x : (⟨4, ![1, 4096, 4, 128]⟩ : Shape).Idx → EReal)
    (h : (⟨4, ![1, 4096, 4, 128]⟩ : Shape).ReduceWindows (![1, 4096, 1, 1] : Fin 4 → ℕ) ![1, 1, 1, 1] ![0, 4095, 0, 0] ![0, 0, 0, 0]
      ⟨4, ![1, 4096, 4, 128]⟩) (s : Fin 4096) (g : Fin 4) (c : Fin 128) :
    Ideal.hostReduceWindowAdd ![1, 4096, 1, 1] ![1, 1, 1, 1] ![0, 4095, 0, 0] ![0, 0, 0, 0] h x 0 (ix4 0 s g c)
      = prefix_ (fun r => x (ix4 0 r g c)) (s.val + 33) := by
  have hs := s.isLt
  unfold Ideal.hostReduceWindowAdd Host.reduceWindow
  dsimp only
  rw [foldl_add, zero_add, ← Fin.sum_univ_def]
  set G : ℕ → EReal := fun k => if 4095 ≤ s.val + k then pd (fun r => x (ix4 0 r g c)) (s.val + k - 4095 + 32) else 0 with hG
  refine (Finset.sum_congr rfl fun n _ =>
    (?_ : _ = G ((Shape.rowMajor ⟨4, ![1, 4096, 1, 1]⟩).symm n 1).val)).trans ?_
  · let k : (⟨4, ![1, 4096, 1, 1]⟩ : Shape).Idx := (Shape.rowMajor ⟨4, ![1, 4096, 1, 1]⟩).symm n
    show _ = G (k 1).val
    have h1 : (k 1).val < 4096 := (k 1).isLt
    have h0 : (k 0).val < 1 := (k 0).isLt
    have h2 : (k 2).val < 1 := (k 2).isLt
    have h3 : (k 3).val < 1 := (k 3).isLt
    split
    · next hin =>
      have e1 : 4095 ≤ s.val * 1 + (k 1).val := (hin 1).1
      rw [hG]
      dsimp only
      rw [if_pos (by omega), pd, dif_pos ⟨by omega, by omega⟩]
      refine congrArg x (funext fun a => Fin.ext ?_)
      match a with
      | ⟨0, _⟩ => show 0 * 1 + (k 0).val - 0 = 0; omega
      | ⟨1, _⟩ => show s.val * 1 + (k 1).val - 4095 = s.val + (k 1).val - 4095 + 32 - 32; omega
      | ⟨2, _⟩ => show g.val * 1 + (k 2).val - 0 = g.val; omega
      | ⟨3, _⟩ => show c.val * 1 + (k 3).val - 0 = c.val; omega
    · next hin =>
      rw [hG]
      dsimp only
      rw [if_neg fun hc => hin fun a => ?_]
      match a with
      | ⟨0, _⟩ => exact ⟨Nat.zero_le _, by show 0 * 1 + (k 0).val - 0 < 1; omega⟩
      | ⟨1, _⟩ => exact ⟨by show 4095 ≤ s.val * 1 + (k 1).val; omega, by show s.val * 1 + (k 1).val - 4095 < 4096; omega⟩
      | ⟨2, _⟩ => exact ⟨Nat.zero_le _, by show g.val * 1 + (k 2).val - 0 < 4; omega⟩
      | ⟨3, _⟩ => exact ⟨Nat.zero_le _, by show c.val * 1 + (k 3).val - 0 < 128; omega⟩
  refine (Equiv.sum_comp (Shape.rowMajor ⟨4, ![1, 4096, 1, 1]⟩).symm fun k => G (k 1).val).trans ?_
  refine (Finset.sum_nbij' (t := Finset.univ) (g := fun i : Fin 4096 => G i.val) (fun k => (⟨(k 1).val, (k 1).isLt⟩ : Fin 4096))
    (fun i => (ix4 0 i 0 0 : (⟨4, ![1, 4096, 1, 1]⟩ : Shape).Idx))
    (fun _ _ => Finset.mem_univ _) (fun _ _ => Finset.mem_univ _) (fun k _ => ?_) (fun _ _ => rfl) (fun _ _ => rfl)).trans ?_
  · funext a
    apply Fin.ext
    match a with
    | ⟨0, _⟩ => show 0 = (k 0).val; have : (k 0).val < 1 := (k 0).isLt; omega
    | ⟨1, _⟩ => rfl
    | ⟨2, _⟩ => show 0 = (k 2).val; have : (k 2).val < 1 := (k 2).isLt; omega
    | ⟨3, _⟩ => show 0 = (k 3).val; have : (k 3).val < 1 := (k 3).isLt; omega
  rw [Fin.sum_univ_eq_sum_range, show Finset.range 4096 = Finset.range ((4095 - s.val) + (s.val + 1)) from congrArg _ (by omega),
    Finset.sum_range_add G (4095 - s.val) (s.val + 1), prefix_,
    show s.val + 33 = 32 + (s.val + 1) from by omega, Finset.sum_range_add _ 32 (s.val + 1)]
  congr 1
  · rw [Finset.sum_eq_zero, Finset.sum_eq_zero]
    · exact fun k hk => pd_low _ (Finset.mem_range.mp hk)
    · intro k hk
      have := Finset.mem_range.mp hk
      exact if_neg (by omega)
  · refine Finset.sum_congr rfl fun k hk => ?_
    rw [hG]
    dsimp only
    rw [if_pos (by omega)]
    exact congrArg _ (by omega)

end Cert.Mix

end
-- ==== Proof.MixBlocks.lean ====
module

public import proofs.«01_k».proof.Proof.Gen.MixKernelIdeal.Frame.Runs
public import proofs.«01_k».proof.Proof.MixSpec
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.Mix

/-! ## The blocks the kernel reads at point `t`: rows `256 t …` of each column block, and the `32` rows before them -/

namespace Cert.MixKernelIdeal.Out

open Cert.MixKernelIdeal Cert.MixKernelIdeal.Gen

variable (m : (ℓ : Loc nD τ sig) → Buf (Elt Ideal) ℓ)

theorem idx : ∀ t : Fin cfg0.N, win0_0.index t = ![0, t.val, 0]
    ∧ win0_1.index t = ![0, 8 * t.val - 1, 0]
    ∧ win0_2.index t = ![0, t.val, 1]
    ∧ win0_3.index t = ![0, 8 * t.val - 1, 1]
    ∧ win0_4.index t = ![1, t.val, 0]
    ∧ win0_5.index t = ![1, t.val, 1]
    ∧ win0_6.index t = ![1, 8 * t.val - 1, 1]
    ∧ win0_7.index t = ![2, t.val, 0]
    ∧ win0_8.index t = ![2, 8 * t.val - 1, 0]
    ∧ win0_9.index t = ![2, t.val, 1]
    ∧ win0_10.index t = ![2, 8 * t.val - 1, 1]
    ∧ win0_11.index t = ![3, t.val, 0]
    ∧ win0_12.index t = ![3, t.val, 1]
    ∧ win0_13.index t = ![0, 0, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![0, 0]
    ∧ win0_20.index t = ![0, 0]
    ∧ win0_21.index t = ![0, 0, 0]
    ∧ win0_22.index t = ![0, 0, 0] :=
  (by decide +kernel : ∀ t : Fin grid0.N, _)

/-- The row of the array that row `p` of point `t`'s block is, and the one that row `p` of the block before it is. -/
abbrev at_ (t : Fin cfg0.N) (p : Fin 256) : Fin 4096 :=
  ⟨t.val * 256 + p.val, by have := lt_of_lt_of_eq t.isLt N_0; have := p.isLt; omega⟩
abbrev bk (t : Fin cfg0.N) (p : Fin 32) : Fin 4096 :=
  ⟨(8 * t.val - 1) * 32 + p.val, by have := lt_of_lt_of_eq t.isLt N_0; have := p.isLt; omega⟩

abbrev P (c : Dev nD) (s : Fin 4096) (k : Fin 8192) : EReal := m ((c : Thread nD τ).loc main_arg0) (ix3 0 s k)

set_option maxHeartbeats 1600000 in
theorem blk_am (c : Dev nD) (t : Fin cfg0.N) (p : Fin 256) (q : Fin 512) :
    (iblk m c 0 t : Vec Ideal S1x256x512 .f32) (ix3 0 p q) = P m c (at_ t p) ⟨q.val, by omega⟩ := by
  show V m c main_v2 ((win0_0.blk t).view.emb (ix3 0 p q)) = _
  rw [show (win0_0.blk t).view.emb (ix3 0 p q) = (ix3 0 (at_ t p) ⟨q.val, by omega⟩ : S8x4096x1024.Idx) from by blk_ext [idx t]]
  entry_read
  pointwise []

set_option maxHeartbeats 1600000 in
theorem blk_ab (c : Dev nD) (t : Fin cfg0.N) (p : Fin 32) (q : Fin 512) :
    (iblk m c 1 t : Vec Ideal S1x32x512 .f32) (ix3 0 p q) = P m c (bk t p) ⟨q.val, by omega⟩ := by
  show V m c main_v2 ((win0_1.blk t).view.emb (ix3 0 p q)) = _
  rw [show (win0_1.blk t).view.emb (ix3 0 p q) = (ix3 0 (bk t p) ⟨q.val, by omega⟩ : S8x4096x1024.Idx) from by blk_ext [idx t]]
  entry_read
  pointwise []

set_option maxHeartbeats 1600000 in
theorem blk_xm (c : Dev nD) (t : Fin cfg0.N) (p : Fin 256) (q : Fin 512) :
    (iblk m c 2 t : Vec Ideal S1x256x512 .f32) (ix3 0 p q) = P m c (at_ t p) ⟨512 + q.val, by omega⟩ := by
  show V m c main_v2 ((win0_2.blk t).view.emb (ix3 0 p q)) = _
  rw [show (win0_2.blk t).view.emb (ix3 0 p q) = (ix3 0 (at_ t p) ⟨512 + q.val, by omega⟩ : S8x4096x1024.Idx) from by blk_ext [idx t]]
  entry_read
  pointwise []

set_option maxHeartbeats 1600000 in
theorem blk_xb (c : Dev nD) (t : Fin cfg0.N) (p : Fin 32) (q : Fin 512) :
    (iblk m c 3 t : Vec Ideal S1x32x512 .f32) (ix3 0 p q) = P m c (bk t p) ⟨512 + q.val, by omega⟩ := by
  show V m c main_v2 ((win0_3.blk t).view.emb (ix3 0 p q)) = _
  rw [show (win0_3.blk t).view.emb (ix3 0 p q) = (ix3 0 (bk t p) ⟨512 + q.val, by omega⟩ : S8x4096x1024.Idx) from by blk_ext [idx t]]
  entry_read
  pointwise []

set_option maxHeartbeats 1600000 in
theorem blk_gm (c : Dev nD) (t : Fin cfg0.N) (p : Fin 256) (q : Fin 512) :
    (iblk m c 4 t : Vec Ideal S1x256x512 .f32) (ix3 0 p q) = P m c (at_ t p) ⟨512 + (512 + q.val), by omega⟩ := by
  show V m c main_v2 ((win0_4.blk t).view.emb (ix3 0 p q)) = _
  rw [show (win0_4.blk t).view.emb (ix3 0 p q) = (ix3 1 (at_ t p) ⟨q.val, by omega⟩ : S8x4096x1024.Idx) from by blk_ext [idx t]]
  entry_read
  pointwise []
  exact congrArg (P m c _) (Fin.ext (by show 1024 + q.val = 512 + (512 + q.val); omega))

set_option maxHeartbeats 1600000 in
theorem blk_cm (c : Dev nD) (t : Fin cfg0.N) (p : Fin 256) (q : Fin 512) :
    (iblk m c 5 t : Vec Ideal S1x256x512 .f32) (ix3 0 p q) = P m c (at_ t p) ⟨512 + (1024 + q.val), by omega⟩ := by
  show V m c main_v2 ((win0_5.blk t).view.emb (ix3 0 p q)) = _
  rw [show (win0_5.blk t).view.emb (ix3 0 p q) = (ix3 1 (at_ t p) ⟨512 + q.val, by omega⟩ : S8x4096x1024.Idx) from by blk_ext [idx t]]
  entry_read
  pointwise []
  exact congrArg (P m c _) (Fin.ext (by show 1024 + (512 + q.val) = 512 + (1024 + q.val); omega))

set_option maxHeartbeats 1600000 in
theorem blk_cb (c : Dev nD) (t : Fin cfg0.N) (p : Fin 32) (q : Fin 512) :
    (iblk m c 6 t : Vec Ideal S1x32x512 .f32) (ix3 0 p q) = P m c (bk t p) ⟨512 + (1024 + q.val), by omega⟩ := by
  show V m c main_v2 ((win0_6.blk t).view.emb (ix3 0 p q)) = _
  rw [show (win0_6.blk t).view.emb (ix3 0 p q) = (ix3 1 (bk t p) ⟨512 + q.val, by omega⟩ : S8x4096x1024.Idx) from by blk_ext [idx t]]
  entry_read
  pointwise []
  exact congrArg (P m c _) (Fin.ext (by show 1024 + (512 + q.val) = 512 + (1024 + q.val); omega))

set_option maxHeartbeats 1600000 in
theorem blk_pm (c : Dev nD) (t : Fin cfg0.N) (p : Fin 256) (q : Fin 512) :
    (iblk m c 7 t : Vec Ideal S1x256x512 .f32) (ix3 0 p q) = P m c (at_ t p) ⟨2048 + q.val, by omega⟩ := by
  show V m c main_v2 ((win0_7.blk t).view.emb (ix3 0 p q)) = _
  rw [show (win0_7.blk t).view.emb (ix3 0 p q) = (ix3 2 (at_ t p) ⟨q.val, by omega⟩ : S8x4096x1024.Idx) from by blk_ext [idx t]]
  entry_read
  pointwise []

set_option maxHeartbeats 1600000 in
theorem blk_pb (c : Dev nD) (t : Fin cfg0.N) (p : Fin 32) (q : Fin 512) :
    (iblk m c 8 t : Vec Ideal S1x32x512 .f32) (ix3 0 p q) = P m c (bk t p) ⟨2048 + q.val, by omega⟩ := by
  show V m c main_v2 ((win0_8.blk t).view.emb (ix3 0 p q)) = _
  rw [show (win0_8.blk t).view.emb (ix3 0 p q) = (ix3 2 (bk t p) ⟨q.val, by omega⟩ : S8x4096x1024.Idx) from by blk_ext [idx t]]
  entry_read
  pointwise []

set_option maxHeartbeats 1600000 in
theorem blk_qm (c : Dev nD) (t : Fin cfg0.N) (p : Fin 256) (q : Fin 512) :
    (iblk m c 9 t : Vec Ideal S1x256x512 .f32) (ix3 0 p q) = P m c (at_ t p) ⟨2048 + (512 + q.val), by omega⟩ := by
  show V m c main_v2 ((win0_9.blk t).view.emb (ix3 0 p q)) = _
  rw [show (win0_9.blk t).view.emb (ix3 0 p q) = (ix3 2 (at_ t p) ⟨512 + q.val, by omega⟩ : S8x4096x1024.Idx) from by blk_ext [idx t]]
  entry_read
  pointwise []

set_option maxHeartbeats 1600000 in
theorem blk_qb (c : Dev nD) (t : Fin cfg0.N) (p : Fin 32) (q : Fin 512) :
    (iblk m c 10 t : Vec Ideal S1x32x512 .f32) (ix3 0 p q) = P m c (bk t p) ⟨2048 + (512 + q.val), by omega⟩ := by
  show V m c main_v2 ((win0_10.blk t).view.emb (ix3 0 p q)) = _
  rw [show (win0_10.blk t).view.emb (ix3 0 p q) = (ix3 2 (bk t p) ⟨512 + q.val, by omega⟩ : S8x4096x1024.Idx) from by blk_ext [idx t]]
  entry_read
  pointwise []

set_option maxHeartbeats 1600000 in
theorem blk_um (c : Dev nD) (t : Fin cfg0.N) (p : Fin 256) (q : Fin 512) :
    (iblk m c 11 t : Vec Ideal S1x256x512 .f32) (ix3 0 p q) = P m c (at_ t p) ⟨3072 + q.val, by omega⟩ := by
  show V m c main_v2 ((win0_11.blk t).view.emb (ix3 0 p q)) = _
  rw [show (win0_11.blk t).view.emb (ix3 0 p q) = (ix3 3 (at_ t p) ⟨q.val, by omega⟩ : S8x4096x1024.Idx) from by blk_ext [idx t]]
  entry_read
  pointwise []

set_option maxHeartbeats 1600000 in
theorem blk_vm (c : Dev nD) (t : Fin cfg0.N) (p : Fin 256) (q : Fin 512) :
    (iblk m c 12 t : Vec Ideal S1x256x512 .f32) (ix3 0 p q) = P m c (at_ t p) ⟨3072 + (512 + q.val), by omega⟩ := by
  show V m c main_v2 ((win0_12.blk t).view.emb (ix3 0 p q)) = _
  rw [show (win0_12.blk t).view.emb (ix3 0 p q) = (ix3 3 (at_ t p) ⟨512 + q.val, by omega⟩ : S8x4096x1024.Idx) from by blk_ext [idx t]]
  entry_read
  pointwise []

set_option maxHeartbeats 1600000 in
theorem blk_pool_w (c : Dev nD) (t : Fin cfg0.N) (h : Fin 4) (i j : Fin 128) :
    (iblk m c 13 t : Vec Ideal S4x128x128 .f32) (ix3 h i j) = m ((c : Thread nD τ).loc main_arg1) (ix3 h i j) := by
  show V m c main_arg1 ((win0_13.blk t).view.emb (ix3 h i j)) = _
  rw [show (win0_13.blk t).view.emb (ix3 h i j) = (ix3 h i j : S4x128x128.Idx) from by blk_ext [idx t]]
  entry_read
  pointwise []

set_option maxHeartbeats 1600000 in
theorem blk_ps (c : Dev nD) (t : Fin cfg0.N) (q : Fin 512) :
    (iblk m c 14 t : Vec Ideal S1x512 .f32) (ix2 0 q) = m ((c : Thread nD τ).loc main_arg2) (ix1 q) := by
  show V m c main_v3 ((win0_14.blk t).view.emb (ix2 0 q)) = _
  rw [show (win0_14.blk t).view.emb (ix2 0 q) = (ix2 0 q : S1x512.Idx) from by blk_ext [idx t]]
  entry_read
  pointwise []

set_option maxHeartbeats 1600000 in
theorem blk_sw (c : Dev nD) (t : Fin cfg0.N) (k : Fin 3) (q : Fin 512) :
    (iblk m c 15 t : Vec Ideal S3x512 .f32) (ix2 k q) = m ((c : Thread nD τ).loc main_arg3) (ix2 k q) := by
  show V m c main_arg3 ((win0_15.blk t).view.emb (ix2 k q)) = _
  rw [show (win0_15.blk t).view.emb (ix2 k q) = (ix2 k q : S3x512.Idx) from by blk_ext [idx t]]
  entry_read
  pointwise []

set_option maxHeartbeats 1600000 in
theorem blk_cw (c : Dev nD) (t : Fin cfg0.N) (k : Fin 31) (q : Fin 512) :
    (iblk m c 16 t : Vec Ideal S31x512 .f32) (ix2 k q) = m ((c : Thread nD τ).loc main_arg4) (ix2 k q) := by
  show V m c main_arg4 ((win0_16.blk t).view.emb (ix2 k q)) = _
  rw [show (win0_16.blk t).view.emb (ix2 k q) = (ix2 k q : S31x512.Idx) from by blk_ext [idx t]]
  entry_read
  pointwise []

set_option maxHeartbeats 1600000 in
theorem blk_clg (c : Dev nD) (t : Fin cfg0.N) (q : Fin 512) :
    (iblk m c 17 t : Vec Ideal S1x512 .f32) (ix2 0 q) = m ((c : Thread nD τ).loc main_arg5) (ix1 q) := by
  show V m c main_v4 ((win0_17.blk t).view.emb (ix2 0 q)) = _
  rw [show (win0_17.blk t).view.emb (ix2 0 q) = (ix2 0 q : S1x512.Idx) from by blk_ext [idx t]]
  entry_read
  pointwise []

set_option maxHeartbeats 1600000 in
theorem blk_clb (c : Dev nD) (t : Fin cfg0.N) (q : Fin 512) :
    (iblk m c 18 t : Vec Ideal S1x512 .f32) (ix2 0 q) = m ((c : Thread nD τ).loc main_arg6) (ix1 q) := by
  show V m c main_v5 ((win0_18.blk t).view.emb (ix2 0 q)) = _
  rw [show (win0_18.blk t).view.emb (ix2 0 q) = (ix2 0 q : S1x512.Idx) from by blk_ext [idx t]]
  entry_read
  pointwise []

set_option maxHeartbeats 1600000 in
theorem blk_slg (c : Dev nD) (t : Fin cfg0.N) (q : Fin 512) :
    (iblk m c 19 t : Vec Ideal S1x512 .f32) (ix2 0 q) = m ((c : Thread nD τ).loc main_arg7) (ix1 q) := by
  show V m c main_v6 ((win0_19.blk t).view.emb (ix2 0 q)) = _
  rw [show (win0_19.blk t).view.emb (ix2 0 q) = (ix2 0 q : S1x512.Idx) from by blk_ext [idx t]]
  entry_read
  pointwise []

set_option maxHeartbeats 1600000 in
theorem blk_slb (c : Dev nD) (t : Fin cfg0.N) (q : Fin 512) :
    (iblk m c 20 t : Vec Ideal S1x512 .f32) (ix2 0 q) = m ((c : Thread nD τ).loc main_arg8) (ix1 q) := by
  show V m c main_v7 ((win0_20.blk t).view.emb (ix2 0 q)) = _
  rw [show (win0_20.blk t).view.emb (ix2 0 q) = (ix2 0 q : S1x512.Idx) from by blk_ext [idx t]]
  entry_read
  pointwise []

set_option maxHeartbeats 1600000 in
theorem blk_gw (c : Dev nD) (t : Fin cfg0.N) (h : Fin 4) (i j : Fin 128) :
    (iblk m c 21 t : Vec Ideal S4x128x128 .f32) (ix3 h i j) = m ((c : Thread nD τ).loc main_arg9) (ix3 h i j) := by
  show V m c main_arg9 ((win0_21.blk t).view.emb (ix3 h i j)) = _
  rw [show (win0_21.blk t).view.emb (ix3 h i j) = (ix3 h i j : S4x128x128.Idx) from by blk_ext [idx t]]
  entry_read
  pointwise []

set_option maxHeartbeats 1600000 in
theorem blk_gb (c : Dev nD) (t : Fin cfg0.N) (h : Fin 4) (i j : Fin 128) :
    (iblk m c 22 t : Vec Ideal S4x128x128 .f32) (ix3 h i j) = m ((c : Thread nD τ).loc main_arg10) (ix2 h i) := by
  show V m c main_v9 ((win0_22.blk t).view.emb (ix3 h i j)) = _
  rw [show (win0_22.blk t).view.emb (ix3 h i j) = (ix3 h i j : S4x128x128.Idx) from by blk_ext [idx t]]
  entry_read
  pointwise []

end Cert.MixKernelIdeal.Out

end
-- ==== Proof.MixReads.lean ====
module

public import proofs.«01_k».proof.Proof.Gen.MixKernelIdeal.Skeleton
public import proofs.«01_k».proof.Proof.MixSpec
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.Mix

/-! ## What the kernel reads back from its scratch buffers

A buffer holds, in column `q`, the values `X q n` of its rows `n`: rows `0 … 31` from the block before, then the point's `256` rows. -/

namespace Cert.MixKernelIdeal.Out

open Cert.MixKernelIdeal Cert.MixKernelIdeal.Gen

/-- `R` rows from row `o` on, of a plane of a buffer, and the same of `W` columns from column `c` on of a flat one. -/
def slab (X : Fin 512 → ℕ → EReal) (R o : ℕ) : (⟨3, ![1, R, 512]⟩ : Shape).Idx → EReal := fun i => X (i 2) (o + (i 1).val)
def flat (X : ℕ → ℕ → EReal) (R W o c : ℕ) : (⟨2, ![R, W]⟩ : Shape).Idx → EReal := fun i => X (c + (i 1).val) (o + (i 0).val)

theorem flat_read (v : View sig .tc .vmem S288x512 .f32) (X : ℕ → ℕ → EReal) (M : Vec Ideal S256x512 .f32) (H : Vec Ideal S32x512 .f32)
    (hM : ∀ p q, M (ix2 p q) = X q.val (32 + p.val)) (hH : ∀ p q, H (ix2 p q) = X q.val p.val) (o c R W : ℕ)
    (h1 : ∀ a, (![32, 0] : Fin 2 → ℕ) a + (![256, 512] : Fin 2 → ℕ) a ≤ S288x512.size a)
    (h2 : ∀ a, (![0, 0] : Fin 2 → ℕ) a + (![32, 512] : Fin 2 → ℕ) a ≤ S288x512.size a)
    (h3 : ∀ a, (![o, c] : Fin 2 → ℕ) a + (![R, W] : Fin 2 → ℕ) a ≤ S288x512.size a) :
    v.readCov (Val := Elt Ideal) [⟨Rect.unit ![32, 0] ![256, 512] h1, M⟩, ⟨Rect.unit ![0, 0] ![32, 512] h2, H⟩]
        (Rect.unit ![o, c] ![R, W] h3).toLoadRect
      = flat X R W o c := by
  rw [View.readCov_eq_canon']
  funext i
  have b0 : o + R ≤ 288 := h3 0
  have b1 : c + W ≤ 512 := h3 1
  have i0 : (i 0).val < R := (i 0).isLt
  have i1 : (i 1).val < W := (i 1).isLt
  refine (View.canon_apply_of_pieces (fun y : S288x512.Idx => X (y 1).val (y 0).val) _ ?_ _
    ?_).trans ?_
  · intro p hp
    simp only [List.mem_cons, List.not_mem_nil, or_false] at hp
    rcases hp with rfl | rfl
    · intro x
      obtain ⟨p, q, rfl⟩ : ∃ p q, x = (ix2 p q : S256x512.Idx) := ⟨x 0, x 1, by blk_ext⟩
      refine (hM p q).trans (congrArg₂ X ?_ ?_)
      · show q.val = 0 + 1 * q.val; omega
      · show 32 + p.val = 32 + 1 * p.val; omega
    · intro x
      obtain ⟨p, q, rfl⟩ : ∃ p q, x = (ix2 p q : S32x512.Idx) := ⟨x 0, x 1, by blk_ext⟩
      refine (hH p q).trans (congrArg₂ X ?_ ?_)
      · show q.val = 0 + 1 * q.val; omega
      · show p.val = 0 + 1 * p.val; omega
  · by_cases hl : o + (i 0).val < 32
    · refine ⟨⟨_, H⟩, List.mem_cons_of_mem _ (List.mem_cons_self ..), (Rect.mem_set_unit (inb := h2)).mpr fun a => ?_⟩
      match a with
      | ⟨0, _⟩ => show 0 ≤ o + 1 * (i 0).val ∧ o + 1 * (i 0).val < 0 + 32; omega
      | ⟨1, _⟩ => show 0 ≤ c + 1 * (i 1).val ∧ c + 1 * (i 1).val < 0 + 512; omega
    · refine ⟨⟨_, M⟩, List.mem_cons_self .., (Rect.mem_set_unit (inb := h1)).mpr fun a => ?_⟩
      match a with
      | ⟨0, _⟩ => show 32 ≤ o + 1 * (i 0).val ∧ o + 1 * (i 0).val < 32 + 256; omega
      | ⟨1, _⟩ => show 0 ≤ c + 1 * (i 1).val ∧ c + 1 * (i 1).val < 0 + 512; omega
  · refine congrArg₂ X ?_ ?_
    · show c + 1 * (i 1).val = c + (i 1).val; omega
    · show o + 1 * (i 0).val = o + (i 0).val; omega

theorem plane_zero (v : View sig .tc .vmem S8x288x512 .f32) (X : Fin 512 → ℕ → EReal) (M : Vec Ideal S1x256x512 .f32)
    (H : Vec Ideal S1x32x512 .f32) (hM : ∀ p q, M (ix3 0 p q) = X q (32 + p.val)) (hH : ∀ p q, H (ix3 0 p q) = X q p.val) (o R : ℕ)
    (h1 : ∀ a, (![0, 32, 0] : Fin 3 → ℕ) a + (![1, 256, 512] : Fin 3 → ℕ) a ≤ S8x288x512.size a)
    (h2 : ∀ a, (![0, 0, 0] : Fin 3 → ℕ) a + (![1, 32, 512] : Fin 3 → ℕ) a ≤ S8x288x512.size a)
    (h3 : ∀ a, (![0, o, 0] : Fin 3 → ℕ) a + (![1, R, 512] : Fin 3 → ℕ) a ≤ S8x288x512.size a) :
    v.readCov (Val := Elt Ideal) [⟨Rect.unit ![0, 32, 0] ![1, 256, 512] h1, M⟩, ⟨Rect.unit ![0, 0, 0] ![1, 32, 512] h2, H⟩]
        (Rect.unit ![0, o, 0] ![1, R, 512] h3).toLoadRect
      = slab X R o := by
  rw [View.readCov_eq_canon']
  funext i
  have hb : o + R ≤ 288 := h3 1
  have h0 : (i 0).val < 1 := (i 0).isLt
  have i1 : (i 1).val < R := (i 1).isLt
  have i2 : (i 2).val < 512 := (i 2).isLt
  refine (View.canon_apply_of_pieces (fun y : S8x288x512.Idx => X (y 2) (y 1).val) _ ?_ _ ?_).trans ?_
  · intro p hp
    simp only [List.mem_cons, List.not_mem_nil, or_false] at hp
    rcases hp with rfl | rfl
    · intro x
      obtain ⟨a, p, q, rfl⟩ : ∃ a p q, x = (ix3 a p q : S1x256x512.Idx) := ⟨x 0, x 1, x 2, by blk_ext⟩
      obtain rfl : a = 0 := Subsingleton.elim _ _
      refine (hM p q).trans (congrArg₂ X ?_ ?_)
      · apply Fin.ext; show q.val = 0 + 1 * q.val; omega
      · show 32 + p.val = 32 + 1 * p.val; omega
    · intro x
      obtain ⟨a, p, q, rfl⟩ : ∃ a p q, x = (ix3 a p q : S1x32x512.Idx) := ⟨x 0, x 1, x 2, by blk_ext⟩
      obtain rfl : a = 0 := Subsingleton.elim _ _
      refine (hH p q).trans (congrArg₂ X ?_ ?_)
      · apply Fin.ext; show q.val = 0 + 1 * q.val; omega
      · show p.val = 0 + 1 * p.val; omega
  · by_cases hl : o + (i 1).val < 32
    · refine ⟨⟨_, H⟩, List.mem_cons_of_mem _ (List.mem_cons_self ..), (Rect.mem_set_unit (inb := h2)).mpr fun a => ?_⟩
      match a with
      | ⟨0, _⟩ => show 0 ≤ 0 + 1 * (i 0).val ∧ 0 + 1 * (i 0).val < 0 + 1; omega
      | ⟨1, _⟩ => show 0 ≤ o + 1 * (i 1).val ∧ o + 1 * (i 1).val < 0 + 32; omega
      | ⟨2, _⟩ => show 0 ≤ 0 + 1 * (i 2).val ∧ 0 + 1 * (i 2).val < 0 + 512; omega
    · refine ⟨⟨_, M⟩, List.mem_cons_self .., (Rect.mem_set_unit (inb := h1)).mpr fun a => ?_⟩
      match a with
      | ⟨0, _⟩ => show 0 ≤ 0 + 1 * (i 0).val ∧ 0 + 1 * (i 0).val < 0 + 1; omega
      | ⟨1, _⟩ => show 32 ≤ o + 1 * (i 1).val ∧ o + 1 * (i 1).val < 32 + 256; omega
      | ⟨2, _⟩ => show 0 ≤ 0 + 1 * (i 2).val ∧ 0 + 1 * (i 2).val < 0 + 512; omega
  · refine congrArg₂ X ?_ ?_
    · apply Fin.ext; show 0 + 1 * (i 2).val = (i 2).val; omega
    · show o + 1 * (i 1).val = o + (i 1).val; omega

theorem plane_read (v : View sig .tc .vmem S8x288x512 .f32) (X : Fin 512 → ℕ → EReal) (b o R : ℕ) (hR : o + R ≤ 280)
    (L : List (View.Piece (Elt Ideal) S8x288x512 .f32))
    (h1 : ∀ a, (![b, 0, 0] : Fin 3 → ℕ) a + (![1, 280, 512] : Fin 3 → ℕ) a ≤ S8x288x512.size a)
    (h3 : ∀ a, (![b, o, 0] : Fin 3 → ℕ) a + (![1, R, 512] : Fin 3 → ℕ) a ≤ S8x288x512.size a) :
    v.readCov (Val := Elt Ideal) (⟨Rect.unit ![b, 0, 0] ![1, 280, 512] h1, slab X 280 b⟩ :: L)
        (Rect.unit ![b, o, 0] ![1, R, 512] h3).toLoadRect
      = slab X R (b + o) := by
  rw [View.readCov_eq_canon']
  funext i
  have h0 : (i 0).val < 1 := (i 0).isLt
  have i1 : (i 1).val < R := (i 1).isLt
  have i2 : (i 2).val < 512 := (i 2).isLt
  have e : (Rect.unit (s := S8x288x512) ![b, o, 0] ![1, R, 512] h3).idx i
      = (Rect.unit (s := S8x288x512) ![b, 0, 0] ![1, 280, 512] h1).emb (ix3 0 ⟨o + (i 1).val, by omega⟩ ⟨(i 2).val, i2⟩) := by
    funext a
    apply Fin.ext
    match a with
    | ⟨0, _⟩ => show b + 1 * (i 0).val = b + 1 * 0; omega
    | ⟨1, _⟩ => show o + 1 * (i 1).val = 0 + 1 * (o + (i 1).val); omega
    | ⟨2, _⟩ => rfl
  refine (congrArg _ e).trans ((View.canon_cons_emb (Val := Elt Ideal) (Rect.unit (s := S8x288x512) ![b, 0, 0] ![1, 280, 512] h1) (slab X 280 b) L
    (ix3 0 ⟨o + (i 1).val, by omega⟩ ⟨(i 2).val, i2⟩)).trans ?_)
  show X (i 2) (b + (o + (i 1).val)) = X (i 2) (b + o + (i 1).val)
  rw [Nat.add_assoc]

end Cert.MixKernelIdeal.Out

end
-- ==== Proof.MixKernel.lean ====
module

public import proofs.«01_k».proof.Proof.MixBlocks
public import proofs.«01_k».proof.Proof.MixReads

@[expose] public section

set_option maxRecDepth 16384

noncomputable section

open Idealize.ShloMosaic Idealize.ShloMosaic.TcCoe Idealize.SL.Sem
open Cert.Mix

/-! ## What the kernel writes to its scratch buffers, and the Conformer convolution -/

namespace Cert.MixKernelIdeal.Out

open Cert.MixKernelIdeal Cert.MixKernelIdeal.Gen

variable (m : (ℓ : Loc nD τ sig) → Buf (Elt Ideal) ℓ)

theorem main_pd (x : Fin 4096 → EReal) (t : Fin cfg0.N) (p : Fin 256) : pd x (t.val * 256 + (32 + p.val)) = x (at_ t p) :=
  (congrArg (pd x) (by show _ = 32 + (t.val * 256 + p.val); omega)).trans (pd_row x (at_ t p))

theorem first_bit : ∀ t : Fin cfg0.N, Scalar.cmpi .sgt (BitVec.ofNat 32 (grid0.coords t 0).val) 0#32 = if t.val = 0 then 0#1 else 1#1 :=
  (by decide +kernel : ∀ t : Fin grid0.N, _)

/-- The factor of the rows before the block: none before the first. -/
theorem back_factor (t : Fin cfg0.N) : k0_pay1 (F := Ideal) (grid0.coords t) = if t.val = 0 then 0 else 1 := by
  have e : k0_pay1 (F := Ideal) (grid0.coords t)
      = Scalar.select (Scalar.cmpi .sgt (BitVec.ofNat 32 (grid0.coords t 0).val) 0#32) (Ideal.ofBits .f32 0x3F800000#32) (Ideal.ofBits .f32 0#32) := rfl
  rw [e, first_bit]
  split_ifs
  · simp [Scalar.select, Ideal.ofBits, Ideal.ieee]
  · simp [Scalar.select, Ideal.ofBits, Ideal.ieee]
    rw [← EReal.coe_mul]
    norm_num

theorem back_pd (x : Fin 4096 → EReal) (t : Fin cfg0.N) (p : Fin 32) :
    x (bk t p) * k0_pay1 (F := Ideal) (grid0.coords t) = pd x (t.val * 256 + p.val) := by
  have := p.isLt
  rw [back_factor]
  split_ifs with h
  · rw [mul_zero, pd_low x (by omega)]
  · rw [mul_one, ← pd_row x (bk t p)]
    exact congrArg (pd x) (by show 32 + ((8 * t.val - 1) * 32 + p.val) = _; omega)

theorem zero_word : Ideal.ofBits .f32 0#32 = 0 := by simp [Ideal.ofBits, Ideal.ieee]

theorem conf_main (c : Dev nD) (t : Fin cfg0.N) (p : Fin 256) (q : Fin 512) :
    k0_pay24 (k0_pay21 (iblk m c 7 t)) (k0_pay22 (iblk m c 9 t)) k0_pay23 (ix3 0 p q) = pd (colC (P m c) q) (t.val * 256 + (32 + p.val)) := by
  refine Eq.trans ?_ (main_pd _ t p).symm
  pointwise [k0_pay24, k0_pay21, k0_pay22, k0_pay23, blk_pm, blk_qm, colC, sg, zero_sub]

theorem conf_back (c : Dev nD) (t : Fin cfg0.N) (p : Fin 32) (q : Fin 512) :
    k0_pay20 (k0_pay1 (grid0.coords t)) (iblk m c 8 t) (iblk m c 10 t) (ix3 0 p q) = pd (colC (P m c) q) (t.val * 256 + p.val) := by
  refine Eq.trans ?_ (back_pd _ t p)
  generalize k0_pay1 (F := Ideal) (grid0.coords t) = z
  pointwise [k0_pay20, blk_pb, blk_qb, colC, sg, zero_sub]

theorem short_main (c : Dev nD) (t : Fin cfg0.N) (p : Fin 256) (q : Fin 512) :
    k0_pay17 (iblk m c 5 t) (iblk m c 2 t) (ix2 p q) = pd (colE (P m c) q) (t.val * 256 + (32 + p.val)) := by
  refine Eq.trans ?_ (main_pd _ t p).symm
  pointwise [k0_pay17, blk_cm, blk_xm, colE]

theorem short_back (c : Dev nD) (t : Fin cfg0.N) (p : Fin 32) (q : Fin 512) :
    k0_pay16 (k0_pay1 (grid0.coords t)) (k0_pay15 (iblk m c 6 t)) (iblk m c 3 t) (ix2 p q) = pd (colE (P m c) q) (t.val * 256 + p.val) := by
  refine Eq.trans ?_ (back_pd _ t p)
  generalize k0_pay1 (F := Ideal) (grid0.coords t) = z
  pointwise [k0_pay16, k0_pay15, blk_cb, blk_xb, colE]

theorem pool_main (c : Dev nD) (t : Fin cfg0.N) (p : Fin 256) (q : Fin 512) :
    k0_pay4 (iblk m c 0 t) (ix2 p q) = pd (colA (P m c) q) (t.val * 256 + (32 + p.val)) := by
  refine Eq.trans ?_ (main_pd _ t p).symm
  pointwise [k0_pay4, blk_am, colA]

theorem pool_back (c : Dev nD) (t : Fin cfg0.N) (p : Fin 32) (q : Fin 512) :
    k0_pay3 (grid0.coords t) (iblk m c 1 t) (ix2 p q) = pd (colA (P m c) q) (t.val * 256 + p.val) := by
  refine Eq.trans ?_ (back_pd _ t p)
  pointwise [k0_pay3, k0_pay1, blk_ab, colA]

theorem copy25 (v : Vec Ideal S1x280x512 .f32) : k0_pay25 v = v := by
  funext i
  obtain ⟨a, p, q, rfl⟩ : ∃ a p q, i = (ix3 a p q : S1x280x512.Idx) := ⟨i 0, i 1, i 2, by blk_ext⟩
  pointwise [k0_pay25]
theorem copy26 (v : Vec Ideal S1x280x512 .f32) : k0_pay26 v = v := copy25 v
theorem copy27 (v : Vec Ideal S1x280x512 .f32) : k0_pay27 v = v := copy25 v
theorem copy28 (v : Vec Ideal S1x280x512 .f32) : k0_pay28 v = v := copy25 v
theorem copy29 (v : Vec Ideal S1x280x512 .f32) : k0_pay29 v = v := copy25 v
theorem copy30 (v : Vec Ideal S1x280x512 .f32) : k0_pay30 v = v := copy25 v
theorem copy31 (v : Vec Ideal S1x280x512 .f32) : k0_pay31 v = v := copy25 v

end Cert.MixKernelIdeal.Out

end
-- ==== Proof.MixConv.lean ====
module

public import proofs.«01_k».proof.Proof.Gen.MixKernelIdeal.Value
public import proofs.«01_k».proof.Proof.MixKernel

@[expose] public section

set_option maxRecDepth 16384

noncomputable section

open Idealize.ShloMosaic Idealize.ShloMosaic.TcCoe Idealize.SL.Sem
open Cert.Mix

/-! ## The Conformer branch's convolution -/

namespace Cert.MixKernelIdeal.Out

open Cert.MixKernelIdeal Cert.MixKernelIdeal.Gen

variable (m : (ℓ : Loc nD τ sig) → Buf (Elt Ideal) ℓ)

/-- The weights of one tap, as a row. -/
def taps (w : Fin 31 → Fin 512 → EReal) (k : Fin 31) : (⟨2, ![1, 512]⟩ : Shape).Idx → EReal := fun i => w k (i 1)

theorem tap_read (c : Dev nD) (t : Fin cfg0.N) (k : ℕ) (hk : k < 31) (h : ∀ a, (![k, 0] : Fin 2 → ℕ) a + (![1, 512] : Fin 2 → ℕ) a ≤ S31x512.size a) :
    View.ld (iblk m c 16 t : Vec Ideal S31x512 .f32) (Rect.unit (s := S31x512) ![k, 0] ![1, 512] h)
      = taps (fun k q => m ((c : Thread nD τ).loc main_arg4) (ix2 k q)) ⟨k, hk⟩ := by
  funext i
  obtain ⟨a, q, rfl⟩ : ∃ a q, i = (ix2 a q : S1x512.Idx) := ⟨i 0, i 1, by blk_ext⟩
  obtain rfl : a = 0 := Subsingleton.elim _ _
  refine Eq.trans (congrArg (iblk m c 16 t : Vec Ideal S31x512 .f32) ?_) (blk_cw m c t ⟨k, hk⟩ q)
  funext a
  apply Fin.ext
  match a with
  | ⟨0, _⟩ => show k + 1 * 0 = k; omega
  | ⟨1, _⟩ => show 0 + 1 * q.val = q.val; omega

theorem rows_emb (o : ℕ) (h : ∀ a, (![o, 0] : Fin 2 → ℕ) a + (![32, 512] : Fin 2 → ℕ) a ≤ S256x512.size a) (p : Fin 32) (q : Fin 512) :
    (Rect.unit (s := S256x512) ![o, 0] ![32, 512] h).emb (ix2 p q)
      = (ix2 ⟨o + p.val, by have : o + 32 ≤ 256 := h 0; omega⟩ q : S256x512.Idx) := by
  funext a
  apply Fin.ext
  match a with
  | ⟨0, _⟩ => show o + 1 * p.val = o + p.val; omega
  | ⟨1, _⟩ => show 0 + 1 * q.val = q.val; omega

/-! The buffers' rows: the pooling branch's and the short convolution's columns are numbered by naturals, since they are read in chunks. -/

def rowsA (m : (ℓ : Loc nD τ sig) → Buf (Elt Ideal) ℓ) (c : Dev nD) (t : Fin cfg0.N) (q n : ℕ) : EReal :=
  if h : q < 512 then pd (colA (P m c) ⟨q, h⟩) (t.val * 256 + n) else 0
def rowsE (m : (ℓ : Loc nD τ sig) → Buf (Elt Ideal) ℓ) (c : Dev nD) (t : Fin cfg0.N) (q n : ℕ) : EReal :=
  if h : q < 512 then pd (colE (P m c) ⟨q, h⟩) (t.val * 256 + n) else 0
def rowsC (m : (ℓ : Loc nD τ sig) → Buf (Elt Ideal) ℓ) (c : Dev nD) (t : Fin cfg0.N) (q : Fin 512) (n : ℕ) : EReal :=
  pd (colC (P m c) q) (t.val * 256 + n)

theorem rowsA_at (c : Dev nD) (t : Fin cfg0.N) (q : Fin 512) (n : ℕ) : rowsA m c t q.val n = pd (colA (P m c) q) (t.val * 256 + n) :=
  dif_pos q.isLt
theorem rowsE_at (c : Dev nD) (t : Fin cfg0.N) (q : Fin 512) (n : ℕ) : rowsE m c t q.val n = pd (colE (P m c) q) (t.val * 256 + n) :=
  dif_pos q.isLt

theorem conf_read (c : Dev nD) (t : Fin cfg0.N) (v : View sig .tc .vmem S8x288x512 .f32) (o R : ℕ)
    (h1 : ∀ a, (![0, 32, 0] : Fin 3 → ℕ) a + (![1, 256, 512] : Fin 3 → ℕ) a ≤ S8x288x512.size a)
    (h2 : ∀ a, (![0, 0, 0] : Fin 3 → ℕ) a + (![1, 32, 512] : Fin 3 → ℕ) a ≤ S8x288x512.size a)
    (h3 : ∀ a, (![0, o, 0] : Fin 3 → ℕ) a + (![1, R, 512] : Fin 3 → ℕ) a ≤ S8x288x512.size a) :
    v.readCov (Val := Elt Ideal) [⟨Rect.unit ![0, 32, 0] ![1, 256, 512] h1, k0_pay24 (k0_pay21 (iblk m c 7 t)) (k0_pay22 (iblk m c 9 t)) k0_pay23⟩,
        ⟨Rect.unit ![0, 0, 0] ![1, 32, 512] h2, k0_pay20 (k0_pay1 (grid0.coords t)) (iblk m c 8 t) (iblk m c 10 t)⟩]
        (Rect.unit ![0, o, 0] ![1, R, 512] h3).toLoadRect
      = slab (rowsC m c t) R o :=
  plane_zero v (rowsC m c t) _ _ (conf_main m c t) (conf_back m c t) o R h1 h2 h3

theorem pool_read (c : Dev nD) (t : Fin cfg0.N) (v : View sig .tc .vmem S288x512 .f32) (o k R W : ℕ)
    (h1 : ∀ a, (![32, 0] : Fin 2 → ℕ) a + (![256, 512] : Fin 2 → ℕ) a ≤ S288x512.size a)
    (h2 : ∀ a, (![0, 0] : Fin 2 → ℕ) a + (![32, 512] : Fin 2 → ℕ) a ≤ S288x512.size a)
    (h3 : ∀ a, (![o, k] : Fin 2 → ℕ) a + (![R, W] : Fin 2 → ℕ) a ≤ S288x512.size a) :
    v.readCov (Val := Elt Ideal) [⟨Rect.unit ![32, 0] ![256, 512] h1, k0_pay4 (iblk m c 0 t)⟩,
        ⟨Rect.unit ![0, 0] ![32, 512] h2, k0_pay3 (grid0.coords t) (iblk m c 1 t)⟩]
        (Rect.unit ![o, k] ![R, W] h3).toLoadRect
      = flat (rowsA m c t) R W o k :=
  flat_read v (rowsA m c t) _ _ (fun p q => (pool_main m c t p q).trans (rowsA_at m c t q _).symm)
    (fun p q => (pool_back m c t p q).trans (rowsA_at m c t q _).symm) o k R W h1 h2 h3

theorem short_read (c : Dev nD) (t : Fin cfg0.N) (v : View sig .tc .vmem S288x512 .f32) (o k R W : ℕ)
    (h1 : ∀ a, (![32, 0] : Fin 2 → ℕ) a + (![256, 512] : Fin 2 → ℕ) a ≤ S288x512.size a)
    (h2 : ∀ a, (![0, 0] : Fin 2 → ℕ) a + (![32, 512] : Fin 2 → ℕ) a ≤ S288x512.size a)
    (h3 : ∀ a, (![o, k] : Fin 2 → ℕ) a + (![R, W] : Fin 2 → ℕ) a ≤ S288x512.size a) :
    v.readCov (Val := Elt Ideal) [⟨Rect.unit ![32, 0] ![256, 512] h1, k0_pay17 (iblk m c 5 t) (iblk m c 2 t)⟩,
        ⟨Rect.unit ![0, 0] ![32, 512] h2, k0_pay16 (k0_pay1 (grid0.coords t)) (k0_pay15 (iblk m c 6 t)) (iblk m c 3 t)⟩]
        (Rect.unit ![o, k] ![R, W] h3).toLoadRect
      = flat (rowsE m c t) R W o k :=
  flat_read v (rowsE m c t) _ _ (fun p q => (short_main m c t p q).trans (rowsE_at m c t q _).symm)
    (fun p q => (short_back m c t p q).trans (rowsE_at m c t q _).symm) o k R W h1 h2 h3

/-- The convolution at a block's row and channel, of the buffer's rows. -/
def convBlk (w : Fin 31 → Fin 512 → EReal) (X : Fin 512 → ℕ → EReal) : S256x512.Idx → EReal :=
  fun y => ∑ k ∈ Finset.range 31, tap (fun k => w k (y 1)) k * X (y 1) ((y 0).val + (2 + k))

set_option maxHeartbeats 4000000 in
theorem conv_block (c : Dev nD) (t : Fin cfg0.N) : (dats m 0 c).after 24 t
    = convBlk (fun k q => m ((c : Thread nD τ).loc main_arg4) (ix2 k q)) (rowsC m c t) := by
  rw [after0_24]
  frame_out
  funext y
  simp (disch := decide) only [↓View.readCov_skip, conf_read, copy25, copy26, copy27, copy28, copy29, copy30, copy31, plane_read, tap_read]
  generalize rowsC m c t = X
  generalize (fun (k : Fin 31) (q : Fin 512) => m ((c : Thread nD τ).loc main_arg4) (ix2 k q)) = w
  refine View.canon_append_of_piecesOf (Val := Elt Ideal) (e := .f32) (convBlk w X)
    [] [_, _, _, _, _, _, _, _] ⟨fun x => ?_, fun x => ?_, fun x => ?_, fun x => ?_, fun x => ?_, fun x => ?_, fun x => ?_, fun x => ?_, trivial⟩ y
    (View.cover_of_tiledL _ ![32, 512] (by sl_kernel_rfl) y)
  all_goals
    obtain ⟨p, q, rfl⟩ : ∃ p q, x = (ix2 p q : S32x512.Idx) := ⟨x 0, x 1, by blk_ext⟩
    dsimp only
    rw [rows_emb]
    open_payloads
    pointwise [slab, taps, convBlk, tap, Finset.sum_range_succ, Finset.sum_range_zero, zero_add]
    repeat' refine congrArg₂ (fun a b : EReal => a + b) ?_ ?_
    all_goals exact congrArg₂ (fun a b : EReal => a * b) rfl (congrArg (X _) (by omega))

end Cert.MixKernelIdeal.Out

end
-- ==== Proof.MixPool.lean ====
module

public import proofs.«01_k».proof.Proof.MixConv

@[expose] public section

set_option maxRecDepth 16384

noncomputable section

open Idealize.ShloMosaic Idealize.ShloMosaic.TcCoe Idealize.SL.Sem
open Cert.Mix

/-! ## The pooling branch and the short convolution of a block -/

namespace Cert.MixKernelIdeal.Out

open Cert.MixKernelIdeal Cert.MixKernelIdeal.Gen

variable (m : (ℓ : Loc nD τ sig) → Buf (Elt Ideal) ℓ)

/-- A group of the pooling branch: `K` rows' mean less the row, times the group's weight and scale. -/
def poolBlk (K : ℕ) (X : ℕ → ℕ → EReal) (o : ℕ) (t : Fin cfg0.N) (w : Vec Ideal S1x128x128 .f32) (ps : Vec Ideal S1x128 .f32) (p : Fin 256)
    (c : Fin 128) : EReal :=
  (∑ k : Fin 128, (Ideal.div (∑ j ∈ Finset.range K, X (o + k.val) (32 - j + p.val)) (count (BitVec.ofNat 32 K) (at_ t p))
      - X (o + k.val) (32 + p.val)) * w (ix3 0 k c)) * ps (ix2 0 c)

variable (X : ℕ → ℕ → EReal) (t : Fin cfg0.N) (w : Vec Ideal S1x128x128 .f32) (ps : Vec Ideal S1x128 .f32) (p : Fin 256) (c : Fin 128)

theorem coords_val : ∀ t : Fin cfg0.N, (grid0.coords t 0).val = t.val :=
  (by decide +kernel : ∀ t : Fin grid0.N, (grid0.coords t 0).val = t.val)

theorem row_word : k0_pay2 (grid0.coords t) (ix2 p 0) = BitVec.ofNat 32 (at_ t p).val := by
  have := t.isLt
  have := p.isLt
  have e : k0_pay2 (grid0.coords t) (ix2 p 0)
      = IntOp.addi (Scalar.muli (BitVec.ofNat 32 (grid0.coords t 0).val) 256#32) (BitVec.ofNat 32 p.val) := by
    pointwise [k0_pay2]
  rw [e, coords_val]
  show BitVec.ofNat 32 t.val * BitVec.ofNat 32 256 + BitVec.ofNat 32 p.val = BitVec.ofNat 32 (t.val * 256 + p.val)
  rw [← BitVec.ofNat_mul, ← BitVec.ofNat_add]

/-- The number of rows in a window, capped by the rows there are. -/
theorem count_at (K : BitVec 32) :
    FloatOps.sitofp (F := Ideal) .f32 (IntOp.minsi (IntOp.addi (k0_pay2 (grid0.coords t) (ix2 p 0)) 1#32) K) = Mix.count K (at_ t p) := by
  rw [row_word]
  rfl

theorem pool0 : k0_pay6 (k0_pay5 (grid0.coords t) (flat X 256 128 32 0) (flat X 256 128 31 0) (flat X 256 128 32 0)) w ps (ix3 0 p c)
    = poolBlk 2 X 0 t w ps p c := by
  pointwise [k0_pay6, k0_pay5, flat, poolBlk, count_at, Finset.sum_range_succ, Finset.sum_range_zero, zero_add]

theorem pool1 : k0_pay9 (k0_pay7 (k0_pay2 (grid0.coords t)) (flat X 256 128 32 128) (flat X 256 128 31 128) (flat X 256 128 30 128)
      (flat X 256 128 29 128) (flat X 256 128 32 128) w) (k0_pay8 ps) (ix3 0 p c)
    = poolBlk 4 X 128 t w ps p c := by
  pointwise [k0_pay9, k0_pay8, k0_pay7, flat, poolBlk, count_at, Finset.sum_range_succ, Finset.sum_range_zero, zero_add]

theorem pool2 : k0_pay12 (k0_pay10 (k0_pay2 (grid0.coords t)) (flat X 256 128 32 256) (flat X 256 128 31 256) (flat X 256 128 30 256)
      (flat X 256 128 29 256) (flat X 256 128 28 256) (flat X 256 128 27 256) (flat X 256 128 26 256) (flat X 256 128 25 256)
      (flat X 256 128 32 256)) (k0_pay11 w) ps (ix3 0 p c)
    = poolBlk 8 X 256 t w ps p c := by
  pointwise [k0_pay12, k0_pay11, k0_pay10, flat, poolBlk, count_at, Finset.sum_range_succ, Finset.sum_range_zero, zero_add]

theorem pool3 : k0_pay14 (k0_pay2 (grid0.coords t)) (k0_pay13 (flat X 256 128 32 384) (flat X 256 128 31 384) (flat X 256 128 30 384)
      (flat X 256 128 29 384) (flat X 256 128 28 384) (flat X 256 128 27 384) (flat X 256 128 26 384) (flat X 256 128 25 384)
      (flat X 256 128 24 384) (flat X 256 128 23 384) (flat X 256 128 22 384)) (flat X 256 128 21 384) (flat X 256 128 20 384)
      (flat X 256 128 19 384) (flat X 256 128 18 384) (flat X 256 128 17 384) (flat X 256 128 32 384) w ps (ix3 0 p c)
    = poolBlk 16 X 384 t w ps p c := by
  pointwise [k0_pay14, k0_pay13, flat, poolBlk, count_at, Finset.sum_range_succ, Finset.sum_range_zero, zero_add]

/-- The short convolution's branch: the gate times three taps. -/
theorem short (w0 w1 w2 : Vec Ideal S1x512 .f32) (g : Vec Ideal S1x256x512 .f32) (q : Fin 512) :
    k0_pay19 (k0_pay18 w0 (flat X 256 512 30 0) w1 (flat X 256 512 31 0) w2 (flat X 256 512 32 0)) g (ix3 0 p q)
      = g (ix3 0 p q) * (w0 (ix2 0 q) * X q.val (30 + p.val) + w1 (ix2 0 q) * X q.val (31 + p.val) + w2 (ix2 0 q) * X q.val (32 + p.val)) := by
  pointwise [k0_pay19, k0_pay18, flat]

/-- The Conformer branch: the convolution's rows, normalised and gated. -/
theorem conformer (y : Vec Ideal S256x512 .f32) (g b : Vec Ideal S1x512 .f32) (p : Fin 256) (q : Fin 512) :
    k0_pay112 (k0_pay110 y g) (k0_pay111 b) (ix3 0 p q)
      = silu (ln (fun k => g (ix2 0 k)) (fun k => b (ix2 0 k)) (fun k => y (ix2 p k)) q) := by
  pointwise [k0_pay112, k0_pay111, k0_pay110, silu, ln, rstd, dev, sg, zero_sub]

end Cert.MixKernelIdeal.Out

end
-- ==== Proof.MixGate.lean ====
module

public import proofs.«01_k».proof.Proof.MixBlocks

@[expose] public section

set_option maxRecDepth 16384

noncomputable section

open Idealize.ShloMosaic Idealize.ShloMosaic.TcCoe Idealize.SL.Sem
open Cert.Mix

/-! ## The spatial gating branch of a block -/

namespace Cert.MixKernelIdeal.Out

open Cert.MixKernelIdeal Cert.MixKernelIdeal.Gen

theorem half_gelu (p a b c d : EReal) : a * p * (b + Ideal.tanh (c * (p + d * (p * p * p)))) = p * (a * (b + Ideal.tanh (c * (p + d * (p * p * p))))) := by
  rw [mul_comm a p, mul_assoc]

variable (du dv : Vec Ideal S1x256x512 .f32) (g b' : Vec Ideal S1x512 .f32)

theorem gate (p : Fin 256) (q : Fin 512) : k0_pay113 du (ix2 p q) = gelu (du (ix3 0 p q)) := by
  pointwise [k0_pay113, gelu]
  exact half_gelu _ _ _ _ _

theorem gated (p : Fin 256) (q : Fin 512) : k0_pay117 (k0_pay114 dv) (k0_pay115 dv) k0_pay116 g b' (ix2 p q)
    = ln (fun k => g (ix2 0 k)) (fun k => b' (ix2 0 k)) (fun k => gelu (dv (ix3 0 p k))) q := by
  pointwise [k0_pay117, k0_pay116, k0_pay115, k0_pay114, ln, dev, rstd, gelu, half_gelu]

/-- The chunk of the row, or column, numbered by a word. -/
def chunkOf (x : BitVec 32) : BitVec 32 :=
  Scalar.select (IntOp.andi (Scalar.cmpi .ne (IntOp.subi (Scalar.extui (Scalar.cmpi .sgt x 0#32)) (Scalar.extui (Scalar.cmpi .slt x 0#32)))
        (Scalar.subi (Scalar.extui (Scalar.cmpi .sgt 64#32 0#32)) (Scalar.extui (Scalar.cmpi .slt 64#32 0#32))))
      (Scalar.cmpi .ne (IntOp.remsi .vector x 64#32) 0#32))
    (IntOp.subi (IntOp.divsi .vector x 64#32) 1#32) (IntOp.divsi .vector x 64#32)

theorem chunkOf_eq : ∀ i : Fin 128, chunkOf (BitVec.ofNat 32 i.val) = BitVec.ofNat 32 (i.val / 64) := by decide +kernel

theorem chunk_le (a b : ℕ) (ha : a < 2) (hb : b < 2) : Scalar.cmpi .sle (BitVec.ofNat 32 a) (BitVec.ofNat 32 b) = if a ≤ b then 1#1 else 0#1 := by
  interval_cases a <;> interval_cases b <;> rfl

theorem seen (i j : Fin 128) : k0_pay120 (iota Kind.tc S128x128 32 [0] iota_S128x128_d0_w32) 64#32 k0_pay118 k0_pay119 (ix2 i j) = if sees i j then 1#1 else 0#1 := by
  refine (show _ = Scalar.cmpi .sle (chunkOf (iota Kind.tc S128x128 32 [1] iota_S128x128_d1_w32 (ix2 i j)))
    (chunkOf (iota Kind.tc S128x128 32 [0] iota_S128x128_d0_w32 (ix2 i j))) from rfl).trans ?_
  refine (show _ = Scalar.cmpi .sle (chunkOf (BitVec.ofNat 32 j.val)) (chunkOf (BitVec.ofNat 32 i.val)) from ?_).trans ?_
  · pointwise []
  rw [chunkOf_eq, chunkOf_eq]
  exact chunk_le _ _ (by omega) (by omega)

/-- The row of a block. -/
abbrev low (n : Fin 2) (i : Fin 128) : Fin 256 := ⟨n.val * 128 + i.val, by omega⟩

theorem low_0 (i : Fin 128) : low 0 i = ⟨i.val, by omega⟩ := Fin.ext (show 0 * 128 + i.val = i.val by omega)
theorem low_1 (i : Fin 128) : low 1 i = ⟨128 + i.val, by omega⟩ := Fin.ext (show 1 * 128 + i.val = 128 + i.val by omega)
theorem chan_0 (i : Fin 128) : chan 0 i = ⟨i.val, by omega⟩ := Fin.ext (show 0 * 128 + i.val = i.val by omega)
theorem chan_1 (i : Fin 128) : chan 1 i = ⟨128 + i.val, by omega⟩ := Fin.ext (show 1 * 128 + i.val = 128 + i.val by omega)
theorem chan_2 (i : Fin 128) : chan 2 i = ⟨256 + i.val, by omega⟩ := Fin.ext (show 2 * 128 + i.val = 256 + i.val by omega)
theorem chan_3 (i : Fin 128) : chan 3 i = ⟨384 + i.val, by omega⟩ := Fin.ext (show 3 * 128 + i.val = 384 + i.val by omega)

variable (u vn : FVec Ideal S256x512 .f32) (M : IVec S128x128 1) (w b : Vec Ideal S1x128x128 .f32)

/-- A block's gate output, of half `n` of the rows and head `h`. -/
abbrev blockOut (n : Fin 2) (h : Fin 4) (i c : Fin 128) : EReal :=
  u (ix2 (low n i) (chan h c)) * ((∑ j, Scalar.select (M (ix2 i j)) (w (ix3 0 i j) * vn (ix2 (low n j) (chan h c))) 0) + b (ix3 0 i c))

theorem g00 (i c : Fin 128) : k0_pay123 u (k0_pay122 vn (iota Kind.tc S128x128 32 [0] iota_S128x128_d0_w32) 64#32 k0_pay118 k0_pay119 w) b (ix3 0 i c) = blockOut u vn (k0_pay120 (iota Kind.tc S128x128 32 [0] iota_S128x128_d0_w32) 64#32 k0_pay118 k0_pay119) w b 0 0 i c := by
  pointwise [k0_pay123, k0_pay122, k0_pay121]
  simp only [blockOut, low_0, low_1, chan_0, chan_1, chan_2, chan_3]
theorem g10 (i c : Fin 128) : k0_pay124 u vn (k0_pay121 (iota Kind.tc S128x128 32 [0] iota_S128x128_d0_w32) 64#32 k0_pay118 k0_pay119 w) b (ix3 0 i c) = blockOut u vn (k0_pay120 (iota Kind.tc S128x128 32 [0] iota_S128x128_d0_w32) 64#32 k0_pay118 k0_pay119) w b 1 0 i c := by
  pointwise [k0_pay124, k0_pay121]
  simp only [blockOut, low_0, low_1, chan_0, chan_1, chan_2, chan_3]
theorem g01 (i c : Fin 128) : k0_pay126 u vn M w b (ix3 0 i c) = blockOut u vn M w b 0 1 i c := by
  pointwise [k0_pay126, k0_pay125]
  simp only [blockOut, low_0, low_1, chan_0, chan_1, chan_2, chan_3]
theorem g11 (i c : Fin 128) : k0_pay127 u vn (k0_pay125 M w) b (ix3 0 i c) = blockOut u vn M w b 1 1 i c := by
  pointwise [k0_pay127, k0_pay125]
  simp only [blockOut, low_0, low_1, chan_0, chan_1, chan_2, chan_3]
theorem g02 (i c : Fin 128) : k0_pay129 u vn M w b (ix3 0 i c) = blockOut u vn M w b 0 2 i c := by
  pointwise [k0_pay129, k0_pay128]
  simp only [blockOut, low_0, low_1, chan_0, chan_1, chan_2, chan_3]
theorem g12 (i c : Fin 128) : k0_pay131 u (k0_pay130 vn M w b) (ix3 0 i c) = blockOut u vn M w b 1 2 i c := by
  pointwise [k0_pay131, k0_pay130, k0_pay128]
  simp only [blockOut, low_0, low_1, chan_0, chan_1, chan_2, chan_3]
theorem g03 (i c : Fin 128) : k0_pay133 u vn M w b (ix3 0 i c) = blockOut u vn M w b 0 3 i c := by
  pointwise [k0_pay133, k0_pay132]
  simp only [blockOut, low_0, low_1, chan_0, chan_1, chan_2, chan_3]
theorem g13 (i c : Fin 128) : k0_pay134 u vn M w b (ix3 0 i c) = blockOut u vn M w b 1 3 i c := by
  pointwise [k0_pay134, k0_pay132]
  simp only [blockOut, low_0, low_1, chan_0, chan_1, chan_2, chan_3]

end Cert.MixKernelIdeal.Out

end
-- ==== Proof.MixParts.lean ====
module

public import proofs.«01_k».proof.Proof.MixPool
public import proofs.«01_k».proof.Proof.MixGate

@[expose] public section

set_option maxRecDepth 16384

noncomputable section

open Idealize.ShloMosaic Idealize.ShloMosaic.TcCoe Idealize.SL.Sem
open Cert.Mix

/-! ## The branches of a block, at the rows of the array -/

namespace Cert.MixKernelIdeal.Out

open Cert.MixKernelIdeal Cert.MixKernelIdeal.Gen

variable (m : (ℓ : Loc nD τ sig) → Buf (Elt Ideal) ℓ)

/-! The weights, and the branches' results at a row. -/

abbrev poolW (c : Dev nD) (g : Fin 4) (k l : Fin 128) : EReal := m ((c : Thread nD τ).loc main_arg1) (ix3 g k l)
abbrev poolS (c : Dev nD) (q : Fin 512) : EReal := m ((c : Thread nD τ).loc main_arg2) (ix1 q)
abbrev shortW (c : Dev nD) (q : Fin 512) (k : Fin 3) : EReal := m ((c : Thread nD τ).loc main_arg3) (ix2 k q)
abbrev confW (c : Dev nD) (k : Fin 31) (q : Fin 512) : EReal := m ((c : Thread nD τ).loc main_arg4) (ix2 k q)
abbrev confG (c : Dev nD) (q : Fin 512) : EReal := m ((c : Thread nD τ).loc main_arg5) (ix1 q)
abbrev confB (c : Dev nD) (q : Fin 512) : EReal := m ((c : Thread nD τ).loc main_arg6) (ix1 q)
abbrev gateG (c : Dev nD) (q : Fin 512) : EReal := m ((c : Thread nD τ).loc main_arg7) (ix1 q)
abbrev gateB (c : Dev nD) (q : Fin 512) : EReal := m ((c : Thread nD τ).loc main_arg8) (ix1 q)
abbrev mixW (c : Dev nD) (h : Fin 4) (i j : Fin 128) : EReal := m ((c : Thread nD τ).loc main_arg9) (ix3 h i j)
abbrev mixB (c : Dev nD) (h : Fin 4) (i : Fin 128) : EReal := m ((c : Thread nD τ).loc main_arg10) (ix2 h i)

def confRow (c : Dev nD) (s : Fin 4096) (q : Fin 512) : EReal := conv 31 (tap fun k => confW m c k q) (colC (P m c) q) s
def outA (c : Dev nD) (s : Fin 4096) (g : Fin 4) (l : Fin 128) : EReal := poolOut (colA (P m c)) (poolW m c) (poolS m c) s g l
def outB (c : Dev nD) (s : Fin 4096) (q : Fin 512) : EReal :=
  P m c s ⟨512 + (512 + q.val), by omega⟩ * conv 3 (tap (shortW m c q)) (colE (P m c) q) s
def outC (c : Dev nD) (s : Fin 4096) (q : Fin 512) : EReal := silu (ln (confG m c) (confB m c) (confRow m c s) q)
def outD (c : Dev nD) (n : Fin 32) (i : Fin 128) (h : Fin 4) (l : Fin 128) : EReal :=
  gateOut (rowU (P m c)) (fun s => ln (gateG m c) (gateB m c) (rowB (P m c) s)) (mixW m c) (mixB m c) n i h l

/-! Reading one slice of a weight. -/

theorem slice3 (v : Vec Ideal S4x128x128 .f32) (g : Fin 4) (o : ℕ) (ho : o = g.val) (h : ∀ a, (![o, 0, 0] : Fin 3 → ℕ) a + (![1, 128, 128] : Fin 3 → ℕ) a ≤ S4x128x128.size a)
    (i j : Fin 128) : View.ld v (Rect.unit (s := S4x128x128) ![o, 0, 0] ![1, 128, 128] h) (ix3 0 i j) = v (ix3 g i j) := by
  refine congrArg v ?_
  funext a
  apply Fin.ext
  match a with
  | ⟨0, _⟩ => show o + 1 * 0 = g.val; omega
  | ⟨1, _⟩ => show 0 + 1 * i.val = i.val; omega
  | ⟨2, _⟩ => show 0 + 1 * j.val = j.val; omega

theorem slice_chan (v : Vec Ideal S1x512 .f32) (g : Fin 4) (o : ℕ) (ho : o = g.val * 128)
    (h : ∀ a, (![0, o] : Fin 2 → ℕ) a + (![1, 128] : Fin 2 → ℕ) a ≤ S1x512.size a)
    (l : Fin 128) : View.ld v (Rect.unit (s := S1x512) ![0, o] ![1, 128] h) (ix2 0 l) = v (ix2 0 (chan g l)) := by
  refine congrArg v ?_
  funext a
  apply Fin.ext
  match a with
  | ⟨0, _⟩ => show 0 + 1 * 0 = 0; omega
  | ⟨1, _⟩ => show o + 1 * l.val = g.val * 128 + l.val; omega

theorem slice_tap (v : Vec Ideal S3x512 .f32) (k : Fin 3) (o : ℕ) (ho : o = k.val) (h : ∀ a, (![o, 0] : Fin 2 → ℕ) a + (![1, 512] : Fin 2 → ℕ) a ≤ S3x512.size a)
    (q : Fin 512) : View.ld v (Rect.unit (s := S3x512) ![o, 0] ![1, 512] h) (ix2 0 q) = v (ix2 k q) := by
  refine congrArg v ?_
  funext a
  apply Fin.ext
  match a with
  | ⟨0, _⟩ => show o + 1 * 0 = k.val; omega
  | ⟨1, _⟩ => show 0 + 1 * q.val = q.val; omega

/-! Each branch of a block is the result at the block's rows. -/

theorem conv_rows (c : Dev nD) (t : Fin cfg0.N) (p : Fin 256) (q : Fin 512) :
    convBlk (confW m c) (rowsC m c t) (ix2 p q) = confRow m c (at_ t p) q := by
  unfold convBlk confRow conv
  refine Finset.sum_congr rfl fun k hk => congrArg₂ (fun a b : EReal => a * b) rfl (congrArg (pd _) ?_)
  show t.val * 256 + (p.val + (2 + k)) = t.val * 256 + p.val + (33 - 31 + k)
  omega

theorem pool_rows (c : Dev nD) (t : Fin cfg0.N) (g : Fin 4) (o : ℕ) (ho : o = g.val * 128) (w : Vec Ideal S1x128x128 .f32)
    (ps : Vec Ideal S1x128 .f32) (hw : ∀ k l, w (ix3 0 k l) = poolW m c g k l) (hs : ∀ l, ps (ix2 0 l) = poolS m c (chan g l))
    (p : Fin 256) (l : Fin 128) : poolBlk (width g) (rowsA m c t) o t w ps p l = outA m c (at_ t p) g l := by
  have e : ∀ (k : Fin 128) (n : ℕ), rowsA m c t (o + k.val) n = pd (colA (P m c) (chan g k)) (t.val * 256 + n) := fun k n => by
    rw [← rowsA_at, ho]
  unfold poolBlk outA poolOut pooled window
  refine congrArg₂ (fun a b : EReal => a * b) (Finset.sum_congr rfl fun k _ => ?_) (hs l)
  refine congrArg₂ (fun a b : EReal => a * b) (congrArg₂ (fun a b : EReal => a - b) (congrArg (Ideal.div · _) (Finset.sum_congr rfl fun j _ => ?_)) ?_) (hw k l)
  · rw [e]
    exact congrArg (pd _) (by show t.val * 256 + (32 - j + p.val) = t.val * 256 + p.val + (32 - j); omega)
  · rw [e, main_pd]

theorem short_rows (c : Dev nD) (t : Fin cfg0.N) (w0 w1 w2 : Vec Ideal S1x512 .f32) (h0 : ∀ q, w0 (ix2 0 q) = shortW m c q 0)
    (h1 : ∀ q, w1 (ix2 0 q) = shortW m c q 1) (h2 : ∀ q, w2 (ix2 0 q) = shortW m c q 2) (p : Fin 256) (q : Fin 512) :
    k0_pay19 (k0_pay18 w0 (flat (rowsE m c t) 256 512 30 0) w1 (flat (rowsE m c t) 256 512 31 0) w2 (flat (rowsE m c t) 256 512 32 0))
        (iblk m c 4 t) (ix3 0 p q)
      = outB m c (at_ t p) q := by
  refine (short (rowsE m c t) p w0 w1 w2 (iblk m c 4 t) q).trans ?_
  rw [blk_gm, h0, h1, h2, rowsE_at, rowsE_at, rowsE_at]
  unfold outB conv
  simp only [Finset.sum_range_succ, Finset.sum_range_zero, zero_add, tap, Nat.reduceLT, dite_true]
  refine congrArg₂ (fun a b : EReal => a * b) rfl ?_
  repeat' refine congrArg₂ (fun a b : EReal => a + b) ?_ ?_
  all_goals refine congrArg₂ (fun a b : EReal => a * b) rfl (congrArg (pd _) ?_)
  · show t.val * 256 + (30 + p.val) = t.val * 256 + p.val + 30; omega
  · show t.val * 256 + (31 + p.val) = t.val * 256 + p.val + 31; omega
  · show t.val * 256 + (32 + p.val) = t.val * 256 + p.val + 32; omega

theorem conf_rows (c : Dev nD) (t : Fin cfg0.N) (p : Fin 256) (q : Fin 512) :
    k0_pay112 (k0_pay110 (convBlk (confW m c) (rowsC m c t)) (iblk m c 17 t)) (k0_pay111 (iblk m c 18 t)) (ix3 0 p q) = outC m c (at_ t p) q := by
  refine (conformer _ (iblk m c 17 t) (iblk m c 18 t) p q).trans ?_
  simp only [blk_clg, blk_clb, conv_rows]
  rfl

/-- The sequence's block, of point `t` and half `n`. -/
abbrev half (t : Fin cfg0.N) (n : Fin 2) : Fin 32 := ⟨t.val * 2 + n.val, by have := lt_of_lt_of_eq t.isLt N_0; omega⟩

theorem at_low (t : Fin cfg0.N) (n : Fin 2) (i : Fin 128) : at_ t (low n i) = row (half t n) i :=
  Fin.ext (by show t.val * 256 + (n.val * 128 + i.val) = (t.val * 2 + n.val) * 128 + i.val; omega)

theorem gate_rows (c : Dev nD) (t : Fin cfg0.N) (n : Fin 2) (h : Fin 4) (w b : Vec Ideal S1x128x128 .f32)
    (hw : ∀ i j, w (ix3 0 i j) = mixW m c h i j) (hb : ∀ i j, b (ix3 0 i j) = mixB m c h i) (i l : Fin 128) :
    blockOut (k0_pay113 (iblk m c 11 t)) (k0_pay117 (k0_pay114 (iblk m c 12 t)) (k0_pay115 (iblk m c 12 t)) k0_pay116 (iblk m c 19 t) (iblk m c 20 t))
        (k0_pay120 (iota Kind.tc S128x128 32 [0] iota_S128x128_d0_w32) 64#32 k0_pay118 k0_pay119) w b n h i l
      = outD m c (half t n) i h l := by
  unfold blockOut outD gateOut
  rw [gate, blk_um, at_low, hb]
  refine congrArg₂ (fun a b : EReal => a * b) rfl (congrArg (· + _) (Finset.sum_congr rfl fun j _ => ?_))
  rw [seen, hw, gated]
  simp only [blk_slg, blk_slb, blk_vm, at_low]
  split_ifs
  · rfl
  · rw [zero_mul]; rfl

/-! The pieces of the block. -/

theorem emb_pool (k : ℕ) (g : Fin 4) (hk : k = g.val * 128) (h : ∀ a, (![0, 0, k] : Fin 3 → ℕ) a + (![1, 256, 128] : Fin 3 → ℕ) a ≤ S4x256x512.size a)
    (p : Fin 256) (l : Fin 128) : (Rect.unit (s := S4x256x512) ![0, 0, k] ![1, 256, 128] h).emb (ix3 0 p l) = (ix3 0 p (chan g l) : S4x256x512.Idx) := by
  funext a
  apply Fin.ext
  match a with
  | ⟨0, _⟩ => show 0 + 1 * 0 = 0; omega
  | ⟨1, _⟩ => show 0 + 1 * p.val = p.val; omega
  | ⟨2, _⟩ => show k + 1 * l.val = g.val * 128 + l.val; omega

theorem emb_plane (o : ℕ) (b : Fin 4) (ho : o = b.val) (h : ∀ a, (![o, 0, 0] : Fin 3 → ℕ) a + (![1, 256, 512] : Fin 3 → ℕ) a ≤ S4x256x512.size a)
    (p : Fin 256) (q : Fin 512) : (Rect.unit (s := S4x256x512) ![o, 0, 0] ![1, 256, 512] h).emb (ix3 0 p q) = (ix3 b p q : S4x256x512.Idx) := by
  funext a
  apply Fin.ext
  match a with
  | ⟨0, _⟩ => show o + 1 * 0 = b.val; omega
  | ⟨1, _⟩ => show 0 + 1 * p.val = p.val; omega
  | ⟨2, _⟩ => show 0 + 1 * q.val = q.val; omega

theorem emb_gate (r k : ℕ) (n : Fin 2) (g : Fin 4) (hr : r = n.val * 128) (hk : k = g.val * 128)
    (h : ∀ a, (![3, r, k] : Fin 3 → ℕ) a + (![1, 128, 128] : Fin 3 → ℕ) a ≤ S4x256x512.size a)
    (i l : Fin 128) : (Rect.unit (s := S4x256x512) ![3, r, k] ![1, 128, 128] h).emb (ix3 0 i l) = (ix3 3 (low n i) (chan g l) : S4x256x512.Idx) := by
  funext a
  apply Fin.ext
  match a with
  | ⟨0, _⟩ => show 3 + 1 * 0 = 3; omega
  | ⟨1, _⟩ => show r + 1 * i.val = n.val * 128 + i.val; omega
  | ⟨2, _⟩ => show k + 1 * l.val = g.val * 128 + l.val; omega

end Cert.MixKernelIdeal.Out

end
-- ==== Proof.MixOut.lean ====
module

public import proofs.«01_k».proof.Proof.Gen.MixKernelIdeal.Value
public import proofs.«01_k».proof.Proof.MixParts

@[expose] public section

set_option maxRecDepth 16384

noncomputable section

open Idealize.ShloMosaic Idealize.ShloMosaic.TcCoe Idealize.SL.Sem
open Cert.Mix

/-! ## The mixed block the kernel writes -/

namespace Cert.MixKernelIdeal.Out

open Cert.MixKernelIdeal Cert.MixKernelIdeal.Gen

variable (m : (ℓ : Loc nD τ sig) → Buf (Elt Ideal) ℓ)

/-- A result at the rows of a point's block. -/
def zBlk (Z : Fin 4 → Fin 4096 → Fin 512 → EReal) (t : Fin cfg0.N) : S4x256x512.Idx → EReal := fun y => Z (y 0) (at_ t (y 1)) (y 2)

theorem zBlk_at (Z : Fin 4 → Fin 4096 → Fin 512 → EReal) (t : Fin cfg0.N) (b : Fin 4) (p : Fin 256) (q : Fin 512) :
    zBlk Z t (ix3 b p q) = Z b (at_ t p) q := rfl

theorem whole_idx (h : ∀ a, (![0, 0] : Fin 2 → ℕ) a + (![256, 512] : Fin 2 → ℕ) a ≤ S256x512.size a) (j : S256x512.Idx) :
    (Rect.unit (s := S256x512) ![0, 0] ![256, 512] h).idx j = j := by
  funext a
  apply Fin.ext
  match a with
  | ⟨0, _⟩ => show 0 + 1 * (j 0).val = (j 0).val; omega
  | ⟨1, _⟩ => show 0 + 1 * (j 1).val = (j 1).val; omega

set_option maxHeartbeats 4000000 in
theorem out_block (c : Dev nD) (t : Fin cfg0.N) (Z : Fin 4 → Fin 4096 → Fin 512 → EReal)
    (hA : ∀ s g l, Z 0 s (chan g l) = outA m c s g l) (hB : ∀ s q, Z 1 s q = outB m c s q) (hC : ∀ s q, Z 2 s q = outC m c s q)
    (hD : ∀ n i h l, Z 3 (row n i) (chan h l) = outD m c n i h l) : (dats m 0 c).after 23 t = zBlk Z t := by
  have hy := conv_block m c t
  rw [after0_24] at hy
  rw [after0_23]
  frame_out
  funext y
  simp (disch := decide) only [↓View.readCov_skip, conf_read, pool_read, short_read, copy25, copy26, copy27, copy28, copy29, copy30, copy31, plane_read, tap_read]
  rw [View.readCov_eq_canon']
  generalize hz : (View.canon (Val := Elt Ideal) (s := S256x512) (e := .f32) _) = yy
  have hyy : (fun j => yy ((Rect.unit ![0, 0] ![256, 512] inb_S256x512_S256x512_0_0).idx j)) = convBlk (confW m c) (rowsC m c t) := by
    refine Eq.trans ?_ hy
    frame_out
    simp (disch := decide) only [↓View.readCov_skip, conf_read, copy25, copy26, copy27, copy28, copy29, copy30, copy31, plane_read, tap_read]
    rw [hz]
    exact funext fun j => congrArg yy (whole_idx _ j)
  rw [hyy]
  clear hyy hz hy
  refine View.canon_append_of_piecesOf (Val := Elt Ideal) (e := .bf16) (zBlk Z t) [] [_, _, _, _, _, _, _, _, _, _, _, _, _, _]
    ⟨fun x => ?_, fun x => ?_, fun x => ?_, fun x => ?_, fun x => ?_, fun x => ?_, fun x => ?_, fun x => ?_, fun x => ?_, fun x => ?_, fun x => ?_,
      fun x => ?_, fun x => ?_, fun x => ?_, trivial⟩ y (View.cover_of_tiledBy _ ![1, 128, 128] (by sl_kernel_rfl) y)
  · obtain ⟨i, l, rfl⟩ : ∃ i l, x = (ix3 0 i l : S1x128x128.Idx) := ⟨x 1, x 2, by blk_ext⟩
    dsimp only
    rw [emb_gate 128 384 1 3 (by decide) (by decide), zBlk_at, at_low]
    refine (g13 _ _ _ _ _ i l).trans ((gate_rows m c t 1 3 _ _ (fun i j => ?_) (fun i j => ?_) i l).trans (hD _ _ _ _).symm)
    · rw [slice3 _ 3 3 rfl, blk_gw]
    · rw [slice3 _ 3 3 rfl, blk_gb]
  · obtain ⟨i, l, rfl⟩ : ∃ i l, x = (ix3 0 i l : S1x128x128.Idx) := ⟨x 1, x 2, by blk_ext⟩
    dsimp only
    rw [emb_gate 0 384 0 3 (by decide) (by decide), zBlk_at, at_low]
    refine (g03 _ _ _ _ _ i l).trans ((gate_rows m c t 0 3 _ _ (fun i j => ?_) (fun i j => ?_) i l).trans (hD _ _ _ _).symm)
    · rw [slice3 _ 3 3 rfl, blk_gw]
    · rw [slice3 _ 3 3 rfl, blk_gb]
  · obtain ⟨i, l, rfl⟩ : ∃ i l, x = (ix3 0 i l : S1x128x128.Idx) := ⟨x 1, x 2, by blk_ext⟩
    dsimp only
    rw [emb_gate 128 256 1 2 (by decide) (by decide), zBlk_at, at_low]
    refine (g12 _ _ _ _ _ i l).trans ((gate_rows m c t 1 2 _ _ (fun i j => ?_) (fun i j => ?_) i l).trans (hD _ _ _ _).symm)
    · rw [slice3 _ 2 2 rfl, blk_gw]
    · rw [slice3 _ 2 2 rfl, blk_gb]
  · obtain ⟨i, l, rfl⟩ : ∃ i l, x = (ix3 0 i l : S1x128x128.Idx) := ⟨x 1, x 2, by blk_ext⟩
    dsimp only
    rw [emb_gate 0 256 0 2 (by decide) (by decide), zBlk_at, at_low]
    refine (g02 _ _ _ _ _ i l).trans ((gate_rows m c t 0 2 _ _ (fun i j => ?_) (fun i j => ?_) i l).trans (hD _ _ _ _).symm)
    · rw [slice3 _ 2 2 rfl, blk_gw]
    · rw [slice3 _ 2 2 rfl, blk_gb]
  · obtain ⟨i, l, rfl⟩ : ∃ i l, x = (ix3 0 i l : S1x128x128.Idx) := ⟨x 1, x 2, by blk_ext⟩
    dsimp only
    rw [emb_gate 128 128 1 1 (by decide) (by decide), zBlk_at, at_low]
    refine (g11 _ _ _ _ _ i l).trans ((gate_rows m c t 1 1 _ _ (fun i j => ?_) (fun i j => ?_) i l).trans (hD _ _ _ _).symm)
    · rw [slice3 _ 1 1 rfl, blk_gw]
    · rw [slice3 _ 1 1 rfl, blk_gb]
  · obtain ⟨i, l, rfl⟩ : ∃ i l, x = (ix3 0 i l : S1x128x128.Idx) := ⟨x 1, x 2, by blk_ext⟩
    dsimp only
    rw [emb_gate 0 128 0 1 (by decide) (by decide), zBlk_at, at_low]
    refine (g01 _ _ _ _ _ i l).trans ((gate_rows m c t 0 1 _ _ (fun i j => ?_) (fun i j => ?_) i l).trans (hD _ _ _ _).symm)
    · rw [slice3 _ 1 1 rfl, blk_gw]
    · rw [slice3 _ 1 1 rfl, blk_gb]
  · obtain ⟨i, l, rfl⟩ : ∃ i l, x = (ix3 0 i l : S1x128x128.Idx) := ⟨x 1, x 2, by blk_ext⟩
    dsimp only
    rw [emb_gate 128 0 1 0 (by decide) (by decide), zBlk_at, at_low]
    refine (g10 _ _ _ _ i l).trans ((gate_rows m c t 1 0 _ _ (fun i j => ?_) (fun i j => ?_) i l).trans (hD _ _ _ _).symm)
    · rw [slice3 _ 0 0 rfl, blk_gw]
    · rw [slice3 _ 0 0 rfl, blk_gb]
  · obtain ⟨i, l, rfl⟩ : ∃ i l, x = (ix3 0 i l : S1x128x128.Idx) := ⟨x 1, x 2, by blk_ext⟩
    dsimp only
    rw [emb_gate 0 0 0 0 (by decide) (by decide), zBlk_at, at_low]
    refine (g00 _ _ _ _ i l).trans ((gate_rows m c t 0 0 _ _ (fun i j => ?_) (fun i j => ?_) i l).trans (hD _ _ _ _).symm)
    · rw [slice3 _ 0 0 rfl, blk_gw]
    · rw [slice3 _ 0 0 rfl, blk_gb]
  · obtain ⟨p, q, rfl⟩ : ∃ p q, x = (ix3 0 p q : S1x256x512.Idx) := ⟨x 1, x 2, by blk_ext⟩
    dsimp only
    rw [emb_plane 2 2 rfl, zBlk_at]
    exact (conf_rows m c t p q).trans (hC _ _).symm
  · obtain ⟨p, q, rfl⟩ : ∃ p q, x = (ix3 0 p q : S1x256x512.Idx) := ⟨x 1, x 2, by blk_ext⟩
    dsimp only
    rw [emb_plane 1 1 rfl, zBlk_at]
    refine (short_rows m c t _ _ _ (fun q => ?_) (fun q => ?_) (fun q => ?_) p q).trans (hB _ _).symm
    · rw [slice_tap _ 0 0 rfl, blk_sw]
    · rw [slice_tap _ 1 1 rfl, blk_sw]
    · rw [slice_tap _ 2 2 rfl, blk_sw]
  · obtain ⟨p, l, rfl⟩ : ∃ p l, x = (ix3 0 p l : S1x256x128.Idx) := ⟨x 1, x 2, by blk_ext⟩
    dsimp only
    rw [emb_pool 384 3 (by decide), zBlk_at]
    refine (pool3 (rowsA m c t) t _ _ p l).trans ((pool_rows m c t 3 384 (by decide) _ _ (fun k l => ?_) (fun l => ?_) p l).trans (hA _ _ _).symm)
    · rw [slice3 _ 3 3 rfl, blk_pool_w]
    · rw [slice_chan _ 3 384 (by decide), blk_ps]
  · obtain ⟨p, l, rfl⟩ : ∃ p l, x = (ix3 0 p l : S1x256x128.Idx) := ⟨x 1, x 2, by blk_ext⟩
    dsimp only
    rw [emb_pool 256 2 (by decide), zBlk_at]
    refine (pool2 (rowsA m c t) t _ _ p l).trans ((pool_rows m c t 2 256 (by decide) _ _ (fun k l => ?_) (fun l => ?_) p l).trans (hA _ _ _).symm)
    · rw [slice3 _ 2 2 rfl, blk_pool_w]
    · rw [slice_chan _ 2 256 (by decide), blk_ps]
  · obtain ⟨p, l, rfl⟩ : ∃ p l, x = (ix3 0 p l : S1x256x128.Idx) := ⟨x 1, x 2, by blk_ext⟩
    dsimp only
    rw [emb_pool 128 1 (by decide), zBlk_at]
    refine (pool1 (rowsA m c t) t _ _ p l).trans ((pool_rows m c t 1 128 (by decide) _ _ (fun k l => ?_) (fun l => ?_) p l).trans (hA _ _ _).symm)
    · rw [slice3 _ 1 1 rfl, blk_pool_w]
    · rw [slice_chan _ 1 128 (by decide), blk_ps]
  · obtain ⟨p, l, rfl⟩ : ∃ p l, x = (ix3 0 p l : S1x256x128.Idx) := ⟨x 1, x 2, by blk_ext⟩
    dsimp only
    rw [emb_pool 0 0 (by decide), zBlk_at]
    refine (pool0 (rowsA m c t) t _ _ p l).trans ((pool_rows m c t 0 0 (by decide) _ _ (fun k l => ?_) (fun l => ?_) p l).trans (hA _ _ _).symm)
    · rw [slice3 _ 0 0 rfl, blk_pool_w]
    · rw [slice_chan _ 0 0 (by decide), blk_ps]

end Cert.MixKernelIdeal.Out

end
-- ==== Proof.MixReference.lean ====
module

public import proofs.«01_k».proof.Proof.Gen.MixReferenceIdeal.Read
public import proofs.«01_k».proof.Proof.MixSpec

@[expose] public section

set_option maxRecDepth 16384

noncomputable section

open Idealize.ShloMosaic Idealize.ShloMosaic.TcCoe Idealize.SL.Sem
open Cert.Mix

/-! ## The reference's results -/

namespace Cert.MixReferenceIdeal.Out

open Cert.MixReferenceIdeal Cert.MixReferenceIdeal.Gen Cert.MixReferenceIdeal.Read

variable (x0 : (⟨S1x4096x8192, .f32⟩ : BufTy).Contents (Elt Ideal)) (x1 x9 : (⟨S4x128x128, .f32⟩ : BufTy).Contents (Elt Ideal))
  (x2 x5 x6 x7 x8 : (⟨S512, .f32⟩ : BufTy).Contents (Elt Ideal)) (x3 : (⟨S3x512, .f32⟩ : BufTy).Contents (Elt Ideal))
  (x4 : (⟨S31x512, .f32⟩ : BufTy).Contents (Elt Ideal)) (x10 : (⟨S4x128, .f32⟩ : BufTy).Contents (Elt Ideal))

theorem v13 (s : Fin 4096) (q : Fin 512) : val_main_v13 x0 (ix3 0 s q)
    = x0 (ix3 0 s ⟨2048 + q.val, by omega⟩) * sg (x0 (ix3 0 s ⟨2048 + (512 + q.val), by omega⟩)) := by
  pointwise [val_main_v13, val_main_v12, val_main_v11, val_main_v10, val_main_v9, val_main_v8, val_main_v7, val_main_v6, val_main_v5,
    val_main_v2, val_main_cst, val_main_cst_0, sg]

/-- A column of the gated half of the Conformer branch, and of the short convolution's gated input. -/
def C (q : Fin 512) (s : Fin 4096) : EReal :=
  x0 (ix3 0 s ⟨2048 + q.val, by omega⟩) * sg (x0 (ix3 0 s ⟨2048 + (512 + q.val), by omega⟩))

theorem v15 (n : Fin 4126) (q : Fin 512) : val_main_v15 x0 (ix3 0 n q) = pd (C x0 q) (n.val + 2) := by
  pointwise [val_main_v15, val_main_v14, val_main_cst_1, v13]
  exact after_zeros (C x0 q) 30 (by omega) n.val (by omega)

/-- The Conformer convolution. -/
def Y (q : Fin 512) (s : Fin 4096) : EReal := conv 31 (tap fun k => x4 (ix2 k q)) (C x0 q) s

theorem v231 (s : Fin 4096) (q : Fin 512) : val_main_v231 x0 x4 (ix3 0 s q) = Y x0 x4 q s := by
  pointwise [val_main_v231, val_main_v230, val_main_v229, val_main_v228, val_main_v227, val_main_v226, val_main_v225, val_main_v224, val_main_v223,
    val_main_v222, val_main_v221, val_main_v220, val_main_v219, val_main_v218, val_main_v217, val_main_v216, val_main_v215, val_main_v214,
    val_main_v213, val_main_v212, val_main_v211, val_main_v210, val_main_v209, val_main_v208, val_main_v207, val_main_v206, val_main_v205,
    val_main_v204, val_main_v203, val_main_v202, val_main_v201, val_main_v200, val_main_v199, val_main_v198, val_main_v197, val_main_v196,
    val_main_v195, val_main_v194, val_main_v193, val_main_v192, val_main_v191, val_main_v190, val_main_v189, val_main_v188, val_main_v187,
    val_main_v186, val_main_v185, val_main_v184, val_main_v183, val_main_v182, val_main_v181, val_main_v180, val_main_v179, val_main_v178,
    val_main_v177, val_main_v176, val_main_v175, val_main_v174, val_main_v173, val_main_v172, val_main_v171, val_main_v170, val_main_v169,
    val_main_v168, val_main_v167, val_main_v166, val_main_v165, val_main_v164, val_main_v163, val_main_v162, val_main_v161, val_main_v160,
    val_main_v159, val_main_v158, val_main_v157, val_main_v156, val_main_v155, val_main_v154, val_main_v153, val_main_v152, val_main_v151,
    val_main_v150, val_main_v149, val_main_v148, val_main_v147, val_main_v146, val_main_v145, val_main_v144, val_main_v143, val_main_v142,
    val_main_v141, val_main_v140, val_main_v139, val_main_v138, val_main_v137, val_main_v136, val_main_v135, val_main_v134, val_main_v133,
    val_main_v132, val_main_v131, val_main_v130, val_main_v129, val_main_v128, val_main_v127, val_main_v126, val_main_v125, val_main_v124,
    val_main_v123, val_main_v122, val_main_v121, val_main_v120, val_main_v119, val_main_v118, val_main_v117, val_main_v116, val_main_v115,
    val_main_v114, val_main_v113, val_main_v112, val_main_v111, val_main_v110, val_main_v109, val_main_v108, val_main_v107, val_main_v106,
    val_main_v105, val_main_v104, val_main_v103, val_main_v102, val_main_v101, val_main_v100, val_main_v99, val_main_v98, val_main_v97,
    val_main_v96, val_main_v95, val_main_v94, val_main_v93, val_main_v92, val_main_v91, val_main_v90, val_main_v89, val_main_v88,
    val_main_v87, val_main_v86, val_main_v85, val_main_v84, val_main_v83, val_main_v82, val_main_v81, val_main_v80, val_main_v79,
    val_main_v78, val_main_v77, val_main_v76, val_main_v75, val_main_v74, val_main_v73, val_main_v72, val_main_v71, val_main_v70,
    val_main_v69, val_main_v68, val_main_v67, val_main_v66, val_main_v65, val_main_v64, val_main_v63, val_main_v62, val_main_v61,
    val_main_v60, val_main_v59, val_main_v58, val_main_v57, val_main_v56, val_main_v55, val_main_v54, val_main_v53, val_main_v52,
    val_main_v51, val_main_v50, val_main_v49, val_main_v48, val_main_v47, val_main_v46, val_main_v45, val_main_v44, val_main_v43,
    val_main_v42, val_main_v41, val_main_v40, val_main_v39, val_main_v38, val_main_v37, val_main_v36, val_main_v35, val_main_v34,
    val_main_v33, val_main_v32, val_main_v31, val_main_v30, val_main_v29, val_main_v28, val_main_v27, val_main_v26, val_main_v25,
    val_main_v24, val_main_v23, val_main_v22, val_main_v21, val_main_v20, val_main_v19, val_main_v18, val_main_v17, val_main_v16, v15]
  simp only [Y, conv, Finset.sum_range_succ, Finset.sum_range_zero, zero_add]
  repeat' refine congrArg₂ (fun a b : EReal => a + b) ?_ ?_
  all_goals exact tap_comm _ _ _ rfl (by omega)

/-- Column `q` of the pooling branch. -/
def A (q : Fin 512) (s : Fin 4096) : EReal := x0 (ix3 0 s ⟨q.val, by omega⟩)

theorem v232 (s : Fin 4096) (g : Fin 4) (c : Fin 128) : val_main_v232 x0 (ix4 0 s g c) = A x0 (chan g c) s := by
  rw [val_main_v232_apply]
  have e : val_main_v0 x0 (ix3 0 s (chan g c)) = A x0 (chan g c) s := by pointwise [val_main_v0, A]
  refine Eq.trans (congrArg _ ?_) e
  blk_ext

theorem zero_init : val_main_call0_call0_v0 (F := Ideal) = fun _ => 0 := by
  funext i
  pointwise [val_main_call0_call0_v0, val_main_call0_call0_cst]

theorem v233 (s : Fin 4096) (g : Fin 4) (c : Fin 128) :
    val_main_v233 x0 (ix4 0 s g c) = prefix_ (A x0 (chan g c)) (s.val + 33) := by
  unfold val_main_v233
  rw [zero_init]
  generalize hy : val_main_v232 x0 = y
  rw [Host.reduceWindowAdd, Ideal.hostReduceWindowAdd_def]
  refine (running y reduceWindows_S1x4096x4x128_S1x4096x4x128_w1s1p0_0_w4096s1p4095_0_w1s1p0_0_w1s1p0_0 s g c).trans
    (congrArg (fun x => prefix_ x _) ?_)
  subst hy
  funext r
  exact v232 x0 r g c

theorem gap (x : Fin 4096 → EReal) (K n : ℕ) (hn : n - K < 4096) :
    (if h : n < K then (0 : EReal) else prefix_ x (n - K + 33)) = prefix_ x (n + 33 - K) := by
  split_ifs with h
  · exact (prefix_low x (by omega)).symm
  · exact congrArg _ (by omega)

variable (hx : ∀ q s, Finite.Real (A x0 q s))

theorem last0 (s : Fin 4096) (c : Fin 128) : val_main_v236 x0 (ix3 0 s c) = prefix_ (A x0 (chan 0 c)) (s.val + 33) := by
  rw [val_main_v236_apply]
  have e : val_main_v235 x0 (ix4 0 s 0 c) = prefix_ (A x0 (chan 0 c)) (s.val + 33) := by pointwise [val_main_v235, v233]
  refine Eq.trans (congrArg _ ?_) e
  blk_ext

theorem first0 (s : Fin 4096) (c : Fin 128) : val_main_v239 x0 (ix3 0 s c) = prefix_ (A x0 (chan 0 c)) (s.val + 33 - 2) := by
  pointwise [val_main_v239, val_main_v238, val_main_v237, val_main_cst_2, last0]
  exact gap _ 2 s.val (by omega)

theorem self0 (s : Fin 4096) (c : Fin 128) : val_main_v250 x0 (ix3 0 s c) = A x0 (chan 0 c) s := by
  rw [val_main_v250_apply]
  have e : val_main_v249 x0 (ix4 0 s 0 c) = A x0 (chan 0 c) s := by pointwise [val_main_v249, v232]
  refine Eq.trans (congrArg _ ?_) e
  blk_ext

include hx in
theorem pool0 (s : Fin 4096) (c : Fin 128) : val_main_v251 x0 (ix3 0 s c) = pooled 2 (A x0 (chan 0 c)) s := by
  pointwise [val_main_v251, val_main_v248, val_main_v247, val_main_v246, val_main_v245, val_main_v244, val_main_v243,
    val_main_v242, val_main_v241, val_main_v240, val_main_v234, val_main_c, val_main_c_3, last0, first0, self0]
  rw [window_eq _ (hx _) 2 (by omega) s]
  rfl

theorem last1 (s : Fin 4096) (c : Fin 128) : val_main_v253 x0 (ix3 0 s c) = prefix_ (A x0 (chan 1 c)) (s.val + 33) := by
  rw [val_main_v253_apply]
  have e : val_main_v252 x0 (ix4 0 s 0 c) = prefix_ (A x0 (chan 1 c)) (s.val + 33) := by pointwise [val_main_v252, v233]
  refine Eq.trans (congrArg _ ?_) e
  blk_ext

theorem first1 (s : Fin 4096) (c : Fin 128) : val_main_v256 x0 (ix3 0 s c) = prefix_ (A x0 (chan 1 c)) (s.val + 33 - 4) := by
  pointwise [val_main_v256, val_main_v255, val_main_v254, val_main_cst_4, last1]
  exact gap _ 4 s.val (by omega)

theorem self1 (s : Fin 4096) (c : Fin 128) : val_main_v267 x0 (ix3 0 s c) = A x0 (chan 1 c) s := by
  rw [val_main_v267_apply]
  have e : val_main_v266 x0 (ix4 0 s 0 c) = A x0 (chan 1 c) s := by pointwise [val_main_v266, v232]
  refine Eq.trans (congrArg _ ?_) e
  blk_ext

include hx in
theorem pool1 (s : Fin 4096) (c : Fin 128) : val_main_v268 x0 (ix3 0 s c) = pooled 4 (A x0 (chan 1 c)) s := by
  pointwise [val_main_v268, val_main_v265, val_main_v264, val_main_v263, val_main_v262, val_main_v261, val_main_v260,
    val_main_v259, val_main_v258, val_main_v257, val_main_v234, val_main_c_5, val_main_c_6, last1, first1, self1]
  rw [window_eq _ (hx _) 4 (by omega) s]
  rfl

theorem last2 (s : Fin 4096) (c : Fin 128) : val_main_v270 x0 (ix3 0 s c) = prefix_ (A x0 (chan 2 c)) (s.val + 33) := by
  rw [val_main_v270_apply]
  have e : val_main_v269 x0 (ix4 0 s 0 c) = prefix_ (A x0 (chan 2 c)) (s.val + 33) := by pointwise [val_main_v269, v233]
  refine Eq.trans (congrArg _ ?_) e
  blk_ext

theorem first2 (s : Fin 4096) (c : Fin 128) : val_main_v273 x0 (ix3 0 s c) = prefix_ (A x0 (chan 2 c)) (s.val + 33 - 8) := by
  pointwise [val_main_v273, val_main_v272, val_main_v271, val_main_cst_7, last2]
  exact gap _ 8 s.val (by omega)

theorem self2 (s : Fin 4096) (c : Fin 128) : val_main_v284 x0 (ix3 0 s c) = A x0 (chan 2 c) s := by
  rw [val_main_v284_apply]
  have e : val_main_v283 x0 (ix4 0 s 0 c) = A x0 (chan 2 c) s := by pointwise [val_main_v283, v232]
  refine Eq.trans (congrArg _ ?_) e
  blk_ext

include hx in
theorem pool2 (s : Fin 4096) (c : Fin 128) : val_main_v285 x0 (ix3 0 s c) = pooled 8 (A x0 (chan 2 c)) s := by
  pointwise [val_main_v285, val_main_v282, val_main_v281, val_main_v280, val_main_v279, val_main_v278, val_main_v277,
    val_main_v276, val_main_v275, val_main_v274, val_main_v234, val_main_c_8, val_main_c_9, last2, first2, self2]
  rw [window_eq _ (hx _) 8 (by omega) s]
  rfl

theorem last3 (s : Fin 4096) (c : Fin 128) : val_main_v287 x0 (ix3 0 s c) = prefix_ (A x0 (chan 3 c)) (s.val + 33) := by
  rw [val_main_v287_apply]
  have e : val_main_v286 x0 (ix4 0 s 0 c) = prefix_ (A x0 (chan 3 c)) (s.val + 33) := by pointwise [val_main_v286, v233]
  refine Eq.trans (congrArg _ ?_) e
  blk_ext

theorem first3 (s : Fin 4096) (c : Fin 128) : val_main_v290 x0 (ix3 0 s c) = prefix_ (A x0 (chan 3 c)) (s.val + 33 - 16) := by
  pointwise [val_main_v290, val_main_v289, val_main_v288, val_main_cst_10, last3]
  exact gap _ 16 s.val (by omega)

theorem self3 (s : Fin 4096) (c : Fin 128) : val_main_v301 x0 (ix3 0 s c) = A x0 (chan 3 c) s := by
  rw [val_main_v301_apply]
  have e : val_main_v300 x0 (ix4 0 s 0 c) = A x0 (chan 3 c) s := by pointwise [val_main_v300, v232]
  refine Eq.trans (congrArg _ ?_) e
  blk_ext

include hx in
theorem pool3 (s : Fin 4096) (c : Fin 128) : val_main_v302 x0 (ix3 0 s c) = pooled 16 (A x0 (chan 3 c)) s := by
  pointwise [val_main_v302, val_main_v299, val_main_v298, val_main_v297, val_main_v296, val_main_v295, val_main_v294,
    val_main_v293, val_main_v292, val_main_v291, val_main_v234, val_main_c_11, val_main_c_12, last3, first3, self3]
  rw [window_eq _ (hx _) 16 (by omega) s]
  rfl

include hx in
theorem v307 (s : Fin 4096) (g : Fin 4) (c : Fin 128) : val_main_v307 x0 (ix4 0 s g c) = pooled (width g) (A x0 (chan g c)) s := by
  match g with
  | 0 => exact (show _ = pooled 2 _ s from by pointwise [val_main_v307, val_main_v303, pool0 x0 hx])
  | 1 => exact (show _ = pooled 4 _ s from by pointwise [val_main_v307, val_main_v304, pool1 x0 hx])
  | 2 => exact (show _ = pooled 8 _ s from by pointwise [val_main_v307, val_main_v305, pool2 x0 hx])
  | 3 => exact (show _ = pooled 16 _ s from by pointwise [val_main_v307, val_main_v306, pool3 x0 hx])

include hx in
theorem v310 (s : Fin 4096) (g : Fin 4) (c : Fin 128) : val_main_v310 x0 x1 (ix3 0 s (chan g c))
    = ∑ k, pooled (width g) (A x0 (chan g k)) s * x1 (ix3 g k c) := by
  rw [val_main_v310_apply]
  have e : val_main_v309 x0 x1 (ix4 0 s g c) = ∑ k, pooled (width g) (A x0 (chan g k)) s * x1 (ix3 g k c) := by
    pointwise [val_main_v309, val_main_v308, v307 x0 hx]
    exact Finset.sum_congr rfl fun k _ => mul_comm _ _
  refine Eq.trans (congrArg _ ?_) e
  blk_ext

include hx in
theorem branch_a (s : Fin 4096) (g : Fin 4) (c : Fin 128) : val_main_v433 x0 x1 x2 x3 x4 x5 x6 x7 x8 x9 x10 (ix3 0 s (chan g c))
    = poolOut (A x0) (fun g k c => x1 (ix3 g k c)) (fun q => x2 (ix1 q)) s g c := by
  pointwise [val_main_v433, val_main_v432, val_main_v428, val_main_v424, val_main_v313, val_main_v312, val_main_v311, v310 x0 x1 hx, poolOut]

/-- Column `q` of the short convolution's gated input. -/
def E (q : Fin 512) (s : Fin 4096) : EReal :=
  x0 (ix3 0 s ⟨512 + (1024 + q.val), by omega⟩) * x0 (ix3 0 s ⟨512 + q.val, by omega⟩)

theorem v319 (n : Fin 4098) (q : Fin 512) : val_main_v319 x0 (ix3 0 n q) = pd (E x0 q) (n.val + 30) := by
  pointwise [val_main_v319, val_main_v318, val_main_v317, val_main_v316, val_main_v314, val_main_v1, val_main_cst_13]
  exact after_zeros (E x0 q) 2 (by omega) n.val (by omega)

theorem v339 (s : Fin 4096) (q : Fin 512) : val_main_v339 x0 x3 (ix3 0 s q) = conv 3 (tap fun k => x3 (ix2 k q)) (E x0 q) s := by
  pointwise [val_main_v339, val_main_v338, val_main_v337, val_main_v336, val_main_v335, val_main_v334, val_main_v333, val_main_v332, val_main_v331,
    val_main_v330, val_main_v329, val_main_v328, val_main_v327, val_main_v326, val_main_v325, val_main_v324, val_main_v323, val_main_v322,
    val_main_v321, val_main_v320, v319]
  simp only [conv, Finset.sum_range_succ, Finset.sum_range_zero, zero_add]
  repeat' refine congrArg₂ (fun a b : EReal => a + b) ?_ ?_
  all_goals exact tap_comm _ _ _ rfl (by omega)

theorem branch_b (s : Fin 4096) (q : Fin 512) : val_main_v433 x0 x1 x2 x3 x4 x5 x6 x7 x8 x9 x10 (ix3 1 s q)
    = x0 (ix3 0 s ⟨512 + (512 + q.val), by omega⟩) * conv 3 (tap fun k => x3 (ix2 k q)) (E x0 q) s := by
  pointwise [val_main_v433, val_main_v432, val_main_v429, val_main_v425, val_main_v340, val_main_v315, val_main_v1, v339]

theorem y1 (s : Fin 4096) (q : Fin 512) : val_main_v434 x0 x4 (ix2 s q) = Y x0 x4 q s := by
  pointwise [val_main_v434, v231]

theorem v346 (s : Fin 4096) (q : Fin 512) : val_main_v346 x0 x4 (ix3 0 s q) = dev (fun k => Y x0 x4 k s) q := by
  pointwise [val_main_v346, val_main_v345, val_main_v344, val_main_v343, val_main_v342, val_main_v341, Cert.Norm.hostReduceAdd_r3_a02,
    v231, val_main_cst_14, val_main_cst_15, dev]

theorem v353 (s : Fin 4096) (q : Fin 512) : val_main_v353 x0 x4 (ix3 0 s q) = dev (fun k => Y x0 x4 k s) q := by
  pointwise [val_main_v353, val_main_v352, val_main_v344, val_main_v343, val_main_v342, val_main_v341, Cert.Norm.hostReduceAdd_r3_a02,
    v231, val_main_cst_14, val_main_cst_15, dev]

theorem v356 (s : Fin 4096) : val_main_v356 x0 x4 (ix3 0 s 0) = rstd (fun k => Y x0 x4 k s) := by
  pointwise [val_main_v356, val_main_v355, val_main_v354, val_main_v351, val_main_v350, val_main_v349, val_main_v348, val_main_v347, v346,
    Cert.Norm.hostReduceAdd_r3_a02, val_main_cst_16, val_main_cst_17, val_main_cst_18, rstd]

theorem v364 (s : Fin 4096) (q : Fin 512) : val_main_v364 x0 x4 x5 x6 (ix3 0 s q)
    = ln (fun k => x5 (ix1 k)) (fun k => x6 (ix1 k)) (fun k => Y x0 x4 k s) q := by
  pointwise [val_main_v364, val_main_v363, val_main_v362, val_main_v361, val_main_v360, val_main_v359, val_main_v358, val_main_v357, v356, v353, ln]

theorem branch_c (s : Fin 4096) (q : Fin 512) : val_main_v433 x0 x1 x2 x3 x4 x5 x6 x7 x8 x9 x10 (ix3 2 s q)
    = silu (ln (fun k => x5 (ix1 k)) (fun k => x6 (ix1 k)) (fun k => Y x0 x4 k s) q) := by
  pointwise [val_main_v433, val_main_v432, val_main_v430, val_main_v426, val_main_v365, val_main_call1_v5, val_main_call1_v4,
    val_main_call1_v3, val_main_call1_v2, val_main_call1_v1, val_main_call1_v0, val_main_call1_cst, val_main_call1_cst_0, v364, silu, sg]

/-- The gate, the gated branch and its normalised rows. -/
def U (s : Fin 4096) (q : Fin 512) : EReal := gelu (x0 (ix3 0 s ⟨3072 + q.val, by omega⟩))
def B (s : Fin 4096) (q : Fin 512) : EReal := gelu (x0 (ix3 0 s ⟨3072 + (512 + q.val), by omega⟩))
def VN (s : Fin 4096) (q : Fin 512) : EReal := ln (fun k => x7 (ix1 k)) (fun k => x8 (ix1 k)) (B x0 s) q

theorem v378 (s : Fin 4096) (q : Fin 1024) : val_main_v378 x0 (ix3 0 s q) = gelu (x0 (ix3 0 s ⟨3072 + q.val, by omega⟩)) := by
  pointwise [val_main_v378, val_main_v377, val_main_v376, val_main_v375, val_main_v374, val_main_v373, val_main_v372, val_main_v371, val_main_v370,
    val_main_v369, val_main_v368, val_main_v367, val_main_v366, val_main_v3, val_main_cst_19, val_main_cst_20, val_main_cst_21,
    val_main_cst_22, gelu]

theorem v379 (s : Fin 4096) (q : Fin 512) : val_main_v379 x0 (ix3 0 s q) = U x0 s q := by
  pointwise [val_main_v379, v378, U]

theorem v380 (s : Fin 4096) (q : Fin 512) : val_main_v380 x0 (ix3 0 s q) = B x0 s q := by
  pointwise [val_main_v380, v378, B]

theorem v386 (s : Fin 4096) (q : Fin 512) : val_main_v386 x0 (ix3 0 s q) = dev (B x0 s) q := by
  pointwise [val_main_v386, val_main_v385, val_main_v384, val_main_v383, val_main_v382, val_main_v381, Cert.Norm.hostReduceAdd_r3_a02,
    v380, val_main_cst_23, val_main_cst_24, dev]

theorem v393 (s : Fin 4096) (q : Fin 512) : val_main_v393 x0 (ix3 0 s q) = dev (B x0 s) q := by
  pointwise [val_main_v393, val_main_v392, val_main_v384, val_main_v383, val_main_v382, val_main_v381, Cert.Norm.hostReduceAdd_r3_a02,
    v380, val_main_cst_23, val_main_cst_24, dev]

theorem v396 (s : Fin 4096) : val_main_v396 x0 (ix3 0 s 0) = rstd (B x0 s) := by
  pointwise [val_main_v396, val_main_v395, val_main_v394, val_main_v391, val_main_v390, val_main_v389, val_main_v388, val_main_v387, v386,
    Cert.Norm.hostReduceAdd_r3_a02, val_main_cst_25, val_main_cst_26, val_main_cst_27, rstd]

theorem v404 (s : Fin 4096) (q : Fin 512) : val_main_v404 x0 x7 x8 (ix3 0 s q) = VN x0 x7 x8 s q := by
  pointwise [val_main_v404, val_main_v403, val_main_v402, val_main_v401, val_main_v400, val_main_v399, val_main_v398, val_main_v397, v396, v393, VN,
    ln]

theorem v405 (n : Fin 32) (i : Fin 128) (h : Fin 4) (c : Fin 128) :
    val_main_v405 x0 x7 x8 (ix4 n i h c) = VN x0 x7 x8 (row n i) (chan h c) := by
  rw [val_main_v405_apply]
  refine Eq.trans (congrArg _ ?_) (v404 x0 x7 x8 (row n i) (chan h c))
  blk_ext

theorem seen (i j : Fin 128) : val_main_v413 (F := Ideal) (ix2 i j) = if sees i j then 1#1 else 0#1 := by
  pointwise [val_main_v413, val_main_v412, val_main_v411, val_main_v410, val_main_v409, val_main_v408, val_main_v407, val_main_v406, val_main_c_28]
  revert i j
  decide +kernel

theorem v415 (h : Fin 4) (i j : Fin 128) : val_main_v415 x9 (ix3 h i j) = if sees i j then x9 (ix3 h i j) else 0 := by
  pointwise [val_main_v415, val_main_call2_v1, val_main_call2_v0, val_main_v414, val_main_cst_29, seen]
  split_ifs <;> rfl

theorem v422 (n : Fin 32) (i : Fin 128) (h : Fin 4) (c : Fin 128) : val_main_v422 x0 x7 x8 x9 x10 (ix3 0 (row n i) (chan h c))
    = (∑ j, (if sees i j then x9 (ix3 h i j) else 0) * VN x0 x7 x8 (row n j) (chan h c)) + x10 (ix2 h i) := by
  rw [val_main_v422_apply]
  have e : val_main_v421 x0 x7 x8 x9 x10 (ix4 n i h c)
      = (∑ j, (if sees i j then x9 (ix3 h i j) else 0) * VN x0 x7 x8 (row n j) (chan h c)) + x10 (ix2 h i) := by
    pointwise [val_main_v421, val_main_v420, val_main_v419, val_main_v418, val_main_v417, val_main_v416, v405, v415]
    exact congrArg (· + _) (Finset.sum_congr rfl fun k _ => mul_comm _ _)
  refine Eq.trans (congrArg _ ?_) e
  blk_ext

theorem branch_d (n : Fin 32) (i : Fin 128) (h : Fin 4) (c : Fin 128) :
    val_main_v433 x0 x1 x2 x3 x4 x5 x6 x7 x8 x9 x10 (ix3 3 (row n i) (chan h c))
    = gateOut (U x0) (VN x0 x7 x8) (fun h i j => x9 (ix3 h i j)) (fun h i => x10 (ix2 h i)) n i h c := by
  pointwise [val_main_v433, val_main_v432, val_main_v431, val_main_v427, val_main_v423, v379, v422, gateOut]

end Cert.MixReferenceIdeal.Out

end
-- ==== Proof.Mix.lean ====
module

public import proofs.«01_k».proof.Defs
public import proofs.«01_k».proof.Proof.MixOut
public import proofs.«01_k».proof.Proof.MixReference
public import proofs.«01_k».proof.Proof.Finite
public import proofs.«01_k».proof.Proof.Gen.Pre_finite_mix
public import Idealize.ShloMosaic.Lib.Claim

@[expose] public section

set_option maxRecDepth 16384

noncomputable section

open Idealize.ShloMosaic Idealize.ShloMosaic.TcCoe Idealize.SL.Sem
open Cert.Mix

/-! ## The arrays after the call -/

namespace Cert.MixKernelIdeal.Out

open Cert.MixKernelIdeal Cert.MixKernelIdeal.Gen

variable (m : (ℓ : Loc nD τ sig) → Buf (Elt Ideal) ℓ)

theorem out_idx : ∀ t : Fin cfg0.N, win0_23.index t = ![0, t.val, 0] ∧ win0_24.index t = ![t.val, 0] := by decide +kernel

/-- The four branches, as the reference writes them. -/
def branches (c : Dev nD) : S4x4096x512.Idx → EReal :=
  MixReferenceIdeal.Read.val_main_v433 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))

/-- The kernel's block is the reference's, where the pooled columns are real numbers. -/
theorem block_branches (c : Dev nD) (hx : ∀ q s, Finite.Real (colA (P m c) q s)) (t : Fin cfg0.N) :
    (dats m 0 c).after 23 t = zBlk (fun p s q => branches m c (ix3 p s q)) t :=
  out_block m c t _
    (fun s g l => MixReferenceIdeal.Out.branch_a _ _ _ _ _ _ _ _ _ _ _ hx s g l)
    (fun s q => MixReferenceIdeal.Out.branch_b _ _ _ _ _ _ _ _ _ _ _ s q)
    (fun s q => MixReferenceIdeal.Out.branch_c _ _ _ _ _ _ _ _ _ _ _ s q)
    (fun n i h l => MixReferenceIdeal.Out.branch_d _ _ _ _ _ _ _ _ _ _ _ n i h l)

theorem final_y (c : Dev nD) (hx : ∀ q s, Finite.Real (colA (P m c) q s)) : (dats m 0 c).arrAt 23 (cfgs 0).N = branches m c := by
  refine (dats m 0 c).arrAt_eq_of_covers 23 _ (by decide +kernel) fun t hf y => ?_
  blk_simp
  rw [block_branches m c hx t]
  obtain ⟨p, s, q, rfl⟩ : ∃ p s q, y = (ix3 p s q : S4x256x512.Idx) := ⟨y 0, y 1, y 2, by blk_ext⟩
  rw [show ((cfg0.win 23).blk t).view.emb (ix3 p s q) = (ix3 p (at_ t s) q : S4x4096x512.Idx) from by blk_ext [out_idx t, at_]]
  rfl

theorem final_y1 (c : Dev nD) : (dats m 0 c).arrAt 24 (cfgs 0).N = fun i : S4096x512.Idx => confRow m c (i 0) (i 1) := by
  refine (dats m 0 c).arrAt_eq_of_covers 24 _ (by decide +kernel) fun t hf y => ?_
  blk_simp
  rw [conv_block m c t]
  obtain ⟨p, q, rfl⟩ : ∃ p q, y = (ix2 p q : S256x512.Idx) := ⟨y 0, y 1, by blk_ext⟩
  rw [show ((cfg0.win 24).blk t).view.emb (ix2 p q) = (ix2 (at_ t p) q : S4096x512.Idx) from by blk_ext [out_idx t, at_]]
  exact conv_rows m c t p q

end Cert.MixKernelIdeal.Out

/-! ## The pair -/

namespace Cert.Mix

open Cert.Finite

/-- The precondition says of the pooled columns that they are real numbers. -/
theorem finite_args {a0 a1 a2 a3 a4 a5 a6 a7 a8 a9 a10} (h : Cert.Pre_finite_mix.fn (F := Ideal) a0 a1 a2 a3 a4 a5 a6 a7 a8 a9 a10 = fun _ => 1#1)
    (q : Fin 512) (s : Fin 4096) : Finite.Real (a0 (ix3 0 s ⟨q.val, by omega⟩)) := by
  have e := congrFun h (fun a => a.elim0)
  simp only [Cert.Pre_finite_mix.fn] at e
  have hj : ∀ j' : (⟨0, ![]⟩ : Shape).Idx, j' = fun a => a.elim0 := fun j' => funext fun a => a.elim0
  have h0 := coe_of_all _ _ _ _ _ _ hj e (fun _ => rfl) (ix3 0 s q)
  obtain ⟨r, hr⟩ := h0
  refine ⟨r, Eq.trans (congrArg a0 ?_) hr⟩
  funext a
  apply Fin.ext
  match a with
  | ⟨0, _⟩ => show 0 = 0 + 0; rfl
  | ⟨1, _⟩ => show s.val = 0 + s.val; omega
  | ⟨2, _⟩ => show q.val = 0 + q.val; omega

theorem branches_def (m : (ℓ : Loc MixKernelIdeal.nD MixKernelIdeal.τ MixKernelIdeal.sig) → Buf (Elt Ideal) ℓ) (c : Dev MixKernelIdeal.nD) :
    MixKernelIdeal.Out.branches m c = MixReferenceIdeal.Read.val_main_v433 (m ((c.tc : Thread MixKernelIdeal.nD MixKernelIdeal.τ).loc MixKernelIdeal.main_arg0))
      (m ((c.tc : Thread MixKernelIdeal.nD MixKernelIdeal.τ).loc MixKernelIdeal.main_arg1)) (m ((c.tc : Thread MixKernelIdeal.nD MixKernelIdeal.τ).loc MixKernelIdeal.main_arg2))
      (m ((c.tc : Thread MixKernelIdeal.nD MixKernelIdeal.τ).loc MixKernelIdeal.main_arg3)) (m ((c.tc : Thread MixKernelIdeal.nD MixKernelIdeal.τ).loc MixKernelIdeal.main_arg4))
      (m ((c.tc : Thread MixKernelIdeal.nD MixKernelIdeal.τ).loc MixKernelIdeal.main_arg5)) (m ((c.tc : Thread MixKernelIdeal.nD MixKernelIdeal.τ).loc MixKernelIdeal.main_arg6))
      (m ((c.tc : Thread MixKernelIdeal.nD MixKernelIdeal.τ).loc MixKernelIdeal.main_arg7)) (m ((c.tc : Thread MixKernelIdeal.nD MixKernelIdeal.τ).loc MixKernelIdeal.main_arg8))
      (m ((c.tc : Thread MixKernelIdeal.nD MixKernelIdeal.τ).loc MixKernelIdeal.main_arg9)) (m ((c.tc : Thread MixKernelIdeal.nD MixKernelIdeal.τ).loc MixKernelIdeal.main_arg10)) := rfl

theorem y1_eq (m : (ℓ : Loc MixKernelIdeal.nD MixKernelIdeal.τ MixKernelIdeal.sig) → Buf (Elt Ideal) ℓ) (c : Dev MixKernelIdeal.nD) :
    MixReferenceIdeal.Read.val_main_v434 (F := Ideal) (m ((c.tc : Thread MixKernelIdeal.nD MixKernelIdeal.τ).loc MixKernelIdeal.main_arg0))
      (m ((c.tc : Thread MixKernelIdeal.nD MixKernelIdeal.τ).loc MixKernelIdeal.main_arg4))
      = fun i : MixReferenceIdeal.S4096x512.Idx => MixKernelIdeal.Out.confRow m c (i 0) (i 1) := by
  funext i
  rw [eq_ix2 i]
  exact MixReferenceIdeal.Out.y1 _ _ _ _

/-- The reference's run, read at its arguments; it has no semaphore. -/
theorem frame_reference : Cert.quiescent_MixReferenceIdeal (hMixReferenceIdeal := Cert.MixReferenceIdeal.Gen.facts) :=
  fun m g _ => (θ_run Cert.MixReferenceIdeal.defs _ _).mono
    (fun r h => ⟨fun c => (h c).2.2, sem_eq_zero_of_no_sems (by decide) r.2⟩) (Cert.MixReferenceIdeal.Value.run m g)

theorem algebraic : Cert.algebraic_MixKernelIdeal_MixReferenceIdeal_pre_finite_mix
    (hMixKernelIdeal := Cert.MixKernelIdeal.Gen.facts) (hMixReferenceIdeal := Cert.MixReferenceIdeal.Gen.facts)
    (hPre_finite_mix := Cert.Pre_finite_mix.Gen.facts) := by
  intro m g m' g' hpre hagree
  refine ⟨fun c => MixKernelIdeal.Out.branches m c, fun c => fun i => MixKernelIdeal.Out.confRow m c (i 0) (i 1), ?_, ?_⟩
  · refine θ_run_mono (θ_run_and (MixKernelIdeal.Gen.unchanged m g) (MixKernelIdeal.Gen.run_main m g)) fun r h c => ?_
    have hr := (h.2 c).1
    exact ⟨(hr 23).trans (MixKernelIdeal.Out.final_y m c fun q s => finite_args (hpre c) q s),
      (hr 24).trans (MixKernelIdeal.Out.final_y1 m c), h.1 c⟩
  · refine θ_run_mono (MixReferenceIdeal.Value.run m' g') fun r h c => ?_
    obtain ⟨h0, h1, h2, h3, h4, h5, h6, h7, h8, h9, h10⟩ := hagree c
    refine ⟨((h c).1.trans (MixReferenceIdeal.Read.val_main_v433_eq _)).trans ?_,
      ((h c).2.1.trans (MixReferenceIdeal.Read.val_main_v434_eq _)).trans ?_, (h c).2.2⟩
    · refine Eq.trans ?_ (branches_def m c).symm
      rw [← h0, ← h1, ← h2, ← h3, ← h4, ← h5, ← h6, ← h7, ← h8, ← h9, ← h10]
    · refine Eq.trans ?_ (y1_eq m c)
      rw [← h0, ← h4]

end Cert.Mix

end
-- ==== Proof.Prod.lean ====
module

public import proofs.«01_k».proof.Proof.Gen.ProdKernelIdeal.Value
public import proofs.«01_k».proof.Proof.Gen.ProdReferenceIdeal.Read
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

/-! ## The reference's result -/

namespace Cert.ProdReferenceIdeal.Out

open Cert.ProdReferenceIdeal Cert.ProdReferenceIdeal.Gen Cert.ProdReferenceIdeal.Read

theorem prod (x0 : (⟨S1x4096x1024, .f32⟩ : BufTy).Contents (Elt Ideal)) (x1 : (⟨S1024x8192, .f32⟩ : BufTy).Contents (Elt Ideal))
    (d : Fin 8) (s : Fin 4096) (q : Fin 1024) :
    val_main_v3 x0 x1 (ix3 d s q) = ∑ k : Fin 1024, x0 (ix3 0 s k) * x1 (ix2 k ⟨d.val * 1024 + q.val, by omega⟩) := by
  pointwise [val_main_v3, val_main_v2, val_main_v1, val_main_v0]

end Cert.ProdReferenceIdeal.Out

/-! ## The kernel's result -/

namespace Cert.ProdKernelIdeal.Out

open Cert.ProdKernelIdeal Cert.ProdKernelIdeal.Gen

section Body

variable (x : Vec Ideal S2048x1024 .bf16) (w : Vec Ideal S1x1024x1024 .bf16) (p : Fin 2048) (q : Fin 1024)

theorem pay_prod : k0_pay1 x w (ix3 0 p q) = ∑ j : Fin 1024, x (ix2 p j) * w (ix3 0 j q) := by
  pointwise [k0_pay1]

theorem out_eq : out0_2 x w (ix3 0 p q) = ∑ j : Fin 1024, x (ix2 p j) * w (ix3 0 j q) := by
  refine (congrFun (View.canon_unit_zero (by funext a; match a with | ⟨0, _⟩ => rfl | ⟨1, _⟩ => rfl | ⟨2, _⟩ => rfl) _ _) _).trans ?_
  rw [show View.ld x r0_0 = x from View.ld_unit_zero (by funext a; match a with | ⟨0, _⟩ => rfl | ⟨1, _⟩ => rfl) _ x,
    show View.ld w r0_1 = w from View.ld_unit_zero (by funext a; match a with | ⟨0, _⟩ => rfl | ⟨1, _⟩ => rfl | ⟨2, _⟩ => rfl) _ w]
  exact pay_prod x w p q

end Body

variable (m : (ℓ : Loc nD τ sig) → Buf (Elt Ideal) ℓ)

theorem idx : ∀ t : Fin cfg0.N, win0_0.index t = ![t.val % 2, 0] ∧ win0_1.index t = ![t.val / 2, 0, 0]
    ∧ win0_2.index t = ![t.val / 2, t.val % 2, 0] :=
  (by decide +kernel : ∀ t : Fin grid0.N, _)

/-- The arguments by coordinates. -/
abbrev H (c : Dev nD) (s : Fin 4096) (k : Fin 1024) : EReal := m ((c : Thread nD τ).loc main_arg0) (ix3 0 s k)
abbrev wIn (c : Dev nD) (k : Fin 1024) (l : Fin 8192) : EReal := m ((c : Thread nD τ).loc main_arg1) (ix2 k l)

def D (c : Dev nD) (d : Fin 8) (s : Fin 4096) (q : Fin 1024) : EReal :=
  ∑ k : Fin 1024, H m c s k * wIn m c k ⟨d.val * 1024 + q.val, by omega⟩

/-- The slab and the row that point `t` stores into. -/
abbrev slab (t : Fin cfg0.N) : Fin 8 := ⟨t.val / 2, by have := lt_of_lt_of_eq t.isLt N_0; omega⟩
abbrev at_ (t : Fin cfg0.N) (p : Fin 2048) : Fin 4096 := ⟨t.val % 2 * 2048 + p.val, by have := p.isLt; omega⟩

theorem blk_h (c : Dev nD) (t : Fin cfg0.N) (p : Fin 2048) (k : Fin 1024) :
    (iblk m c 0 t : Vec Ideal S2048x1024 .bf16) (ix2 p k) = H m c (at_ t p) k := by
  blk_point [iblk, V, idx t, at_]

theorem blk_w (c : Dev nD) (t : Fin cfg0.N) (k q : Fin 1024) :
    (iblk m c 1 t : Vec Ideal S1x1024x1024 .bf16) (ix3 0 k q) = wIn m c k ⟨(slab t).val * 1024 + q.val, by omega⟩ := by
  blk_point [iblk, V, idx t, slab]

theorem final (c : Dev nD) : (dats m 0 c).arrAt 2 (cfgs 0).N
    = fun i : S8x4096x1024.Idx => D m c (i 0) (i 1) (i 2) := by
  refine (dats m 0 c).arrAt_eq_of_covers 2 _ (by decide +kernel) fun t hf y => ?_
  blk_simp
  rw [after0_2]
  obtain ⟨p, q, rfl⟩ : ∃ p q, y = (ix3 0 p q : S1x2048x1024.Idx) := ⟨y 1, y 2, by blk_ext⟩
  rw [show ((cfg0.win 2).blk t).view.emb (ix3 0 p q) = (ix3 (slab t) (at_ t p) q : S8x4096x1024.Idx) from by blk_ext [idx t, slab, at_]]
  refine (out_eq _ _ p q).trans (Finset.sum_congr rfl fun k _ => ?_)
  rw [blk_h, blk_w]
  rfl

end Cert.ProdKernelIdeal.Out

/-! ## The pair -/

namespace Cert.Prod

/-- The reference's run, read at its arguments; it has no semaphore. -/
theorem frame_reference : Cert.quiescent_ProdReferenceIdeal (hProdReferenceIdeal := Cert.ProdReferenceIdeal.Gen.facts) :=
  fun m g _ => (θ_run Cert.ProdReferenceIdeal.defs _ _).mono
    (fun r h => ⟨fun c => (h c).2, sem_eq_zero_of_no_sems (by decide) r.2⟩) (Cert.ProdReferenceIdeal.Value.run m g)

theorem algebraic : Cert.algebraic_ProdKernelIdeal_ProdReferenceIdeal
    (hProdKernelIdeal := Cert.ProdKernelIdeal.Gen.facts) (hProdReferenceIdeal := Cert.ProdReferenceIdeal.Gen.facts) := by
  pair_intro
  · run_from Cert.ProdKernelIdeal.Gen.run_main m g
  · run_from Cert.ProdReferenceIdeal.Value.run m' g'
    · rw [ProdKernelIdeal.Out.final, ProdReferenceIdeal.Read.val_main_v3_eq]
      funext i
      rw [eq_ix3 i]
      exact ProdReferenceIdeal.Out.prod _ _ _ _ _

end Cert.Prod

end
-- ==== Proof.Grad.lean ====
module

public import proofs.«01_k».proof.Proof.Gen.GradKernelIdeal.Value
public import proofs.«01_k».proof.Proof.Gen.GradReferenceIdeal.Read
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

/-! ## The reference's result -/

namespace Cert.GradReferenceIdeal.Out

open Cert.GradReferenceIdeal Cert.GradReferenceIdeal.Gen Cert.GradReferenceIdeal.Read

theorem grad (x0 : (⟨S1x4096x1024, .f32⟩ : BufTy).Contents (Elt Ideal)) (x1 : (⟨S1x4096x8192, .f32⟩ : BufTy).Contents (Elt Ideal))
    (d : Fin 8) (p q : Fin 1024) :
    val_main_v6 x0 x1 (ix3 d p q) = ∑ s : Fin 4096, x0 (ix3 0 s p) * x1 (ix3 0 s ⟨d.val * 1024 + q.val, by omega⟩) := by
  pointwise [val_main_v6, val_main_v5, val_main_v4, val_main_v3, val_main_v2]
  rw [Fin.sum_univ_one]
  exact Finset.sum_congr rfl fun s _ => mul_comm _ _

end Cert.GradReferenceIdeal.Out

/-! ## The kernel's result -/

namespace Cert.GradKernelIdeal.Out

open Cert.GradKernelIdeal Cert.GradKernelIdeal.Gen

section Body

variable (x d : Vec Ideal S1x2048x1024 .bf16) (A : Vec Ideal S1024x1024 .f32) (p q : Fin 1024)

theorem pay_prod : k0_pay1 x d (ix2 p q) = ∑ s : Fin 2048, x (ix3 0 s p) * d (ix3 0 s q) := by
  pointwise [k0_pay1]

theorem pay_first : k0_pay2 x d (ix2 p q) = ∑ s : Fin 2048, x (ix3 0 s p) * d (ix3 0 s q) := by
  pointwise [k0_pay2, pay_prod]

theorem pay_last : k0_pay4 (k0_pay3 x d A) (ix3 0 p q) = A (ix2 p q) + ∑ s : Fin 2048, x (ix3 0 s p) * d (ix3 0 s q) := by
  pointwise [k0_pay4, k0_pay3, pay_prod]

end Body

variable (m : (ℓ : Loc nD τ sig) → Buf (Elt Ideal) ℓ)

theorem idx : ∀ t : Fin cfg0.N, win0_0.index t = ![0, t.val % 2, 0] ∧ win0_1.index t = ![t.val / 2, t.val % 2, 0]
    ∧ win0_2.index t = ![t.val / 2, 0, 0] :=
  (by decide +kernel : ∀ t : Fin grid0.N, _)

/-- The arguments by coordinates. -/
abbrev H (c : Dev nD) (s : Fin 4096) (k : Fin 1024) : EReal := m ((c : Thread nD τ).loc main_arg0) (ix3 0 s k)
abbrev dproj (c : Dev nD) (s : Fin 4096) (l : Fin 8192) : EReal := m ((c : Thread nD τ).loc main_arg1) (ix3 0 s l)

def D (c : Dev nD) (d : Fin 8) (p q : Fin 1024) : EReal :=
  ∑ s : Fin 4096, H m c s p * dproj m c s ⟨d.val * 1024 + q.val, by omega⟩

/-- The slab that point `t` adds to, and the row of the arrays that row `s` of half `z` is. -/
abbrev slab (t : Fin cfg0.N) : Fin 8 := ⟨t.val / 2, by have := lt_of_lt_of_eq t.isLt N_0; omega⟩
abbrev row (z : Fin 2) (s : Fin 2048) : Fin 4096 := ⟨z.val * 2048 + s.val, by omega⟩
abbrev half (t : Fin cfg0.N) : Fin 2 := ⟨t.val % 2, by omega⟩

/-- What half `z` of the rows gives. -/
def term (c : Dev nD) (d : Fin 8) (p q : Fin 1024) (z : Fin 2) : EReal :=
  ∑ s : Fin 2048, H m c (row z s) p * dproj m c (row z s) ⟨d.val * 1024 + q.val, by omega⟩

theorem blk_h (c : Dev nD) (t : Fin cfg0.N) (s : Fin 2048) (k : Fin 1024) :
    (iblk m c 0 t : Vec Ideal S1x2048x1024 .bf16) (ix3 0 s k) = H m c (row (half t) s) k := by
  blk_point [iblk, V, idx t, row, half]

theorem blk_d (c : Dev nD) (t : Fin cfg0.N) (s : Fin 2048) (q : Fin 1024) :
    (iblk m c 1 t : Vec Ideal S1x2048x1024 .bf16) (ix3 0 s q) = dproj m c (row (half t) s) ⟨(slab t).val * 1024 + q.val, by omega⟩ := by
  blk_point [iblk, V, idx t, slab, row, half]

theorem term_eq (c : Dev nD) (t : Fin cfg0.N) (p q : Fin 1024) :
    (∑ s : Fin 2048, (show EReal from (iblk m c 0 t : Vec Ideal S1x2048x1024 .bf16) (ix3 0 s p))
      * (show EReal from (iblk m c 1 t : Vec Ideal S1x2048x1024 .bf16) (ix3 0 s q)))
      = term m c (slab t) p q (half t) :=
  Finset.sum_congr rfl fun s _ => congrArg₂ (fun a b : EReal => a * b) (blk_h m c t s p) (blk_d m c t s q)

/-- The first of a slab's two points leaves its half in the scratch. -/
theorem first (c : Dev nD) (t : Fin cfg0.N) (h : t.val % 2 = 0) (j : S1024x1024.Idx) :
    (outsAt0 m c t.val t.isLt).2 j = k0_pay2 (iblk m c 0 t) (iblk m c 1 t) j := by
  rw [outsAt0_A m c t h (by omega) (by omega)]
  frame_out

/-- The second adds its own and stores the sum. -/
theorem second (c : Dev nD) (t : Fin cfg0.N) (h : t.val % 2 = 1) (y : S1x1024x1024.Idx) : (outsAt0 m c t.val t.isLt).1 y
    = k0_pay4 (k0_pay3 (iblk m c 0 t) (iblk m c 1 t) (outsAt0 m c (t.val - 1) (Nat.lt_of_le_of_lt (Nat.sub_le _ _) t.isLt)).2) y := by
  rw [outsAt0_B m c t (by omega) h h]
  frame_out
  exact congrArg (fun A => k0_pay4 (F := Ideal) (k0_pay3 (iblk m c 0 t) (iblk m c 1 t) A) y) (Memref.IsWhole.read_unread _ _)

theorem final (c : Dev nD) : (dats m 0 c).arrAt 2 (cfgs 0).N
    = fun i : S8x1024x1024.Idx => D m c (i 0) (i 1) (i 2) := by
  refine (dats m 0 c).arrAt_eq_of_covers 2 _ (by decide +kernel) fun t hf y => ?_
  blk_simp
  rw [after0_2]
  have h := (flush0_2 t).mp hf
  obtain ⟨p, q, rfl⟩ : ∃ p q, y = (ix3 0 p q : S1x1024x1024.Idx) := ⟨y 1, y 2, by blk_ext⟩
  rw [show ((cfg0.win 2).blk t).view.emb (ix3 0 p q) = (ix3 (slab t) p q : S8x1024x1024.Idx) from by blk_ext [idx t, slab]]
  have e : t.val - 1 < cfg0.N := Nat.lt_of_le_of_lt (Nat.sub_le _ _) t.isLt
  refine (second m c t h _).trans ((pay_last _ _ _ p q).trans ?_)
  rw [term_eq m c t p q, show (outsAt0 m c (t.val - 1) e).2 (ix2 p q) = term m c (slab t) p q 0 from
    (first m c ⟨t.val - 1, e⟩ (by show (t.val - 1) % 2 = 0; omega) _).trans ((pay_first _ _ p q).trans ((term_eq m c _ p q).trans (by
      rw [show slab ⟨t.val - 1, e⟩ = slab t from Fin.ext (by show (t.val - 1) / 2 = t.val / 2; omega),
        show half ⟨t.val - 1, e⟩ = 0 from Fin.ext (by show (t.val - 1) % 2 = 0; omega)]))),
    show half t = 1 from Fin.ext h]
  refine (Fin.sum_univ_two (term m c (slab t) p q)).symm.trans ?_
  exact Fin.sum_mul_add_congr fun z s hl => rfl

end Cert.GradKernelIdeal.Out

/-! ## The pair -/

namespace Cert.Grad

/-- The reference's run, read at its arguments; it has no semaphore. -/
theorem frame_reference : Cert.quiescent_GradReferenceIdeal (hGradReferenceIdeal := Cert.GradReferenceIdeal.Gen.facts) :=
  fun m g _ => (θ_run Cert.GradReferenceIdeal.defs _ _).mono
    (fun r h => ⟨fun c => (h c).2, sem_eq_zero_of_no_sems (by decide) r.2⟩) (Cert.GradReferenceIdeal.Value.run m g)

theorem algebraic : Cert.algebraic_GradKernelIdeal_GradReferenceIdeal
    (hGradKernelIdeal := Cert.GradKernelIdeal.Gen.facts) (hGradReferenceIdeal := Cert.GradReferenceIdeal.Gen.facts) := by
  pair_intro
  · run_from Cert.GradKernelIdeal.Gen.run_main m g
  · run_from Cert.GradReferenceIdeal.Value.run m' g'
    · rw [GradKernelIdeal.Out.final, GradReferenceIdeal.Read.val_main_v6_eq]
      funext i
      rw [eq_ix3 i]
      exact GradReferenceIdeal.Out.grad _ _ _ _ _

end Cert.Grad

end
-- ==== Proof.Adam.lean ====
module

public import Idealize.ShloMosaic.Lib.Pipeline.ValueKit
public import Idealize.ShloMosaic.Lib.Claim

@[expose] public section

noncomputable section

open Idealize.ShloMosaic

/-! ## One step of the optimiser, entry by entry -/

namespace Cert.Adam

/-- The moving mean of the gradient. -/
def mean (g m : EReal) : EReal := Ideal.ofBits .f32 0x3F666666#32 * m + Ideal.ofBits .f32 0x3DCCCCCD#32 * g

/-- The moving mean of its square. -/
def square (g v : EReal) : EReal := Ideal.ofBits .f32 0x3F7FBE77#32 * v + Ideal.ofBits .f32 0x3A83126F#32 * (g * g)

/-- The change of the weight. -/
def delta (w g m v : EReal) : EReal :=
  Ideal.ofBits .f32 0xBA83126F#32 * (Ideal.div (Ideal.div (mean g m) (Ideal.ofBits .f32 0x3F26BD02#32))
    (Ideal.sqrt (Ideal.div (square g v) (Ideal.ofBits .f32 0x3C231ACC#32)) + Ideal.ofBits .f32 0x322BCC77#32)
    + Ideal.ofBits .f32 0x3C23D70A#32 * w)

end Cert.Adam

end
-- ==== Proof.Step.lean ====
module

public import proofs.«01_k».proof.Proof.Gen.StepKernelIdeal.Value
public import proofs.«01_k».proof.Proof.Gen.StepReferenceIdeal.Read
public import proofs.«01_k».proof.Defs
public import proofs.«01_k».proof.Proof.Adam
public import Idealize.ShloMosaic.Lib.Pipeline.ReadBack

@[expose] public section

set_option maxRecDepth 16384

noncomputable section

open Idealize.ShloMosaic Idealize.ShloMosaic.TcCoe Idealize.SL.Sem
open Cert.Adam

/-! ## The reference's results -/

namespace Cert.StepReferenceIdeal.Out

open Cert.StepReferenceIdeal Cert.StepReferenceIdeal.Gen Cert.StepReferenceIdeal.Read

variable (x0 x1 : (⟨S8x1024x1024, .bf16⟩ : BufTy).Contents (Elt Ideal)) (x2 x3 x4 : (⟨S2x1024x1024, .f32⟩ : BufTy).Contents (Elt Ideal))

/-- The parts of a layer's gradient, and their sum. -/
def part (l : Fin 2) (d : Fin 8) (p q : Fin 1024) : EReal := if l.val = 0 then x0 (ix3 d p q) else x1 (ix3 d p q)
def G (l : Fin 2) (p q : Fin 1024) : EReal := ∑ d : Fin 8, part x0 x1 l d p q

theorem grad (l : Fin 2) (p q : Fin 1024) : val_main_v6 x0 x1 (ix3 l p q) = G x0 x1 l p q := by
  rcases Fin.exists_fin_two.mp ⟨l, rfl⟩ with rfl | rfl <;>
  pointwise [val_main_v6, val_main_v5, val_main_v4, val_main_v3, val_main_v2, val_main_v1, val_main_v0, val_main_cst, val_main_cst_0, G, part]

theorem mean_at (l : Fin 2) (p q : Fin 1024) : val_main_v11 x0 x1 x3 (ix3 l p q) = mean (G x0 x1 l p q) (x3 (ix3 l p q)) := by
  pointwise [val_main_v11, val_main_v10, val_main_v9, val_main_v8, val_main_v7, val_main_cst_1, val_main_cst_2, grad, mean]

theorem square_at (l : Fin 2) (p q : Fin 1024) : val_main_v17 x0 x1 x4 (ix3 l p q) = square (G x0 x1 l p q) (x4 (ix3 l p q)) := by
  pointwise [val_main_v17, val_main_v16, val_main_v15, val_main_v14, val_main_v13, val_main_v12, val_main_cst_3, val_main_cst_4, grad, square]

theorem delta_at (l : Fin 2) (p q : Fin 1024) :
    val_main_v30 x0 x1 x2 x3 x4 (ix3 l p q) = delta (x2 (ix3 l p q)) (G x0 x1 l p q) (x3 (ix3 l p q)) (x4 (ix3 l p q)) := by
  pointwise [val_main_v30, val_main_v29, val_main_v28, val_main_v27, val_main_v26, val_main_v25, val_main_v24, val_main_v23, val_main_v22,
    val_main_v21, val_main_v20, val_main_v19, val_main_v18, val_main_cst_5, val_main_cst_6, val_main_cst_7, val_main_cst_8, val_main_cst_9,
    mean_at, square_at, delta]

end Cert.StepReferenceIdeal.Out

/-! ## The kernel's results -/

namespace Cert.StepKernelIdeal.Out

open Cert.StepKernelIdeal Cert.StepKernelIdeal.Gen

section Body

variable (i : grid0.Coords) (x0 x1 : Vec Ideal S8x256x1024 .bf16) (x2 x3 x4 : Vec Ideal S1x256x1024 .f32)

theorem ld_part (x : Vec Ideal S8x256x1024 .bf16) (d : Fin 8) (o : ℕ) (ho : o = d.val)
    (h : ∀ a, (![o, 0, 0] : Fin 3 → ℕ) a + S1x256x1024.size a ≤ S8x256x1024.size a) (p : Fin 256) (q : Fin 1024) :
    View.ld x (Rect.unit (s := S8x256x1024) ![o, 0, 0] S1x256x1024.size h) (ix3 0 p q) = x (ix3 d p q) := by
  refine congrArg x ?_
  funext a
  apply Fin.ext
  match a with
  | ⟨0, _⟩ => show o + 1 * 0 = d.val; omega
  | ⟨1, _⟩ => show 0 + 1 * p.val = p.val; omega
  | ⟨2, _⟩ => show 0 + 1 * q.val = q.val; omega

theorem cast_at (z : Vec Ideal S1x256x1024 .bf16) (p : Fin 256) (q : Fin 1024) :
    (extf (F := Ideal) .f32 (shapeCast S256x1024 z shapeCasts_S1x256x1024_S256x1024) bitsLt_bf16_f32) (ix2 p q) = z (ix3 0 p q) := by
  pointwise []

theorem cut (x : Vec Ideal S8x256x1024 .bf16) (d : Fin 8) (o : ℕ) (ho : o = d.val)
    (h : ∀ a, (![o, 0, 0] : Fin 3 → ℕ) a + S1x256x1024.size a ≤ S8x256x1024.size a) (p : Fin 256) (q : Fin 1024) :
    (extf (F := Ideal) .f32 (shapeCast S256x1024 (View.ld x (Rect.unit (s := S8x256x1024) ![o, 0, 0] S1x256x1024.size h)) shapeCasts_S1x256x1024_S256x1024)
      bitsLt_bf16_f32) (ix2 p q) = x (ix3 d p q) :=
  (cast_at _ p q).trans (ld_part x d o ho h p q)

/-- A block of the gradient: the sum over the devices of the grid's layer's parts. -/
def gBlk : Vec Ideal S256x1024 .f32 :=
  k0_pay9 (BitVec.ofNat 32 (i 0).val) (k0_pay13 i x0 x1 x2 x3 x4) (k0_pay14 i x0 x1 x2 x3 x4) 1#32 (View.ld x1 r0_7)

theorem grad (l : Fin 2) (hl : (i 0).val = l.val) (p : Fin 256) (q : Fin 1024) :
    gBlk i x0 x1 x2 x3 x4 (ix2 p q) = ∑ d : Fin 8, (if l.val = 0 then x0 (ix3 d p q) else x1 (ix3 d p q) : EReal) := by
  rw [Fin.sum_univ_eight]
  have e0 : Scalar.cmpi .eq (BitVec.ofNat 32 0) 1#32 = 0#1 := by decide
  have e1 : Scalar.cmpi .eq (BitVec.ofNat 32 1) 1#32 = 1#1 := by decide
  rcases Fin.exists_fin_two.mp ⟨l, rfl⟩ with rfl | rfl
  · have h0 : (i 0).val = 0 := hl
    pointwise [gBlk, k0_pay9, k0_pay13, k0_pay14, k0_pay5, k0_pay6, k0_pay7, k0_pay8, h0, e0, Scalar.select]
    simp (decide := true) only [if_true, if_false, cut _ 0 0 rfl, cut _ 1 1 rfl, cut _ 2 2 rfl, cut _ 3 3 rfl, cut _ 4 4 rfl, cut _ 5 5 rfl, cut _ 6 6 rfl, cut _ 7 7 rfl]
  · have h1 : (i 0).val = 1 := hl
    pointwise [gBlk, k0_pay9, k0_pay13, k0_pay14, k0_pay5, k0_pay6, k0_pay7, k0_pay8, h1, e1, Scalar.select]
    simp (decide := true) only [if_true, if_false, cut _ 0 0 rfl, cut _ 1 1 rfl, cut _ 2 2 rfl, cut _ 3 3 rfl, cut _ 4 4 rfl, cut _ 5 5 rfl, cut _ 6 6 rfl, cut _ 7 7 rfl]

end Body

variable (m : (ℓ : Loc nD τ sig) → Buf (Elt Ideal) ℓ)

/-- The layer and the row of the arrays that row `p` of point `t`'s block is. -/
abbrev lay (t : Fin cfg0.N) : Fin 2 := ⟨t.val / 4, by have := lt_of_lt_of_eq t.isLt N_0; omega⟩
abbrev at_ (t : Fin cfg0.N) (p : Fin 256) : Fin 1024 := ⟨t.val % 4 * 256 + p.val, by have := p.isLt; omega⟩

theorem idx : ∀ t : Fin cfg0.N, (grid0.coords t 0).val = t.val / 4 ∧ (t.val / 4 = 0 → win0_0.index t = ![0, t.val % 4, 0])
    ∧ (t.val / 4 ≠ 0 → win0_1.index t = ![0, t.val % 4, 0]) :=
  (by decide +kernel : ∀ t : Fin grid0.N, _)

theorem idx' : ∀ t : Fin cfg0.N, win0_2.index t = ![t.val / 4, t.val % 4, 0] ∧ win0_3.index t = ![t.val / 4, t.val % 4, 0]
    ∧ win0_4.index t = ![t.val / 4, t.val % 4, 0] ∧ win0_5.index t = ![t.val / 4, t.val % 4, 0] ∧ win0_6.index t = ![t.val / 4, t.val % 4, 0]
    ∧ win0_7.index t = ![t.val / 4, t.val % 4, 0] ∧ win0_8.index t = ![t.val / 4, t.val % 4, 0] :=
  (by decide +kernel : ∀ t : Fin grid0.N, _)

/-- The arguments by coordinates. -/
abbrev part (c : Dev nD) (l : Fin 2) (d : Fin 8) (p q : Fin 1024) : EReal :=
  if l.val = 0 then m ((c : Thread nD τ).loc main_arg0) (ix3 d p q) else m ((c : Thread nD τ).loc main_arg1) (ix3 d p q)
abbrev W (c : Dev nD) (l : Fin 2) (p q : Fin 1024) : EReal := m ((c : Thread nD τ).loc main_arg2) (ix3 l p q)
abbrev M (c : Dev nD) (l : Fin 2) (p q : Fin 1024) : EReal := m ((c : Thread nD τ).loc main_arg3) (ix3 l p q)
abbrev V2 (c : Dev nD) (l : Fin 2) (p q : Fin 1024) : EReal := m ((c : Thread nD τ).loc main_arg4) (ix3 l p q)
def G (c : Dev nD) (l : Fin 2) (p q : Fin 1024) : EReal := ∑ d : Fin 8, part m c l d p q

theorem blk_0 (c : Dev nD) (t : Fin cfg0.N) (h : t.val / 4 = 0) (d : Fin 8) (p : Fin 256) (q : Fin 1024) :
    (iblk m c 0 t : Vec Ideal S8x256x1024 .bf16) (ix3 d p q) = m ((c : Thread nD τ).loc main_arg0) (ix3 d (at_ t p) q) := by
  blk_point [iblk, V, (idx t).2.1 h, at_]

theorem blk_1 (c : Dev nD) (t : Fin cfg0.N) (h : t.val / 4 ≠ 0) (d : Fin 8) (p : Fin 256) (q : Fin 1024) :
    (iblk m c 1 t : Vec Ideal S8x256x1024 .bf16) (ix3 d p q) = m ((c : Thread nD τ).loc main_arg1) (ix3 d (at_ t p) q) := by
  blk_point [iblk, V, (idx t).2.2 h, at_]

theorem blk_w (c : Dev nD) (t : Fin cfg0.N) (p : Fin 256) (q : Fin 1024) :
    (iblk m c 2 t : Vec Ideal S1x256x1024 .f32) (ix3 0 p q) = W m c (lay t) (at_ t p) q := by
  blk_point [iblk, V, idx' t, at_, lay]

theorem blk_m (c : Dev nD) (t : Fin cfg0.N) (p : Fin 256) (q : Fin 1024) :
    (iblk m c 3 t : Vec Ideal S1x256x1024 .f32) (ix3 0 p q) = M m c (lay t) (at_ t p) q := by
  blk_point [iblk, V, idx' t, at_, lay]

theorem blk_v (c : Dev nD) (t : Fin cfg0.N) (p : Fin 256) (q : Fin 1024) :
    (iblk m c 4 t : Vec Ideal S1x256x1024 .f32) (ix3 0 p q) = V2 m c (lay t) (at_ t p) q := by
  blk_point [iblk, V, idx' t, at_, lay]

/-- Point `t`'s block of the gradient. -/
abbrev gAt (c : Dev nD) (t : Fin cfg0.N) : Vec Ideal S256x1024 .f32 :=
  gBlk (grid0.coords t) (iblk m c 0 t) (iblk m c 1 t) (iblk m c 2 t) (iblk m c 3 t) (iblk m c 4 t)

theorem grad_at (c : Dev nD) (t : Fin cfg0.N) (p : Fin 256) (q : Fin 1024) : gAt m c t (ix2 p q) = G m c (lay t) (at_ t p) q := by
  refine (grad _ _ _ _ _ _ (lay t) (idx t).1 p q).trans (Finset.sum_congr rfl fun d _ => ?_)
  by_cases h : t.val / 4 = 0
  · rw [if_pos h]
    exact (blk_0 m c t h d p q).trans (if_pos h).symm
  · rw [if_neg h]
    exact (blk_1 m c t h d p q).trans (if_neg h).symm

section Pay

variable (i : grid0.Coords) (x0 x1 : Vec Ideal S8x256x1024 .bf16) (x2 x3 x4 : Vec Ideal S1x256x1024 .f32) (p : Fin 256) (q : Fin 1024)

theorem ld_one (x : Vec Ideal S1x256x1024 .f32) : View.ld x r0_8 (ix3 0 p q) = x (ix3 0 p q) := by
  refine congrArg x ?_
  funext a
  apply Fin.ext
  match a with
  | ⟨0, _⟩ => show 0 + 1 * 0 = 0; omega
  | ⟨1, _⟩ => show 0 + 1 * p.val = p.val; omega
  | ⟨2, _⟩ => show 0 + 1 * q.val = q.val; omega

theorem canon_one (x : Vec Ideal S1x256x1024 .f32) : View.canon (Val := Elt Ideal) [⟨r0_8, x⟩] = x :=
  View.canon_unit_zero (by funext a; match a with | ⟨0, _⟩ => rfl | ⟨1, _⟩ => rfl | ⟨2, _⟩ => rfl) _ _

theorem out_g : out0_5 i x0 x1 x2 x3 x4 (ix3 0 p q) = gBlk i x0 x1 x2 x3 x4 (ix2 p q) := by
  refine (congrFun (canon_one _) _).trans ?_
  rw [show k0_pay9 (F := Ideal) (BitVec.ofNat 32 (i 0).val) (k0_pay13 i x0 x1 x2 x3 x4) (k0_pay14 i x0 x1 x2 x3 x4) 1#32 (View.ld x1 r0_7) = gBlk i x0 x1 x2 x3 x4 from rfl]
  generalize gBlk i x0 x1 x2 x3 x4 = g
  pointwise [k0_pay1]

/-- The same of the other results, whose payloads read the gradient's. -/
theorem pay_m (a : BitVec 32) (s u : FVec Ideal S256x1024 .f32) (b : BitVec 32) (w : Vec Ideal S1x256x1024 .bf16) (z : Vec Ideal S1x256x1024 .f32) :
    k0_pay3 (k0_pay10 a s u b w z) (ix3 0 p q) = mean (k0_pay9 a s u b w (ix2 p q)) (z (ix3 0 p q)) := by
  unfold k0_pay10
  generalize k0_pay9 a s u b w = g
  pointwise [k0_pay3, mean]

theorem pay_v (a : BitVec 32) (s u : FVec Ideal S256x1024 .f32) (b : BitVec 32) (w : Vec Ideal S1x256x1024 .bf16) (z : Vec Ideal S1x256x1024 .f32) :
    k0_pay4 (k0_pay11 a s u b w z) (ix3 0 p q) = square (k0_pay9 a s u b w (ix2 p q)) (z (ix3 0 p q)) := by
  unfold k0_pay11
  generalize k0_pay9 a s u b w = g
  pointwise [k0_pay4, square]

theorem pay_d (a : BitVec 32) (s u : FVec Ideal S256x1024 .f32) (b : BitVec 32) (w : Vec Ideal S1x256x1024 .bf16) (y z v : Vec Ideal S1x256x1024 .f32) :
    k0_pay2 (k0_pay12 a s u b w y z v) (ix3 0 p q) = delta (y (ix3 0 p q)) (k0_pay9 a s u b w (ix2 p q)) (z (ix3 0 p q)) (v (ix3 0 p q)) := by
  unfold k0_pay12 k0_pay11 k0_pay10
  generalize k0_pay9 a s u b w = g
  pointwise [k0_pay2, delta, mean, square]

theorem out_m : out0_7 i x0 x1 x2 x3 x4 (ix3 0 p q) = mean (gBlk i x0 x1 x2 x3 x4 (ix2 p q)) (x3 (ix3 0 p q)) :=
  (congrFun (canon_one _) _).trans ((pay_m p q _ _ _ _ _ _).trans (congrArg (mean _) (ld_one p q x3)))

theorem out_v : out0_8 i x0 x1 x2 x3 x4 (ix3 0 p q) = square (gBlk i x0 x1 x2 x3 x4 (ix2 p q)) (x4 (ix3 0 p q)) :=
  (congrFun (canon_one _) _).trans ((pay_v p q _ _ _ _ _ _).trans (congrArg (square _) (ld_one p q x4)))

theorem out_d : out0_6 i x0 x1 x2 x3 x4 (ix3 0 p q)
    = delta (x2 (ix3 0 p q)) (gBlk i x0 x1 x2 x3 x4 (ix2 p q)) (x3 (ix3 0 p q)) (x4 (ix3 0 p q)) := by
  refine (congrFun (canon_one _) _).trans ((pay_d p q _ _ _ _ _ _ _ _).trans ?_)
  rw [ld_one p q x2, ld_one p q x3, ld_one p q x4]
  rfl

end Pay

/-! ### The arrays after the call -/

theorem gBlk_at (c : Dev nD) (t : Fin cfg0.N) (p : Fin 256) (q : Fin 1024) :
    gBlk (grid0.coords t) (iblk m c 0 t) (iblk m c 1 t) (iblk m c 2 t) (iblk m c 3 t) (iblk m c 4 t) (ix2 p q) = G m c (lay t) (at_ t p) q :=
  grad_at m c t p q

theorem final_g (c : Dev nD) : (dats m 0 c).arrAt 5 (cfgs 0).N = fun i : S2x1024x1024.Idx => G m c (i 0) (i 1) (i 2) := by
  refine (dats m 0 c).arrAt_eq_of_covers 5 _ (by decide +kernel) fun t hf y => ?_
  blk_simp
  rw [after0_5]
  obtain ⟨p, q, rfl⟩ : ∃ p q, y = (ix3 0 p q : S1x256x1024.Idx) := ⟨y 1, y 2, by blk_ext⟩
  refine (out_g _ _ _ _ _ _ p q).trans ((grad_at m c t p q).trans ?_)
  rw [show ((cfg0.win 5).blk t).view.emb (ix3 0 p q) = (ix3 (lay t) (at_ t p) q : S2x1024x1024.Idx) from by blk_ext [idx' t, lay, at_]]
  rfl

theorem final_d (c : Dev nD) : (dats m 0 c).arrAt 6 (cfgs 0).N = fun i : S2x1024x1024.Idx =>
    delta (W m c (i 0) (i 1) (i 2)) (G m c (i 0) (i 1) (i 2)) (M m c (i 0) (i 1) (i 2)) (V2 m c (i 0) (i 1) (i 2)) := by
  refine (dats m 0 c).arrAt_eq_of_covers 6 _ (by decide +kernel) fun t hf y => ?_
  blk_simp
  rw [after0_6]
  obtain ⟨p, q, rfl⟩ : ∃ p q, y = (ix3 0 p q : S1x256x1024.Idx) := ⟨y 1, y 2, by blk_ext⟩
  refine (out_d _ _ _ _ _ _ p q).trans ?_
  rw [blk_w, blk_m, blk_v, gBlk_at,
    show ((cfg0.win 6).blk t).view.emb (ix3 0 p q) = (ix3 (lay t) (at_ t p) q : S2x1024x1024.Idx) from by blk_ext [idx' t, lay, at_]]
  rfl

theorem final_m (c : Dev nD) : (dats m 0 c).arrAt 7 (cfgs 0).N = fun i : S2x1024x1024.Idx =>
    mean (G m c (i 0) (i 1) (i 2)) (M m c (i 0) (i 1) (i 2)) := by
  refine (dats m 0 c).arrAt_eq_of_covers 7 _ (by decide +kernel) fun t hf y => ?_
  blk_simp
  rw [after0_7]
  obtain ⟨p, q, rfl⟩ : ∃ p q, y = (ix3 0 p q : S1x256x1024.Idx) := ⟨y 1, y 2, by blk_ext⟩
  refine (out_m _ _ _ _ _ _ p q).trans ?_
  rw [blk_m, gBlk_at, show ((cfg0.win 7).blk t).view.emb (ix3 0 p q) = (ix3 (lay t) (at_ t p) q : S2x1024x1024.Idx) from by blk_ext [idx' t, lay, at_]]
  rfl

theorem final_v (c : Dev nD) : (dats m 0 c).arrAt 8 (cfgs 0).N = fun i : S2x1024x1024.Idx =>
    square (G m c (i 0) (i 1) (i 2)) (V2 m c (i 0) (i 1) (i 2)) := by
  refine (dats m 0 c).arrAt_eq_of_covers 8 _ (by decide +kernel) fun t hf y => ?_
  blk_simp
  rw [after0_8]
  obtain ⟨p, q, rfl⟩ : ∃ p q, y = (ix3 0 p q : S1x256x1024.Idx) := ⟨y 1, y 2, by blk_ext⟩
  refine (out_v _ _ _ _ _ _ p q).trans ?_
  rw [blk_v, gBlk_at, show ((cfg0.win 8).blk t).view.emb (ix3 0 p q) = (ix3 (lay t) (at_ t p) q : S2x1024x1024.Idx) from by blk_ext [idx' t, lay, at_]]
  rfl

end Cert.StepKernelIdeal.Out

/-! ## The pair -/

namespace Cert.Step

/-- The reference's run, read at its arguments; it has no semaphore. -/
theorem frame_reference : Cert.quiescent_StepReferenceIdeal (hStepReferenceIdeal := Cert.StepReferenceIdeal.Gen.facts) :=
  fun m g _ => (θ_run Cert.StepReferenceIdeal.defs _ _).mono
    (fun r h => ⟨fun c => (h c).2.2.2.2, sem_eq_zero_of_no_sems (by decide) r.2⟩) (Cert.StepReferenceIdeal.Value.run m g)

theorem algebraic : Cert.algebraic_StepKernelIdeal_StepReferenceIdeal
    (hStepKernelIdeal := Cert.StepKernelIdeal.Gen.facts) (hStepReferenceIdeal := Cert.StepReferenceIdeal.Gen.facts) := by
  pair_intro
  · run_from Cert.StepKernelIdeal.Gen.run_main m g
  · run_from Cert.StepReferenceIdeal.Value.run m' g'
    · rw [StepKernelIdeal.Out.final_g, StepReferenceIdeal.Read.val_main_v6_eq]
      funext i
      rw [eq_ix3 i]
      exact StepReferenceIdeal.Out.grad _ _ _ _ _
    · rw [StepKernelIdeal.Out.final_d, StepReferenceIdeal.Read.val_main_v30_eq]
      funext i
      rw [eq_ix3 i]
      exact StepReferenceIdeal.Out.delta_at _ _ _ _ _ _ _ _
    · rw [StepKernelIdeal.Out.final_m, StepReferenceIdeal.Read.val_main_v11_eq]
      funext i
      rw [eq_ix3 i]
      exact StepReferenceIdeal.Out.mean_at _ _ _ _ _ _
    · rw [StepKernelIdeal.Out.final_v, StepReferenceIdeal.Read.val_main_v17_eq]
      funext i
      rw [eq_ix3 i]
      exact StepReferenceIdeal.Out.square_at _ _ _ _ _ _

end Cert.Step

end
-- ==== Proof.Conv.lean ====
module

public import proofs.«01_k».proof.Proof.Gen.ConvKernelIdeal.Value
public import proofs.«01_k».proof.Proof.Gen.ConvReferenceIdeal.Read
public import proofs.«01_k».proof.Defs
public import proofs.«01_k».proof.Proof.Adam
public import Idealize.ShloMosaic.Lib.Pipeline.ReadBack

@[expose] public section

set_option maxRecDepth 16384

noncomputable section

open Idealize.ShloMosaic Idealize.ShloMosaic.TcCoe Idealize.SL.Sem
open Cert.Adam

/-! ## The reference's results -/

namespace Cert.ConvReferenceIdeal.Out

open Cert.ConvReferenceIdeal Cert.ConvReferenceIdeal.Gen Cert.ConvReferenceIdeal.Read

/-- The row of the packed array that holds tap `r` of layer `l`. -/
def row (l : Fin 2) (r : Fin 34) : Fin 68 := ⟨l.val * 34 + r.val, by omega⟩

theorem exists_row (p : Fin 68) : ∃ l r, p = row l r :=
  ⟨⟨p.val / 34, by omega⟩, ⟨p.val % 34, by omega⟩, Fin.ext (by show p.val = p.val / 34 * 34 + p.val % 34; omega)⟩

theorem exists_ix (i : S68x64.Idx) : ∃ l r q, i = (ix2 (row l r) q : S68x64.Idx) := by
  obtain ⟨l, r, h⟩ := exists_row (i 0)
  exact ⟨l, r, i 1, (eq_ix2 i).trans (congrArg (fun p => (ix2 p (i 1) : S68x64.Idx)) h)⟩

/-- The short filter's taps, then the long one's. -/
def pack (x : S2x3x64.Idx → EReal) (y : S2x31x64.Idx → EReal) (l : Fin 2) (r : Fin 34) (q : Fin 64) : EReal :=
  if h : r.val < 3 then x (ix3 l ⟨r.val, h⟩ q) else y (ix3 l ⟨r.val - 3, by omega⟩ q)

theorem tie (x : S2x3x64.Idx → EReal) (y : S2x31x64.Idx → EReal) (l : Fin 2) (r : Fin 34) (q : Fin 64) :
    concatenate S2x34x64 1 [⟨S2x3x64, x⟩, ⟨S2x31x64, y⟩] concatenates_S2x3x64_S2x31x64_S2x34x64_d1 (ix3 l r q) = pack x y l r q := by
  unfold pack
  split
  · next h =>
    exact concatenate_pair_apply_left (t := S2x34x64) 1 x y concatenates_S2x3x64_S2x31x64_S2x34x64_d1 (ix3 l r q) rfl (ix3 l ⟨r.val, h⟩ q)
      (fun b => match b with | ⟨0, _⟩ => rfl | ⟨1, _⟩ => rfl | ⟨2, _⟩ => rfl)
  · next h =>
    exact concatenate_pair_apply_right (t := S2x34x64) 1 x y concatenates_S2x3x64_S2x31x64_S2x34x64_d1 (ix3 l r q) rfl rfl (ix3 l ⟨r.val - 3, by omega⟩ q)
      (fun b hb => match b, hb with | ⟨0, _⟩, _ => rfl | ⟨1, _⟩, hb => absurd rfl hb | ⟨2, _⟩, _ => rfl)
      (by show r.val - 3 + 3 = r.val; omega)

theorem merge (z : S2x34x64.Idx → EReal) (l : Fin 2) (r : Fin 34) (q : Fin 64) :
    shapeCast S68x64 z shapeCasts_S2x34x64_S68x64 (ix2 (row l r) q) = z (ix3 l r q) :=
  shapeCast_apply z shapeCasts_S2x34x64_S68x64 (ix2 (row l r) q) (ix3 l r q) (by
    rewrite [Shape.rowMajor_val_three, Shape.rowMajor_val_two]
    show (l.val * 34 + r.val) * 64 + q.val = (l.val * 34 + r.val) * 64 + q.val
    rfl)

theorem split_at (z : S68x64.Idx → EReal) (l : Fin 2) (r : Fin 34) (q : Fin 64) :
    shapeCast S2x34x64 z shapeCasts_S68x64_S2x34x64 (ix3 l r q) = z (ix2 (row l r) q) :=
  shapeCast_apply z shapeCasts_S68x64_S2x34x64 (ix3 l r q) (ix2 (row l r) q) (by
    rewrite [Shape.rowMajor_val_three, Shape.rowMajor_val_two]
    show (l.val * 34 + r.val) * 64 + q.val = (l.val * 34 + r.val) * 64 + q.val
    rfl)

variable (x0 : (⟨S68x64, .f32⟩ : BufTy).Contents (Elt Ideal)) (x1 x3 x5 : (⟨S2x3x64, .f32⟩ : BufTy).Contents (Elt Ideal))
  (x2 x4 x6 : (⟨S2x31x64, .f32⟩ : BufTy).Contents (Elt Ideal)) (l : Fin 2) (r : Fin 34) (q : Fin 64)

theorem grad_s (k : Fin 3) : val_main_v1 x0 (ix3 l k q) = x0 (ix2 (row l ⟨k.val, by omega⟩) q) := by
  refine Eq.trans ?_ (split_at x0 l ⟨k.val, by omega⟩ q)
  unfold val_main_v1 val_main_v0
  generalize shapeCast S2x34x64 x0 shapeCasts_S68x64_S2x34x64 = z
  pointwise []

theorem grad_c (k : Fin 31) : val_main_v26 x0 (ix3 l k q) = x0 (ix2 (row l ⟨3 + k.val, by omega⟩) q) := by
  refine Eq.trans ?_ (split_at x0 l ⟨3 + k.val, by omega⟩ q)
  unfold val_main_v26 val_main_v0
  generalize shapeCast S2x34x64 x0 shapeCasts_S68x64_S2x34x64 = z
  pointwise []

theorem mean_s (k : Fin 3) : val_main_v6 x0 x3 (ix3 l k q) = mean (val_main_v1 x0 (ix3 l k q)) (x3 (ix3 l k q)) := by
  unfold val_main_v6 val_main_v5
  generalize val_main_v1 x0 = g
  pointwise [val_main_v4, val_main_v3, val_main_v2, val_main_cst, val_main_cst_0, mean]

theorem mean_c (k : Fin 31) : val_main_v31 x0 x4 (ix3 l k q) = mean (val_main_v26 x0 (ix3 l k q)) (x4 (ix3 l k q)) := by
  unfold val_main_v31 val_main_v30
  generalize val_main_v26 x0 = g
  pointwise [val_main_v29, val_main_v28, val_main_v27, val_main_cst_8, val_main_cst_9, mean]

theorem square_s (k : Fin 3) : val_main_v12 x0 x5 (ix3 l k q) = square (val_main_v1 x0 (ix3 l k q)) (x5 (ix3 l k q)) := by
  unfold val_main_v12 val_main_v11 val_main_v9
  generalize val_main_v1 x0 = g
  pointwise [val_main_v10, val_main_v8, val_main_v7, val_main_cst_1, val_main_cst_2, square]

theorem square_c (k : Fin 31) : val_main_v37 x0 x6 (ix3 l k q) = square (val_main_v26 x0 (ix3 l k q)) (x6 (ix3 l k q)) := by
  unfold val_main_v37 val_main_v36 val_main_v34
  generalize val_main_v26 x0 = g
  pointwise [val_main_v35, val_main_v33, val_main_v32, val_main_cst_10, val_main_cst_11, square]

theorem delta_s (k : Fin 3) : val_main_v25 x0 x1 x3 x5 (ix3 l k q)
    = delta (x1 (ix3 l k q)) (val_main_v1 x0 (ix3 l k q)) (x3 (ix3 l k q)) (x5 (ix3 l k q)) := by
  pointwise [val_main_v25, val_main_v24, val_main_v23, val_main_v22, val_main_v21, val_main_v20, val_main_v19, val_main_v18, val_main_v17,
    val_main_v16, val_main_v15, val_main_v14, val_main_v13, val_main_cst_3, val_main_cst_4, val_main_cst_5, val_main_cst_6, val_main_cst_7,
    mean_s, square_s, delta]

theorem delta_c (k : Fin 31) : val_main_v50 x0 x2 x4 x6 (ix3 l k q)
    = delta (x2 (ix3 l k q)) (val_main_v26 x0 (ix3 l k q)) (x4 (ix3 l k q)) (x6 (ix3 l k q)) := by
  pointwise [val_main_v50, val_main_v49, val_main_v48, val_main_v47, val_main_v46, val_main_v45, val_main_v44, val_main_v43, val_main_v42,
    val_main_v41, val_main_v40, val_main_v39, val_main_v38, val_main_cst_12, val_main_cst_13, val_main_cst_14, val_main_cst_15, val_main_cst_16,
    mean_c, square_c, delta]

theorem low (h : r.val < 3) : row l ⟨(⟨r.val, h⟩ : Fin 3).val, by omega⟩ = row l r := rfl
theorem high (h : ¬ r.val < 3) : row l ⟨3 + (⟨r.val - 3, by omega⟩ : Fin 31).val, by omega⟩ = row l r :=
  Fin.ext (by show l.val * 34 + (3 + (r.val - 3)) = l.val * 34 + r.val; omega)

theorem mean_at : val_main_v54 x0 x3 x4 (ix2 (row l r) q) = mean (x0 (ix2 (row l r) q)) (pack x3 x4 l r q) := by
  refine (merge _ l r q).trans ((tie _ _ l r q).trans ?_)
  unfold pack
  split
  · next h => rw [mean_s, grad_s, low l r h]
  · next h => rw [mean_c, grad_c, high l r h]

theorem square_at : val_main_v56 x0 x5 x6 (ix2 (row l r) q) = square (x0 (ix2 (row l r) q)) (pack x5 x6 l r q) := by
  refine (merge _ l r q).trans ((tie _ _ l r q).trans ?_)
  unfold pack
  split
  · next h => rw [square_s, grad_s, low l r h]
  · next h => rw [square_c, grad_c, high l r h]

theorem delta_at : val_main_v52 x0 x1 x2 x3 x4 x5 x6 (ix2 (row l r) q)
    = delta (pack x1 x2 l r q) (x0 (ix2 (row l r) q)) (pack x3 x4 l r q) (pack x5 x6 l r q) := by
  refine (merge _ l r q).trans ((tie _ _ l r q).trans ?_)
  unfold pack
  split
  · next h => rw [delta_s, grad_s, low l r h]
  · next h => rw [delta_c, grad_c, high l r h]

end Cert.ConvReferenceIdeal.Out

/-! ## The kernel's results -/

namespace Cert.ConvKernelIdeal.Out

open Cert.ConvKernelIdeal Cert.ConvKernelIdeal.Gen
open Cert.ConvReferenceIdeal.Out (row pack)

section Body

variable (x0 x1 x2 x3 : Vec Ideal S68x64 .f32) (p : Fin 68) (q : Fin 64)

theorem zero_off : (![0, 0] : Fin S68x64.rank → ℕ) = fun _ => 0 := by
  funext a; match a with | ⟨0, _⟩ => rfl | ⟨1, _⟩ => rfl

theorem ld_one (x : Vec Ideal S68x64 .f32) : View.ld x r0_0 = x := View.ld_unit_zero zero_off _ x
theorem canon_one (x : Vec Ideal S68x64 .f32) : View.canon (Val := Elt Ideal) [⟨r0_0, x⟩] = x := View.canon_unit_zero zero_off _ x

theorem out_m : out0_5 x0 x1 x2 x3 (ix2 p q) = mean (x0 (ix2 p q)) (x2 (ix2 p q)) := by
  refine (congrFun (canon_one _) _).trans ?_
  rw [ld_one, ld_one]
  pointwise [k0_pay1, mean]

theorem out_v : out0_6 x0 x1 x2 x3 (ix2 p q) = square (x0 (ix2 p q)) (x3 (ix2 p q)) := by
  refine (congrFun (canon_one _) _).trans ?_
  rw [ld_one, ld_one]
  pointwise [k0_pay2, square]

theorem out_d : out0_4 x0 x1 x2 x3 (ix2 p q) = delta (x1 (ix2 p q)) (x0 (ix2 p q)) (x2 (ix2 p q)) (x3 (ix2 p q)) := by
  refine (congrFun (canon_one _) _).trans ?_
  rw [ld_one, ld_one, ld_one, ld_one]
  pointwise [k0_pay3, k0_pay1, k0_pay2, delta, mean, square]

end Body

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

abbrev A (c : Dev nD) : S68x64.Idx → EReal := m ((c : Thread nD τ).loc main_arg0)
abbrev W (c : Dev nD) : S68x64.Idx → EReal := V m c main_v1
abbrev M (c : Dev nD) : S68x64.Idx → EReal := V m c main_v3
abbrev V2 (c : Dev nD) : S68x64.Idx → EReal := V m c main_v5

theorem packed_w (c : Dev nD) (l : Fin 2) (r : Fin 34) (q : Fin 64) : W m c (ix2 (row l r) q)
    = pack (m ((c : Thread nD τ).loc main_arg1)) (m ((c : Thread nD τ).loc main_arg2)) l r q := by
  show V m c main_v1 (ix2 (row l r) q) = _
  entry_read
  exact (ConvReferenceIdeal.Out.merge _ l r q).trans (ConvReferenceIdeal.Out.tie _ _ l r q)

theorem packed_m (c : Dev nD) (l : Fin 2) (r : Fin 34) (q : Fin 64) : M m c (ix2 (row l r) q)
    = pack (m ((c : Thread nD τ).loc main_arg3)) (m ((c : Thread nD τ).loc main_arg4)) l r q := by
  show V m c main_v3 (ix2 (row l r) q) = _
  entry_read
  exact (ConvReferenceIdeal.Out.merge _ l r q).trans (ConvReferenceIdeal.Out.tie _ _ l r q)

theorem packed_v (c : Dev nD) (l : Fin 2) (r : Fin 34) (q : Fin 64) : V2 m c (ix2 (row l r) q)
    = pack (m ((c : Thread nD τ).loc main_arg5)) (m ((c : Thread nD τ).loc main_arg6)) l r q := by
  show V m c main_v5 (ix2 (row l r) q) = _
  entry_read
  exact (ConvReferenceIdeal.Out.merge _ l r q).trans (ConvReferenceIdeal.Out.tie _ _ l r q)

theorem blk_g (c : Dev nD) (t : Fin cfg0.N) (p : Fin 68) (q : Fin 64) : (iblk m c 0 t : Vec Ideal S68x64 .f32) (ix2 p q) = A m c (ix2 p q) := by
  blk_point [iblk, V, idx t]

theorem blk_w (c : Dev nD) (t : Fin cfg0.N) (p : Fin 68) (q : Fin 64) : (iblk m c 1 t : Vec Ideal S68x64 .f32) (ix2 p q) = W m c (ix2 p q) := by
  show V m c main_v1 (((cfg0.win 1).blk t).view.emb (ix2 p q)) = _
  rw [show ((cfg0.win 1).blk t).view.emb (ix2 p q) = (ix2 p q : S68x64.Idx) from by blk_ext [idx t]]

theorem blk_m (c : Dev nD) (t : Fin cfg0.N) (p : Fin 68) (q : Fin 64) : (iblk m c 2 t : Vec Ideal S68x64 .f32) (ix2 p q) = M m c (ix2 p q) := by
  show V m c main_v3 (((cfg0.win 2).blk t).view.emb (ix2 p q)) = _
  rw [show ((cfg0.win 2).blk t).view.emb (ix2 p q) = (ix2 p q : S68x64.Idx) from by blk_ext [idx t]]

theorem blk_v (c : Dev nD) (t : Fin cfg0.N) (p : Fin 68) (q : Fin 64) : (iblk m c 3 t : Vec Ideal S68x64 .f32) (ix2 p q) = V2 m c (ix2 p q) := by
  show V m c main_v5 (((cfg0.win 3).blk t).view.emb (ix2 p q)) = _
  rw [show ((cfg0.win 3).blk t).view.emb (ix2 p q) = (ix2 p q : S68x64.Idx) from by blk_ext [idx t]]

/-! ### The arrays after the call -/

theorem final_d (c : Dev nD) : (dats m 0 c).arrAt 4 (cfgs 0).N = fun i : S68x64.Idx => delta (W m c i) (A m c i) (M m c i) (V2 m c i) := by
  refine (dats m 0 c).arrAt_eq_of_covers 4 _ (by decide +kernel) fun t hf y => ?_
  blk_simp
  rw [after0_4]
  obtain ⟨p, q, rfl⟩ : ∃ p q, y = (ix2 p q : S68x64.Idx) := ⟨y 0, y 1, by blk_ext⟩
  refine (out_d _ _ _ _ p q).trans ?_
  rw [blk_g, blk_w, blk_m, blk_v, show ((cfg0.win 4).blk t).view.emb (ix2 p q) = (ix2 p q : S68x64.Idx) from by blk_ext [idx t]]

theorem final_m (c : Dev nD) : (dats m 0 c).arrAt 5 (cfgs 0).N = fun i : S68x64.Idx => mean (A m c i) (M m c i) := by
  refine (dats m 0 c).arrAt_eq_of_covers 5 _ (by decide +kernel) fun t hf y => ?_
  blk_simp
  rw [after0_5]
  obtain ⟨p, q, rfl⟩ : ∃ p q, y = (ix2 p q : S68x64.Idx) := ⟨y 0, y 1, by blk_ext⟩
  refine (out_m _ _ _ _ p q).trans ?_
  rw [blk_g, blk_m, show ((cfg0.win 5).blk t).view.emb (ix2 p q) = (ix2 p q : S68x64.Idx) from by blk_ext [idx t]]

theorem final_v (c : Dev nD) : (dats m 0 c).arrAt 6 (cfgs 0).N = fun i : S68x64.Idx => square (A m c i) (V2 m c i) := by
  refine (dats m 0 c).arrAt_eq_of_covers 6 _ (by decide +kernel) fun t hf y => ?_
  blk_simp
  rw [after0_6]
  obtain ⟨p, q, rfl⟩ : ∃ p q, y = (ix2 p q : S68x64.Idx) := ⟨y 0, y 1, by blk_ext⟩
  refine (out_v _ _ _ _ p q).trans ?_
  rw [blk_g, blk_v, show ((cfg0.win 6).blk t).view.emb (ix2 p q) = (ix2 p q : S68x64.Idx) from by blk_ext [idx t]]

end Cert.ConvKernelIdeal.Out

/-! ## The pair -/

namespace Cert.Conv

/-- The reference's run, read at its arguments; it has no semaphore. -/
theorem frame_reference : Cert.quiescent_ConvReferenceIdeal (hConvReferenceIdeal := Cert.ConvReferenceIdeal.Gen.facts) :=
  fun m g _ => (θ_run Cert.ConvReferenceIdeal.defs _ _).mono
    (fun r h => ⟨fun c => (h c).2.2.2, sem_eq_zero_of_no_sems (by decide) r.2⟩) (Cert.ConvReferenceIdeal.Value.run m g)

theorem algebraic : Cert.algebraic_ConvKernelIdeal_ConvReferenceIdeal
    (hConvKernelIdeal := Cert.ConvKernelIdeal.Gen.facts) (hConvReferenceIdeal := Cert.ConvReferenceIdeal.Gen.facts) := by
  pair_intro
  · run_from Cert.ConvKernelIdeal.Gen.run_main m g
  · run_from Cert.ConvReferenceIdeal.Value.run m' g'
    · obtain ⟨h0, h1, h2, h3, h4, h5, h6⟩ := hagree c
      rw [ConvKernelIdeal.Out.final_d, ConvReferenceIdeal.Read.val_main_v52_eq]
      simp only [h1, h2, h3, h4, h5, h6]
      funext i
      obtain ⟨l, r, q, rfl⟩ := ConvReferenceIdeal.Out.exists_ix i
      rw [ConvKernelIdeal.Out.packed_w, ConvKernelIdeal.Out.packed_m, ConvKernelIdeal.Out.packed_v]
      exact ConvReferenceIdeal.Out.delta_at _ _ _ _ _ _ _ l r q
    · obtain ⟨h0, h1, h2, h3, h4, h5, h6⟩ := hagree c
      rw [ConvKernelIdeal.Out.final_m, ConvReferenceIdeal.Read.val_main_v54_eq]
      simp only [h3, h4]
      funext i
      obtain ⟨l, r, q, rfl⟩ := ConvReferenceIdeal.Out.exists_ix i
      rw [ConvKernelIdeal.Out.packed_m]
      exact ConvReferenceIdeal.Out.mean_at _ _ _ l r q
    · obtain ⟨h0, h1, h2, h3, h4, h5, h6⟩ := hagree c
      rw [ConvKernelIdeal.Out.final_v, ConvReferenceIdeal.Read.val_main_v56_eq]
      simp only [h5, h6]
      funext i
      obtain ⟨l, r, q, rfl⟩ := ConvReferenceIdeal.Out.exists_ix i
      rw [ConvKernelIdeal.Out.packed_v]
      exact ConvReferenceIdeal.Out.square_at _ _ _ l r q

end Cert.Conv

end
-- ==== Proof.lean ====
/- The certificate: each call's own module proves its value claim; the frames of the kernels are read off their runs. -/
module

public import proofs.«01_k».proof.Defs
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossKernelIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.HiddenKernel
public import proofs.«01_k».proof.Proof.Gen.HiddenKernel.Skeleton
public import proofs.«01_k».proof.Proof.Gen.HiddenKernel.Launch
public import proofs.«01_k».proof.Proof.Gen.HiddenKernel.Points
public import proofs.«01_k».proof.Proof.Gen.HiddenKernel.Frame
public import proofs.«01_k».proof.Proof.Gen.HiddenKernelIdeal
public import proofs.«01_k».proof.Proof.Gen.HiddenKernelIdeal.Skeleton
public import proofs.«01_k».proof.Proof.Gen.HiddenKernelIdeal.Launch
public import proofs.«01_k».proof.Proof.Gen.HiddenKernelIdeal.Points
public import proofs.«01_k».proof.Proof.Gen.HiddenKernelIdeal.Frame
public import proofs.«01_k».proof.Proof.Gen.HiddenKernelIdeal.Value
public import proofs.«01_k».proof.Proof.Gen.HiddenReferenceIdeal
public import proofs.«01_k».proof.Proof.Gen.HiddenReferenceIdeal.Run
public import proofs.«01_k».proof.Proof.Gen.HiddenReferenceIdeal.Read
public import proofs.«01_k».proof.Proof.Gen.UpKernel
public import proofs.«01_k».proof.Proof.Gen.UpKernel.Skeleton
public import proofs.«01_k».proof.Proof.Gen.UpKernel.Launch
public import proofs.«01_k».proof.Proof.Gen.UpKernel.Points
public import proofs.«01_k».proof.Proof.Gen.UpKernel.Frame
public import proofs.«01_k».proof.Proof.Gen.UpKernelIdeal
public import proofs.«01_k».proof.Proof.Gen.UpKernelIdeal.Skeleton
public import proofs.«01_k».proof.Proof.Gen.UpKernelIdeal.Launch
public import proofs.«01_k».proof.Proof.Gen.UpKernelIdeal.Points
public import proofs.«01_k».proof.Proof.Gen.UpKernelIdeal.Frame
public import proofs.«01_k».proof.Proof.Gen.UpKernelIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjKernelIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeKernelIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.EnterKernel
public import proofs.«01_k».proof.Proof.Gen.EnterKernel.Skeleton
public import proofs.«01_k».proof.Proof.Gen.EnterKernel.Launch
public import proofs.«01_k».proof.Proof.Gen.EnterKernel.Points
public import proofs.«01_k».proof.Proof.Gen.EnterKernel.Frame
public import proofs.«01_k».proof.Proof.Gen.EnterKernelIdeal
public import proofs.«01_k».proof.Proof.Gen.EnterKernelIdeal.Skeleton
public import proofs.«01_k».proof.Proof.Gen.EnterKernelIdeal.Launch
public import proofs.«01_k».proof.Proof.Gen.EnterKernelIdeal.Points
public import proofs.«01_k».proof.Proof.Gen.EnterKernelIdeal.Frame
public import proofs.«01_k».proof.Proof.Gen.EnterKernelIdeal.Value
public import proofs.«01_k».proof.Proof.Gen.EnterReferenceIdeal
public import proofs.«01_k».proof.Proof.Gen.EnterReferenceIdeal.Run
public import proofs.«01_k».proof.Proof.Gen.EnterReferenceIdeal.Read
public import proofs.«01_k».proof.Proof.Gen.DownKernel
public import proofs.«01_k».proof.Proof.Gen.DownKernel.Skeleton
public import proofs.«01_k».proof.Proof.Gen.DownKernel.Launch
public import proofs.«01_k».proof.Proof.Gen.DownKernel.Points
public import proofs.«01_k».proof.Proof.Gen.DownKernel.Frame
public import proofs.«01_k».proof.Proof.Gen.DownKernelIdeal
public import proofs.«01_k».proof.Proof.Gen.DownKernelIdeal.Skeleton
public import proofs.«01_k».proof.Proof.Gen.DownKernelIdeal.Launch
public import proofs.«01_k».proof.Proof.Gen.DownKernelIdeal.Points
public import proofs.«01_k».proof.Proof.Gen.DownKernelIdeal.Frame
public import proofs.«01_k».proof.Proof.Gen.DownKernelIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.JoinKernel
public import proofs.«01_k».proof.Proof.Gen.JoinKernel.Skeleton
public import proofs.«01_k».proof.Proof.Gen.JoinKernel.Launch
public import proofs.«01_k».proof.Proof.Gen.JoinKernel.Points
public import proofs.«01_k».proof.Proof.Gen.JoinKernel.Frame
public import proofs.«01_k».proof.Proof.Gen.JoinKernelIdeal
public import proofs.«01_k».proof.Proof.Gen.JoinKernelIdeal.Skeleton
public import proofs.«01_k».proof.Proof.Gen.JoinKernelIdeal.Launch
public import proofs.«01_k».proof.Proof.Gen.JoinKernelIdeal.Points
public import proofs.«01_k».proof.Proof.Gen.JoinKernelIdeal.Frame
public import proofs.«01_k».proof.Proof.Gen.JoinKernelIdeal.Value
public import proofs.«01_k».proof.Proof.Gen.JoinReferenceIdeal
public import proofs.«01_k».proof.Proof.Gen.JoinReferenceIdeal.Run
public import proofs.«01_k».proof.Proof.Gen.JoinReferenceIdeal.Read
public import proofs.«01_k».proof.Proof.Gen.MixKernel
public import proofs.«01_k».proof.Proof.Gen.MixKernel.Skeleton
public import proofs.«01_k».proof.Proof.Gen.MixKernel.Launch
public import proofs.«01_k».proof.Proof.Gen.MixKernel.Points
public import proofs.«01_k».proof.Proof.Gen.MixKernel.Frame
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Gen.MixKernelIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.ProdKernel
public import proofs.«01_k».proof.Proof.Gen.ProdKernel.Skeleton
public import proofs.«01_k».proof.Proof.Gen.ProdKernel.Launch
public import proofs.«01_k».proof.Proof.Gen.ProdKernel.Points
public import proofs.«01_k».proof.Proof.Gen.ProdKernel.Frame
public import proofs.«01_k».proof.Proof.Gen.ProdKernelIdeal
public import proofs.«01_k».proof.Proof.Gen.ProdKernelIdeal.Skeleton
public import proofs.«01_k».proof.Proof.Gen.ProdKernelIdeal.Launch
public import proofs.«01_k».proof.Proof.Gen.ProdKernelIdeal.Points
public import proofs.«01_k».proof.Proof.Gen.ProdKernelIdeal.Frame
public import proofs.«01_k».proof.Proof.Gen.ProdKernelIdeal.Value
public import proofs.«01_k».proof.Proof.Gen.ProdReferenceIdeal
public import proofs.«01_k».proof.Proof.Gen.ProdReferenceIdeal.Run
public import proofs.«01_k».proof.Proof.Gen.ProdReferenceIdeal.Read
public import proofs.«01_k».proof.Proof.Gen.GradKernel
public import proofs.«01_k».proof.Proof.Gen.GradKernel.Skeleton
public import proofs.«01_k».proof.Proof.Gen.GradKernel.Launch
public import proofs.«01_k».proof.Proof.Gen.GradKernel.Points
public import proofs.«01_k».proof.Proof.Gen.GradKernel.Frame
public import proofs.«01_k».proof.Proof.Gen.GradKernelIdeal
public import proofs.«01_k».proof.Proof.Gen.GradKernelIdeal.Skeleton
public import proofs.«01_k».proof.Proof.Gen.GradKernelIdeal.Launch
public import proofs.«01_k».proof.Proof.Gen.GradKernelIdeal.Points
public import proofs.«01_k».proof.Proof.Gen.GradKernelIdeal.Frame
public import proofs.«01_k».proof.Proof.Gen.GradKernelIdeal.Value
public import proofs.«01_k».proof.Proof.Gen.GradReferenceIdeal
public import proofs.«01_k».proof.Proof.Gen.GradReferenceIdeal.Run
public import proofs.«01_k».proof.Proof.Gen.GradReferenceIdeal.Read
public import proofs.«01_k».proof.Proof.Gen.StepKernel
public import proofs.«01_k».proof.Proof.Gen.StepKernel.Skeleton
public import proofs.«01_k».proof.Proof.Gen.StepKernel.Launch
public import proofs.«01_k».proof.Proof.Gen.StepKernel.Points
public import proofs.«01_k».proof.Proof.Gen.StepKernel.Frame
public import proofs.«01_k».proof.Proof.Gen.StepKernelIdeal
public import proofs.«01_k».proof.Proof.Gen.StepKernelIdeal.Skeleton
public import proofs.«01_k».proof.Proof.Gen.StepKernelIdeal.Launch
public import proofs.«01_k».proof.Proof.Gen.StepKernelIdeal.Points
public import proofs.«01_k».proof.Proof.Gen.StepKernelIdeal.Frame
public import proofs.«01_k».proof.Proof.Gen.StepKernelIdeal.Value
public import proofs.«01_k».proof.Proof.Gen.StepReferenceIdeal
public import proofs.«01_k».proof.Proof.Gen.StepReferenceIdeal.Run
public import proofs.«01_k».proof.Proof.Gen.StepReferenceIdeal.Read
public import proofs.«01_k».proof.Proof.Gen.ConvKernel
public import proofs.«01_k».proof.Proof.Gen.ConvKernel.Skeleton
public import proofs.«01_k».proof.Proof.Gen.ConvKernel.Launch
public import proofs.«01_k».proof.Proof.Gen.ConvKernel.Points
public import proofs.«01_k».proof.Proof.Gen.ConvKernel.Frame
public import proofs.«01_k».proof.Proof.Gen.ConvKernelIdeal
public import proofs.«01_k».proof.Proof.Gen.ConvKernelIdeal.Skeleton
public import proofs.«01_k».proof.Proof.Gen.ConvKernelIdeal.Launch
public import proofs.«01_k».proof.Proof.Gen.ConvKernelIdeal.Points
public import proofs.«01_k».proof.Proof.Gen.ConvKernelIdeal.Frame
public import proofs.«01_k».proof.Proof.Gen.ConvKernelIdeal.Value
public import proofs.«01_k».proof.Proof.Gen.ConvReferenceIdeal
public import proofs.«01_k».proof.Proof.Gen.ConvReferenceIdeal.Run
public import proofs.«01_k».proof.Proof.Gen.ConvReferenceIdeal.Read
public import proofs.«01_k».proof.Proof.Gen.On_merge_mask
public import proofs.«01_k».proof.Proof.Gen.Pre_finite_hidden
public import proofs.«01_k».proof.Proof.Gen.Pre_finite_mix
public import proofs.«01_k».proof.Proof.Loss
public import proofs.«01_k».proof.Proof.Hidden
public import proofs.«01_k».proof.Proof.Up
public import proofs.«01_k».proof.Proof.Proj
public import proofs.«01_k».proof.Proof.Merge
public import proofs.«01_k».proof.Proof.Enter
public import proofs.«01_k».proof.Proof.Down
public import proofs.«01_k».proof.Proof.Join
public import proofs.«01_k».proof.Proof.Mix
public import proofs.«01_k».proof.Proof.Prod
public import proofs.«01_k».proof.Proof.Grad
public import proofs.«01_k».proof.Proof.Step
public import proofs.«01_k».proof.Proof.Conv
public import Idealize.ShloMosaic.Adequacy
public import Idealize.ShloMosaic.Init

@[expose] public section

noncomputable section

namespace Cert.Proof

open Idealize.ShloMosaic Idealize.SL.Sem

theorem claim : Cert.Claim :=
  ⟨Cert.LossKernel.Gen.facts, Cert.LossKernelIdeal.Gen.facts, Cert.LossReferenceIdeal.Gen.facts,
    Cert.HiddenKernel.Gen.facts, Cert.HiddenKernelIdeal.Gen.facts, Cert.HiddenReferenceIdeal.Gen.facts,
    Cert.UpKernel.Gen.facts, Cert.UpKernelIdeal.Gen.facts, Cert.UpReferenceIdeal.Gen.facts,
    Cert.ProjKernel.Gen.facts, Cert.ProjKernelIdeal.Gen.facts, Cert.ProjReferenceIdeal.Gen.facts,
    Cert.MergeKernel.Gen.facts, Cert.MergeKernelIdeal.Gen.facts, Cert.MergeReferenceIdeal.Gen.facts,
    Cert.EnterKernel.Gen.facts, Cert.EnterKernelIdeal.Gen.facts, Cert.EnterReferenceIdeal.Gen.facts,
    Cert.DownKernel.Gen.facts, Cert.DownKernelIdeal.Gen.facts, Cert.DownReferenceIdeal.Gen.facts,
    Cert.JoinKernel.Gen.facts, Cert.JoinKernelIdeal.Gen.facts, Cert.JoinReferenceIdeal.Gen.facts,
    Cert.MixKernel.Gen.facts, Cert.MixKernelIdeal.Gen.facts, Cert.MixReferenceIdeal.Gen.facts,
    Cert.ProdKernel.Gen.facts, Cert.ProdKernelIdeal.Gen.facts, Cert.ProdReferenceIdeal.Gen.facts,
    Cert.GradKernel.Gen.facts, Cert.GradKernelIdeal.Gen.facts, Cert.GradReferenceIdeal.Gen.facts,
    Cert.StepKernel.Gen.facts, Cert.StepKernelIdeal.Gen.facts, Cert.StepReferenceIdeal.Gen.facts,
    Cert.ConvKernel.Gen.facts, Cert.ConvKernelIdeal.Gen.facts, Cert.ConvReferenceIdeal.Gen.facts,
    Cert.Pre_finite_hidden.Gen.facts, Cert.Pre_finite_mix.Gen.facts, Cert.On_merge_mask.Gen.facts,
    fun m g _ => Cert.LossKernel.Gen.frame m g, fun m g _ => Cert.LossKernelIdeal.Gen.frame m g,
    Cert.Loss.frame_reference, fun m g _ => Cert.HiddenKernel.Gen.frame m g,
    fun m g _ => Cert.HiddenKernelIdeal.Gen.frame m g, fun m g _ => Cert.HiddenKernelIdeal.Gen.frame m g,
    Cert.Hidden.frame_reference, fun m g _ => Cert.Hidden.frame_reference m g trivial,
    fun m g _ => Cert.UpKernel.Gen.frame m g, fun m g _ => Cert.UpKernelIdeal.Gen.frame m g,
    Cert.Up.frame_reference, fun m g _ => Cert.ProjKernel.Gen.frame m g,
    fun m g _ => Cert.ProjKernelIdeal.Gen.frame m g, Cert.Proj.frame_reference,
    fun m g _ => Cert.MergeKernel.Gen.frame m g, fun m g _ => Cert.MergeKernelIdeal.Gen.frame m g,
    Cert.Merge.frame_reference, fun m g _ => Cert.EnterKernel.Gen.frame m g,
    fun m g _ => Cert.EnterKernelIdeal.Gen.frame m g, Cert.Enter.frame_reference,
    fun m g _ => Cert.DownKernel.Gen.frame m g, fun m g _ => Cert.DownKernelIdeal.Gen.frame m g,
    Cert.Down.frame_reference, fun m g _ => Cert.JoinKernel.Gen.frame m g,
    fun m g _ => Cert.JoinKernelIdeal.Gen.frame m g, Cert.Join.frame_reference,
    fun m g _ => Cert.MixKernel.Gen.frame m g, fun m g _ => Cert.MixKernelIdeal.Gen.frame m g,
    fun m g _ => Cert.MixKernelIdeal.Gen.frame m g, Cert.Mix.frame_reference,
    fun m g _ => Cert.Mix.frame_reference m g trivial, fun m g _ => Cert.ProdKernel.Gen.frame m g,
    fun m g _ => Cert.ProdKernelIdeal.Gen.frame m g, Cert.Prod.frame_reference,
    fun m g _ => Cert.GradKernel.Gen.frame m g, fun m g _ => Cert.GradKernelIdeal.Gen.frame m g,
    Cert.Grad.frame_reference, fun m g _ => Cert.StepKernel.Gen.frame m g,
    fun m g _ => Cert.StepKernelIdeal.Gen.frame m g, Cert.Step.frame_reference,
    fun m g _ => Cert.ConvKernel.Gen.frame m g, fun m g _ => Cert.ConvKernelIdeal.Gen.frame m g,
    Cert.Conv.frame_reference, trivial, Cert.Loss.algebraic, trivial, Cert.Hidden.algebraic, trivial,
    Cert.Up.algebraic, trivial, Cert.Proj.algebraic, trivial, Cert.Merge.algebraic, trivial, Cert.Enter.algebraic,
    trivial, Cert.Down.algebraic, trivial, Cert.Join.algebraic, trivial, Cert.Mix.algebraic, trivial,
    Cert.Prod.algebraic, trivial, Cert.Grad.algebraic, trivial, Cert.Step.algebraic, trivial, Cert.Conv.algebraic⟩

end Cert.Proof

end
